-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailReferenceIdeal (m : (ℓ : Loc Cert.TailReferenceIdeal.nD Cert.TailReferenceIdeal.τ Cert.TailReferenceIdeal.sig) → Buf (Elt Ideal) ℓ) : Prop :=
  True

def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_FrontReferenceIdeal (m : (ℓ : Loc Cert.FrontReferenceIdeal.nD Cert.FrontReferenceIdeal.τ Cert.FrontReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11)
      ∧ r.2.mem ((c.tc : Thread Cert.Tail.nD Cert.Tail.τ).loc Cert.Tail.main_arg12) = m ((c.tc : Thread Cert.Tail.nD Cert.Tail.τ).loc Cert.Tail.main_arg12)
      ∧ r.2.mem ((c.tc : Thread Cert.Tail.nD Cert.Tail.τ).loc Cert.Tail.main_arg13) = m ((c.tc : Thread Cert.Tail.nD Cert.Tail.τ).loc Cert.Tail.main_arg13)
      ∧ r.2.mem ((c.tc : Thread Cert.Tail.nD Cert.Tail.τ).loc Cert.Tail.main_arg14) = m ((c.tc : Thread Cert.Tail.nD Cert.Tail.τ).loc Cert.Tail.main_arg14)
      ∧ r.2.mem ((c.tc : Thread Cert.Tail.nD Cert.Tail.τ).loc Cert.Tail.main_arg15) = m ((c.tc : Thread Cert.Tail.nD Cert.Tail.τ).loc Cert.Tail.main_arg15)
      ∧ r.2.mem ((c.tc : Thread Cert.Tail.nD Cert.Tail.τ).loc Cert.Tail.main_arg16) = m ((c.tc : Thread Cert.Tail.nD Cert.Tail.τ).loc Cert.Tail.main_arg16)
      ∧ r.2.mem ((c.tc : Thread Cert.Tail.nD Cert.Tail.τ).loc Cert.Tail.main_arg17) = m ((c.tc : Thread Cert.Tail.nD Cert.Tail.τ).loc Cert.Tail.main_arg17)
      ∧ r.2.mem ((c.tc : Thread Cert.Tail.nD Cert.Tail.τ).loc Cert.Tail.main_arg18) = m ((c.tc : Thread Cert.Tail.nD Cert.Tail.τ).loc Cert.Tail.main_arg18)
      ∧ r.2.mem ((c.tc : Thread Cert.Tail.nD Cert.Tail.τ).loc Cert.Tail.main_arg19) = m ((c.tc : Thread Cert.Tail.nD Cert.Tail.τ).loc Cert.Tail.main_arg19)
      ∧ r.2.mem ((c.tc : Thread Cert.Tail.nD Cert.Tail.τ).loc Cert.Tail.main_arg20) = m ((c.tc : Thread Cert.Tail.nD Cert.Tail.τ).loc Cert.Tail.main_arg20)
      ∧ r.2.mem ((c.tc : Thread Cert.Tail.nD Cert.Tail.τ).loc Cert.Tail.main_arg21) = m ((c.tc : Thread Cert.Tail.nD Cert.Tail.τ).loc Cert.Tail.main_arg21)
      ∧ r.2.mem ((c.tc : Thread Cert.Tail.nD Cert.Tail.τ).loc Cert.Tail.main_arg22) = m ((c.tc : Thread Cert.Tail.nD Cert.Tail.τ).loc Cert.Tail.main_arg22))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
      ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
      ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
      ∧ r.2.mem ((c.tc : Thread Cert.TailIdeal.nD Cert.TailIdeal.τ).loc Cert.TailIdeal.main_arg15) = m ((c.tc : Thread Cert.TailIdeal.nD Cert.TailIdeal.τ).loc Cert.TailIdeal.main_arg15)
      ∧ r.2.mem ((c.tc : Thread Cert.TailIdeal.nD Cert.TailIdeal.τ).loc Cert.TailIdeal.main_arg16) = m ((c.tc : Thread Cert.TailIdeal.nD Cert.TailIdeal.τ).loc Cert.TailIdeal.main_arg16)
      ∧ r.2.mem ((c.tc : Thread Cert.TailIdeal.nD Cert.TailIdeal.τ).loc Cert.TailIdeal.main_arg17) = m ((c.tc : Thread Cert.TailIdeal.nD Cert.TailIdeal.τ).loc Cert.TailIdeal.main_arg17)
      ∧ r.2.mem ((c.tc : Thread Cert.TailIdeal.nD Cert.TailIdeal.τ).loc Cert.TailIdeal.main_arg18) = m ((c.tc : Thread Cert.TailIdeal.nD Cert.TailIdeal.τ).loc Cert.TailIdeal.main_arg18)
      ∧ r.2.mem ((c.tc : Thread Cert.TailIdeal.nD Cert.TailIdeal.τ).loc Cert.TailIdeal.main_arg19) = m ((c.tc : Thread Cert.TailIdeal.nD Cert.TailIdeal.τ).loc Cert.TailIdeal.main_arg19)
      ∧ r.2.mem ((c.tc : Thread Cert.TailIdeal.nD Cert.TailIdeal.τ).loc Cert.TailIdeal.main_arg20) = m ((c.tc : Thread Cert.TailIdeal.nD Cert.TailIdeal.τ).loc Cert.TailIdeal.main_arg20)
      ∧ r.2.mem ((c.tc : Thread Cert.TailIdeal.nD Cert.TailIdeal.τ).loc Cert.TailIdeal.main_arg21) = m ((c.tc : Thread Cert.TailIdeal.nD Cert.TailIdeal.τ).loc Cert.TailIdeal.main_arg21)
      ∧ r.2.mem ((c.tc : Thread Cert.TailIdeal.nD Cert.TailIdeal.τ).loc Cert.TailIdeal.main_arg22) = m ((c.tc : Thread Cert.TailIdeal.nD Cert.TailIdeal.τ).loc Cert.TailIdeal.main_arg22))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9)
      ∧ r.2.mem ((c.tc : Thread Cert.TailReferenceIdeal.nD Cert.TailReferenceIdeal.τ).loc Cert.TailReferenceIdeal.main_arg10) = m ((c.tc : Thread Cert.TailReferenceIdeal.nD Cert.TailReferenceIdeal.τ).loc Cert.TailReferenceIdeal.main_arg10)
      ∧ r.2.mem ((c.tc : Thread Cert.TailReferenceIdeal.nD Cert.TailReferenceIdeal.τ).loc Cert.TailReferenceIdeal.main_arg11) = m ((c.tc : Thread Cert.TailReferenceIdeal.nD Cert.TailReferenceIdeal.τ).loc Cert.TailReferenceIdeal.main_arg11)
      ∧ r.2.mem ((c.tc : Thread Cert.TailReferenceIdeal.nD Cert.TailReferenceIdeal.τ).loc Cert.TailReferenceIdeal.main_arg12) = m ((c.tc : Thread Cert.TailReferenceIdeal.nD Cert.TailReferenceIdeal.τ).loc Cert.TailReferenceIdeal.main_arg12)
      ∧ r.2.mem ((c.tc : Thread Cert.TailReferenceIdeal.nD Cert.TailReferenceIdeal.τ).loc Cert.TailReferenceIdeal.main_arg13) = m ((c.tc : Thread Cert.TailReferenceIdeal.nD Cert.TailReferenceIdeal.τ).loc Cert.TailReferenceIdeal.main_arg13)
      ∧ r.2.mem ((c.tc : Thread Cert.TailReferenceIdeal.nD Cert.TailReferenceIdeal.τ).loc Cert.TailReferenceIdeal.main_arg14) = m ((c.tc : Thread Cert.TailReferenceIdeal.nD Cert.TailReferenceIdeal.τ).loc Cert.TailReferenceIdeal.main_arg14)
      ∧ r.2.mem ((c.tc : Thread Cert.TailReferenceIdeal.nD Cert.TailReferenceIdeal.τ).loc Cert.TailReferenceIdeal.main_arg15) = m ((c.tc : Thread Cert.TailReferenceIdeal.nD Cert.TailReferenceIdeal.τ).loc Cert.TailReferenceIdeal.main_arg15)
      ∧ r.2.mem ((c.tc : Thread Cert.TailReferenceIdeal.nD Cert.TailReferenceIdeal.τ).loc Cert.TailReferenceIdeal.main_arg16) = m ((c.tc : Thread Cert.TailReferenceIdeal.nD Cert.TailReferenceIdeal.τ).loc Cert.TailReferenceIdeal.main_arg16)
      ∧ r.2.mem ((c.tc : Thread Cert.TailReferenceIdeal.nD Cert.TailReferenceIdeal.τ).loc Cert.TailReferenceIdeal.main_arg17) = m ((c.tc : Thread Cert.TailReferenceIdeal.nD Cert.TailReferenceIdeal.τ).loc Cert.TailReferenceIdeal.main_arg17)
      ∧ r.2.mem ((c.tc : Thread Cert.TailReferenceIdeal.nD Cert.TailReferenceIdeal.τ).loc Cert.TailReferenceIdeal.main_arg18) = m ((c.tc : Thread Cert.TailReferenceIdeal.nD Cert.TailReferenceIdeal.τ).loc Cert.TailReferenceIdeal.main_arg18)
      ∧ r.2.mem ((c.tc : Thread Cert.TailReferenceIdeal.nD Cert.TailReferenceIdeal.τ).loc Cert.TailReferenceIdeal.main_arg19) = m ((c.tc : Thread Cert.TailReferenceIdeal.nD Cert.TailReferenceIdeal.τ).loc Cert.TailReferenceIdeal.main_arg19)
      ∧ r.2.mem ((c.tc : Thread Cert.TailReferenceIdeal.nD Cert.TailReferenceIdeal.τ).loc Cert.TailReferenceIdeal.main_arg20) = m ((c.tc : Thread Cert.TailReferenceIdeal.nD Cert.TailReferenceIdeal.τ).loc Cert.TailReferenceIdeal.main_arg20)
      ∧ r.2.mem ((c.tc : Thread Cert.TailReferenceIdeal.nD Cert.TailReferenceIdeal.τ).loc Cert.TailReferenceIdeal.main_arg21) = m ((c.tc : Thread Cert.TailReferenceIdeal.nD Cert.TailReferenceIdeal.τ).loc Cert.TailReferenceIdeal.main_arg21)
      ∧ r.2.mem ((c.tc : Thread Cert.TailReferenceIdeal.nD Cert.TailReferenceIdeal.τ).loc Cert.TailReferenceIdeal.main_arg22) = m ((c.tc : Thread Cert.TailReferenceIdeal.nD Cert.TailReferenceIdeal.τ).loc Cert.TailReferenceIdeal.main_arg22))
      ∧ r.2.sem = fun _ => 0)

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2)
      ∧ r.2.mem ((c.tc : Thread Cert.Front.nD Cert.Front.τ).loc Cert.Front.main_arg3) = m ((c.tc : Thread Cert.Front.nD Cert.Front.τ).loc Cert.Front.main_arg3)
      ∧ r.2.mem ((c.tc : Thread Cert.Front.nD Cert.Front.τ).loc Cert.Front.main_arg4) = m ((c.tc : Thread Cert.Front.nD Cert.Front.τ).loc Cert.Front.main_arg4)
      ∧ r.2.mem ((c.tc : Thread Cert.Front.nD Cert.Front.τ).loc Cert.Front.main_arg5) = m ((c.tc : Thread Cert.Front.nD Cert.Front.τ).loc Cert.Front.main_arg5)
      ∧ r.2.mem ((c.tc : Thread Cert.Front.nD Cert.Front.τ).loc Cert.Front.main_arg6) = m ((c.tc : Thread Cert.Front.nD Cert.Front.τ).loc Cert.Front.main_arg6)
      ∧ r.2.mem ((c.tc : Thread Cert.Front.nD Cert.Front.τ).loc Cert.Front.main_arg7) = m ((c.tc : Thread Cert.Front.nD Cert.Front.τ).loc Cert.Front.main_arg7)
      ∧ r.2.mem ((c.tc : Thread Cert.Front.nD Cert.Front.τ).loc Cert.Front.main_arg8) = m ((c.tc : Thread Cert.Front.nD Cert.Front.τ).loc Cert.Front.main_arg8)
      ∧ r.2.mem ((c.tc : Thread Cert.Front.nD Cert.Front.τ).loc Cert.Front.main_arg9) = m ((c.tc : Thread Cert.Front.nD Cert.Front.τ).loc Cert.Front.main_arg9)
      ∧ r.2.mem ((c.tc : Thread Cert.Front.nD Cert.Front.τ).loc Cert.Front.main_arg10) = m ((c.tc : Thread Cert.Front.nD Cert.Front.τ).loc Cert.Front.main_arg10)
      ∧ r.2.mem ((c.tc : Thread Cert.Front.nD Cert.Front.τ).loc Cert.Front.main_arg11) = m ((c.tc : Thread Cert.Front.nD Cert.Front.τ).loc Cert.Front.main_arg11)
      ∧ r.2.mem ((c.tc : Thread Cert.Front.nD Cert.Front.τ).loc Cert.Front.main_arg12) = m ((c.tc : Thread Cert.Front.nD Cert.Front.τ).loc Cert.Front.main_arg12)
      ∧ r.2.mem ((c.tc : Thread Cert.Front.nD Cert.Front.τ).loc Cert.Front.main_arg13) = m ((c.tc : Thread Cert.Front.nD Cert.Front.τ).loc Cert.Front.main_arg13))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
      ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
      ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
      ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8)
      ∧ r.2.mem ((c.tc : Thread Cert.FrontIdeal.nD Cert.FrontIdeal.τ).loc Cert.FrontIdeal.main_arg9) = m ((c.tc : Thread Cert.FrontIdeal.nD Cert.FrontIdeal.τ).loc Cert.FrontIdeal.main_arg9)
      ∧ r.2.mem ((c.tc : Thread Cert.FrontIdeal.nD Cert.FrontIdeal.τ).loc Cert.FrontIdeal.main_arg10) = m ((c.tc : Thread Cert.FrontIdeal.nD Cert.FrontIdeal.τ).loc Cert.FrontIdeal.main_arg10)
      ∧ r.2.mem ((c.tc : Thread Cert.FrontIdeal.nD Cert.FrontIdeal.τ).loc Cert.FrontIdeal.main_arg11) = m ((c.tc : Thread Cert.FrontIdeal.nD Cert.FrontIdeal.τ).loc Cert.FrontIdeal.main_arg11)
      ∧ r.2.mem ((c.tc : Thread Cert.FrontIdeal.nD Cert.FrontIdeal.τ).loc Cert.FrontIdeal.main_arg12) = m ((c.tc : Thread Cert.FrontIdeal.nD Cert.FrontIdeal.τ).loc Cert.FrontIdeal.main_arg12)
      ∧ r.2.mem ((c.tc : Thread Cert.FrontIdeal.nD Cert.FrontIdeal.τ).loc Cert.FrontIdeal.main_arg13) = m ((c.tc : Thread Cert.FrontIdeal.nD Cert.FrontIdeal.τ).loc Cert.FrontIdeal.main_arg13))
      ∧ r.2.sem = fun _ => 0)

def quiescent_FrontReferenceIdeal [hFrontReferenceIdeal : Cert.FrontReferenceIdeal.Facts] : Prop :=
  ∀ (m : (ℓ : Loc Cert.FrontReferenceIdeal.nD Cert.FrontReferenceIdeal.τ Cert.FrontReferenceIdeal.sig) → Buf (Elt Ideal) ℓ) (g : Dev Cert.FrontReferenceIdeal.nD → PrngReg), Pre_FrontReferenceIdeal m →
    θ_run (Cert.FrontReferenceIdeal.defs (F := Ideal)) (onTc (τ := Cert.FrontReferenceIdeal.τ) (Cert.FrontReferenceIdeal.main (F := Ideal))) ⟨m, fun _ => 0, g⟩ (fun r => (∀ c : Dev Cert.FrontReferenceIdeal.nD,
      r.2.mem ((c.tc : Thread Cert.FrontReferenceIdeal.nD Cert.FrontReferenceIdeal.τ).loc Cert.FrontReferenceIdeal.main_arg0) = m ((c.tc : Thread Cert.FrontReferenceIdeal.nD Cert.FrontReferenceIdeal.τ).loc Cert.FrontReferenceIdeal.main_arg0)
      ∧ r.2.mem ((c.tc : Thread Cert.FrontReferenceIdeal.nD Cert.FrontReferenceIdeal.τ).loc Cert.FrontReferenceIdeal.main_arg1) = m ((c.tc : Thread Cert.FrontReferenceIdeal.nD Cert.FrontReferenceIdeal.τ).loc Cert.FrontReferenceIdeal.main_arg1)
      ∧ r.2.mem ((c.tc : Thread Cert.FrontReferenceIdeal.nD Cert.FrontReferenceIdeal.τ).loc Cert.FrontReferenceIdeal.main_arg2) = m ((c.tc : Thread Cert.FrontReferenceIdeal.nD Cert.FrontReferenceIdeal.τ).loc Cert.FrontReferenceIdeal.main_arg2)
      ∧ r.2.mem ((c.tc : Thread Cert.FrontReferenceIdeal.nD Cert.FrontReferenceIdeal.τ).loc Cert.FrontReferenceIdeal.main_arg3) = m ((c.tc : Thread Cert.FrontReferenceIdeal.nD Cert.FrontReferenceIdeal.τ).loc Cert.FrontReferenceIdeal.main_arg3)
      ∧ r.2.mem ((c.tc : Thread Cert.FrontReferenceIdeal.nD Cert.FrontReferenceIdeal.τ).loc Cert.FrontReferenceIdeal.main_arg4) = m ((c.tc : Thread Cert.FrontReferenceIdeal.nD Cert.FrontReferenceIdeal.τ).loc Cert.FrontReferenceIdeal.main_arg4)
      ∧ r.2.mem ((c.tc : Thread Cert.FrontReferenceIdeal.nD Cert.FrontReferenceIdeal.τ).loc Cert.FrontReferenceIdeal.main_arg5) = m ((c.tc : Thread Cert.FrontReferenceIdeal.nD Cert.FrontReferenceIdeal.τ).loc Cert.FrontReferenceIdeal.main_arg5)
      ∧ r.2.mem ((c.tc : Thread Cert.FrontReferenceIdeal.nD Cert.FrontReferenceIdeal.τ).loc Cert.FrontReferenceIdeal.main_arg6) = m ((c.tc : Thread Cert.FrontReferenceIdeal.nD Cert.FrontReferenceIdeal.τ).loc Cert.FrontReferenceIdeal.main_arg6)
      ∧ r.2.mem ((c.tc : Thread Cert.FrontReferenceIdeal.nD Cert.FrontReferenceIdeal.τ).loc Cert.FrontReferenceIdeal.main_arg7) = m ((c.tc : Thread Cert.FrontReferenceIdeal.nD Cert.FrontReferenceIdeal.τ).loc Cert.FrontReferenceIdeal.main_arg7)
      ∧ r.2.mem ((c.tc : Thread Cert.FrontReferenceIdeal.nD Cert.FrontReferenceIdeal.τ).loc Cert.FrontReferenceIdeal.main_arg8) = m ((c.tc : Thread Cert.FrontReferenceIdeal.nD Cert.FrontReferenceIdeal.τ).loc Cert.FrontReferenceIdeal.main_arg8)
      ∧ r.2.mem ((c.tc : Thread Cert.FrontReferenceIdeal.nD Cert.FrontReferenceIdeal.τ).loc Cert.FrontReferenceIdeal.main_arg9) = m ((c.tc : Thread Cert.FrontReferenceIdeal.nD Cert.FrontReferenceIdeal.τ).loc Cert.FrontReferenceIdeal.main_arg9)
      ∧ r.2.mem ((c.tc : Thread Cert.FrontReferenceIdeal.nD Cert.FrontReferenceIdeal.τ).loc Cert.FrontReferenceIdeal.main_arg10) = m ((c.tc : Thread Cert.FrontReferenceIdeal.nD Cert.FrontReferenceIdeal.τ).loc Cert.FrontReferenceIdeal.main_arg10)
      ∧ r.2.mem ((c.tc : Thread Cert.FrontReferenceIdeal.nD Cert.FrontReferenceIdeal.τ).loc Cert.FrontReferenceIdeal.main_arg11) = m ((c.tc : Thread Cert.FrontReferenceIdeal.nD Cert.FrontReferenceIdeal.τ).loc Cert.FrontReferenceIdeal.main_arg11)
      ∧ r.2.mem ((c.tc : Thread Cert.FrontReferenceIdeal.nD Cert.FrontReferenceIdeal.τ).loc Cert.FrontReferenceIdeal.main_arg12) = m ((c.tc : Thread Cert.FrontReferenceIdeal.nD Cert.FrontReferenceIdeal.τ).loc Cert.FrontReferenceIdeal.main_arg12)
      ∧ r.2.mem ((c.tc : Thread Cert.FrontReferenceIdeal.nD Cert.FrontReferenceIdeal.τ).loc Cert.FrontReferenceIdeal.main_arg13) = m ((c.tc : Thread Cert.FrontReferenceIdeal.nD Cert.FrontReferenceIdeal.τ).loc Cert.FrontReferenceIdeal.main_arg13))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Tail_TailIdeal : Prop :=
  True

def algebraic_TailIdeal_TailReferenceIdeal [hTailIdeal : Cert.TailIdeal.Facts] [hTailReferenceIdeal : Cert.TailReferenceIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)
      ∧ m' ((c.tc : Thread Cert.TailReferenceIdeal.nD Cert.TailReferenceIdeal.τ).loc Cert.TailReferenceIdeal.main_arg3) = m ((c.tc : Thread Cert.TailIdeal.nD Cert.TailIdeal.τ).loc Cert.TailIdeal.main_arg3)
      ∧ m' ((c.tc : Thread Cert.TailReferenceIdeal.nD Cert.TailReferenceIdeal.τ).loc Cert.TailReferenceIdeal.main_arg4) = m ((c.tc : Thread Cert.TailIdeal.nD Cert.TailIdeal.τ).loc Cert.TailIdeal.main_arg4)
      ∧ m' ((c.tc : Thread Cert.TailReferenceIdeal.nD Cert.TailReferenceIdeal.τ).loc Cert.TailReferenceIdeal.main_arg5) = m ((c.tc : Thread Cert.TailIdeal.nD Cert.TailIdeal.τ).loc Cert.TailIdeal.main_arg5)
      ∧ m' ((c.tc : Thread Cert.TailReferenceIdeal.nD Cert.TailReferenceIdeal.τ).loc Cert.TailReferenceIdeal.main_arg6) = m ((c.tc : Thread Cert.TailIdeal.nD Cert.TailIdeal.τ).loc Cert.TailIdeal.main_arg6)
      ∧ m' ((c.tc : Thread Cert.TailReferenceIdeal.nD Cert.TailReferenceIdeal.τ).loc Cert.TailReferenceIdeal.main_arg7) = m ((c.tc : Thread Cert.TailIdeal.nD Cert.TailIdeal.τ).loc Cert.TailIdeal.main_arg7)
      ∧ m' ((c.tc : Thread Cert.TailReferenceIdeal.nD Cert.TailReferenceIdeal.τ).loc Cert.TailReferenceIdeal.main_arg8) = m ((c.tc : Thread Cert.TailIdeal.nD Cert.TailIdeal.τ).loc Cert.TailIdeal.main_arg8)
      ∧ m' ((c.tc : Thread Cert.TailReferenceIdeal.nD Cert.TailReferenceIdeal.τ).loc Cert.TailReferenceIdeal.main_arg9) = m ((c.tc : Thread Cert.TailIdeal.nD Cert.TailIdeal.τ).loc Cert.TailIdeal.main_arg9)
      ∧ m' ((c.tc : Thread Cert.TailReferenceIdeal.nD Cert.TailReferenceIdeal.τ).loc Cert.TailReferenceIdeal.main_arg10) = m ((c.tc : Thread Cert.TailIdeal.nD Cert.TailIdeal.τ).loc Cert.TailIdeal.main_arg10)
      ∧ m' ((c.tc : Thread Cert.TailReferenceIdeal.nD Cert.TailReferenceIdeal.τ).loc Cert.TailReferenceIdeal.main_arg11) = m ((c.tc : Thread Cert.TailIdeal.nD Cert.TailIdeal.τ).loc Cert.TailIdeal.main_arg11)
      ∧ m' ((c.tc : Thread Cert.TailReferenceIdeal.nD Cert.TailReferenceIdeal.τ).loc Cert.TailReferenceIdeal.main_arg12) = m ((c.tc : Thread Cert.TailIdeal.nD Cert.TailIdeal.τ).loc Cert.TailIdeal.main_arg12)
      ∧ m' ((c.tc : Thread Cert.TailReferenceIdeal.nD Cert.TailReferenceIdeal.τ).loc Cert.TailReferenceIdeal.main_arg13) = m ((c.tc : Thread Cert.TailIdeal.nD Cert.TailIdeal.τ).loc Cert.TailIdeal.main_arg13)
      ∧ m' ((c.tc : Thread Cert.TailReferenceIdeal.nD Cert.TailReferenceIdeal.τ).loc Cert.TailReferenceIdeal.main_arg14) = m ((c.tc : Thread Cert.TailIdeal.nD Cert.TailIdeal.τ).loc Cert.TailIdeal.main_arg14)
      ∧ m' ((c.tc : Thread Cert.TailReferenceIdeal.nD Cert.TailReferenceIdeal.τ).loc Cert.TailReferenceIdeal.main_arg15) = m ((c.tc : Thread Cert.TailIdeal.nD Cert.TailIdeal.τ).loc Cert.TailIdeal.main_arg15)
      ∧ m' ((c.tc : Thread Cert.TailReferenceIdeal.nD Cert.TailReferenceIdeal.τ).loc Cert.TailReferenceIdeal.main_arg16) = m ((c.tc : Thread Cert.TailIdeal.nD Cert.TailIdeal.τ).loc Cert.TailIdeal.main_arg16)
      ∧ m' ((c.tc : Thread Cert.TailReferenceIdeal.nD Cert.TailReferenceIdeal.τ).loc Cert.TailReferenceIdeal.main_arg17) = m ((c.tc : Thread Cert.TailIdeal.nD Cert.TailIdeal.τ).loc Cert.TailIdeal.main_arg17)
      ∧ m' ((c.tc : Thread Cert.TailReferenceIdeal.nD Cert.TailReferenceIdeal.τ).loc Cert.TailReferenceIdeal.main_arg18) = m ((c.tc : Thread Cert.TailIdeal.nD Cert.TailIdeal.τ).loc Cert.TailIdeal.main_arg18)
      ∧ m' ((c.tc : Thread Cert.TailReferenceIdeal.nD Cert.TailReferenceIdeal.τ).loc Cert.TailReferenceIdeal.main_arg19) = m ((c.tc : Thread Cert.TailIdeal.nD Cert.TailIdeal.τ).loc Cert.TailIdeal.main_arg19)
      ∧ m' ((c.tc : Thread Cert.TailReferenceIdeal.nD Cert.TailReferenceIdeal.τ).loc Cert.TailReferenceIdeal.main_arg20) = m ((c.tc : Thread Cert.TailIdeal.nD Cert.TailIdeal.τ).loc Cert.TailIdeal.main_arg20)
      ∧ m' ((c.tc : Thread Cert.TailReferenceIdeal.nD Cert.TailReferenceIdeal.τ).loc Cert.TailReferenceIdeal.main_arg21) = m ((c.tc : Thread Cert.TailIdeal.nD Cert.TailIdeal.τ).loc Cert.TailIdeal.main_arg21)
      ∧ m' ((c.tc : Thread Cert.TailReferenceIdeal.nD Cert.TailReferenceIdeal.τ).loc Cert.TailReferenceIdeal.main_arg22) = m ((c.tc : Thread Cert.TailIdeal.nD Cert.TailIdeal.τ).loc Cert.TailIdeal.main_arg22)) →
    ∃ (v0 : (c : Dev Cert.TailIdeal.nD) → Buf (Elt Ideal) ((c.tc : Thread Cert.TailIdeal.nD Cert.TailIdeal.τ).loc Cert.TailIdeal.main_v25)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v25) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
          ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
          ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
          ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
          ∧ r.2.mem ((c.tc : Thread Cert.TailIdeal.nD Cert.TailIdeal.τ).loc Cert.TailIdeal.main_arg15) = m ((c.tc : Thread Cert.TailIdeal.nD Cert.TailIdeal.τ).loc Cert.TailIdeal.main_arg15)
          ∧ r.2.mem ((c.tc : Thread Cert.TailIdeal.nD Cert.TailIdeal.τ).loc Cert.TailIdeal.main_arg16) = m ((c.tc : Thread Cert.TailIdeal.nD Cert.TailIdeal.τ).loc Cert.TailIdeal.main_arg16)
          ∧ r.2.mem ((c.tc : Thread Cert.TailIdeal.nD Cert.TailIdeal.τ).loc Cert.TailIdeal.main_arg17) = m ((c.tc : Thread Cert.TailIdeal.nD Cert.TailIdeal.τ).loc Cert.TailIdeal.main_arg17)
          ∧ r.2.mem ((c.tc : Thread Cert.TailIdeal.nD Cert.TailIdeal.τ).loc Cert.TailIdeal.main_arg18) = m ((c.tc : Thread Cert.TailIdeal.nD Cert.TailIdeal.τ).loc Cert.TailIdeal.main_arg18)
          ∧ r.2.mem ((c.tc : Thread Cert.TailIdeal.nD Cert.TailIdeal.τ).loc Cert.TailIdeal.main_arg19) = m ((c.tc : Thread Cert.TailIdeal.nD Cert.TailIdeal.τ).loc Cert.TailIdeal.main_arg19)
          ∧ r.2.mem ((c.tc : Thread Cert.TailIdeal.nD Cert.TailIdeal.τ).loc Cert.TailIdeal.main_arg20) = m ((c.tc : Thread Cert.TailIdeal.nD Cert.TailIdeal.τ).loc Cert.TailIdeal.main_arg20)
          ∧ r.2.mem ((c.tc : Thread Cert.TailIdeal.nD Cert.TailIdeal.τ).loc Cert.TailIdeal.main_arg21) = m ((c.tc : Thread Cert.TailIdeal.nD Cert.TailIdeal.τ).loc Cert.TailIdeal.main_arg21)
          ∧ r.2.mem ((c.tc : Thread Cert.TailIdeal.nD Cert.TailIdeal.τ).loc Cert.TailIdeal.main_arg22) = m ((c.tc : Thread Cert.TailIdeal.nD Cert.TailIdeal.τ).loc Cert.TailIdeal.main_arg22))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v140) = v0 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6)
          ∧ r.2.mem ((c.tc : Thread Cert.TailReferenceIdeal.nD Cert.TailReferenceIdeal.τ).loc Cert.TailReferenceIdeal.main_arg7) = m' ((c.tc : Thread Cert.TailReferenceIdeal.nD Cert.TailReferenceIdeal.τ).loc Cert.TailReferenceIdeal.main_arg7)
          ∧ r.2.mem ((c.tc : Thread Cert.TailReferenceIdeal.nD Cert.TailReferenceIdeal.τ).loc Cert.TailReferenceIdeal.main_arg8) = m' ((c.tc : Thread Cert.TailReferenceIdeal.nD Cert.TailReferenceIdeal.τ).loc Cert.TailReferenceIdeal.main_arg8)
          ∧ r.2.mem ((c.tc : Thread Cert.TailReferenceIdeal.nD Cert.TailReferenceIdeal.τ).loc Cert.TailReferenceIdeal.main_arg9) = m' ((c.tc : Thread Cert.TailReferenceIdeal.nD Cert.TailReferenceIdeal.τ).loc Cert.TailReferenceIdeal.main_arg9)
          ∧ r.2.mem ((c.tc : Thread Cert.TailReferenceIdeal.nD Cert.TailReferenceIdeal.τ).loc Cert.TailReferenceIdeal.main_arg10) = m' ((c.tc : Thread Cert.TailReferenceIdeal.nD Cert.TailReferenceIdeal.τ).loc Cert.TailReferenceIdeal.main_arg10)
          ∧ r.2.mem ((c.tc : Thread Cert.TailReferenceIdeal.nD Cert.TailReferenceIdeal.τ).loc Cert.TailReferenceIdeal.main_arg11) = m' ((c.tc : Thread Cert.TailReferenceIdeal.nD Cert.TailReferenceIdeal.τ).loc Cert.TailReferenceIdeal.main_arg11)
          ∧ r.2.mem ((c.tc : Thread Cert.TailReferenceIdeal.nD Cert.TailReferenceIdeal.τ).loc Cert.TailReferenceIdeal.main_arg12) = m' ((c.tc : Thread Cert.TailReferenceIdeal.nD Cert.TailReferenceIdeal.τ).loc Cert.TailReferenceIdeal.main_arg12)
          ∧ r.2.mem ((c.tc : Thread Cert.TailReferenceIdeal.nD Cert.TailReferenceIdeal.τ).loc Cert.TailReferenceIdeal.main_arg13) = m' ((c.tc : Thread Cert.TailReferenceIdeal.nD Cert.TailReferenceIdeal.τ).loc Cert.TailReferenceIdeal.main_arg13)
          ∧ r.2.mem ((c.tc : Thread Cert.TailReferenceIdeal.nD Cert.TailReferenceIdeal.τ).loc Cert.TailReferenceIdeal.main_arg14) = m' ((c.tc : Thread Cert.TailReferenceIdeal.nD Cert.TailReferenceIdeal.τ).loc Cert.TailReferenceIdeal.main_arg14)
          ∧ r.2.mem ((c.tc : Thread Cert.TailReferenceIdeal.nD Cert.TailReferenceIdeal.τ).loc Cert.TailReferenceIdeal.main_arg15) = m' ((c.tc : Thread Cert.TailReferenceIdeal.nD Cert.TailReferenceIdeal.τ).loc Cert.TailReferenceIdeal.main_arg15)
          ∧ r.2.mem ((c.tc : Thread Cert.TailReferenceIdeal.nD Cert.TailReferenceIdeal.τ).loc Cert.TailReferenceIdeal.main_arg16) = m' ((c.tc : Thread Cert.TailReferenceIdeal.nD Cert.TailReferenceIdeal.τ).loc Cert.TailReferenceIdeal.main_arg16)
          ∧ r.2.mem ((c.tc : Thread Cert.TailReferenceIdeal.nD Cert.TailReferenceIdeal.τ).loc Cert.TailReferenceIdeal.main_arg17) = m' ((c.tc : Thread Cert.TailReferenceIdeal.nD Cert.TailReferenceIdeal.τ).loc Cert.TailReferenceIdeal.main_arg17)
          ∧ r.2.mem ((c.tc : Thread Cert.TailReferenceIdeal.nD Cert.TailReferenceIdeal.τ).loc Cert.TailReferenceIdeal.main_arg18) = m' ((c.tc : Thread Cert.TailReferenceIdeal.nD Cert.TailReferenceIdeal.τ).loc Cert.TailReferenceIdeal.main_arg18)
          ∧ r.2.mem ((c.tc : Thread Cert.TailReferenceIdeal.nD Cert.TailReferenceIdeal.τ).loc Cert.TailReferenceIdeal.main_arg19) = m' ((c.tc : Thread Cert.TailReferenceIdeal.nD Cert.TailReferenceIdeal.τ).loc Cert.TailReferenceIdeal.main_arg19)
          ∧ r.2.mem ((c.tc : Thread Cert.TailReferenceIdeal.nD Cert.TailReferenceIdeal.τ).loc Cert.TailReferenceIdeal.main_arg20) = m' ((c.tc : Thread Cert.TailReferenceIdeal.nD Cert.TailReferenceIdeal.τ).loc Cert.TailReferenceIdeal.main_arg20)
          ∧ r.2.mem ((c.tc : Thread Cert.TailReferenceIdeal.nD Cert.TailReferenceIdeal.τ).loc Cert.TailReferenceIdeal.main_arg21) = m' ((c.tc : Thread Cert.TailReferenceIdeal.nD Cert.TailReferenceIdeal.τ).loc Cert.TailReferenceIdeal.main_arg21)
          ∧ r.2.mem ((c.tc : Thread Cert.TailReferenceIdeal.nD Cert.TailReferenceIdeal.τ).loc Cert.TailReferenceIdeal.main_arg22) = m' ((c.tc : Thread Cert.TailReferenceIdeal.nD Cert.TailReferenceIdeal.τ).loc Cert.TailReferenceIdeal.main_arg22))

def preserves_Front_FrontIdeal : Prop :=
  True

def algebraic_FrontIdeal_FrontReferenceIdeal [hFrontIdeal : Cert.FrontIdeal.Facts] [hFrontReferenceIdeal : Cert.FrontReferenceIdeal.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.FrontReferenceIdeal.nD Cert.FrontReferenceIdeal.τ Cert.FrontReferenceIdeal.sig) → Buf (Elt Ideal) ℓ) (g' : Dev Cert.FrontReferenceIdeal.nD → PrngReg), Pre_FrontIdeal m →
    (∀ c : Dev Cert.FrontIdeal.nD,
      m' ((c.tc : Thread Cert.FrontReferenceIdeal.nD Cert.FrontReferenceIdeal.τ).loc Cert.FrontReferenceIdeal.main_arg0) = m ((c.tc : Thread Cert.FrontIdeal.nD Cert.FrontIdeal.τ).loc Cert.FrontIdeal.main_arg0)
      ∧ m' ((c.tc : Thread Cert.FrontReferenceIdeal.nD Cert.FrontReferenceIdeal.τ).loc Cert.FrontReferenceIdeal.main_arg1) = m ((c.tc : Thread Cert.FrontIdeal.nD Cert.FrontIdeal.τ).loc Cert.FrontIdeal.main_arg1)
      ∧ m' ((c.tc : Thread Cert.FrontReferenceIdeal.nD Cert.FrontReferenceIdeal.τ).loc Cert.FrontReferenceIdeal.main_arg2) = m ((c.tc : Thread Cert.FrontIdeal.nD Cert.FrontIdeal.τ).loc Cert.FrontIdeal.main_arg2)
      ∧ m' ((c.tc : Thread Cert.FrontReferenceIdeal.nD Cert.FrontReferenceIdeal.τ).loc Cert.FrontReferenceIdeal.main_arg3) = m ((c.tc : Thread Cert.FrontIdeal.nD Cert.FrontIdeal.τ).loc Cert.FrontIdeal.main_arg3)
      ∧ m' ((c.tc : Thread Cert.FrontReferenceIdeal.nD Cert.FrontReferenceIdeal.τ).loc Cert.FrontReferenceIdeal.main_arg4) = m ((c.tc : Thread Cert.FrontIdeal.nD Cert.FrontIdeal.τ).loc Cert.FrontIdeal.main_arg4)
      ∧ m' ((c.tc : Thread Cert.FrontReferenceIdeal.nD Cert.FrontReferenceIdeal.τ).loc Cert.FrontReferenceIdeal.main_arg5) = m ((c.tc : Thread Cert.FrontIdeal.nD Cert.FrontIdeal.τ).loc Cert.FrontIdeal.main_arg5)
      ∧ m' ((c.tc : Thread Cert.FrontReferenceIdeal.nD Cert.FrontReferenceIdeal.τ).loc Cert.FrontReferenceIdeal.main_arg6) = m ((c.tc : Thread Cert.FrontIdeal.nD Cert.FrontIdeal.τ).loc Cert.FrontIdeal.main_arg6)
      ∧ m' ((c.tc : Thread Cert.FrontReferenceIdeal.nD Cert.FrontReferenceIdeal.τ).loc Cert.FrontReferenceIdeal.main_arg7) = m ((c.tc : Thread Cert.FrontIdeal.nD Cert.FrontIdeal.τ).loc Cert.FrontIdeal.main_arg7)
      ∧ m' ((c.tc : Thread Cert.FrontReferenceIdeal.nD Cert.FrontReferenceIdeal.τ).loc Cert.FrontReferenceIdeal.main_arg8) = m ((c.tc : Thread Cert.FrontIdeal.nD Cert.FrontIdeal.τ).loc Cert.FrontIdeal.main_arg8)
      ∧ m' ((c.tc : Thread Cert.FrontReferenceIdeal.nD Cert.FrontReferenceIdeal.τ).loc Cert.FrontReferenceIdeal.main_arg9) = m ((c.tc : Thread Cert.FrontIdeal.nD Cert.FrontIdeal.τ).loc Cert.FrontIdeal.main_arg9)
      ∧ m' ((c.tc : Thread Cert.FrontReferenceIdeal.nD Cert.FrontReferenceIdeal.τ).loc Cert.FrontReferenceIdeal.main_arg10) = m ((c.tc : Thread Cert.FrontIdeal.nD Cert.FrontIdeal.τ).loc Cert.FrontIdeal.main_arg10)
      ∧ m' ((c.tc : Thread Cert.FrontReferenceIdeal.nD Cert.FrontReferenceIdeal.τ).loc Cert.FrontReferenceIdeal.main_arg11) = m ((c.tc : Thread Cert.FrontIdeal.nD Cert.FrontIdeal.τ).loc Cert.FrontIdeal.main_arg11)
      ∧ m' ((c.tc : Thread Cert.FrontReferenceIdeal.nD Cert.FrontReferenceIdeal.τ).loc Cert.FrontReferenceIdeal.main_arg12) = m ((c.tc : Thread Cert.FrontIdeal.nD Cert.FrontIdeal.τ).loc Cert.FrontIdeal.main_arg12)
      ∧ m' ((c.tc : Thread Cert.FrontReferenceIdeal.nD Cert.FrontReferenceIdeal.τ).loc Cert.FrontReferenceIdeal.main_arg13) = m ((c.tc : Thread Cert.FrontIdeal.nD Cert.FrontIdeal.τ).loc Cert.FrontIdeal.main_arg13)) →
    ∃ (v0 : (c : Dev Cert.FrontIdeal.nD) → Buf (Elt Ideal) ((c.tc : Thread Cert.FrontIdeal.nD Cert.FrontIdeal.τ).loc Cert.FrontIdeal.main_v77_0)) (v1 : (c : Dev Cert.FrontIdeal.nD) → Buf (Elt Ideal) ((c.tc : Thread Cert.FrontIdeal.nD Cert.FrontIdeal.τ).loc Cert.FrontIdeal.main_v77_1)) (v2 : (c : Dev Cert.FrontIdeal.nD) → Buf (Elt Ideal) ((c.tc : Thread Cert.FrontIdeal.nD Cert.FrontIdeal.τ).loc Cert.FrontIdeal.main_v77_2)) (v3 : (c : Dev Cert.FrontIdeal.nD) → Buf (Elt Ideal) ((c.tc : Thread Cert.FrontIdeal.nD Cert.FrontIdeal.τ).loc Cert.FrontIdeal.main_v77_3)) (v4 : (c : Dev Cert.FrontIdeal.nD) → Buf (Elt Ideal) ((c.tc : Thread Cert.FrontIdeal.nD Cert.FrontIdeal.τ).loc Cert.FrontIdeal.main_v77_4)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v77_0) = v0 c
          ∧ r.2.mem ((c.tc : Thread Cert.FrontIdeal.nD Cert.FrontIdeal.τ).loc Cert.FrontIdeal.main_v77_1) = v1 c
          ∧ r.2.mem ((c.tc : Thread Cert.FrontIdeal.nD Cert.FrontIdeal.τ).loc Cert.FrontIdeal.main_v77_2) = v2 c
          ∧ r.2.mem ((c.tc : Thread Cert.FrontIdeal.nD Cert.FrontIdeal.τ).loc Cert.FrontIdeal.main_v77_3) = v3 c
          ∧ r.2.mem ((c.tc : Thread Cert.FrontIdeal.nD Cert.FrontIdeal.τ).loc Cert.FrontIdeal.main_v77_4) = v4 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
          ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
          ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
          ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
          ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
          ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
          ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8)
          ∧ r.2.mem ((c.tc : Thread Cert.FrontIdeal.nD Cert.FrontIdeal.τ).loc Cert.FrontIdeal.main_arg9) = m ((c.tc : Thread Cert.FrontIdeal.nD Cert.FrontIdeal.τ).loc Cert.FrontIdeal.main_arg9)
          ∧ r.2.mem ((c.tc : Thread Cert.FrontIdeal.nD Cert.FrontIdeal.τ).loc Cert.FrontIdeal.main_arg10) = m ((c.tc : Thread Cert.FrontIdeal.nD Cert.FrontIdeal.τ).loc Cert.FrontIdeal.main_arg10)
          ∧ r.2.mem ((c.tc : Thread Cert.FrontIdeal.nD Cert.FrontIdeal.τ).loc Cert.FrontIdeal.main_arg11) = m ((c.tc : Thread Cert.FrontIdeal.nD Cert.FrontIdeal.τ).loc Cert.FrontIdeal.main_arg11)
          ∧ r.2.mem ((c.tc : Thread Cert.FrontIdeal.nD Cert.FrontIdeal.τ).loc Cert.FrontIdeal.main_arg12) = m ((c.tc : Thread Cert.FrontIdeal.nD Cert.FrontIdeal.τ).loc Cert.FrontIdeal.main_arg12)
          ∧ r.2.mem ((c.tc : Thread Cert.FrontIdeal.nD Cert.FrontIdeal.τ).loc Cert.FrontIdeal.main_arg13) = m ((c.tc : Thread Cert.FrontIdeal.nD Cert.FrontIdeal.τ).loc Cert.FrontIdeal.main_arg13))
      ∧ θ_run (Cert.FrontReferenceIdeal.defs (F := Ideal)) (onTc (τ := Cert.FrontReferenceIdeal.τ) (Cert.FrontReferenceIdeal.main (F := Ideal))) ⟨m', fun _ => 0, g'⟩ (fun r => ∀ c : Dev Cert.FrontReferenceIdeal.nD,
          r.2.mem ((c.tc : Thread Cert.FrontReferenceIdeal.nD Cert.FrontReferenceIdeal.τ).loc Cert.FrontReferenceIdeal.main_v166) = v0 c
          ∧ r.2.mem ((c.tc : Thread Cert.FrontReferenceIdeal.nD Cert.FrontReferenceIdeal.τ).loc Cert.FrontReferenceIdeal.main_v72) = v1 c
          ∧ r.2.mem ((c.tc : Thread Cert.FrontReferenceIdeal.nD Cert.FrontReferenceIdeal.τ).loc Cert.FrontReferenceIdeal.main_v167) = v2 c
          ∧ r.2.mem ((c.tc : Thread Cert.FrontReferenceIdeal.nD Cert.FrontReferenceIdeal.τ).loc Cert.FrontReferenceIdeal.main_v165) = v3 c
          ∧ r.2.mem ((c.tc : Thread Cert.FrontReferenceIdeal.nD Cert.FrontReferenceIdeal.τ).loc Cert.FrontReferenceIdeal.main_v168) = v4 c
          ∧ r.2.mem ((c.tc : Thread Cert.FrontReferenceIdeal.nD Cert.FrontReferenceIdeal.τ).loc Cert.FrontReferenceIdeal.main_arg0) = m' ((c.tc : Thread Cert.FrontReferenceIdeal.nD Cert.FrontReferenceIdeal.τ).loc Cert.FrontReferenceIdeal.main_arg0)
          ∧ r.2.mem ((c.tc : Thread Cert.FrontReferenceIdeal.nD Cert.FrontReferenceIdeal.τ).loc Cert.FrontReferenceIdeal.main_arg1) = m' ((c.tc : Thread Cert.FrontReferenceIdeal.nD Cert.FrontReferenceIdeal.τ).loc Cert.FrontReferenceIdeal.main_arg1)
          ∧ r.2.mem ((c.tc : Thread Cert.FrontReferenceIdeal.nD Cert.FrontReferenceIdeal.τ).loc Cert.FrontReferenceIdeal.main_arg2) = m' ((c.tc : Thread Cert.FrontReferenceIdeal.nD Cert.FrontReferenceIdeal.τ).loc Cert.FrontReferenceIdeal.main_arg2)
          ∧ r.2.mem ((c.tc : Thread Cert.FrontReferenceIdeal.nD Cert.FrontReferenceIdeal.τ).loc Cert.FrontReferenceIdeal.main_arg3) = m' ((c.tc : Thread Cert.FrontReferenceIdeal.nD Cert.FrontReferenceIdeal.τ).loc Cert.FrontReferenceIdeal.main_arg3)
          ∧ r.2.mem ((c.tc : Thread Cert.FrontReferenceIdeal.nD Cert.FrontReferenceIdeal.τ).loc Cert.FrontReferenceIdeal.main_arg4) = m' ((c.tc : Thread Cert.FrontReferenceIdeal.nD Cert.FrontReferenceIdeal.τ).loc Cert.FrontReferenceIdeal.main_arg4)
          ∧ r.2.mem ((c.tc : Thread Cert.FrontReferenceIdeal.nD Cert.FrontReferenceIdeal.τ).loc Cert.FrontReferenceIdeal.main_arg5) = m' ((c.tc : Thread Cert.FrontReferenceIdeal.nD Cert.FrontReferenceIdeal.τ).loc Cert.FrontReferenceIdeal.main_arg5)
          ∧ r.2.mem ((c.tc : Thread Cert.FrontReferenceIdeal.nD Cert.FrontReferenceIdeal.τ).loc Cert.FrontReferenceIdeal.main_arg6) = m' ((c.tc : Thread Cert.FrontReferenceIdeal.nD Cert.FrontReferenceIdeal.τ).loc Cert.FrontReferenceIdeal.main_arg6)
          ∧ r.2.mem ((c.tc : Thread Cert.FrontReferenceIdeal.nD Cert.FrontReferenceIdeal.τ).loc Cert.FrontReferenceIdeal.main_arg7) = m' ((c.tc : Thread Cert.FrontReferenceIdeal.nD Cert.FrontReferenceIdeal.τ).loc Cert.FrontReferenceIdeal.main_arg7)
          ∧ r.2.mem ((c.tc : Thread Cert.FrontReferenceIdeal.nD Cert.FrontReferenceIdeal.τ).loc Cert.FrontReferenceIdeal.main_arg8) = m' ((c.tc : Thread Cert.FrontReferenceIdeal.nD Cert.FrontReferenceIdeal.τ).loc Cert.FrontReferenceIdeal.main_arg8)
          ∧ r.2.mem ((c.tc : Thread Cert.FrontReferenceIdeal.nD Cert.FrontReferenceIdeal.τ).loc Cert.FrontReferenceIdeal.main_arg9) = m' ((c.tc : Thread Cert.FrontReferenceIdeal.nD Cert.FrontReferenceIdeal.τ).loc Cert.FrontReferenceIdeal.main_arg9)
          ∧ r.2.mem ((c.tc : Thread Cert.FrontReferenceIdeal.nD Cert.FrontReferenceIdeal.τ).loc Cert.FrontReferenceIdeal.main_arg10) = m' ((c.tc : Thread Cert.FrontReferenceIdeal.nD Cert.FrontReferenceIdeal.τ).loc Cert.FrontReferenceIdeal.main_arg10)
          ∧ r.2.mem ((c.tc : Thread Cert.FrontReferenceIdeal.nD Cert.FrontReferenceIdeal.τ).loc Cert.FrontReferenceIdeal.main_arg11) = m' ((c.tc : Thread Cert.FrontReferenceIdeal.nD Cert.FrontReferenceIdeal.τ).loc Cert.FrontReferenceIdeal.main_arg11)
          ∧ r.2.mem ((c.tc : Thread Cert.FrontReferenceIdeal.nD Cert.FrontReferenceIdeal.τ).loc Cert.FrontReferenceIdeal.main_arg12) = m' ((c.tc : Thread Cert.FrontReferenceIdeal.nD Cert.FrontReferenceIdeal.τ).loc Cert.FrontReferenceIdeal.main_arg12)
          ∧ r.2.mem ((c.tc : Thread Cert.FrontReferenceIdeal.nD Cert.FrontReferenceIdeal.τ).loc Cert.FrontReferenceIdeal.main_arg13) = m' ((c.tc : Thread Cert.FrontReferenceIdeal.nD Cert.FrontReferenceIdeal.τ).loc Cert.FrontReferenceIdeal.main_arg13))

def Claim : Prop :=
  ∃ (hKernel : Cert.Kernel.Facts) (hKernelIdeal : Cert.KernelIdeal.Facts) (hReferenceIdeal : Cert.ReferenceIdeal.Facts) (hTail : Cert.Tail.Facts) (hTailIdeal : Cert.TailIdeal.Facts) (hTailReferenceIdeal : Cert.TailReferenceIdeal.Facts) (hFront : Cert.Front.Facts) (hFrontIdeal : Cert.FrontIdeal.Facts) (hFrontReferenceIdeal : Cert.FrontReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Tail (hTail := hTail)
    ∧ quiescent_TailIdeal (hTailIdeal := hTailIdeal)
    ∧ quiescent_TailReferenceIdeal (hTailReferenceIdeal := hTailReferenceIdeal)
    ∧ quiescent_Front (hFront := hFront)
    ∧ quiescent_FrontIdeal (hFrontIdeal := hFrontIdeal)
    ∧ quiescent_FrontReferenceIdeal (hFrontReferenceIdeal := hFrontReferenceIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Tail_TailIdeal
    ∧ algebraic_TailIdeal_TailReferenceIdeal (hTailIdeal := hTailIdeal) (hTailReferenceIdeal := hTailReferenceIdeal)
    ∧ preserves_Front_FrontIdeal
    ∧ algebraic_FrontIdeal_FrontReferenceIdeal (hFrontIdeal := hFrontIdeal) (hFrontReferenceIdeal := hFrontReferenceIdeal)
-- ==== Pre_finite_inputs.lean ====
abbrev S8x4096x3072 : Shape := ⟨3, ![8, 4096, 3072]⟩
abbrev S8x4096x1024 : Shape := ⟨3, ![8, 4096, 1024]⟩
abbrev S_ : Shape := ⟨0, ![]⟩

class Facts : Prop where
  bitsLt_bf16_f32 : FTy.bits .bf16 < FTy.bits .f32
  bcast_S_S8x4096x3072 : S_.BroadcastsInDim S8x4096x3072 (![] : Fin 0 → Fin S8x4096x3072.rank)
  reducesTo_S8x4096x3072_S_d0_1_2 : S8x4096x3072.ReducesTo [0, 1, 2] S_
  h_S_ : 0 < S_.numel
  bcast_S_S8x4096x1024 : S_.BroadcastsInDim S8x4096x1024 (![] : Fin 0 → Fin S8x4096x1024.rank)
  reducesTo_S8x4096x1024_S_d0_1_2 : S8x4096x1024.ReducesTo [0, 1, 2] S_

variable [Facts]

def fn {F : FTy → Type} [FloatOps F] (main_arg0 : FVec F S8x4096x3072 .bf16) (main_arg1 : FVec F S8x4096x1024 .f32) : IVec S_ 1 :=
  let main_v0 : FVec F S8x4096x3072 .f32 := (extf .f32 · bitsLt_bf16_f32) main_arg0
  let main_v1 : FVec F S8x4096x3072 .f32 := Host.absf main_v0
  let main_cst : FVec F S_ .f32 := constant S_ .f32 0x7F800000#32
  let main_v2 : FVec F S8x4096x3072 .f32 := broadcastInDim S8x4096x3072 ![] bcast_S_S8x4096x3072 main_cst
  let main_v3 : IVec S8x4096x3072 1 := cmpf .olt main_v1 main_v2
  let main_c : IVec S_ 1 := constantI S_ 1 1#1
  let main_v4 : IVec S_ 1 := (fun x v => Host.reduce IntOp.andi x v reducesTo_S8x4096x3072_S_d0_1_2 h_S_) main_v3 main_c
  let main_v5 : FVec F S8x4096x1024 .f32 := Host.absf main_arg1
  let main_cst_0 : FVec F S_ .f32 := constant S_ .f32 0x7F800000#32
  let main_v6 : FVec F S8x4096x1024 .f32 := broadcastInDim S8x4096x1024 ![] bcast_S_S8x4096x1024 main_cst_0
  let main_v7 : IVec S8x4096x1024 1 := cmpf .olt main_v5 main_v6
  let main_c_1 : IVec S_ 1 := constantI S_ 1 1#1
  let main_v8 : IVec S_ 1 := (fun x v => Host.reduce IntOp.andi x v reducesTo_S8x4096x1024_S_d0_1_2 h_S_) main_v7 main_c_1
  let main_v9 : IVec S_ 1 := andi main_v4 main_v8
  main_v9
-- ==== Kernel.lean ====
abbrev S8x4096x3072 : Shape := ⟨3, ![8, 4096, 3072]⟩
abbrev S8x4096x1024 : Shape := ⟨3, ![8, 4096, 1024]⟩
abbrev S8x4096x512 : Shape := ⟨3, ![8, 4096, 512]⟩
abbrev S4x64x2560 : Shape := ⟨3, ![4, 64, 2560]⟩
abbrev S4x64x512 : Shape := ⟨3, ![4, 64, 512]⟩
abbrev S32x128x128 : Shape := ⟨3, ![32, 128, 128]⟩
abbrev S1x64x512 : Shape := ⟨3, ![1, 64, 512]⟩
abbrev S64x512 : Shape := ⟨2, ![64, 512]⟩
abbrev S64x1 : Shape := ⟨2, ![64, 1]⟩
abbrev S1x512 : Shape := ⟨2, ![1, 512]⟩
abbrev S64x128 : Shape := ⟨2, ![64, 128]⟩
abbrev S1x128 : Shape := ⟨2, ![1, 128]⟩
abbrev S128x128 : Shape := ⟨2, ![128, 128]⟩
abbrev S256x128 : Shape := ⟨2, ![256, 128]⟩
abbrev S128x256 : Shape := ⟨2, ![128, 256]⟩
abbrev S1x128x128 : Shape := ⟨3, ![1, 128, 128]⟩
abbrev S64x256 : Shape := ⟨2, ![64, 256]⟩
abbrev S1x64x128 : Shape := ⟨3, ![1, 64, 128]⟩

abbrev nBuf : Space → Nat
  | .hbm => 4
  | .vmem => 13
  | .smem => 0
  | _ => 0

abbrev bufTy : (tb : Table) → Fin (tcTables nBuf tb) → BufTy
  | .hbm, ⟨0, _⟩ => ⟨S8x4096x3072, .bf16⟩
  | .hbm, ⟨1, _⟩ => ⟨S8x4096x1024, .f32⟩
  | .hbm, ⟨2, _⟩ => ⟨S8x4096x512, .f32⟩
  | .hbm, ⟨3, _⟩ => ⟨S8x4096x512, .f32⟩
  | .local _ .vmem, ⟨0, _⟩ => ⟨S4x64x2560, .bf16⟩
  | .local _ .vmem, ⟨1, _⟩ => ⟨S4x64x2560, .bf16⟩
  | .local _ .vmem, ⟨2, _⟩ => ⟨S4x64x512, .f32⟩
  | .local _ .vmem, ⟨3, _⟩ => ⟨S4x64x512, .f32⟩
  | .local _ .vmem, ⟨4, _⟩ => ⟨S4x64x2560, .bf16⟩
  | .local _ .vmem, ⟨5, _⟩ => ⟨S4x64x2560, .bf16⟩
  | .local _ .vmem, ⟨6, _⟩ => ⟨S4x64x512, .f32⟩
  | .local _ .vmem, ⟨7, _⟩ => ⟨S4x64x512, .f32⟩
  | .local _ .vmem, ⟨8, _⟩ => ⟨S4x64x512, .f32⟩
  | .local _ .vmem, ⟨9, _⟩ => ⟨S4x64x512, .f32⟩
  | .local _ .vmem, ⟨10, _⟩ => ⟨S4x64x512, .f32⟩
  | .local _ .vmem, ⟨11, _⟩ => ⟨S4x64x512, .f32⟩
  | .local _ .vmem, ⟨12, _⟩ => ⟨S32x128x128, .f32⟩
  | _, _ => ⟨S8x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c1_i32 : BitVec 32 := 1#32
  let c0_i32 : BitVec 32 := 0#32
  ![arg0.toNat, v0.toNat, c1_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, v0.toNat, c0_i32.toNat]

abbrev stage0_0 : Fin 2 → Memref sig .tc .vmem S4x64x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x64x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8x4096x3072 : Shape := ⟨3, ![8, 4096, 3072]⟩
abbrev S8x4096x1024 : Shape := ⟨3, ![8, 4096, 1024]⟩
abbrev S8x4096x512 : Shape := ⟨3, ![8, 4096, 512]⟩
abbrev S8x4096x8x64 : Shape := ⟨4, ![8, 4096, 8, 64]⟩
abbrev S8x64x64x512 : Shape := ⟨4, ![8, 64, 64, 512]⟩
abbrev S_ : Shape := ⟨0, ![]⟩
abbrev S8x64x65x512 : Shape := ⟨4, ![8, 64, 65, 512]⟩
abbrev S16x4096x8x64 : Shape := ⟨4, ![16, 4096, 8, 64]⟩
abbrev S4096x16x8x64 : Shape := ⟨4, ![4096, 16, 8, 64]⟩
abbrev S16x8x64x64 : Shape := ⟨4, ![16, 8, 64, 64]⟩
abbrev S1x16x8x64 : Shape := ⟨4, ![1, 16, 8, 64]⟩
abbrev S16x8x64 : Shape := ⟨3, ![16, 8, 64]⟩
abbrev S16x8x1x64 : Shape := ⟨4, ![16, 8, 1, 64]⟩
abbrev S16x8x64x1 : Shape := ⟨4, ![16, 8, 64, 1]⟩

abbrev nBuf : Space → Nat
  | .hbm => 126
  | .vmem => 0
  | .smem => 0
  | _ => 0

abbrev bufTy : (tb : Table) → Fin (tcTables nBuf tb) → BufTy
  | .hbm, ⟨0, _⟩ => ⟨S8x4096x3072, .bf16⟩
  | .hbm, ⟨1, _⟩ => ⟨S8x4096x1024, .f32⟩
  | .hbm, ⟨2, _⟩ => ⟨S8x4096x3072, .f32⟩
  | .hbm, ⟨3, _⟩ => ⟨S8x4096x512, .f32⟩
  | .hbm, ⟨4, _⟩ => ⟨S8x4096x8x64, .f32⟩
  | .hbm, ⟨5, _⟩ => ⟨S8x4096x512, .f32⟩
  | .hbm, ⟨6, _⟩ => ⟨S8x4096x8x64, .f32⟩
  | .hbm, ⟨7, _⟩ => ⟨S8x4096x512, .f32⟩
  | .hbm, ⟨8, _⟩ => ⟨S8x4096x8x64, .f32⟩
  | .hbm, ⟨9, _⟩ => ⟨S8x4096x512, .f32⟩
  | .hbm, ⟨10, _⟩ => ⟨S8x4096x8x64, .f32⟩
  | .hbm, ⟨11, _⟩ => ⟨S8x4096x512, .f32⟩
  | .hbm, ⟨12, _⟩ => ⟨S8x4096x8x64, .f32⟩
  | .hbm, ⟨13, _⟩ => ⟨S8x4096x512, .f32⟩
  | .hbm, ⟨14, _⟩ => ⟨S8x64x64x512, .f32⟩
  | .hbm, ⟨15, _⟩ => ⟨S8x4096x512, .f32⟩
  | .hbm, ⟨16, _⟩ => ⟨S8x64x64x512, .f32⟩
  | .hbm, ⟨17, _⟩ => ⟨S_, .i32⟩
  | .hbm, ⟨18, _⟩ => ⟨S_, .f32⟩
  | .hbm, ⟨19, _⟩ => ⟨S8x64x65x512, .f32⟩
  | .hbm, ⟨20, _⟩ => ⟨S8x64x64x512, .f32⟩
  | .hbm, ⟨21, _⟩ => ⟨S_, .i32⟩
  | .hbm, ⟨22, _⟩ => ⟨S_, .f32⟩
  | .hbm, ⟨23, _⟩ => ⟨S8x64x65x512, .f32⟩
  | .hbm, ⟨24, _⟩ => ⟨S8x64x64x512, .f32⟩
  | .hbm, ⟨25, _⟩ => ⟨S8x64x64x512, .f32⟩
  | .hbm, ⟨26, _⟩ => ⟨S8x64x64x512, .f32⟩
  | .hbm, ⟨27, _⟩ => ⟨S8x4096x8x64, .f32⟩
  | .hbm, ⟨28, _⟩ => ⟨S8x64x64x512, .f32⟩
  | .hbm, ⟨29, _⟩ => ⟨S8x64x64x512, .f32⟩
  | .hbm, ⟨30, _⟩ => ⟨S8x4096x8x64, .f32⟩
  | .hbm, ⟨31, _⟩ => ⟨S8x4096x8x64, .f32⟩
  | .hbm, ⟨32, _⟩ => ⟨S16x4096x8x64, .f32⟩
  | .hbm, ⟨33, _⟩ => ⟨S8x4096x8x64, .f32⟩
  | .hbm, ⟨34, _⟩ => ⟨S16x4096x8x64, .f32⟩
  | .hbm, ⟨35, _⟩ => ⟨S8x4096x8x64, .f32⟩
  | .hbm, ⟨36, _⟩ => ⟨S16x4096x8x64, .f32⟩
  | .hbm, ⟨37, _⟩ => ⟨S8x4096x8x64, .f32⟩
  | .hbm, ⟨38, _⟩ => ⟨S16x4096x8x64, .f32⟩
  | .hbm, ⟨39, _⟩ => ⟨S8x4096x8x64, .f32⟩
  | .hbm, ⟨40, _⟩ => ⟨S16x4096x8x64, .f32⟩
  | .hbm, ⟨41, _⟩ => ⟨S8x4096x8x64, .f32⟩
  | .hbm, ⟨42, _⟩ => ⟨S16x4096x8x64, .f32⟩
  | .hbm, ⟨43, _⟩ => ⟨S4096x16x8x64, .f32⟩
  | .hbm, ⟨44, _⟩ => ⟨S4096x16x8x64, .f32⟩
  | .hbm, ⟨45, _⟩ => ⟨S4096x16x8x64, .f32⟩
  | .hbm, ⟨46, _⟩ => ⟨S4096x16x8x64, .f32⟩
  | .hbm, ⟨47, _⟩ => ⟨S4096x16x8x64, .f32⟩
  | .hbm, ⟨48, _⟩ => ⟨S4096x16x8x64, .f32⟩
  | .hbm, ⟨49, _⟩ => ⟨S_, .f32⟩
  | .hbm, ⟨50, _⟩ => ⟨S16x8x64x64, .f32⟩
  | .hbm, ⟨51, _⟩ => ⟨S_, .f32⟩
  | .hbm, ⟨52, _⟩ => ⟨S4096x16x8x64, .f32⟩
  | .hbm, ⟨53, _⟩ => ⟨S_, .i32⟩
  | .hbm, ⟨54, _⟩ => ⟨S4096x16x8x64, .f32⟩
  | .hbm, ⟨55, _⟩ => ⟨S4096x16x8x64, .f32⟩
  | .hbm, ⟨56, _⟩ => ⟨S4096x16x8x64, .f32⟩
  | .hbm, ⟨57, _⟩ => ⟨S4096x16x8x64, .f32⟩
  | .hbm, ⟨58, _⟩ => ⟨S4096x16x8x64, .f32⟩
  | .hbm, ⟨59, _⟩ => ⟨S4096x16x8x64, .f32⟩
  | .hbm, ⟨60, _⟩ => ⟨S_, .i32⟩
  | .hbm, ⟨61, _⟩ => ⟨S16x8x64x64, .f32⟩
  | .hbm, ⟨62, _⟩ => ⟨S4096x16x8x64, .f32⟩
  | .hbm, ⟨63, _⟩ => ⟨S_, .i32⟩
  | .hbm, ⟨64, _⟩ => ⟨S_, .i1⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S1x16x8x64, .f32⟩
  | .hbm, ⟨69, _⟩ => ⟨S16x8x64, .f32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S1x16x8x64, .f32⟩
  | .hbm, ⟨74, _⟩ => ⟨S16x8x64, .f32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S1x16x8x64, .f32⟩
  | .hbm, ⟨79, _⟩ => ⟨S16x8x64, .f32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S1x16x8x64, .f32⟩
  | .hbm, ⟨84, _⟩ => ⟨S16x8x64, .f32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S1x16x8x64, .f32⟩
  | .hbm, ⟨89, _⟩ => ⟨S16x8x64, .f32⟩
  | .hbm, ⟨90, _⟩ => ⟨S_, .i32⟩
  | .hbm, ⟨91, _⟩ => ⟨S_, .i32⟩
  | .hbm, ⟨92, _⟩ => ⟨S_, .i32⟩
  | .hbm, ⟨93, _⟩ => ⟨S1x16x8x64, .f32⟩
  | .hbm, ⟨94, _⟩ => ⟨S16x8x64, .f32⟩
  | .hbm, ⟨95, _⟩ => ⟨S16x8x64, .f32⟩
  | .hbm, ⟨96, _⟩ => ⟨S16x8x64, .f32⟩
  | .hbm, ⟨97, _⟩ => ⟨S16x8x1x64, .f32⟩
  | .hbm, ⟨98, _⟩ => ⟨S16x8x64x64, .f32⟩
  | .hbm, ⟨99, _⟩ => ⟨S16x8x64x64, .f32⟩
  | .hbm, ⟨100, _⟩ => ⟨S16x8x64x1, .f32⟩
  | .hbm, ⟨101, _⟩ => ⟨S16x8x1x64, .f32⟩
  | .hbm, ⟨102, _⟩ => ⟨S16x8x64x64, .f32⟩
  | .hbm, ⟨103, _⟩ => ⟨S16x8x64x64, .f32⟩
  | .hbm, ⟨104, _⟩ => ⟨S16x8x64x64, .f32⟩
  | .hbm, ⟨105, _⟩ => ⟨S16x8x64x64, .f32⟩
  | .hbm, ⟨106, _⟩ => ⟨S16x8x64x1, .f32⟩
  | .hbm, ⟨107, _⟩ => ⟨S16x8x1x64, .f32⟩
  | .hbm, ⟨108, _⟩ => ⟨S16x8x64x64, .f32⟩
  | .hbm, ⟨109, _⟩ => ⟨S16x8x64x64, .f32⟩
  | .hbm, ⟨110, _⟩ => ⟨S16x8x64x64, .f32⟩
  | .hbm, ⟨111, _⟩ => ⟨S16x8x64x64, .f32⟩
  | .hbm, ⟨112, _⟩ => ⟨S16x8x64, .f32⟩
  | .hbm, ⟨113, _⟩ => ⟨S1x16x8x64, .f32⟩
  | .hbm, ⟨114, _⟩ => ⟨S_, .i32⟩
  | .hbm, ⟨115, _⟩ => ⟨S_, .i32⟩
  | .hbm, ⟨116, _⟩ => ⟨S_, .i32⟩
  | .hbm, ⟨117, _⟩ => ⟨S4096x16x8x64, .f32⟩
  | .hbm, ⟨118, _⟩ => ⟨S_, .i32⟩
  | .hbm, ⟨119, _⟩ => ⟨S_, .i32⟩
  | .hbm, ⟨120, _⟩ => ⟨S16x4096x8x64, .f32⟩
  | .hbm, ⟨121, _⟩ => ⟨S8x4096x8x64, .f32⟩
  | .hbm, ⟨122, _⟩ => ⟨S8x4096x512, .f32⟩
  | .hbm, ⟨123, _⟩ => ⟨S8x4096x8x64, .f32⟩
  | .hbm, ⟨124, _⟩ => ⟨S8x4096x8x64, .f32⟩
  | .hbm, ⟨125, _⟩ => ⟨S8x4096x512, .f32⟩
  | _, _ => ⟨S8x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c : Ref sig .tc := ⟨.hbm, 17, rfl⟩
abbrev main_call0_v0 : Ref sig .tc := ⟨.hbm, 18, rfl⟩
abbrev main_v15 : Ref sig .tc := ⟨.hbm, 19, rfl⟩
abbrev main_v16 : Ref sig .tc := ⟨.hbm, 20, rfl⟩
abbrev main_c_0 : Ref sig .tc := ⟨.hbm, 21, rfl⟩
abbrev main_call1_v0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_cst : Ref sig .tc := ⟨.hbm, 49, rfl⟩
abbrev main_v43 : Ref sig .tc := ⟨.hbm, 50, rfl⟩
abbrev main_cst_1 : Ref sig .tc := ⟨.hbm, 51, rfl⟩
abbrev main_v44 : Ref sig .tc := ⟨.hbm, 52, rfl⟩
abbrev main_c_2 : Ref sig .tc := ⟨.hbm, 53, rfl⟩
abbrev main_v45_0 : Ref sig .tc := ⟨.hbm, 54, rfl⟩
abbrev main_v45_1 : Ref sig .tc := ⟨.hbm, 55, rfl⟩
abbrev main_v45_2 : Ref sig .tc := ⟨.hbm, 56, rfl⟩
abbrev main_v45_3 : Ref sig .tc := ⟨.hbm, 57, rfl⟩
abbrev main_v45_4 : Ref sig .tc := ⟨.hbm, 58, rfl⟩
abbrev main_v45_5 : Ref sig .tc := ⟨.hbm, 59, rfl⟩
abbrev main_v45_6 : Ref sig .tc := ⟨.hbm, 60, rfl⟩
abbrev main_v45_7 : Ref sig .tc := ⟨.hbm, 61, rfl⟩
abbrev main_v45_8 : Ref sig .tc := ⟨.hbm, 62, rfl⟩
abbrev main_while0c_c_11 : Ref sig .tc := ⟨.hbm, 63, rfl⟩
abbrev main_while0c_v52 : Ref sig .tc := ⟨.hbm, 64, rfl⟩
abbrev main_while0b_call8_c : Ref sig .tc := ⟨.hbm, 65, rfl⟩
abbrev main_while0b_call8_c_0 : Ref sig .tc := ⟨.hbm, 66, rfl⟩
abbrev main_while0b_call8_c_1 : Ref sig .tc := ⟨.hbm, 67, rfl⟩
abbrev main_while0b_call8_v0 : Ref sig .tc := ⟨.hbm, 68, rfl⟩
abbrev main_while0b_v52 : Ref sig .tc := ⟨.hbm, 69, rfl⟩
abbrev main_while0b_call9_c : Ref sig .tc := ⟨.hbm, 70, rfl⟩
abbrev main_while0b_call9_c_0 : Ref sig .tc := ⟨.hbm, 71, rfl⟩
abbrev main_while0b_call9_c_1 : Ref sig .tc := ⟨.hbm, 72, rfl⟩
abbrev main_while0b_call9_v0 : Ref sig .tc := ⟨.hbm, 73, rfl⟩
abbrev main_while0b_v53 : Ref sig .tc := ⟨.hbm, 74, rfl⟩
abbrev main_while0b_call10_c : Ref sig .tc := ⟨.hbm, 75, rfl⟩
abbrev main_while0b_call10_c_0 : Ref sig .tc := ⟨.hbm, 76, rfl⟩
abbrev main_while0b_call10_c_1 : Ref sig .tc := ⟨.hbm, 77, rfl⟩
abbrev main_while0b_call10_v0 : Ref sig .tc := ⟨.hbm, 78, rfl⟩
abbrev main_while0b_v54 : Ref sig .tc := ⟨.hbm, 79, rfl⟩
abbrev main_while0b_call11_c : Ref sig .tc := ⟨.hbm, 80, rfl⟩
abbrev main_while0b_call11_c_0 : Ref sig .tc := ⟨.hbm, 81, rfl⟩
abbrev main_while0b_call11_c_1 : Ref sig .tc := ⟨.hbm, 82, rfl⟩
abbrev main_while0b_call11_v0 : Ref sig .tc := ⟨.hbm, 83, rfl⟩
abbrev main_while0b_v55 : Ref sig .tc := ⟨.hbm, 84, rfl⟩
abbrev main_while0b_call12_c : Ref sig .tc := ⟨.hbm, 85, rfl⟩
abbrev main_while0b_call12_c_0 : Ref sig .tc := ⟨.hbm, 86, rfl⟩
abbrev main_while0b_call12_c_1 : Ref sig .tc := ⟨.hbm, 87, rfl⟩
abbrev main_while0b_call12_v0 : Ref sig .tc := ⟨.hbm, 88, rfl⟩
abbrev main_while0b_v56 : Ref sig .tc := ⟨.hbm, 89, rfl⟩
abbrev main_while0b_call13_c : Ref sig .tc := ⟨.hbm, 90, rfl⟩
abbrev main_while0b_call13_c_0 : Ref sig .tc := ⟨.hbm, 91, rfl⟩
abbrev main_while0b_call13_c_1 : Ref sig .tc := ⟨.hbm, 92, rfl⟩
abbrev main_while0b_call13_v0 : Ref sig .tc := ⟨.hbm, 93, rfl⟩
abbrev main_while0b_v57 : Ref sig .tc := ⟨.hbm, 94, rfl⟩
abbrev main_while0b_v58 : Ref sig .tc := ⟨.hbm, 95, rfl⟩
abbrev main_while0b_v59 : Ref sig .tc := ⟨.hbm, 96, rfl⟩
abbrev main_while0b_v60 : Ref sig .tc := ⟨.hbm, 97, rfl⟩
abbrev main_while0b_v61 : Ref sig .tc := ⟨.hbm, 98, rfl⟩
abbrev main_while0b_v62 : Ref sig .tc := ⟨.hbm, 99, rfl⟩
abbrev main_while0b_v63 : Ref sig .tc := ⟨.hbm, 100, rfl⟩
abbrev main_while0b_v64 : Ref sig .tc := ⟨.hbm, 101, rfl⟩
abbrev main_while0b_v65 : Ref sig .tc := ⟨.hbm, 102, rfl⟩
abbrev main_while0b_v66 : Ref sig .tc := ⟨.hbm, 103, rfl⟩
abbrev main_while0b_v67 : Ref sig .tc := ⟨.hbm, 104, rfl⟩
abbrev main_while0b_v68 : Ref sig .tc := ⟨.hbm, 105, rfl⟩
abbrev main_while0b_v69 : Ref sig .tc := ⟨.hbm, 106, rfl⟩
abbrev main_while0b_v70 : Ref sig .tc := ⟨.hbm, 107, rfl⟩
abbrev main_while0b_v71 : Ref sig .tc := ⟨.hbm, 108, rfl⟩
abbrev main_while0b_v72 : Ref sig .tc := ⟨.hbm, 109, rfl⟩
abbrev main_while0b_v73 : Ref sig .tc := ⟨.hbm, 110, rfl⟩
abbrev main_while0b_v74 : Ref sig .tc := ⟨.hbm, 111, rfl⟩
abbrev main_while0b_v75 : Ref sig .tc := ⟨.hbm, 112, rfl⟩
abbrev main_while0b_call14_v0 : Ref sig .tc := ⟨.hbm, 113, rfl⟩
abbrev main_while0b_call14_c : Ref sig .tc := ⟨.hbm, 114, rfl⟩
abbrev main_while0b_call14_c_0 : Ref sig .tc := ⟨.hbm, 115, rfl⟩
abbrev main_while0b_call14_c_1 : Ref sig .tc := ⟨.hbm, 116, rfl⟩
abbrev main_while0b_v76 : Ref sig .tc := ⟨.hbm, 117, rfl⟩
abbrev main_while0b_c_11 : Ref sig .tc := ⟨.hbm, 118, rfl⟩
abbrev main_while0b_v77 : Ref sig .tc := ⟨.hbm, 119, rfl⟩
abbrev main_v46 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩

abbrev nD : Nat := 1
abbrev τ : Topo := Topo.v7x

variable {F : FTy → Type} [FloatOps F]

abbrev main_while0_count : Scf.Loop 32 := ⟨0#32, 4096#32, 1#32⟩
-- ==== Tail.lean ====
abbrev S32768x1024 : Shape := ⟨2, ![32768, 1024]⟩
abbrev S32768x512 : Shape := ⟨2, ![32768, 512]⟩
abbrev S32768x3072 : Shape := ⟨2, ![32768, 3072]⟩
abbrev S32768x256 : Shape := ⟨2, ![32768, 256]⟩
abbrev S8x64 : Shape := ⟨2, ![8, 64]⟩
abbrev S512 : Shape := ⟨1, ![512]⟩
abbrev S128 : Shape := ⟨1, ![128]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S1x128 : Shape := ⟨2, ![1, 128]⟩
abbrev S512x1024 : Shape := ⟨2, ![512, 1024]⟩
abbrev S1x1024 : Shape := ⟨2, ![1, 1024]⟩
abbrev S256x512 : Shape := ⟨2, ![256, 512]⟩
abbrev S256x1536 : Shape := ⟨2, ![256, 1536]⟩
abbrev S256x256 : Shape := ⟨2, ![256, 256]⟩
abbrev S128x512 : Shape := ⟨2, ![128, 512]⟩
abbrev S128x128 : Shape := ⟨2, ![128, 128]⟩
abbrev S128x1 : Shape := ⟨2, ![128, 1]⟩
abbrev S128x1024 : Shape := ⟨2, ![128, 1024]⟩
abbrev S128x2816 : Shape := ⟨2, ![128, 2816]⟩
abbrev S128x256 : Shape := ⟨2, ![128, 256]⟩

abbrev nBuf : Space → Nat
  | .hbm => 66
  | .vmem => 37
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S32768x3072, .bf16⟩
  | .hbm, ⟨4, _⟩ => ⟨S32768x512, .f32⟩
  | .hbm, ⟨5, _⟩ => ⟨S32768x512, .f32⟩
  | .hbm, ⟨6, _⟩ => ⟨S32768x512, .bf16⟩
  | .hbm, ⟨7, _⟩ => ⟨S32768x256, .f32⟩
  | .hbm, ⟨8, _⟩ => ⟨S8x64, .f32⟩
  | .hbm, ⟨9, _⟩ => ⟨S512, .f32⟩
  | .hbm, ⟨10, _⟩ => ⟨S512, .f32⟩
  | .hbm, ⟨11, _⟩ => ⟨S128, .f32⟩
  | .hbm, ⟨12, _⟩ => ⟨S1024x1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024x2816, .f32⟩
  | .hbm, ⟨17, _⟩ => ⟨S1024x2816, .f32⟩
  | .hbm, ⟨18, _⟩ => ⟨S2816x1024, .f32⟩
  | .hbm, ⟨19, _⟩ => ⟨S256x1024, .f32⟩
  | .hbm, ⟨20, _⟩ => ⟨S1024x1024, .f32⟩
  | .hbm, ⟨21, _⟩ => ⟨S1024, .f32⟩
  | .hbm, ⟨22, _⟩ => ⟨S1024, .f32⟩
  | .hbm, ⟨23, _⟩ => ⟨S512, .i32⟩
  | .hbm, ⟨24, _⟩ => ⟨S_, .i32⟩
  | .hbm, ⟨25, _⟩ => ⟨S_, .i32⟩
  | .hbm, ⟨26, _⟩ => ⟨S512, .i32⟩
  | .hbm, ⟨27, _⟩ => ⟨S512, .i32⟩
  | .hbm, ⟨28, _⟩ => ⟨S512, .i32⟩
  | .hbm, ⟨29, _⟩ => ⟨S_, .i32⟩
  | .hbm, ⟨30, _⟩ => ⟨S512, .i32⟩
  | .hbm, ⟨31, _⟩ => ⟨S512, .i1⟩
  | .hbm, ⟨32, _⟩ => ⟨S512, .i32⟩
  | .hbm, ⟨33, _⟩ => ⟨S512, .i32⟩
  | .hbm, ⟨34, _⟩ => ⟨S_, .i32⟩
  | .hbm, ⟨35, _⟩ => ⟨S512, .i32⟩
  | .hbm, ⟨36, _⟩ => ⟨S512, .i1⟩
  | .hbm, ⟨37, _⟩ => ⟨S512, .i1⟩
  | .hbm, ⟨38, _⟩ => ⟨S_, .i32⟩
  | .hbm, ⟨39, _⟩ => ⟨S512, .i32⟩
  | .hbm, ⟨40, _⟩ => ⟨S512, .i32⟩
  | .hbm, ⟨41, _⟩ => ⟨S512, .i32⟩
  | .hbm, ⟨42, _⟩ => ⟨S512x1, .i32⟩
  | .hbm, ⟨43, _⟩ => ⟨S1x512, .i32⟩
  | .hbm, ⟨44, _⟩ => ⟨S512x512, .i32⟩
  | .hbm, ⟨45, _⟩ => ⟨S512x512, .i32⟩
  | .hbm, ⟨46, _⟩ => ⟨S512x512, .i1⟩
  | .hbm, ⟨47, _⟩ => ⟨S512x512, .bf16⟩
  | .hbm, ⟨48, _⟩ => ⟨S1024x1024, .bf16⟩
  | .hbm, ⟨49, _⟩ => ⟨S1x512, .f32⟩
  | .hbm, ⟨50, _⟩ => ⟨S1x512, .f32⟩
  | .hbm, ⟨51, _⟩ => ⟨S1x512, .f32⟩
  | .hbm, ⟨52, _⟩ => ⟨S1x128, .f32⟩
  | .hbm, ⟨53, _⟩ => ⟨S512x1024, .bf16⟩
  | .hbm, ⟨54, _⟩ => ⟨S512x1024, .bf16⟩
  | .hbm, ⟨55, _⟩ => ⟨S1x1024, .f32⟩
  | .hbm, ⟨56, _⟩ => ⟨S1x1024, .f32⟩
  | .hbm, ⟨57, _⟩ => ⟨S1x1024, .f32⟩
  | .hbm, ⟨58, _⟩ => ⟨S1024x2816, .bf16⟩
  | .hbm, ⟨59, _⟩ => ⟨S1024x2816, .bf16⟩
  | .hbm, ⟨60, _⟩ => ⟨S2816x1024, .bf16⟩
  | .hbm, ⟨61, _⟩ => ⟨S256x1024, .bf16⟩
  | .hbm, ⟨62, _⟩ => ⟨S1024x1024, .bf16⟩
  | .hbm, ⟨63, _⟩ => ⟨S1x1024, .f32⟩
  | .hbm, ⟨64, _⟩ => ⟨S1x1024, .f32⟩
  | .hbm, ⟨65, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x1536, .bf16⟩
  | .local _ .vmem, ⟨7, _⟩ => ⟨S256x1536, .bf16⟩
  | .local _ .vmem, ⟨8, _⟩ => ⟨S256x512, .bf16⟩
  | .local _ .vmem, ⟨9, _⟩ => ⟨S256x512, .bf16⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .bf16⟩
  | .local _ .vmem, ⟨15, _⟩ => ⟨S256x512, .bf16⟩
  | .local _ .vmem, ⟨16, _⟩ => ⟨S256x256, .f32⟩
  | .local _ .vmem, ⟨17, _⟩ => ⟨S256x256, .f32⟩
  | .local _ .vmem, ⟨18, _⟩ => ⟨S512x512, .bf16⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1x128, .f32⟩
  | .local _ .vmem, ⟨23, _⟩ => ⟨S512x1024, .bf16⟩
  | .local _ .vmem, ⟨24, _⟩ => ⟨S512x1024, .bf16⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1024x2816, .bf16⟩
  | .local _ .vmem, ⟨29, _⟩ => ⟨S1024x2816, .bf16⟩
  | .local _ .vmem, ⟨30, _⟩ => ⟨S2816x1024, .bf16⟩
  | .local _ .vmem, ⟨31, _⟩ => ⟨S256x1024, .bf16⟩
  | .local _ .vmem, ⟨32, _⟩ => ⟨S1024x1024, .bf16⟩
  | .local _ .vmem, ⟨33, _⟩ => ⟨S1x1024, .f32⟩
  | .local _ .vmem, ⟨34, _⟩ => ⟨S1x1024, .f32⟩
  | .local _ .vmem, ⟨35, _⟩ => ⟨S256x1024, .f32⟩
  | .local _ .vmem, ⟨36, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v1 : Ref sig .tc := ⟨.hbm, 41, rfl⟩
abbrev main_v2 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg21_0 : Ref sig .tc := ⟨.vmem, 30, rfl⟩
abbrev cc0_stg22_0 : Ref sig .tc := ⟨.vmem, 31, rfl⟩
abbrev cc0_stg23_0 : Ref sig .tc := ⟨.vmem, 32, rfl⟩
abbrev cc0_stg24_0 : Ref sig .tc := ⟨.vmem, 33, rfl⟩
abbrev cc0_stg25_0 : Ref sig .tc := ⟨.vmem, 34, rfl⟩
abbrev cc0_stg26_0 : Ref sig .tc := ⟨.vmem, 35, rfl⟩
abbrev cc0_stg26_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29
abbrev cc0_sem21_0 : DmaSem sig := 30
abbrev cc0_sem22_0 : DmaSem sig := 31
abbrev cc0_sem23_0 : DmaSem sig := 32
abbrev cc0_sem24_0 : DmaSem sig := 33
abbrev cc0_sem25_0 : DmaSem sig := 34
abbrev cc0_sem26_0 : DmaSem sig := 35
abbrev cc0_sem26_1 : DmaSem sig := 36

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1024x2816 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1024x2816 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S2816x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S256x1024 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1024x1024 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 2 → Memref sig .tc .vmem S256x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]
-- ==== TailReferenceIdeal.lean ====
abbrev S32768x1024 : Shape := ⟨2, ![32768, 1024]⟩
abbrev S32768x512 : Shape := ⟨2, ![32768, 512]⟩
abbrev S32768x3072 : Shape := ⟨2, ![32768, 3072]⟩
abbrev S32768x256 : Shape := ⟨2, ![32768, 256]⟩
abbrev S8x64 : Shape := ⟨2, ![8, 64]⟩
abbrev S512 : Shape := ⟨1, ![512]⟩
abbrev S128 : Shape := ⟨1, ![128]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S32768x8x64 : Shape := ⟨3, ![32768, 8, 64]⟩
abbrev S_ : Shape := ⟨0, ![]⟩
abbrev S32768x8 : Shape := ⟨2, ![32768, 8]⟩
abbrev S32768x8x1 : Shape := ⟨3, ![32768, 8, 1]⟩
abbrev S1x512 : Shape := ⟨2, ![1, 512]⟩
abbrev S1x8x64 : Shape := ⟨3, ![1, 8, 64]⟩
abbrev S32768x4x128 : Shape := ⟨3, ![32768, 4, 128]⟩
abbrev S32768x4 : Shape := ⟨2, ![32768, 4]⟩
abbrev S32768x4x1 : Shape := ⟨3, ![32768, 4, 1]⟩
abbrev S1x1x128 : Shape := ⟨3, ![1, 1, 128]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 203
  | .vmem => 0
  | .smem => 0
  | _ => 0

abbrev hbmTy0_0 (i : Nat) : BufTy := match i % 128 with
  | 0 => ⟨S32768x1024, .f32⟩
  | 1 => ⟨S32768x512, .f32⟩
  | 2 => ⟨S32768x512, .f32⟩
  | 3 => ⟨S32768x3072, .bf16⟩
  | 4 => ⟨S32768x512, .f32⟩
  | 5 => ⟨S32768x512, .f32⟩
  | 6 => ⟨S32768x512, .bf16⟩
  | 7 => ⟨S32768x256, .f32⟩
  | 8 => ⟨S8x64, .f32⟩
  | 9 => ⟨S512, .f32⟩
  | 10 => ⟨S512, .f32⟩
  | 11 => ⟨S128, .f32⟩
  | 12 => ⟨S1024x1024, .f32⟩
  | 13 => ⟨S1024, .f32⟩
  | 14 => ⟨S1024, .f32⟩
  | 15 => ⟨S1024, .f32⟩
  | 16 => ⟨S1024x2816, .f32⟩
  | 17 => ⟨S1024x2816, .f32⟩
  | 18 => ⟨S2816x1024, .f32⟩
  | 19 => ⟨S256x1024, .f32⟩
  | 20 => ⟨S1024x1024, .f32⟩
  | 21 => ⟨S1024, .f32⟩
  | 22 => ⟨S1024, .f32⟩
  | 23 => ⟨S32768x3072, .f32⟩
  | 24 => ⟨S32768x512, .f32⟩
  | 25 => ⟨S32768x8x64, .f32⟩
  | 26 => ⟨S32768x512, .f32⟩
  | 27 => ⟨S32768x8x64, .f32⟩
  | 28 => ⟨S32768x512, .f32⟩
  | 29 => ⟨S32768x8x64, .f32⟩
  | 30 => ⟨S32768x512, .f32⟩
  | 31 => ⟨S32768x512, .f32⟩
  | 32 => ⟨S32768x8x64, .f32⟩
  | 33 => ⟨S_, .f32⟩
  | 34 => ⟨S32768x8, .f32⟩
  | 35 => ⟨S32768x8x1, .f32⟩
  | 36 => ⟨S_, .f32⟩
  | 37 => ⟨S32768x8x1, .f32⟩
  | 38 => ⟨S32768x8x1, .f32⟩
  | 39 => ⟨S32768x8x64, .f32⟩
  | 40 => ⟨S32768x8x64, .f32⟩
  | 41 => ⟨S32768x8x64, .f32⟩
  | 42 => ⟨S_, .f32⟩
  | 43 => ⟨S32768x8, .f32⟩
  | 44 => ⟨S32768x8x1, .f32⟩
  | 45 => ⟨S_, .f32⟩
  | 46 => ⟨S32768x8x1, .f32⟩
  | 47 => ⟨S32768x8x1, .f32⟩
  | 48 => ⟨S32768x8x64, .f32⟩
  | 49 => ⟨S32768x8x64, .f32⟩
  | 50 => ⟨S_, .f32⟩
  | 51 => ⟨S32768x8x1, .f32⟩
  | 52 => ⟨S32768x8x1, .f32⟩
  | 53 => ⟨S32768x8x1, .f32⟩
  | 54 => ⟨S32768x8x64, .f32⟩
  | 55 => ⟨S32768x8x64, .f32⟩
  | 56 => ⟨S32768x512, .f32⟩
  | 57 => ⟨S1x512, .f32⟩
  | 58 => ⟨S32768x512, .f32⟩
  | 59 => ⟨S32768x512, .f32⟩
  | 60 => ⟨S1x512, .f32⟩
  | 61 => ⟨S32768x512, .f32⟩
  | 62 => ⟨S32768x512, .f32⟩
  | 63 => ⟨S32768x8x64, .f32⟩
  | 64 => ⟨S32768x8x64, .f32⟩
  | 65 => ⟨S1x8x64, .f32⟩
  | 66 => ⟨S32768x8x64, .f32⟩
  | 67 => ⟨S32768x8x64, .f32⟩
  | 68 => ⟨S_, .f32⟩
  | 69 => ⟨S32768x8, .f32⟩
  | 70 => ⟨S32768x8x1, .f32⟩
  | 71 => ⟨S32768x8x64, .f32⟩
  | 72 => ⟨S32768x8x64, .f32⟩
  | 73 => ⟨S32768x8x64, .f32⟩
  | 74 => ⟨S32768x512, .f32⟩
  | 75 => ⟨S32768x512, .f32⟩
  | 76 => ⟨S32768x512, .f32⟩
  | 77 => ⟨S32768x4x128, .f32⟩
  | 78 => ⟨S32768x4x128, .f32⟩
  | 79 => ⟨S_, .f32⟩
  | 80 => ⟨S32768x4, .f32⟩
  | 81 => ⟨S32768x4x1, .f32⟩
  | 82 => ⟨S_, .f32⟩
  | 83 => ⟨S32768x4x1, .f32⟩
  | 84 => ⟨S32768x4x1, .f32⟩
  | 85 => ⟨S_, .f32⟩
  | 86 => ⟨S32768x4x1, .f32⟩
  | 87 => ⟨S32768x4x1, .f32⟩
  | 88 => ⟨S32768x4x1, .f32⟩
  | 89 => ⟨S32768x4x128, .f32⟩
  | 90 => ⟨S32768x4x128, .f32⟩
  | 91 => ⟨S1x1x128, .f32⟩
  | 92 => ⟨S32768x4x128, .f32⟩
  | 93 => ⟨S32768x4x128, .f32⟩
  | 94 => ⟨S32768x512, .f32⟩
  | 95 => ⟨S32768x4x128, .f32⟩
  | 96 => ⟨S32768x4x128, .f32⟩
  | 97 => ⟨S32768x4x128, .f32⟩
  | 98 => ⟨S_, .f32⟩
  | 99 => ⟨S32768x4x128, .f32⟩
  | 100 => ⟨S32768x4x128, .f32⟩
  | 101 => ⟨S_, .f32⟩
  | 102 => ⟨S32768x4x128, .f32⟩
  | 103 => ⟨S32768x4x128, .f32⟩
  | 104 => ⟨S32768x4x128, .f32⟩
  | 105 => ⟨S32768x4x128, .f32⟩
  | 106 => ⟨S32768x512, .f32⟩
  | 107 => ⟨S32768x1024, .f32⟩
  | 108 => ⟨S32768x1024, .f32⟩
  | 109 => ⟨S32768x1024, .f32⟩
  | 110 => ⟨S_, .f32⟩
  | 111 => ⟨S32768, .f32⟩
  | 112 => ⟨S32768x1, .f32⟩
  | 113 => ⟨S_, .f32⟩
  | 114 => ⟨S32768x1, .f32⟩
  | 115 => ⟨S32768x1, .f32⟩
  | 116 => ⟨S_, .f32⟩
  | 117 => ⟨S32768x1, .f32⟩
  | 118 => ⟨S32768x1, .f32⟩
  | 119 => ⟨S32768x1, .f32⟩
  | 120 => ⟨S32768x1024, .f32⟩
  | 121 => ⟨S32768x1024, .f32⟩
  | 122 => ⟨S1x1024, .f32⟩
  | 123 => ⟨S32768x1024, .f32⟩
  | 124 => ⟨S32768x1024, .f32⟩
  | 125 => ⟨S32768x1024, .f32⟩
  | 126 => ⟨S32768x1024, .f32⟩
  | 127 => ⟨S_, .f32⟩
  | _ => ⟨S32768x1024, .f32⟩

abbrev hbmTy0_1 (i : Nat) : BufTy := match i % 128 with
  | 0 => ⟨S32768, .f32⟩
  | 1 => ⟨S32768x1, .f32⟩
  | 2 => ⟨S_, .f32⟩
  | 3 => ⟨S32768x1, .f32⟩
  | 4 => ⟨S32768x1, .f32⟩
  | 5 => ⟨S_, .f32⟩
  | 6 => ⟨S32768x1, .f32⟩
  | 7 => ⟨S32768x1, .f32⟩
  | 8 => ⟨S32768x1, .f32⟩
  | 9 => ⟨S32768x1024, .f32⟩
  | 10 => ⟨S32768x1024, .f32⟩
  | 11 => ⟨S1x1024, .f32⟩
  | 12 => ⟨S32768x1024, .f32⟩
  | 13 => ⟨S32768x1024, .f32⟩
  | 14 => ⟨S32768x2816, .f32⟩
  | 15 => ⟨S32768x2816, .f32⟩
  | 16 => ⟨S32768x2816, .f32⟩
  | 17 => ⟨S_, .f32⟩
  | 18 => ⟨S32768x2816, .f32⟩
  | 19 => ⟨S32768x2816, .f32⟩
  | 20 => ⟨S_, .f32⟩
  | 21 => ⟨S32768x2816, .f32⟩
  | 22 => ⟨S32768x2816, .f32⟩
  | 23 => ⟨S32768x2816, .f32⟩
  | 24 => ⟨S32768x2816, .f32⟩
  | 25 => ⟨S32768x2816, .f32⟩
  | 26 => ⟨S32768x1024, .f32⟩
  | 27 => ⟨S32768x1024, .f32⟩
  | 28 => ⟨S_, .f32⟩
  | 29 => ⟨S32768, .f32⟩
  | 30 => ⟨S32768x1, .f32⟩
  | 31 => ⟨S_, .f32⟩
  | 32 => ⟨S32768x1, .f32⟩
  | 33 => ⟨S32768x1, .f32⟩
  | 34 => ⟨S_, .f32⟩
  | 35 => ⟨S32768x1, .f32⟩
  | 36 => ⟨S32768x1, .f32⟩
  | 37 => ⟨S32768x1, .f32⟩
  | 38 => ⟨S32768x1024, .f32⟩
  | 39 => ⟨S32768x1024, .f32⟩
  | 40 => ⟨S1x1024, .f32⟩
  | 41 => ⟨S32768x1024, .f32⟩
  | 42 => ⟨S32768x1024, .f32⟩
  | 43 => ⟨S32768x1024, .f32⟩
  | 44 => ⟨S32768x1024, .f32⟩
  | 45 => ⟨S32768x1024, .f32⟩
  | 46 => ⟨S1x1024, .f32⟩
  | 47 => ⟨S32768x1024, .f32⟩
  | 48 => ⟨S32768x1024, .f32⟩
  | 49 => ⟨S32768x1024, .f32⟩
  | 50 => ⟨S32768x1024, .f32⟩
  | 51 => ⟨S_, .f32⟩
  | 52 => ⟨S32768x1024, .f32⟩
  | 53 => ⟨S32768x1024, .f32⟩
  | 54 => ⟨S_, .f32⟩
  | 55 => ⟨S32768x1024, .f32⟩
  | 56 => ⟨S32768x1024, .f32⟩
  | 57 => ⟨S32768x1024, .f32⟩
  | 58 => ⟨S32768x1024, .f32⟩
  | 59 => ⟨S_, .f32⟩
  | 60 => ⟨S32768, .f32⟩
  | 61 => ⟨S32768x1, .f32⟩
  | 62 => ⟨S_, .f32⟩
  | 63 => ⟨S32768x1, .f32⟩
  | 64 => ⟨S32768x1, .f32⟩
  | 65 => ⟨S_, .f32⟩
  | 66 => ⟨S32768x1, .f32⟩
  | 67 => ⟨S32768x1, .f32⟩
  | 68 => ⟨S32768x1, .f32⟩
  | 69 => ⟨S32768x1024, .f32⟩
  | 70 => ⟨S32768x1024, .f32⟩
  | 71 => ⟨S1x1024, .f32⟩
  | 72 => ⟨S32768x1024, .f32⟩
  | 73 => ⟨S32768x1024, .f32⟩
  | 74 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst : Ref sig .tc := ⟨.hbm, 33, rfl⟩
abbrev main_v10 : Ref sig .tc := ⟨.hbm, 34, rfl⟩
abbrev main_v11 : Ref sig .tc := ⟨.hbm, 35, rfl⟩
abbrev main_cst_0 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst_1 : Ref sig .tc := ⟨.hbm, 42, rfl⟩
abbrev main_v17 : Ref sig .tc := ⟨.hbm, 43, rfl⟩
abbrev main_v18 : Ref sig .tc := ⟨.hbm, 44, rfl⟩
abbrev main_cst_2 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_3 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_4 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_5 : Ref sig .tc := ⟨.hbm, 79, rfl⟩
abbrev main_v50 : Ref sig .tc := ⟨.hbm, 80, rfl⟩
abbrev main_v51 : Ref sig .tc := ⟨.hbm, 81, rfl⟩
abbrev main_cst_6 : Ref sig .tc := ⟨.hbm, 82, rfl⟩
abbrev main_v52 : Ref sig .tc := ⟨.hbm, 83, rfl⟩
abbrev main_v53 : Ref sig .tc := ⟨.hbm, 84, rfl⟩
abbrev main_cst_7 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_call0_v0 : Ref sig .tc := ⟨.hbm, 96, rfl⟩
abbrev main_call0_v1 : Ref sig .tc := ⟨.hbm, 97, rfl⟩
abbrev main_call0_cst : Ref sig .tc := ⟨.hbm, 98, rfl⟩
abbrev main_call0_v2 : Ref sig .tc := ⟨.hbm, 99, rfl⟩
abbrev main_call0_v3 : Ref sig .tc := ⟨.hbm, 100, rfl⟩
abbrev main_call0_cst_0 : Ref sig .tc := ⟨.hbm, 101, rfl⟩
abbrev main_call0_v4 : Ref sig .tc := ⟨.hbm, 102, rfl⟩
abbrev main_call0_v5 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_8 : Ref sig .tc := ⟨.hbm, 110, rfl⟩
abbrev main_v70 : Ref sig .tc := ⟨.hbm, 111, rfl⟩
abbrev main_v71 : Ref sig .tc := ⟨.hbm, 112, rfl⟩
abbrev main_cst_9 : Ref sig .tc := ⟨.hbm, 113, rfl⟩
abbrev main_v72 : Ref sig .tc := ⟨.hbm, 114, rfl⟩
abbrev main_v73 : Ref sig .tc := ⟨.hbm, 115, rfl⟩
abbrev main_cst_10 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_cst_11 : Ref sig .tc := ⟨.hbm, 127, rfl⟩
abbrev main_v84 : Ref sig .tc := ⟨.hbm, 128, rfl⟩
abbrev main_v85 : Ref sig .tc := ⟨.hbm, 129, rfl⟩
abbrev main_cst_12 : Ref sig .tc := ⟨.hbm, 130, rfl⟩
abbrev main_v86 : Ref sig .tc := ⟨.hbm, 131, rfl⟩
abbrev main_v87 : Ref sig .tc := ⟨.hbm, 132, rfl⟩
abbrev main_cst_13 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_call1_v0 : Ref sig .tc := ⟨.hbm, 143, rfl⟩
abbrev main_call1_v1 : Ref sig .tc := ⟨.hbm, 144, rfl⟩
abbrev main_call1_cst : Ref sig .tc := ⟨.hbm, 145, rfl⟩
abbrev main_call1_v2 : Ref sig .tc := ⟨.hbm, 146, rfl⟩
abbrev main_call1_v3 : Ref sig .tc := ⟨.hbm, 147, rfl⟩
abbrev main_call1_cst_0 : Ref sig .tc := ⟨.hbm, 148, rfl⟩
abbrev main_call1_v4 : Ref sig .tc := ⟨.hbm, 149, rfl⟩
abbrev main_call1_v5 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_cst_14 : Ref sig .tc := ⟨.hbm, 156, rfl⟩
abbrev main_v102 : Ref sig .tc := ⟨.hbm, 157, rfl⟩
abbrev main_v103 : Ref sig .tc := ⟨.hbm, 158, rfl⟩
abbrev main_cst_15 : Ref sig .tc := ⟨.hbm, 159, rfl⟩
abbrev main_v104 : Ref sig .tc := ⟨.hbm, 160, rfl⟩
abbrev main_v105 : Ref sig .tc := ⟨.hbm, 161, rfl⟩
abbrev main_cst_16 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_cst_17 : Ref sig .tc := ⟨.hbm, 179, rfl⟩
abbrev main_v122 : Ref sig .tc := ⟨.hbm, 180, rfl⟩
abbrev main_v123 : Ref sig .tc := ⟨.hbm, 181, rfl⟩
abbrev main_cst_18 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_cst_19 : Ref sig .tc := ⟨.hbm, 187, rfl⟩
abbrev main_v128 : Ref sig .tc := ⟨.hbm, 188, rfl⟩
abbrev main_v129 : Ref sig .tc := ⟨.hbm, 189, rfl⟩
abbrev main_cst_20 : Ref sig .tc := ⟨.hbm, 190, rfl⟩
abbrev main_v130 : Ref sig .tc := ⟨.hbm, 191, rfl⟩
abbrev main_v131 : Ref sig .tc := ⟨.hbm, 192, rfl⟩
abbrev main_cst_21 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩

abbrev nD : Nat := 1
abbrev τ : Topo := Topo.v7x

variable {F : FTy → Type} [FloatOps F]
-- ==== Front.lean ====
abbrev S8x4096x1024 : Shape := ⟨3, ![8, 4096, 1024]⟩
abbrev S1024 : Shape := ⟨1, ![1024]⟩
abbrev S1024x3424 : Shape := ⟨2, ![1024, 3424]⟩
abbrev S1856 : Shape := ⟨1, ![1856]⟩
abbrev S2x512 : Shape := ⟨2, ![2, 512]⟩
abbrev S2x64x512 : Shape := ⟨3, ![2, 64, 512]⟩
abbrev S512 : Shape := ⟨1, ![512]⟩
abbrev S64x512 : Shape := ⟨2, ![64, 512]⟩
abbrev S128x512 : Shape := ⟨2, ![128, 512]⟩
abbrev S3x1x1024 : Shape := ⟨3, ![3, 1, 1024]⟩
abbrev S2x16x256 : Shape := ⟨3, ![2, 16, 256]⟩
abbrev S2x256 : Shape := ⟨2, ![2, 256]⟩
abbrev S1024x1856 : Shape := ⟨2, ![1024, 1856]⟩
abbrev S1024x1664 : Shape := ⟨2, ![1024, 1664]⟩
abbrev S1024x64 : Shape := ⟨2, ![1024, 64]⟩
abbrev S_ : Shape := ⟨0, ![]⟩
abbrev S1024x128 : Shape := ⟨2, ![1024, 128]⟩
abbrev S1024x1920 : Shape := ⟨2, ![1024, 1920]⟩
abbrev S1x1856 : Shape := ⟨2, ![1, 1856]⟩
abbrev S1x1664 : Shape := ⟨2, ![1, 1664]⟩
abbrev S1x64 : Shape := ⟨2, ![1, 64]⟩
abbrev S1x128 : Shape := ⟨2, ![1, 128]⟩
abbrev S1x1920 : Shape := ⟨2, ![1, 1920]⟩
abbrev S1024x1536 : Shape := ⟨2, ![1024, 1536]⟩
abbrev S1024x32 : Shape := ⟨2, ![1024, 32]⟩
abbrev S1x64x512 : Shape := ⟨3, ![1, 64, 512]⟩
abbrev S64x1024 : Shape := ⟨2, ![64, 1024]⟩
abbrev S128x1024 : Shape := ⟨2, ![128, 1024]⟩
abbrev S16x256 : Shape := ⟨2, ![16, 256]⟩
abbrev S1x16x256 : Shape := ⟨3, ![1, 16, 256]⟩
abbrev S16x512 : Shape := ⟨2, ![16, 512]⟩
abbrev S32x512 : Shape := ⟨2, ![32, 512]⟩
abbrev S512x1 : Shape := ⟨2, ![512, 1]⟩
abbrev S1x512 : Shape := ⟨2, ![1, 512]⟩
abbrev S512x512 : Shape := ⟨2, ![512, 512]⟩
abbrev S1x1024 : Shape := ⟨2, ![1, 1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S3x1024 : Shape := ⟨2, ![3, 1024]⟩
abbrev S8x4096x3072 : Shape := ⟨3, ![8, 4096, 3072]⟩
abbrev S8x4096x512 : Shape := ⟨3, ![8, 4096, 512]⟩
abbrev S1x256x1024 : Shape := ⟨3, ![1, 256, 1024]⟩
abbrev S1x8x1024 : Shape := ⟨3, ![1, 8, 1024]⟩
abbrev S1x256x3072 : Shape := ⟨3, ![1, 256, 3072]⟩
abbrev S1x256x512 : Shape := ⟨3, ![1, 256, 512]⟩
abbrev S8x1024 : Shape := ⟨2, ![8, 1024]⟩
abbrev S256x1024 : Shape := ⟨2, ![256, 1024]⟩
abbrev S272x1024 : Shape := ⟨2, ![272, 1024]⟩
abbrev S272x1 : Shape := ⟨2, ![272, 1]⟩
abbrev S272 : Shape := ⟨1, ![272]⟩
abbrev S272x1920 : Shape := ⟨2, ![272, 1920]⟩
abbrev S272x1664 : Shape := ⟨2, ![272, 1664]⟩
abbrev S256x1920 : Shape := ⟨2, ![256, 1920]⟩
abbrev S256x512 : Shape := ⟨2, ![256, 512]⟩
abbrev S256x128 : Shape := ⟨2, ![256, 128]⟩
abbrev S1x256x256 : Shape := ⟨3, ![1, 256, 256]⟩
abbrev S256x768 : Shape := ⟨2, ![256, 768]⟩
abbrev S1x256x768 : Shape := ⟨3, ![1, 256, 768]⟩

abbrev nBuf : Space → Nat
  | .hbm => 142
  | .vmem => 33
  | .smem => 0
  | _ => 0

abbrev hbmTy0_0 (i : Nat) : BufTy := match i % 128 with
  | 0 => ⟨S8x4096x1024, .f32⟩
  | 1 => ⟨S1024, .f32⟩
  | 2 => ⟨S1024x3424, .f32⟩
  | 3 => ⟨S1856, .f32⟩
  | 4 => ⟨S2x512, .f32⟩
  | 5 => ⟨S2x64x512, .f32⟩
  | 6 => ⟨S512, .f32⟩
  | 7 => ⟨S64x512, .f32⟩
  | 8 => ⟨S128x512, .f32⟩
  | 9 => ⟨S512, .f32⟩
  | 10 => ⟨S512, .f32⟩
  | 11 => ⟨S3x1x1024, .f32⟩
  | 12 => ⟨S2x16x256, .f32⟩
  | 13 => ⟨S2x256, .f32⟩
  | 14 => ⟨S1024x1856, .f32⟩
  | 15 => ⟨S1024x1664, .f32⟩
  | 16 => ⟨S1024x64, .f32⟩
  | 17 => ⟨S_, .i32⟩
  | 18 => ⟨S_, .f32⟩
  | 19 => ⟨S1024x128, .f32⟩
  | 20 => ⟨S1024x128, .f32⟩
  | 21 => ⟨S1024x1920, .f32⟩
  | 22 => ⟨S1024x1920, .bf16⟩
  | 23 => ⟨S1x1856, .f32⟩
  | 24 => ⟨S1x1664, .f32⟩
  | 25 => ⟨S1x64, .f32⟩
  | 26 => ⟨S_, .i32⟩
  | 27 => ⟨S_, .f32⟩
  | 28 => ⟨S1x128, .f32⟩
  | 29 => ⟨S1x128, .f32⟩
  | 30 => ⟨S1x1920, .f32⟩
  | 31 => ⟨S1024x1536, .f32⟩
  | 32 => ⟨S1024x32, .f32⟩
  | 33 => ⟨S_, .i32⟩
  | 34 => ⟨S_, .f32⟩
  | 35 => ⟨S1024x128, .f32⟩
  | 36 => ⟨S1024x1664, .f32⟩
  | 37 => ⟨S1024x1664, .bf16⟩
  | 38 => ⟨S_, .f32⟩
  | 39 => ⟨S64x512, .f32⟩
  | 40 => ⟨S1x64x512, .f32⟩
  | 41 => ⟨S64x512, .f32⟩
  | 42 => ⟨S64x1024, .f32⟩
  | 43 => ⟨S1x64x512, .f32⟩
  | 44 => ⟨S64x512, .f32⟩
  | 45 => ⟨S64x1024, .f32⟩
  | 46 => ⟨S128x1024, .f32⟩
  | 47 => ⟨S128x1024, .bf16⟩
  | 48 => ⟨S_, .i32⟩
  | 49 => ⟨S_, .f32⟩
  | 50 => ⟨S128x512, .f32⟩
  | 51 => ⟨S128x512, .bf16⟩
  | 52 => ⟨S128x512, .bf16⟩
  | 53 => ⟨S_, .f32⟩
  | 54 => ⟨S16x256, .f32⟩
  | 55 => ⟨S1x16x256, .f32⟩
  | 56 => ⟨S16x256, .f32⟩
  | 57 => ⟨S16x512, .f32⟩
  | 58 => ⟨S1x16x256, .f32⟩
  | 59 => ⟨S16x256, .f32⟩
  | 60 => ⟨S16x512, .f32⟩
  | 61 => ⟨S32x512, .f32⟩
  | 62 => ⟨S_, .i32⟩
  | 63 => ⟨S_, .f32⟩
  | 64 => ⟨S128x512, .f32⟩
  | 65 => ⟨S128x512, .bf16⟩
  | 66 => ⟨S512, .i32⟩
  | 67 => ⟨S_, .i32⟩
  | 68 => ⟨S_, .i32⟩
  | 69 => ⟨S512, .i32⟩
  | 70 => ⟨S512, .i32⟩
  | 71 => ⟨S512, .i32⟩
  | 72 => ⟨S_, .i32⟩
  | 73 => ⟨S512, .i32⟩
  | 74 => ⟨S512, .i1⟩
  | 75 => ⟨S512, .i32⟩
  | 76 => ⟨S512, .i32⟩
  | 77 => ⟨S_, .i32⟩
  | 78 => ⟨S512, .i32⟩
  | 79 => ⟨S512, .i1⟩
  | 80 => ⟨S512, .i1⟩
  | 81 => ⟨S_, .i32⟩
  | 82 => ⟨S512, .i32⟩
  | 83 => ⟨S512, .i32⟩
  | 84 => ⟨S512, .i32⟩
  | 85 => ⟨S512x1, .i32⟩
  | 86 => ⟨S1x512, .i32⟩
  | 87 => ⟨S512x512, .i32⟩
  | 88 => ⟨S512x512, .i32⟩
  | 89 => ⟨S512x512, .i1⟩
  | 90 => ⟨S512x512, .bf16⟩
  | 91 => ⟨S1x1024, .f32⟩
  | 92 => ⟨S1x512, .f32⟩
  | 93 => ⟨S1x512, .f32⟩
  | 94 => ⟨S1x512, .f32⟩
  | 95 => ⟨S256, .i32⟩
  | 96 => ⟨S_, .i32⟩
  | 97 => ⟨S_, .i32⟩
  | 98 => ⟨S256, .i32⟩
  | 99 => ⟨S256, .i32⟩
  | 100 => ⟨S256, .i32⟩
  | 101 => ⟨S_, .i32⟩
  | 102 => ⟨S256, .i32⟩
  | 103 => ⟨S256, .i1⟩
  | 104 => ⟨S256, .i32⟩
  | 105 => ⟨S256, .i32⟩
  | 106 => ⟨S_, .i32⟩
  | 107 => ⟨S256, .i32⟩
  | 108 => ⟨S256, .i1⟩
  | 109 => ⟨S256, .i1⟩
  | 110 => ⟨S_, .i32⟩
  | 111 => ⟨S256, .i32⟩
  | 112 => ⟨S256, .i32⟩
  | 113 => ⟨S256, .i32⟩
  | 114 => ⟨S256, .i32⟩
  | 115 => ⟨S256x1, .i32⟩
  | 116 => ⟨S1x256, .i32⟩
  | 117 => ⟨S256x256, .i32⟩
  | 118 => ⟨S256x256, .i32⟩
  | 119 => ⟨S256x256, .i1⟩
  | 120 => ⟨S1x256, .i32⟩
  | 121 => ⟨S256x1, .i32⟩
  | 122 => ⟨S256x256, .i32⟩
  | 123 => ⟨S256x256, .i32⟩
  | 124 => ⟨S256x256, .i1⟩
  | 125 => ⟨S256x256, .i1⟩
  | 126 => ⟨S256x256, .bf16⟩
  | 127 => ⟨S1x256, .i32⟩
  | _ => ⟨S8x4096x1024, .f32⟩

abbrev hbmTy0_1 (i : Nat) : BufTy := match i % 128 with
  | 0 => ⟨S256x1, .i32⟩
  | 1 => ⟨S256x256, .i32⟩
  | 2 => ⟨S256x256, .i32⟩
  | 3 => ⟨S256x256, .i1⟩
  | 4 => ⟨S256x256, .i1⟩
  | 5 => ⟨S256x256, .bf16⟩
  | 6 => ⟨S3x1024, .f32⟩
  | 7 => ⟨S1x512, .f32⟩
  | 8 => ⟨S1x1024, .f32⟩
  | 9 => ⟨S8x4096x3072, .bf16⟩
  | 10 => ⟨S8x4096x1024, .f32⟩
  | 11 => ⟨S8x4096x1024, .bf16⟩
  | 12 => ⟨S8x4096x512, .f32⟩
  | 13 => ⟨S8x4096x512, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1024x1920, .bf16⟩
  | .local _ .vmem, ⟨8, _⟩ => ⟨S1024x1664, .bf16⟩
  | .local _ .vmem, ⟨9, _⟩ => ⟨S1x1920, .f32⟩
  | .local _ .vmem, ⟨10, _⟩ => ⟨S1x1024, .f32⟩
  | .local _ .vmem, ⟨11, _⟩ => ⟨S128x1024, .bf16⟩
  | .local _ .vmem, ⟨12, _⟩ => ⟨S1x512, .f32⟩
  | .local _ .vmem, ⟨13, _⟩ => ⟨S128x512, .bf16⟩
  | .local _ .vmem, ⟨14, _⟩ => ⟨S128x512, .bf16⟩
  | .local _ .vmem, ⟨15, _⟩ => ⟨S1x512, .f32⟩
  | .local _ .vmem, ⟨16, _⟩ => ⟨S1x512, .f32⟩
  | .local _ .vmem, ⟨17, _⟩ => ⟨S512x512, .bf16⟩
  | .local _ .vmem, ⟨18, _⟩ => ⟨S256x256, .bf16⟩
  | .local _ .vmem, ⟨19, _⟩ => ⟨S256x256, .bf16⟩
  | .local _ .vmem, ⟨20, _⟩ => ⟨S3x1024, .f32⟩
  | .local _ .vmem, ⟨21, _⟩ => ⟨S128x512, .bf16⟩
  | .local _ .vmem, ⟨22, _⟩ => ⟨S1x512, .f32⟩
  | .local _ .vmem, ⟨23, _⟩ => ⟨S1x256x3072, .bf16⟩
  | .local _ .vmem, ⟨24, _⟩ => ⟨S1x256x3072, .bf16⟩
  | .local _ .vmem, ⟨25, _⟩ => ⟨S1x256x1024, .f32⟩
  | .local _ .vmem, ⟨26, _⟩ => ⟨S1x256x1024, .f32⟩
  | .local _ .vmem, ⟨27, _⟩ => ⟨S1x256x1024, .bf16⟩
  | .local _ .vmem, ⟨28, _⟩ => ⟨S1x256x1024, .bf16⟩
  | .local _ .vmem, ⟨29, _⟩ => ⟨S1x256x512, .f32⟩
  | .local _ .vmem, ⟨30, _⟩ => ⟨S1x256x512, .f32⟩
  | .local _ .vmem, ⟨31, _⟩ => ⟨S1x256x512, .bf16⟩
  | .local _ .vmem, ⟨32, _⟩ => ⟨S1x256x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_c : Ref sig .tc := ⟨.hbm, 17, rfl⟩
abbrev main_call0_v0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c_0 : Ref sig .tc := ⟨.hbm, 26, rfl⟩
abbrev main_call1_v0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_1 : Ref sig .tc := ⟨.hbm, 33, rfl⟩
abbrev main_call2_v0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_2 : Ref sig .tc := ⟨.hbm, 48, rfl⟩
abbrev main_call3_v0 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_4 : Ref sig .tc := ⟨.hbm, 62, rfl⟩
abbrev main_call4_v0 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_5 : Ref sig .tc := ⟨.hbm, 67, rfl⟩
abbrev main_call5_v0 : Ref sig .tc := ⟨.hbm, 68, rfl⟩
abbrev main_call5_v1 : Ref sig .tc := ⟨.hbm, 69, rfl⟩
abbrev main_call5_v2 : Ref sig .tc := ⟨.hbm, 70, rfl⟩
abbrev main_call5_v3 : Ref sig .tc := ⟨.hbm, 71, rfl⟩
abbrev main_call5_v4 : Ref sig .tc := ⟨.hbm, 72, rfl⟩
abbrev main_call5_v5 : Ref sig .tc := ⟨.hbm, 73, rfl⟩
abbrev main_call5_v6 : Ref sig .tc := ⟨.hbm, 74, rfl⟩
abbrev main_call5_v7 : Ref sig .tc := ⟨.hbm, 75, rfl⟩
abbrev main_call5_v8 : Ref sig .tc := ⟨.hbm, 76, rfl⟩
abbrev main_call5_c : Ref sig .tc := ⟨.hbm, 77, rfl⟩
abbrev main_call5_v9 : Ref sig .tc := ⟨.hbm, 78, rfl⟩
abbrev main_call5_v10 : Ref sig .tc := ⟨.hbm, 79, rfl⟩
abbrev main_call5_v11 : Ref sig .tc := ⟨.hbm, 80, rfl⟩
abbrev main_call5_c_0 : Ref sig .tc := ⟨.hbm, 81, rfl⟩
abbrev main_call5_v12 : Ref sig .tc := ⟨.hbm, 82, rfl⟩
abbrev main_call5_v13 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_c_6 : Ref sig .tc := ⟨.hbm, 96, rfl⟩
abbrev main_call6_v0 : Ref sig .tc := ⟨.hbm, 97, rfl⟩
abbrev main_call6_v1 : Ref sig .tc := ⟨.hbm, 98, rfl⟩
abbrev main_call6_v2 : Ref sig .tc := ⟨.hbm, 99, rfl⟩
abbrev main_call6_v3 : Ref sig .tc := ⟨.hbm, 100, rfl⟩
abbrev main_call6_v4 : Ref sig .tc := ⟨.hbm, 101, rfl⟩
abbrev main_call6_v5 : Ref sig .tc := ⟨.hbm, 102, rfl⟩
abbrev main_call6_v6 : Ref sig .tc := ⟨.hbm, 103, rfl⟩
abbrev main_call6_v7 : Ref sig .tc := ⟨.hbm, 104, rfl⟩
abbrev main_call6_v8 : Ref sig .tc := ⟨.hbm, 105, rfl⟩
abbrev main_call6_c : Ref sig .tc := ⟨.hbm, 106, rfl⟩
abbrev main_call6_v9 : Ref sig .tc := ⟨.hbm, 107, rfl⟩
abbrev main_call6_v10 : Ref sig .tc := ⟨.hbm, 108, rfl⟩
abbrev main_call6_v11 : Ref sig .tc := ⟨.hbm, 109, rfl⟩
abbrev main_call6_c_0 : Ref sig .tc := ⟨.hbm, 110, rfl⟩
abbrev main_call6_v12 : Ref sig .tc := ⟨.hbm, 111, rfl⟩
abbrev main_call6_v13 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77_0 : Ref sig .tc := ⟨.hbm, 137, rfl⟩
abbrev main_v77_1 : Ref sig .tc := ⟨.hbm, 138, rfl⟩
abbrev main_v77_2 : Ref sig .tc := ⟨.hbm, 139, rfl⟩
abbrev main_v77_3 : Ref sig .tc := ⟨.hbm, 140, rfl⟩
abbrev main_v77_4 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg20_1 : Ref sig .tc := ⟨.vmem, 24, rfl⟩
abbrev cc0_stg21_0 : Ref sig .tc := ⟨.vmem, 25, rfl⟩
abbrev cc0_stg21_1 : Ref sig .tc := ⟨.vmem, 26, rfl⟩
abbrev cc0_stg22_0 : Ref sig .tc := ⟨.vmem, 27, rfl⟩
abbrev cc0_stg22_1 : Ref sig .tc := ⟨.vmem, 28, rfl⟩
abbrev cc0_stg23_0 : Ref sig .tc := ⟨.vmem, 29, rfl⟩
abbrev cc0_stg23_1 : Ref sig .tc := ⟨.vmem, 30, rfl⟩
abbrev cc0_stg24_0 : Ref sig .tc := ⟨.vmem, 31, rfl⟩
abbrev cc0_stg24_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem20_1 : DmaSem sig := 24
abbrev cc0_sem21_0 : DmaSem sig := 25
abbrev cc0_sem21_1 : DmaSem sig := 26
abbrev cc0_sem22_0 : DmaSem sig := 27
abbrev cc0_sem22_1 : DmaSem sig := 28
abbrev cc0_sem23_0 : DmaSem sig := 29
abbrev cc0_sem23_1 : DmaSem sig := 30
abbrev cc0_sem24_0 : DmaSem sig := 31
abbrev cc0_sem24_1 : DmaSem sig := 32

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1920 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1664 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1920 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S512x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S256x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S3x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S128x512 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S1x256x3072 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x256x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x256x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]
-- ==== FrontReferenceIdeal.lean ====
abbrev S8x4096x1024 : Shape := ⟨3, ![8, 4096, 1024]⟩
abbrev S1024 : Shape := ⟨1, ![1024]⟩
abbrev S1024x3424 : Shape := ⟨2, ![1024, 3424]⟩
abbrev S1856 : Shape := ⟨1, ![1856]⟩
abbrev S2x512 : Shape := ⟨2, ![2, 512]⟩
abbrev S2x64x512 : Shape := ⟨3, ![2, 64, 512]⟩
abbrev S512 : Shape := ⟨1, ![512]⟩
abbrev S64x512 : Shape := ⟨2, ![64, 512]⟩
abbrev S128x512 : Shape := ⟨2, ![128, 512]⟩
abbrev S3x1x1024 : Shape := ⟨3, ![3, 1, 1024]⟩
abbrev S2x16x256 : Shape := ⟨3, ![2, 16, 256]⟩
abbrev S2x256 : Shape := ⟨2, ![2, 256]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3424 : Shape := ⟨3, ![8, 4096, 3424]⟩
abbrev S8x4096x1856 : Shape := ⟨3, ![8, 4096, 1856]⟩
abbrev S8x4096x1568 : Shape := ⟨3, ![8, 4096, 1568]⟩
abbrev S8x4098x1856 : Shape := ⟨3, ![8, 4098, 1856]⟩
abbrev S1x1x1856 : Shape := ⟨3, ![1, 1, 1856]⟩
abbrev S8x4096x512 : Shape := ⟨3, ![8, 4096, 512]⟩
abbrev S8x4096x64 : Shape := ⟨3, ![8, 4096, 64]⟩
abbrev S8x4096x128 : Shape := ⟨3, ![8, 4096, 128]⟩
abbrev S1x512 : Shape := ⟨2, ![1, 512]⟩
abbrev S1x64x512 : Shape := ⟨3, ![1, 64, 512]⟩
abbrev S1x1x512 : Shape := ⟨3, ![1, 1, 512]⟩
abbrev S8x64x64x512 : Shape := ⟨4, ![8, 64, 64, 512]⟩
abbrev S8x4096x8x64 : Shape := ⟨4, ![8, 4096, 8, 64]⟩
abbrev S8x4096x8 : Shape := ⟨3, ![8, 4096, 8]⟩
abbrev S8x4096x8x1 : Shape := ⟨4, ![8, 4096, 8, 1]⟩
abbrev S8x4096x3072 : Shape := ⟨3, ![8, 4096, 3072]⟩
abbrev S8x4098x1024 : Shape := ⟨3, ![8, 4098, 1024]⟩
abbrev S8x4096x256 : Shape := ⟨3, ![8, 4096, 256]⟩
abbrev S8x4096x768 : Shape := ⟨3, ![8, 4096, 768]⟩
abbrev S8x4096x16 : Shape := ⟨3, ![8, 4096, 16]⟩
abbrev S1x16x256 : Shape := ⟨3, ![1, 16, 256]⟩
abbrev S16x256 : Shape := ⟨2, ![16, 256]⟩
abbrev S1x256 : Shape := ⟨2, ![1, 256]⟩
abbrev S256 : Shape := ⟨1, ![256]⟩
abbrev S1x1x256 : Shape := ⟨3, ![1, 1, 256]⟩

abbrev nBuf : Space → Nat
  | .hbm => 272
  | .vmem => 0
  | .smem => 0
  | _ => 0

abbrev hbmTy0_0 (i : Nat) : BufTy := match i % 128 with
  | 0 => ⟨S8x4096x1024, .f32⟩
  | 1 => ⟨S1024, .f32⟩
  | 2 => ⟨S1024x3424, .f32⟩
  | 3 => ⟨S1856, .f32⟩
  | 4 => ⟨S2x512, .f32⟩
  | 5 => ⟨S2x64x512, .f32⟩
  | 6 => ⟨S512, .f32⟩
  | 7 => ⟨S64x512, .f32⟩
  | 8 => ⟨S128x512, .f32⟩
  | 9 => ⟨S512, .f32⟩
  | 10 => ⟨S512, .f32⟩
  | 11 => ⟨S3x1x1024, .f32⟩
  | 12 => ⟨S2x16x256, .f32⟩
  | 13 => ⟨S2x256, .f32⟩
  | 14 => ⟨S8x4096x1024, .f32⟩
  | 15 => ⟨S_, .f32⟩
  | 16 => ⟨S8x4096, .f32⟩
  | 17 => ⟨S8x4096x1, .f32⟩
  | 18 => ⟨S_, .f32⟩
  | 19 => ⟨S8x4096x1, .f32⟩
  | 20 => ⟨S8x4096x1, .f32⟩
  | 21 => ⟨S_, .f32⟩
  | 22 => ⟨S8x4096x1, .f32⟩
  | 23 => ⟨S8x4096x1, .f32⟩
  | 24 => ⟨S8x4096x1, .f32⟩
  | 25 => ⟨S8x4096x1024, .f32⟩
  | 26 => ⟨S8x4096x1024, .f32⟩
  | 27 => ⟨S1x1x1024, .f32⟩
  | 28 => ⟨S8x4096x1024, .f32⟩
  | 29 => ⟨S8x4096x1024, .f32⟩
  | 30 => ⟨S8x4096x3424, .f32⟩
  | 31 => ⟨S8x4096x1856, .f32⟩
  | 32 => ⟨S8x4096x1568, .f32⟩
  | 33 => ⟨S_, .i32⟩
  | 34 => ⟨S_, .f32⟩
  | 35 => ⟨S8x4098x1856, .f32⟩
  | 36 => ⟨S8x4096x1856, .f32⟩
  | 37 => ⟨S8x4096x1856, .f32⟩
  | 38 => ⟨S8x4096x1856, .f32⟩
  | 39 => ⟨S_, .f32⟩
  | 40 => ⟨S8x4096x1856, .f32⟩
  | 41 => ⟨S8x4096x1856, .f32⟩
  | 42 => ⟨S8x4096x1856, .f32⟩
  | 43 => ⟨S1x1x1856, .f32⟩
  | 44 => ⟨S8x4096x1856, .f32⟩
  | 45 => ⟨S8x4096x1856, .f32⟩
  | 46 => ⟨S8x4096x1856, .f32⟩
  | 47 => ⟨S8x4096x512, .f32⟩
  | 48 => ⟨S8x4096x512, .f32⟩
  | 49 => ⟨S8x4096x512, .f32⟩
  | 50 => ⟨S8x4096x64, .f32⟩
  | 51 => ⟨S8x4096x128, .f32⟩
  | 52 => ⟨S8x4096x64, .f32⟩
  | 53 => ⟨S1x512, .f32⟩
  | 54 => ⟨S512, .f32⟩
  | 55 => ⟨S8x4096x64, .f32⟩
  | 56 => ⟨S1x64x512, .f32⟩
  | 57 => ⟨S64x512, .f32⟩
  | 58 => ⟨S8x4096x512, .f32⟩
  | 59 => ⟨S1x1x512, .f32⟩
  | 60 => ⟨S8x4096x512, .f32⟩
  | 61 => ⟨S8x4096x512, .f32⟩
  | 62 => ⟨S8x4096x512, .f32⟩
  | 63 => ⟨S_, .f32⟩
  | 64 => ⟨S8x4096x512, .f32⟩
  | 65 => ⟨S8x4096x512, .f32⟩
  | 66 => ⟨S8x4096x512, .f32⟩
  | 67 => ⟨S8x4096x512, .f32⟩
  | 68 => ⟨S8x4096x512, .i1⟩
  | 69 => ⟨S8x4096x512, .f32⟩
  | 70 => ⟨S8x4096x512, .f32⟩
  | 71 => ⟨S8x4096x512, .f32⟩
  | 72 => ⟨S8x4096x512, .f32⟩
  | 73 => ⟨S8x4096x512, .f32⟩
  | 74 => ⟨S8x4096x512, .f32⟩
  | 75 => ⟨S8x4096x512, .f32⟩
  | 76 => ⟨S8x4096x512, .f32⟩
  | 77 => ⟨S8x4096x512, .f32⟩
  | 78 => ⟨S8x4096x512, .f32⟩
  | 79 => ⟨S_, .f32⟩
  | 80 => ⟨S8x4096x512, .f32⟩
  | 81 => ⟨S8x4096x512, .f32⟩
  | 82 => ⟨S8x64x64x512, .f32⟩
  | 83 => ⟨S_, .f32⟩
  | 84 => ⟨S_, .f32⟩
  | 85 => ⟨S8x64x64x512, .f32⟩
  | 86 => ⟨S8x4096x64, .f32⟩
  | 87 => ⟨S1x512, .f32⟩
  | 88 => ⟨S512, .f32⟩
  | 89 => ⟨S8x4096x64, .f32⟩
  | 90 => ⟨S1x64x512, .f32⟩
  | 91 => ⟨S64x512, .f32⟩
  | 92 => ⟨S8x4096x512, .f32⟩
  | 93 => ⟨S1x1x512, .f32⟩
  | 94 => ⟨S8x4096x512, .f32⟩
  | 95 => ⟨S8x4096x512, .f32⟩
  | 96 => ⟨S8x4096x512, .f32⟩
  | 97 => ⟨S_, .f32⟩
  | 98 => ⟨S8x4096x512, .f32⟩
  | 99 => ⟨S8x4096x512, .f32⟩
  | 100 => ⟨S8x4096x512, .f32⟩
  | 101 => ⟨S8x4096x512, .f32⟩
  | 102 => ⟨S8x4096x512, .i1⟩
  | 103 => ⟨S8x4096x512, .f32⟩
  | 104 => ⟨S8x4096x512, .f32⟩
  | 105 => ⟨S8x4096x512, .f32⟩
  | 106 => ⟨S8x4096x512, .f32⟩
  | 107 => ⟨S8x4096x512, .f32⟩
  | 108 => ⟨S8x4096x512, .f32⟩
  | 109 => ⟨S8x4096x512, .f32⟩
  | 110 => ⟨S8x4096x512, .f32⟩
  | 111 => ⟨S8x4096x512, .f32⟩
  | 112 => ⟨S8x4096x512, .f32⟩
  | 113 => ⟨S_, .f32⟩
  | 114 => ⟨S8x4096x512, .f32⟩
  | 115 => ⟨S8x4096x512, .f32⟩
  | 116 => ⟨S8x64x64x512, .f32⟩
  | 117 => ⟨S8x64x64x512, .f32⟩
  | 118 => ⟨S_, .f32⟩
  | 119 => ⟨S_, .f32⟩
  | 120 => ⟨S8x64x64x512, .f32⟩
  | 121 => ⟨S8x64x64x512, .f32⟩
  | 122 => ⟨S8x4096x512, .f32⟩
  | 123 => ⟨S8x4096x512, .f32⟩
  | 124 => ⟨S8x4096x1024, .f32⟩
  | 125 => ⟨S8x4096x512, .f32⟩
  | 126 => ⟨S1x1x512, .f32⟩
  | 127 => ⟨S8x4096x512, .f32⟩
  | _ => ⟨S8x4096x1024, .f32⟩

abbrev hbmTy0_1 (i : Nat) : BufTy := match i % 128 with
  | 0 => ⟨S8x4096x512, .f32⟩
  | 1 => ⟨S8x4096x512, .f32⟩
  | 2 => ⟨S8x4096x512, .f32⟩
  | 3 => ⟨S_, .f32⟩
  | 4 => ⟨S8x4096x512, .f32⟩
  | 5 => ⟨S8x4096x512, .f32⟩
  | 6 => ⟨S_, .f32⟩
  | 7 => ⟨S8x4096x512, .f32⟩
  | 8 => ⟨S8x4096x512, .f32⟩
  | 9 => ⟨S8x4096x128, .f32⟩
  | 10 => ⟨S8x4096x128, .f32⟩
  | 11 => ⟨S_, .f32⟩
  | 12 => ⟨S8x4096x128, .f32⟩
  | 13 => ⟨S8x4096x128, .f32⟩
  | 14 => ⟨S_, .f32⟩
  | 15 => ⟨S8x4096x128, .f32⟩
  | 16 => ⟨S8x4096x128, .f32⟩
  | 17 => ⟨S8x4096x512, .f32⟩
  | 18 => ⟨S1x1x512, .f32⟩
  | 19 => ⟨S8x4096x512, .f32⟩
  | 20 => ⟨S8x4096x512, .f32⟩
  | 21 => ⟨S8x4096x8x64, .f32⟩
  | 22 => ⟨S8x4096x8x64, .f32⟩
  | 23 => ⟨S_, .f32⟩
  | 24 => ⟨S8x4096x8, .f32⟩
  | 25 => ⟨S8x4096x8x1, .f32⟩
  | 26 => ⟨S_, .f32⟩
  | 27 => ⟨S8x4096x8x1, .f32⟩
  | 28 => ⟨S8x4096x8x1, .f32⟩
  | 29 => ⟨S8x4096x8x1, .f32⟩
  | 30 => ⟨S8x4096x8x64, .f32⟩
  | 31 => ⟨S8x4096x8x64, .f32⟩
  | 32 => ⟨S8x4096x512, .f32⟩
  | 33 => ⟨S_, .f32⟩
  | 34 => ⟨S8x4096x512, .f32⟩
  | 35 => ⟨S8x4096x512, .f32⟩
  | 36 => ⟨S1x1x512, .f32⟩
  | 37 => ⟨S8x4096x512, .f32⟩
  | 38 => ⟨S8x4096x512, .f32⟩
  | 39 => ⟨S_, .f32⟩
  | 40 => ⟨S8x4096x512, .f32⟩
  | 41 => ⟨S8x4096x512, .f32⟩
  | 42 => ⟨S8x4096x512, .f32⟩
  | 43 => ⟨S8x4096x512, .f32⟩
  | 44 => ⟨S8x4096x3072, .f32⟩
  | 45 => ⟨S8x4096x1024, .f32⟩
  | 46 => ⟨S8x4096x512, .f32⟩
  | 47 => ⟨S_, .i32⟩
  | 48 => ⟨S_, .f32⟩
  | 49 => ⟨S8x4098x1024, .f32⟩
  | 50 => ⟨S8x4096x1024, .f32⟩
  | 51 => ⟨S8x4096x1024, .f32⟩
  | 52 => ⟨S1x1x1024, .f32⟩
  | 53 => ⟨S1024, .f32⟩
  | 54 => ⟨S1x1x1024, .f32⟩
  | 55 => ⟨S8x4096x1024, .f32⟩
  | 56 => ⟨S8x4096x1024, .f32⟩
  | 57 => ⟨S1x1x1024, .f32⟩
  | 58 => ⟨S1024, .f32⟩
  | 59 => ⟨S1x1x1024, .f32⟩
  | 60 => ⟨S8x4096x1024, .f32⟩
  | 61 => ⟨S8x4096x1024, .f32⟩
  | 62 => ⟨S8x4096x1024, .f32⟩
  | 63 => ⟨S1x1x1024, .f32⟩
  | 64 => ⟨S1024, .f32⟩
  | 65 => ⟨S1x1x1024, .f32⟩
  | 66 => ⟨S8x4096x1024, .f32⟩
  | 67 => ⟨S8x4096x1024, .f32⟩
  | 68 => ⟨S8x4096x1024, .f32⟩
  | 69 => ⟨S8x4096x1024, .f32⟩
  | 70 => ⟨S8x4096x1024, .f32⟩
  | 71 => ⟨S_, .f32⟩
  | 72 => ⟨S8x4096x1024, .f32⟩
  | 73 => ⟨S8x4096x1024, .f32⟩
  | 74 => ⟨S_, .f32⟩
  | 75 => ⟨S8x4096x1024, .f32⟩
  | 76 => ⟨S8x4096x1024, .f32⟩
  | 77 => ⟨S8x4096x1024, .f32⟩
  | 78 => ⟨S8x4096x256, .f32⟩
  | 79 => ⟨S_, .f32⟩
  | 80 => ⟨S8x4096x256, .f32⟩
  | 81 => ⟨S8x4096x256, .f32⟩
  | 82 => ⟨S8x4096x768, .f32⟩
  | 83 => ⟨S8x4096x1024, .f32⟩
  | 84 => ⟨S8x4096x16, .f32⟩
  | 85 => ⟨S1x16x256, .f32⟩
  | 86 => ⟨S16x256, .f32⟩
  | 87 => ⟨S8x4096x256, .f32⟩
  | 88 => ⟨S1x256, .f32⟩
  | 89 => ⟨S256, .f32⟩
  | 90 => ⟨S1x1x256, .f32⟩
  | 91 => ⟨S8x4096x256, .f32⟩
  | 92 => ⟨S8x4096x256, .f32⟩
  | 93 => ⟨S8x4096x256, .f32⟩
  | 94 => ⟨S_, .f32⟩
  | 95 => ⟨S8x4096x256, .f32⟩
  | 96 => ⟨S8x4096x256, .f32⟩
  | 97 => ⟨S8x4096x256, .f32⟩
  | 98 => ⟨S8x4096x256, .f32⟩
  | 99 => ⟨S8x4096x256, .i1⟩
  | 100 => ⟨S8x4096x256, .f32⟩
  | 101 => ⟨S8x4096x256, .f32⟩
  | 102 => ⟨S8x4096x256, .f32⟩
  | 103 => ⟨S8x4096x256, .f32⟩
  | 104 => ⟨S8x4096x256, .f32⟩
  | 105 => ⟨S8x4096x256, .f32⟩
  | 106 => ⟨S8x4096x256, .f32⟩
  | 107 => ⟨S8x4096x256, .f32⟩
  | 108 => ⟨S8x4096x256, .f32⟩
  | 109 => ⟨S_, .f32⟩
  | 110 => ⟨S8x4096x256, .f32⟩
  | 111 => ⟨S8x4096x256, .f32⟩
  | 112 => ⟨S8x4096x16, .f32⟩
  | 113 => ⟨S1x16x256, .f32⟩
  | 114 => ⟨S16x256, .f32⟩
  | 115 => ⟨S8x4096x256, .f32⟩
  | 116 => ⟨S1x256, .f32⟩
  | 117 => ⟨S256, .f32⟩
  | 118 => ⟨S1x1x256, .f32⟩
  | 119 => ⟨S8x4096x256, .f32⟩
  | 120 => ⟨S8x4096x256, .f32⟩
  | 121 => ⟨S8x4096x256, .f32⟩
  | 122 => ⟨S_, .f32⟩
  | 123 => ⟨S8x4096x256, .f32⟩
  | 124 => ⟨S8x4096x256, .f32⟩
  | 125 => ⟨S8x4096x256, .f32⟩
  | 126 => ⟨S8x4096x256, .f32⟩
  | 127 => ⟨S8x4096x256, .i1⟩
  | _ => ⟨S8x4096x1024, .f32⟩

abbrev hbmTy0_2 (i : Nat) : BufTy := match i % 128 with
  | 0 => ⟨S8x4096x256, .f32⟩
  | 1 => ⟨S8x4096x256, .f32⟩
  | 2 => ⟨S8x4096x256, .f32⟩
  | 3 => ⟨S8x4096x256, .f32⟩
  | 4 => ⟨S8x4096x256, .f32⟩
  | 5 => ⟨S8x4096x256, .f32⟩
  | 6 => ⟨S8x4096x256, .f32⟩
  | 7 => ⟨S8x4096x256, .f32⟩
  | 8 => ⟨S8x4096x256, .f32⟩
  | 9 => ⟨S_, .f32⟩
  | 10 => ⟨S8x4096x256, .f32⟩
  | 11 => ⟨S8x4096x256, .f32⟩
  | 12 => ⟨S8x4096x512, .f32⟩
  | 13 => ⟨S8x4096x3072, .bf16⟩
  | 14 => ⟨S8x4096x1024, .bf16⟩
  | 15 => ⟨S8x4096x512, .bf16⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c : Ref sig .tc := ⟨.hbm, 33, rfl⟩
abbrev main_call0_v0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call1_cst : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_3 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_call2_call0_cst : Ref sig .tc := ⟨.hbm, 83, rfl⟩
abbrev main_call2_call0_v0 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_call3_cst : Ref sig .tc := ⟨.hbm, 97, rfl⟩
abbrev main_call3_v0 : Ref sig .tc := ⟨.hbm, 98, rfl⟩
abbrev main_call3_v1 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_call3_v5 : Ref sig .tc := ⟨.hbm, 103, rfl⟩
abbrev main_call3_v6 : Ref sig .tc := ⟨.hbm, 104, rfl⟩
abbrev main_call3_v7 : Ref sig .tc := ⟨.hbm, 105, rfl⟩
abbrev main_call3_v8 : Ref sig .tc := ⟨.hbm, 106, rfl⟩
abbrev main_call3_v9 : Ref sig .tc := ⟨.hbm, 107, rfl⟩
abbrev main_call3_v10 : Ref sig .tc := ⟨.hbm, 108, rfl⟩
abbrev main_call3_v11 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_cst_4 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_call5_call0_cst : Ref sig .tc := ⟨.hbm, 118, rfl⟩
abbrev main_call5_call0_v0 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_cst_5 : Ref sig .tc := ⟨.hbm, 131, rfl⟩
abbrev main_v79 : Ref sig .tc := ⟨.hbm, 132, rfl⟩
abbrev main_v80 : Ref sig .tc := ⟨.hbm, 133, rfl⟩
abbrev main_cst_6 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_cst_7 : Ref sig .tc := ⟨.hbm, 139, rfl⟩
abbrev main_v85 : Ref sig .tc := ⟨.hbm, 140, rfl⟩
abbrev main_v86 : Ref sig .tc := ⟨.hbm, 141, rfl⟩
abbrev main_cst_8 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_cst_9 : Ref sig .tc := ⟨.hbm, 151, rfl⟩
abbrev main_v95 : Ref sig .tc := ⟨.hbm, 152, rfl⟩
abbrev main_v96 : Ref sig .tc := ⟨.hbm, 153, rfl⟩
abbrev main_cst_10 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_cst_11 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_cst_12 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_c_13 : Ref sig .tc := ⟨.hbm, 175, rfl⟩
abbrev main_call7_v0 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_call8_v0 : Ref sig .tc := ⟨.hbm, 197, rfl⟩
abbrev main_call8_v1 : Ref sig .tc := ⟨.hbm, 198, rfl⟩
abbrev main_call8_cst : Ref sig .tc := ⟨.hbm, 199, rfl⟩
abbrev main_call8_v2 : Ref sig .tc := ⟨.hbm, 200, rfl⟩
abbrev main_call8_v3 : Ref sig .tc := ⟨.hbm, 201, rfl⟩
abbrev main_call8_cst_0 : Ref sig .tc := ⟨.hbm, 202, rfl⟩
abbrev main_call8_v4 : Ref sig .tc := ⟨.hbm, 203, rfl⟩
abbrev main_call8_v5 : Ref sig .tc := ⟨.hbm, 204, rfl⟩
abbrev main_v135 : Ref sig .tc := ⟨.hbm, 205, rfl⟩
abbrev main_v136 : Ref sig .tc := ⟨.hbm, 206, rfl⟩
abbrev main_cst_14 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_call9_v0 : Ref sig .tc := ⟨.hbm, 221, rfl⟩
abbrev main_call9_call0_cst : Ref sig .tc := ⟨.hbm, 222, rfl⟩
abbrev main_call9_call0_v0 : Ref sig .tc := ⟨.hbm, 223, rfl⟩
abbrev main_call9_call0_v1 : Ref sig .tc := ⟨.hbm, 224, rfl⟩
abbrev main_call9_call0_v2 : Ref sig .tc := ⟨.hbm, 225, rfl⟩
abbrev main_call9_call0_v3 : Ref sig .tc := ⟨.hbm, 226, rfl⟩
abbrev main_call9_call0_v4 : Ref sig .tc := ⟨.hbm, 227, rfl⟩
abbrev main_call9_call0_v5 : Ref sig .tc := ⟨.hbm, 228, rfl⟩
abbrev main_call9_call0_v6 : Ref sig .tc := ⟨.hbm, 229, rfl⟩
abbrev main_call9_call0_v7 : Ref sig .tc := ⟨.hbm, 230, rfl⟩
abbrev main_call9_call0_v8 : Ref sig .tc := ⟨.hbm, 231, rfl⟩
abbrev main_call9_call0_v9 : Ref sig .tc := ⟨.hbm, 232, rfl⟩
abbrev main_call9_call0_v10 : Ref sig .tc := ⟨.hbm, 233, rfl⟩
abbrev main_call9_call0_v11 : Ref sig .tc := ⟨.hbm, 234, rfl⟩
abbrev main_call9_v1 : Ref sig .tc := ⟨.hbm, 235, rfl⟩
abbrev main_v150 : Ref sig .tc := ⟨.hbm, 236, rfl⟩
abbrev main_cst_15 : Ref sig .tc := ⟨.hbm, 237, rfl⟩
abbrev main_v151 : Ref sig .tc := ⟨.hbm, 238, rfl⟩
abbrev main_v152 : Ref sig .tc := ⟨.hbm, 239, rfl⟩
abbrev main_v153 : Ref sig .tc := ⟨.hbm, 240, rfl⟩
abbrev main_v154 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_v158 : Ref sig .tc := ⟨.hbm, 245, rfl⟩
abbrev main_v159 : Ref sig .tc := ⟨.hbm, 246, rfl⟩
abbrev main_v160 : Ref sig .tc := ⟨.hbm, 247, rfl⟩
abbrev main_v161 : Ref sig .tc := ⟨.hbm, 248, rfl⟩
abbrev main_call10_v0 : Ref sig .tc := ⟨.hbm, 249, rfl⟩
abbrev main_call10_call0_cst : Ref sig .tc := ⟨.hbm, 250, rfl⟩
abbrev main_call10_call0_v0 : Ref sig .tc := ⟨.hbm, 251, rfl⟩
abbrev main_call10_call0_v1 : Ref sig .tc := ⟨.hbm, 252, rfl⟩
abbrev main_call10_call0_v2 : Ref sig .tc := ⟨.hbm, 253, rfl⟩
abbrev main_call10_call0_v3 : Ref sig .tc := ⟨.hbm, 254, rfl⟩
abbrev main_call10_call0_v4 : Ref sig .tc := ⟨.hbm, 255, rfl⟩
abbrev main_call10_call0_v5 : Ref sig .tc := ⟨.hbm, 256, rfl⟩
abbrev main_call10_call0_v6 : Ref sig .tc := ⟨.hbm, 257, rfl⟩
abbrev main_call10_call0_v7 : Ref sig .tc := ⟨.hbm, 258, rfl⟩
abbrev main_call10_call0_v8 : Ref sig .tc := ⟨.hbm, 259, rfl⟩
abbrev main_call10_call0_v9 : Ref sig .tc := ⟨.hbm, 260, rfl⟩
abbrev main_call10_call0_v10 : Ref sig .tc := ⟨.hbm, 261, rfl⟩
abbrev main_call10_call0_v11 : Ref sig .tc := ⟨.hbm, 262, rfl⟩
abbrev main_call10_v1 : Ref sig .tc := ⟨.hbm, 263, rfl⟩
abbrev main_v162 : Ref sig .tc := ⟨.hbm, 264, rfl⟩
abbrev main_cst_16 : Ref sig .tc := ⟨.hbm, 265, rfl⟩
abbrev main_v163 : Ref sig .tc := ⟨.hbm, 266, rfl⟩
abbrev main_v164 : Ref sig .tc := ⟨.hbm, 267, rfl⟩
abbrev main_v165 : Ref sig .tc := ⟨.hbm, 268, rfl⟩
abbrev main_v166 : Ref sig .tc := ⟨.hbm, 269, rfl⟩
abbrev main_v167 : Ref sig .tc := ⟨.hbm, 270, rfl⟩
abbrev main_v168 : Ref sig .tc := ⟨.hbm, 271, rfl⟩

abbrev nD : Nat := 1
abbrev τ : Topo := Topo.v7x

variable {F : FTy → Type} [FloatOps F]
-- ==== Proof.TailIdealRun.lean ====
/- The tail's body run once: the stores that it leaves in its output block. -/
module

public import proofs.«01_k».proof.Proof.Gen.TailIdeal.Frame.Runs

@[expose] public section

set_option maxRecDepth 16384

noncomputable section

namespace Cert.TailIdeal.Launch

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores that the body leaves in its output block, last first, beside the proof that the body, given its inputs' blocks
    and any output block, ends with the inputs as they were and the output block so stored. -/
noncomputable def kernelRun0_A (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x1536 .bf16) (harg4 : arg4.IsWhole) (arg5 : Memref sig .tc .vmem S256x512 .bf16) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .bf16) (harg8 : arg8.IsWhole) (arg9 : Memref sig .tc .vmem S256x256 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1024x2816 .bf16) (harg20 : arg20.IsWhole) (arg21 : Memref sig .tc .vmem S1024x2816 .bf16) (harg21 : arg21.IsWhole) (arg22 : Memref sig .tc .vmem S2816x1024 .bf16) (harg22 : arg22.IsWhole) (arg23 : Memref sig .tc .vmem S256x1024 .bf16) (harg23 : arg23.IsWhole) (arg24 : Memref sig .tc .vmem S1024x1024 .bf16) (harg24 : arg24.IsWhole) (arg25 : Memref sig .tc .vmem S1x1024 .f32) (harg25 : arg25.IsWhole) (arg26 : Memref sig .tc .vmem S1x1024 .f32) (harg26 : arg26.IsWhole) (arg27 : Memref sig .tc .vmem S256x1024 .f32) (harg27 : arg27.IsWhole)
    (x0 : Vec F S256x1024 .f32) (x1 : Vec F S256x512 .f32) (x2 : Vec F S256x512 .f32) (x3 : Vec F S256x1536 .bf16) (x4 : Vec F S256x512 .bf16) (x5 : Vec F S256x512 .f32) (x6 : Vec F S256x512 .f32) (x7 : Vec F S256x512 .bf16) (x8 : Vec F S256x256 .f32) (x9 : Vec F S512x512 .bf16) (x10 : Vec F S1x512 .f32) (x11 : Vec F S1x512 .f32) (x12 : Vec F S1x512 .f32) (x13 : Vec F S1x128 .f32) (x14 : Vec F S512x1024 .bf16) (x15 : Vec F S512x1024 .bf16) (x16 : Vec F S1x1024 .f32) (x17 : Vec F S1x1024 .f32) (x18 : Vec F S1x1024 .f32) (x19 : Vec F S1024x2816 .bf16) (x20 : Vec F S1024x2816 .bf16) (x21 : Vec F S2816x1024 .bf16) (x22 : Vec F S256x1024 .bf16) (x23 : Vec F S1024x1024 .bf16) (x24 : Vec F S1x1024 .f32) (x25 : Vec F S1x1024 .f32) :
    { L26 : List (View.Piece (Elt F) S256x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ (∃ d, owns (c : Thread nD τ) arg27 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ (∃ f, arg27.view.loc (c : Thread nD τ) ↦[arg27.view.set]{fullShare} arg27.view.writes (Elt F) f L26)) -∗ K ⟨⟩))
          ⊢ wp frame (wpE (defs₀ (F := F)) Variants.none c none) E (cc0_tail i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, fun E K => ?run⟩
  case run =>
    simp only [cc0_tail_eq_skeleton]; unfold cc0_tail_skel
    simp only [k0_part13_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%d26, %f26, -, H26⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24; obtain rfl := harg26.eq_unread hf25
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _; isplitr; · ipureintro; exact harg25.read_unread _
      iexact H24
    isplitl [H25]
    · iexists _; isplitr; · ipureintro; exact harg26.read_unread _
      iexact H25
    iexists _; iexact H26

end Cert.TailIdeal.Launch

end
-- ==== Proof.TailIdealFrame.lean ====
/- The tail's run over its grid, from the body's run: it ends, with the arguments as they were and the result array at what
   the points write back. -/
module

public import proofs.«01_k».proof.Proof.TailIdealRun
public import Idealize.ShloMosaic.Lib.Claim

@[expose] public section

set_option maxRecDepth 16384

noncomputable section

namespace Cert.TailIdeal.Launch

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The body's two stores cover its output block. -/
theorem cover0_A_26 (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x1536 .bf16) (harg4 : arg4.IsWhole) (arg5 : Memref sig .tc .vmem S256x512 .bf16) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .bf16) (harg8 : arg8.IsWhole) (arg9 : Memref sig .tc .vmem S256x256 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1024x2816 .bf16) (harg20 : arg20.IsWhole) (arg21 : Memref sig .tc .vmem S1024x2816 .bf16) (harg21 : arg21.IsWhole) (arg22 : Memref sig .tc .vmem S2816x1024 .bf16) (harg22 : arg22.IsWhole) (arg23 : Memref sig .tc .vmem S256x1024 .bf16) (harg23 : arg23.IsWhole) (arg24 : Memref sig .tc .vmem S1024x1024 .bf16) (harg24 : arg24.IsWhole) (arg25 : Memref sig .tc .vmem S1x1024 .f32) (harg25 : arg25.IsWhole) (arg26 : Memref sig .tc .vmem S1x1024 .f32) (harg26 : arg26.IsWhole) (arg27 : Memref sig .tc .vmem S256x1024 .f32) (harg27 : arg27.IsWhole)
    (x0 : Vec F S256x1024 .f32) (x1 : Vec F S256x512 .f32) (x2 : Vec F S256x512 .f32) (x3 : Vec F S256x1536 .bf16) (x4 : Vec F S256x512 .bf16) (x5 : Vec F S256x512 .f32) (x6 : Vec F S256x512 .f32) (x7 : Vec F S256x512 .bf16) (x8 : Vec F S256x256 .f32) (x9 : Vec F S512x512 .bf16) (x10 : Vec F S1x512 .f32) (x11 : Vec F S1x512 .f32) (x12 : Vec F S1x512 .f32) (x13 : Vec F S1x128 .f32) (x14 : Vec F S512x1024 .bf16) (x15 : Vec F S512x1024 .bf16) (x16 : Vec F S1x1024 .f32) (x17 : Vec F S1x1024 .f32) (x18 : Vec F S1x1024 .f32) (x19 : Vec F S1024x2816 .bf16) (x20 : Vec F S1024x2816 .bf16) (x21 : Vec F S2816x1024 .bf16) (x22 : Vec F S256x1024 .bf16) (x23 : Vec F S1024x1024 .bf16) (x24 : Vec F S1x1024 .f32) (x25 : Vec F S1x1024 .f32) (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23 x24 x25).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23 x24 x25).1 S128x1024.size (by sl_kernel_rfl) y

/-- The output block that the stores leave. -/
def out0_A_26 (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x1536 .bf16) (harg4 : arg4.IsWhole) (arg5 : Memref sig .tc .vmem S256x512 .bf16) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .bf16) (harg8 : arg8.IsWhole) (arg9 : Memref sig .tc .vmem S256x256 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1024x2816 .bf16) (harg20 : arg20.IsWhole) (arg21 : Memref sig .tc .vmem S1024x2816 .bf16) (harg21 : arg21.IsWhole) (arg22 : Memref sig .tc .vmem S2816x1024 .bf16) (harg22 : arg22.IsWhole) (arg23 : Memref sig .tc .vmem S256x1024 .bf16) (harg23 : arg23.IsWhole) (arg24 : Memref sig .tc .vmem S1024x1024 .bf16) (harg24 : arg24.IsWhole) (arg25 : Memref sig .tc .vmem S1x1024 .f32) (harg25 : arg25.IsWhole) (arg26 : Memref sig .tc .vmem S1x1024 .f32) (harg26 : arg26.IsWhole) (arg27 : Memref sig .tc .vmem S256x1024 .f32) (harg27 : arg27.IsWhole)
    (x0 : Vec F S256x1024 .f32) (x1 : Vec F S256x512 .f32) (x2 : Vec F S256x512 .f32) (x3 : Vec F S256x1536 .bf16) (x4 : Vec F S256x512 .bf16) (x5 : Vec F S256x512 .f32) (x6 : Vec F S256x512 .f32) (x7 : Vec F S256x512 .bf16) (x8 : Vec F S256x256 .f32) (x9 : Vec F S512x512 .bf16) (x10 : Vec F S1x512 .f32) (x11 : Vec F S1x512 .f32) (x12 : Vec F S1x512 .f32) (x13 : Vec F S1x128 .f32) (x14 : Vec F S512x1024 .bf16) (x15 : Vec F S512x1024 .bf16) (x16 : Vec F S1x1024 .f32) (x17 : Vec F S1x1024 .f32) (x18 : Vec F S1x1024 .f32) (x19 : Vec F S1024x2816 .bf16) (x20 : Vec F S1024x2816 .bf16) (x21 : Vec F S2816x1024 .bf16) (x22 : Vec F S256x1024 .bf16) (x23 : Vec F S1024x1024 .bf16) (x24 : Vec F S1x1024 .f32) (x25 : Vec F S1x1024 .f32) : Vec F S256x1024 .f32 :=
  VO0_26.read (Elt F) (VO0_26.writes (Elt F) VO0_26.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23 x24 x25).1)

/-! ## What the outputs hold after each point -/

/-- The output block after the body at a grid point. -/
def outsAt0 (c : Dev nD) (t : Fin cfg0.N) : Vec F S256x1024 .f32 :=
  out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)

/-! ## The pipeline's proof data -/

/-- The pipeline's data: the arrays as found, and each window's block after the body, point by point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => (outsAt0 m c t)
    | ⟨_ + 27, h⟩ => absurd h (Nat.not_lt.2 (Nat.le_add_left _ _))
  Φ _ := Pipeline.ΦA spec0 c
  q w := Pipeline.shareOf spec0 w
  owed _ := 0

/-- The arrays are as found when the grid is entered. -/
theorem A_eq (c : Dev nD) (w : Fin cfg0.W) : (dats m 0 c).A w = V m c (Pipeline.arrRef spec0 w) := by
  dsimp only [dats]

/-- What the body leaves in each window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = (outsAt0 m c t) := by dsimp only [dats]

/-- What the body finds in each input window. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d

/-! ## The body obligation, at a generic point -/

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d)))

/-- What the body gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t))

set_option maxHeartbeats 2400000 in
/-- The body at a point turns the one into the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  unfold outsAt0
  unfold out0_A_26
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexists _; iexact H26
  iintro ⟨H0, H1, H2, H3, H4, H5, H6, H7, H8, H9, H10, H11, H12, H13, H14, H15, H16, H17, H18, H19, H20, H21, H22, H23, H24, H25, ⟨%e26, H26⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  unfold owns; iexists _; isplitr
  swap; · iexact H26
  ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body that the grid calls at a point. -/
theorem defs₀_row (t : Fin cfg0.N) :
    defs₀ (F := F) .tc cfg0.body (cfg0.bodyArgs t (cfg0.slots t)) = bodyAt0 t := by
  unfold defs₀; rw [Defs.onTc_tc]

set_option maxHeartbeats 2400000 in
/-- What the grid asks of its body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The run ends with the pipeline's arrays as its data say and with every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The run ends with the pipeline's arrays as its data say. -/
theorem run_main : θ_run defs (onTc (τ := τ) (main (F := F))) (s₀ m ρ) (Pipeline.FramePost cfgs (dats m) 0 (V m)) :=
  (θ_run defs _ _).mono (fun _ h => h.1) (run_main_quiescent m ρ)

/-- The run leaves the arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  frame_of m ρ (dats m) (A_eq m) (run_main m ρ)

/-- The run ends, leaves the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22))
      ∧ r.2.sem = fun _ => 0) :=
  θ_run_and (unchanged m ρ) ((θ_run defs _ _).mono (fun _ h => h.2) (run_main_quiescent m ρ))

/-- The run ends with the result array at what the points write back, and the arguments as they were. -/
theorem run_result : θ_run defs (onTc (τ := τ) (main (F := F))) ⟨m, fun _ => 0, ρ⟩ fun r => ∀ c : Dev nD,
      r.2.mem ((c : Thread nD τ).loc main_v25) = (dats m 0 c).arrAt 26 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22) :=
  (θ_run defs _ _).mono (fun _ h c => ⟨(h.1 c).1 26, h.2 c⟩) (θ_run_and (run_main m ρ) (unchanged m ρ))

end Cert.TailIdeal.Launch

end
-- ==== Proof.Finite.lean ====
/- The precondition read: every element of both arguments is a real number. -/
module

public import proofs.«01_k».proof.Defs
public import proofs.«01_k».proof.Proof.Gen.Pre_finite_inputs
public import Idealize.ShloMosaic.Lib.ReduceAll

@[expose] public section

set_option maxRecDepth 16384

noncomputable section

namespace Cert.Finite

open Cert.Pre_finite_inputs Cert.Pre_finite_inputs.Gen Idealize.ShloMosaic

/-- The word of the infinity reads as the infinity. -/
theorem infinity_word : (FloatOps.ofBits (F := Ideal) (φ := .f32) 0x7F800000#32 : EReal) = ⊤ := by
  show Ideal.ofBits .f32 _ = ⊤
  simp [Ideal.ofBits, Ideal.ieee]

/-- An extended real whose absolute value is below the infinity is a real number. -/
theorem real_of_abs {x : EReal} (h : max x (-x) < ⊤) : x = ((x.toReal : ℝ) : EReal) := by
  refine (EReal.coe_toReal (fun e => ?_) (fun e => ?_)).symm <;> simp [e] at h

/-- Below the infinity, as the comparison answers it, is below it. -/
theorem below {x y : EReal} (h : Ideal.cmp .olt x y = 1#1) : x < y := by
  by_contra hn
  simp [Ideal.cmp, hn] at h

/-- A conjunction of two one-bit words that is one has both one. -/
theorem both_one {a b : BitVec 1} (h : a &&& b = 1#1) : a = 1#1 ∧ b = 1#1 := by
  revert a b; decide

/-- Both arguments hold real numbers where the precondition is all ones. -/
theorem reals {p : FVec Ideal S8x4096x3072 .bf16} {g : FVec Ideal S8x4096x1024 .f32} (h : fn (F := Ideal) p g = fun _ => 1#1) :
    (∀ i, p i = (((p i : EReal).toReal : ℝ) : EReal)) ∧ (∀ i, g i = (((g i : EReal).toReal : ℝ) : EReal)) := by
  have h0 := congrFun h (fun a => a.elim0)
  simp only [fn] at h0
  obtain ⟨hp, hg⟩ := both_one h0
  haveI : Subsingleton S_.Idx := ⟨fun a b => funext fun i => i.elim0⟩
  constructor
  · intro i
    have hi := below (Host.reduce_andi_all _ _ _ _ _ hp i)
    exact real_of_abs (lt_of_lt_of_eq hi infinity_word)
  · intro i
    have hi := below (Host.reduce_andi_all _ _ _ _ _ hg i)
    exact real_of_abs (lt_of_lt_of_eq hi infinity_word)

end Cert.Finite

end
-- ==== Proof.Tile.lean ====
/- One chunk of one row, one direction and one pair of heads of the scan, as a function of the vectors it loads:
   what it stores into the output block and what it leaves in its slot of the carried state. The direction is a
   parameter (`rev`: the rows are visited last to first), and so is the pair's first lane. -/
module

public import proofs.«01_k».proof.Proof.Gen.KernelIdeal

@[expose] public section

noncomputable section

namespace Cert.KernelIdeal.Tile

open Cert.KernelIdeal Cert.KernelIdeal.Gen Idealize.ShloMosaic

/-! ## Masks -/

/-- The lanes of the pair's first head. -/
def firstHead : IVec S64x128 1 := cmpi .slt (iota .tc S64x128 32 [1] iota_S64x128_d1_w32) (broadcast S64x128 64#32)

/-- The divisor of the lane index, as the floor-modulus guards it. -/
def width : BitVec 32 := Scalar.select (Scalar.cmpi .eq 64#32 0#32) 1#32 64#32

/-- The lane index by `width`, truncated. -/
def laneRem : IVec S64x128 32 := remsi (iota .tc S64x128 32 [1] iota_S64x128_d1_w32) (broadcast S64x128 width)

/-- The lane index modulo 64. -/
def laneMod : IVec S64x128 32 :=
  select
    (andi
      (xori (cmpi .slt laneRem (broadcast S64x128 0#32))
        (broadcastTo S64x128 (broadcast S64x128 (Scalar.cmpi .slt width 0#32)) broadcasts_S64x128_S64x128))
      (cmpi .ne laneRem (broadcast S64x128 0#32)))
    (addi laneRem (broadcast S64x128 width)) laneRem

/-- The lane's source row is the row or one visited before it. -/
def upTo (rev : Bool) : IVec S64x128 1 :=
  cmpi (bif rev then .sge else .sle) laneMod (iota .tc S64x128 32 [0] iota_S64x128_d0_w32)

/-- The lane's source row is visited before the row. -/
def earlier (rev : Bool) : IVec S64x128 1 :=
  cmpi (bif rev then .sgt else .slt) laneMod (iota .tc S64x128 32 [0] iota_S64x128_d0_w32)

/-- The sign of a vector of words. -/
def signs (x : IVec S128x128 32) : IVec S128x128 32 :=
  subi (extui 32 (cmpi .sgt x (broadcast S128x128 0#32)) natLt_1_32)
    (extui 32 (cmpi .slt x (broadcast S128x128 0#32)) natLt_1_32)

/-- A vector of words divided by 64, rounded down. -/
def head (x : IVec S128x128 32) : IVec S128x128 32 :=
  select
    (andi
      (cmpi .ne (signs x)
        (broadcast S128x128 (Scalar.subi (Scalar.extui (Scalar.cmpi .sgt 64#32 0#32)) (Scalar.extui (Scalar.cmpi .slt 64#32 0#32)))))
      (cmpi .ne (remsi x (broadcast S128x128 64#32)) (broadcast S128x128 0#32)))
    (subi (divsi x (broadcast S128x128 64#32)) (broadcast S128x128 1#32))
    (divsi x (broadcast S128x128 64#32))

/-- Key lane and value lane belong to one head. -/
def sameHead : IVec S128x128 1 :=
  cmpi .eq (head (iota .tc S128x128 32 [0] iota_S128x128_d0_w32)) (head (iota .tc S128x128 32 [1] iota_S128x128_d1_w32))

variable {F : FTy → Type} [FloatOps F]

/-! ## The row's full-width operands -/

/-- A loaded row as a rectangle. -/
def rect {φ : FTy} (x : FVec F S1x64x512 φ) : FVec F S64x512 φ := shapeCast S64x512 x shapeCasts_S1x64x512_S64x512

/-- The decay sums before each row. -/
def priorG (rev : Bool) (g : Vec F S1x64x512 .f32) : FVec F S64x512 .f32 :=
  select
    (broadcastTo S64x512
      (shapeCast S64x1 (cmpi .eq (iota .tc S64x1 32 [0] iota_S64x1_d0_w32) (broadcast S64x1 (bif rev then 63#32 else 0#32)))
        shapeCasts_S64x1_S64x1) broadcasts_S64x1_S64x512)
    (broadcast S64x512 (Scalar.ofBits .f32 0x00000000#32))
    (dynamicRotate 0 (bif rev then 63#32 else 1#32) none (rect g) rotates_S64x512_d0)

/-- A row's chunk total keeps its place: the last row visited. -/
theorem slices_last (rev : Bool) : S64x512.Slices ![bif rev then 0 else 63, 0] S1x512 := by cases rev <;> decide

/-- The chunk's whole decay sums. -/
def total (rev : Bool) (g : Vec F S1x64x512 .f32) : FVec F S1x512 .f32 :=
  extractStridedSlice S1x512 ![bif rev then 0 else 63, 0] (rect g) (slices_last rev)

/-- `exp (− g)`. -/
def shrink (g : Vec F S1x64x512 .f32) : FVec F S64x512 .f32 :=
  exp (subf (broadcast S64x512 (Scalar.ofBits .f32 0x00000000#32)) (rect g))

/-- `exp (total − g)`. -/
def rest (rev : Bool) (g : Vec F S1x64x512 .f32) : FVec F S64x512 .f32 :=
  exp (subf (broadcastTo S64x512 (total rev g) broadcasts_S1x512_S64x512) (rect g))

/-- A loaded row widened. -/
def wide (x : Vec F S1x64x512 .bf16) : FVec F S64x512 .f32 := extf .f32 (rect x) bitsLt_bf16_f32

/-- Minus the normalised key, decayed to the row before. -/
def rowA (rev : Bool) (g : Vec F S1x64x512 .f32) (kk : Vec F S1x64x512 .bf16) : FVec F S64x512 .bf16 :=
  truncf .bf16 (mulf (subf (broadcast S64x512 (Scalar.ofBits .f32 0x00000000#32)) (wide kk)) (exp (priorG rev g))) bitsLt_bf16_f32

/-- The receptance, decayed. -/
def rowR (g : Vec F S1x64x512 .f32) (r : Vec F S1x64x512 .bf16) : FVec F S64x512 .bf16 :=
  truncf .bf16 (mulf (wide r) (exp (rect g))) bitsLt_bf16_f32

/-- A key scaled against the decay. -/
def rowT (g : Vec F S1x64x512 .f32) (x : Vec F S1x64x512 .bf16) : FVec F S64x512 .bf16 :=
  truncf .bf16 (mulf (wide x) (shrink g)) bitsLt_bf16_f32

/-- A key decayed to the chunk's end. -/
def rowH (rev : Bool) (g : Vec F S1x64x512 .f32) (x : Vec F S1x64x512 .bf16) : FVec F S64x512 .bf16 :=
  truncf .bf16 (mulf (wide x) (rest rev g)) bitsLt_bf16_f32

/-! ## The pair of heads -/

/-- A pair of heads is a slice of the row's lanes. -/
theorem slices_pair (p : Fin 4) : S64x512.Slices ![0, 128 * p.val] S64x128 := by revert p; decide

/-- So it is of the row's total. -/
theorem slices_pair_total (p : Fin 4) : S1x512.Slices ![0, 128 * p.val] S1x128 := by revert p; decide

/-- The lanes of pair `p`. -/
def pair {φ : FTy} (p : Fin 4) (x : FVec F S64x512 φ) : FVec F S64x128 φ :=
  extractStridedSlice S64x128 ![0, 128 * p.val] x (slices_pair p)

/-- One head's rows over the other's, each with the other head's lanes cleared. -/
def stack (x : FVec F S64x128 .bf16) : FVec F S128x128 .bf16 :=
  concatenate S128x128 0
    [⟨S64x128, select firstHead x (broadcast S64x128 (Scalar.ofBits .bf16 0x0000#16))⟩,
     ⟨S64x128, select firstHead (broadcast S64x128 (Scalar.ofBits .bf16 0x0000#16)) x⟩]
    concatenates_S64x128_S64x128_S128x128_d0

/-- Two rectangles one over the other. -/
def above (x y : FVec F S64x128 .bf16) : FVec F S128x128 .bf16 :=
  concatenate S128x128 0 [⟨S64x128, x⟩, ⟨S64x128, y⟩] concatenates_S64x128_S64x128_S128x128_d0

/-- Two squares one over the other. -/
def above2 (x y : FVec F S128x128 .bf16) : FVec F S256x128 .bf16 :=
  concatenate S256x128 0 [⟨S128x128, x⟩, ⟨S128x128, y⟩] concatenates_S128x128_S128x128_S256x128_d0

/-- All couplings between the rows at once: rows `a` over `r`, against `b` and `k`. -/
def grams (a r b k : FVec F S64x128 .bf16) : FVec F S128x256 .f32 :=
  matmul dot_S128x128_S256x128_S128x256_1_1_0_0_n_n none (above a r) (above2 (stack b) (stack k))
    (constant S128x256 .f32 0x00000000#32)

/-- `a` against `b`, strictly earlier rows. -/
def coupB (rev : Bool) (gm : FVec F S128x256 .f32) : FVec F S64x128 .f32 :=
  select (earlier rev) (extractStridedSlice S64x128 ![0, 0] gm slices_S128x256_o0_0_S64x128)
    (broadcast S64x128 (Scalar.ofBits .f32 0x00000000#32))

/-- `a` against `k`, strictly earlier rows. -/
def coupK (rev : Bool) (gm : FVec F S128x256 .f32) : FVec F S64x128 .f32 :=
  select (earlier rev) (extractStridedSlice S64x128 ![0, 128] gm slices_S128x256_o0_128_S64x128)
    (broadcast S64x128 (Scalar.ofBits .f32 0x00000000#32))

/-- `r` against `b` and `k`, earlier rows and the row itself. -/
def reads (rev : Bool) (gm : FVec F S128x256 .f32) : FVec F S64x256 .f32 :=
  select (concatenate S64x256 1 [⟨S64x128, upTo rev⟩, ⟨S64x128, upTo rev⟩] concatenates_S64x128_S64x128_S64x256_d1)
    (extractStridedSlice S64x256 ![64, 0] gm slices_S128x256_o64_0_S64x256)
    (broadcast S64x256 (Scalar.ofBits .f32 0x00000000#32))

/-- The system's right-hand side. -/
def start (rev : Bool) (gm : FVec F S128x256 .f32) (a v : FVec F S64x128 .bf16) (h : FVec F S128x128 .f32) : FVec F S64x128 .f32 :=
  matmul dot_S64x256_S256x128_S64x128_1_0_0_1_n_n none
    (concatenate S64x256 1 [⟨S64x128, a⟩, ⟨S64x128, truncf .bf16 (coupK rev gm) bitsLt_bf16_f32⟩] concatenates_S64x128_S64x128_S64x256_d1)
    (above2 (truncf .bf16 h bitsLt_bf16_f32) (stack v)) (constant S64x128 .f32 0x00000000#32)

/-- Both products of one level of doubling. -/
def level (p z : FVec F S64x128 .f32) : FVec F S64x256 .f32 :=
  matmul dot_S64x128_S128x256_S64x256_1_0_0_1_n_n none (truncf .bf16 p bitsLt_bf16_f32)
    (concatenate S128x256 1 [⟨S128x128, stack (truncf .bf16 z bitsLt_bf16_f32)⟩, ⟨S128x128, stack (truncf .bf16 p bitsLt_bf16_f32)⟩]
      concatenates_S128x128_S128x128_S128x256_d1)
    (constant S64x256 .f32 0x00000000#32)

/-- The right-hand side after one level. -/
def levelZ (p z : FVec F S64x128 .f32) : FVec F S64x128 .f32 :=
  addf z (extractStridedSlice S64x128 ![0, 0] (level p z) slices_S64x256_o0_0_S64x128)

/-- The coupling after one level. -/
def levelP (p z : FVec F S64x128 .f32) : FVec F S64x128 .f32 :=
  extractStridedSlice S64x128 ![0, 128] (level p z) slices_S64x256_o0_128_S64x128

/-- Coupling and right-hand side after `n` levels. -/
def climb (p z : FVec F S64x128 .f32) : ℕ → FVec F S64x128 .f32 × FVec F S64x128 .f32
  | 0 => (p, z)
  | n + 1 => (levelP (climb p z n).1 (climb p z n).2, levelZ (climb p z n).1 (climb p z n).2)

/-- The last level, which needs no further coupling. -/
def lastLevel (p z : FVec F S64x128 .f32) : FVec F S64x128 .f32 :=
  addf z (matmul dot_S64x128_S128x128_S64x128_1_0_0_1_n_n none (truncf .bf16 p bitsLt_bf16_f32)
    (stack (truncf .bf16 z bitsLt_bf16_f32)) (constant S64x128 .f32 0x00000000#32))

/-- The system's solution. -/
def solve (p z : FVec F S64x128 .f32) : FVec F S64x128 .f32 := lastLevel (climb p z 5).1 (climb p z 5).2

/-- The chunk's output. -/
def outputs (rev : Bool) (gm : FVec F S128x256 .f32) (r v : FVec F S64x128 .bf16) (u : FVec F S64x128 .f32) (h : FVec F S128x128 .f32) :
    FVec F S64x128 .f32 :=
  addf
    (matmul dot_S64x128_S128x128_S64x128_1_0_0_1_n_n none r (truncf .bf16 h bitsLt_bf16_f32) (constant S64x128 .f32 0x00000000#32))
    (matmul dot_S64x256_S256x128_S64x128_1_0_0_1_n_n none (truncf .bf16 (reads rev gm) bitsLt_bf16_f32)
      (above2 (stack (truncf .bf16 u bitsLt_bf16_f32)) (stack v)) (constant S64x128 .f32 0x00000000#32))

/-- The whole chunk's decay of each key lane, down the rows of the state. -/
def carry (p : Fin 4) (tot : FVec F S1x512 .f32) : FVec F S128x128 .f32 :=
  transpose S128x128 [1, 0]
    (broadcastTo S128x128
      (shapeCast S1x128 (exp (extractStridedSlice S1x128 ![0, 128 * p.val] tot (slices_pair_total p))) shapeCasts_S1x128_S1x128)
      broadcasts_S1x128_S128x128)
    transposes_S128x128_p1_0_S128x128

/-- The state after the chunk. -/
def state (p : Fin 4) (tot : FVec F S1x512 .f32) (b k v : FVec F S64x128 .bf16) (u : FVec F S64x128 .f32) (h : FVec F S128x128 .f32) :
    FVec F S128x128 .f32 :=
  addf (mulf h (carry p tot))
    (select sameHead
      (matmul dot_S128x128_S128x128_S128x128_0_0_1_1_n_n none (above b k) (above (truncf .bf16 u bitsLt_bf16_f32) v)
        (constant S128x128 .f32 0x00000000#32))
      (broadcast S128x128 (Scalar.ofBits .f32 0x00000000#32)))

/-! ## The chunk from its loads -/

section Loads

variable (rev : Bool) (p : Fin 4) (g : Vec F S1x64x512 .f32) (r k v kk b : Vec F S1x64x512 .bf16) (h : FVec F S128x128 .f32)

/-- The chunk's couplings. -/
def gramsAt : FVec F S128x256 .f32 :=
  grams (pair p (rowA rev g kk)) (pair p (rowR g r)) (pair p (rowT g b)) (pair p (rowT g k))

/-- The chunk's solved system. -/
def solvedAt : FVec F S64x128 .f32 :=
  solve (coupB rev (gramsAt rev p g r k kk b)) (start rev (gramsAt rev p g r k kk b) (pair p (rowA rev g kk)) (pair p (rect v)) h)

/-- The chunk's output. -/
def outputAt : FVec F S64x128 .f32 :=
  outputs rev (gramsAt rev p g r k kk b) (pair p (rowR g r)) (pair p (rect v)) (solvedAt rev p g r k v kk b h) h

/-- The state after the chunk. -/
def stateAt : FVec F S128x128 .f32 :=
  state p (total rev g) (pair p (rowH rev g b)) (pair p (rowH rev g k)) (pair p (rect v)) (solvedAt rev p g r k v kk b h) h

end Loads

end Cert.KernelIdeal.Tile

end
-- ==== Proof.Pieces.lean ====
/- The stores the kernel's body leaves, as families over the rows and the pairs of heads: each is the tile's output
   or state on the row's loads. -/
module

public import proofs.«01_k».proof.Proof.Gen.KernelIdeal.Frame.RunA
import all proofs.«01_k».proof.Proof.Gen.KernelIdeal.Frame.RunA
public import proofs.«01_k».proof.Proof.Gen.KernelIdeal.Frame.RunB
import all proofs.«01_k».proof.Proof.Gen.KernelIdeal.Frame.RunB
public import proofs.«01_k».proof.Proof.Tile

@[expose] public section

set_option maxRecDepth 65536

noncomputable section

namespace Cert.KernelIdeal.Tile

open Cert.KernelIdeal Cert.KernelIdeal.Gen Idealize.ShloMosaic Idealize.ShloMosaic.TcCoe

variable {F : FTy → Type} [FloatOps F]

/-! ## Loads -/

/-- A row's piece lies within the block. -/
theorem inb_row (row : Fin 4) : ∀ a, (![row.val, 0, 0] : Fin 3 → ℕ) a + S1x64x512.size a ≤ S4x64x512.size a := by
  revert row; decide

/-- A part's columns lie within the packed block. -/
theorem inb_part (j : Fin 5) : ∀ a, (![0, 0, 512 * j.val] : Fin 3 → ℕ) a + S4x64x512.size a ≤ S4x64x2560.size a := by
  revert j; decide

/-- A state's slot lies within the scratch. -/
theorem inb_slot (q : Fin 32) : ∀ a, (![q.val, 0, 0] : Fin 3 → ℕ) a + S1x128x128.size a ≤ S32x128x128.size a := by
  revert q; decide

/-- A pair's piece of a row lies within the output block. -/
theorem inb_out (row p : Fin 4) : ∀ a, (![row.val, 0, 128 * p.val] : Fin 3 → ℕ) a + S1x64x128.size a ≤ S4x64x512.size a := by
  revert row p; decide

/-- A row of a block of decay sums, as loaded. -/
def loadG (arg : Memref sig .tc .vmem S4x64x512 .f32) (harg : arg.IsWhole) (x : Vec F S4x64x512 .f32) (row : Fin 4) :
    FVec F S1x64x512 .f32 :=
  View.readAt (Elt F) arg.view (Rect.unit (s := S4x64x512) ![row.val, 0, 0] S1x64x512.size (inb_row row)).toLoadRect (harg.unread x)

/-- A row of the `j`-th part of a packed block, as loaded. -/
def loadP (arg : Memref sig .tc .vmem S4x64x2560 .bf16) (harg : arg.IsWhole) (x : Vec F S4x64x2560 .bf16) (j : Fin 5) (row : Fin 4) :
    FVec F S1x64x512 .bf16 :=
  View.readAt (Elt F) arg.view
    ((Rect.unit (s := S4x64x2560) ![0, 0, 512 * j.val] S4x64x512.size (inb_part j)).withinL
      (Rect.unit (s := S4x64x512) ![row.val, 0, 0] S1x64x512.size (inb_row row)).toLoadRect (fun _ => rfl)) (harg.unread x)

/-- The state's slot of a row, a direction and a pair. -/
def slotOf (row : Fin 4) (rev : Bool) (p : Fin 4) : Fin 32 := ⟨8 * row.val + (bif rev then 4 else 0) + p.val, by cases rev <;> simp <;> omega⟩

/-- A slot of the state, as loaded after the reset. -/
def loadReset (arg : Memref sig .tc .vmem S32x128x128 .f32) (q : Fin 32) : FVec F S128x128 .f32 :=
  shapeCast S128x128
    (arg.view.readCov
      [(⟨Rect.unit (s := S32x128x128) ![0, 0, 0] S32x128x128.size inb_S32x128x128_S32x128x128_0_0_0, k0_pay2 (F := F)⟩ : View.Piece (Elt F) S32x128x128 .f32)]
      (Rect.unit (s := S32x128x128) ![q.val, 0, 0] S1x128x128.size (inb_slot q)).toLoadRect) shapeCasts_S1x128x128_S128x128

/-- A slot of the state, as loaded when the point before left it. -/
def loadSlot (arg : Memref sig .tc .vmem S32x128x128 .f32) (harg : arg.IsWhole) (xs : Vec F S32x128x128 .f32) (q : Fin 32) :
    FVec F S128x128 .f32 :=
  shapeCast S128x128
    (View.readAt (Elt F) arg.view (Rect.unit (s := S32x128x128) ![q.val, 0, 0] S1x128x128.size (inb_slot q)).toLoadRect (harg.unread xs))
    shapeCasts_S1x128x128_S128x128

section Stores

variable (rev : Bool) (argP : Memref sig .tc .vmem S4x64x2560 .bf16) (hargP : argP.IsWhole)
  (argG : Memref sig .tc .vmem S4x64x512 .f32) (hargG : argG.IsWhole)
  (x : Vec F S4x64x2560 .bf16) (g : Vec F S4x64x512 .f32) (h : Fin 32 → FVec F S128x128 .f32)

/-- What the body stores into the output block for a row and a pair. -/
def storeOut (row p : Fin 4) : FVec F S1x64x128 .f32 :=
  shapeCast S1x64x128
    (outputAt rev p (loadG argG hargG g row) (loadP argP hargP x 0 row) (loadP argP hargP x 1 row) (loadP argP hargP x 2 row)
      (loadP argP hargP x 3 row) (loadP argP hargP x 4 row) (h (slotOf row rev p))) shapeCasts_S64x128_S1x64x128

/-- What the body stores into the state's slot for a row and a pair. -/
def storeState (row p : Fin 4) : FVec F S1x128x128 .f32 :=
  shapeCast S1x128x128
    (stateAt rev p (loadG argG hargG g row) (loadP argP hargP x 0 row) (loadP argP hargP x 1 row) (loadP argP hargP x 2 row)
      (loadP argP hargP x 3 row) (loadP argP hargP x 4 row) (h (slotOf row rev p))) shapeCasts_S128x128_S1x128x128

/-- The row and the pair of the `k`-th store of the output block, counted from the last. -/
def outRow (k : Fin 16) : Fin 4 := ⟨(15 - k.val) / 4, by omega⟩
/-- The pair that a store writes, last store first. -/
def outPair (k : Fin 16) : Fin 4 := ⟨(15 - k.val) % 4, by omega⟩

/-- The output block's stores, last first. -/
def piecesOut : List (View.Piece (Elt F) S4x64x512 .f32) :=
  List.ofFn fun k : Fin 16 =>
    ⟨Rect.unit (s := S4x64x512) ![(outRow k).val, 0, 128 * (outPair k).val] S1x64x128.size (inb_out (outRow k) (outPair k)),
      storeOut rev argP hargP argG hargG x g h (outRow k) (outPair k)⟩

end Stores

/-- The slot, and its row, direction and pair, of the `k`-th store of the state, counted from the last. -/
def stateSlot (k : Fin 32) : Fin 32 := ⟨31 - k.val, by omega⟩
/-- The row that a scratch slot belongs to. -/
def stateRow (q : Fin 32) : Fin 4 := ⟨q.val / 8, by omega⟩
/-- The direction that a scratch slot belongs to. -/
def stateDir (q : Fin 32) : Bool := q.val / 4 % 2 == 1
/-- The pair that a scratch slot belongs to. -/
def statePair (q : Fin 32) : Fin 4 := ⟨q.val % 4, by omega⟩

section Runs

variable (c : Dev nD) (i : grid0.Coords)
  (arg2 : Memref sig .tc .vmem S4x64x2560 .bf16) (harg2 : arg2.IsWhole) (arg3 : Memref sig .tc .vmem S4x64x512 .f32) (harg3 : arg3.IsWhole)
  (arg4 : Memref sig .tc .vmem S4x64x2560 .bf16) (harg4 : arg4.IsWhole) (arg5 : Memref sig .tc .vmem S4x64x512 .f32) (harg5 : arg5.IsWhole)
  (arg6 : Memref sig .tc .vmem S4x64x512 .f32) (harg6 : arg6.IsWhole) (arg7 : Memref sig .tc .vmem S4x64x512 .f32) (harg7 : arg7.IsWhole)
  (arg8 : Memref sig .tc .vmem S32x128x128 .f32) (harg8 : arg8.IsWhole)
  (x0 : Vec F S4x64x2560 .bf16) (x1 : Vec F S4x64x512 .f32) (x2 : Vec F S4x64x2560 .bf16) (x3 : Vec F S4x64x512 .f32)
  (xs : Vec F S32x128x128 .f32)

/-- The state's stores, last first, from the slots' contents. -/
def piecesState (h : Fin 32 → FVec F S128x128 .f32) : List (View.Piece (Elt F) S32x128x128 .f32) :=
  List.ofFn fun k : Fin 32 =>
    ⟨Rect.unit (s := S32x128x128) ![(stateSlot k).val, 0, 0] S1x128x128.size (inb_slot (stateSlot k)),
      bif stateDir (stateSlot k) then storeState true arg4 harg4 arg5 harg5 x2 x3 h (stateRow (stateSlot k)) (statePair (stateSlot k))
      else storeState false arg2 harg2 arg3 harg3 x0 x1 h (stateRow (stateSlot k)) (statePair (stateSlot k))⟩

/-- The forward output block's stores at a row's first chunk. -/
theorem runA_fwd (hc0) :
    (kernelRun0_A c i arg2 harg2 arg3 harg3 arg4 harg4 arg5 harg5 arg6 harg6 arg7 harg7 arg8 harg8 hc0 x0 x1 x2 x3).1
      = piecesOut false arg2 harg2 arg3 harg3 x0 x1 (loadReset arg8) := by
  sl_kernel_rfl

/-- The backward output block's stores at a row's first chunk. -/
theorem runA_bwd (hc0) :
    (kernelRun0_A c i arg2 harg2 arg3 harg3 arg4 harg4 arg5 harg5 arg6 harg6 arg7 harg7 arg8 harg8 hc0 x0 x1 x2 x3).2.1
      = piecesOut true arg4 harg4 arg5 harg5 x2 x3 (loadReset arg8) := by
  sl_kernel_rfl

/-- The state's stores at a row's first chunk: every slot's, after the reset of all of them. -/
theorem runA_state (hc0) :
    (kernelRun0_A c i arg2 harg2 arg3 harg3 arg4 harg4 arg5 harg5 arg6 harg6 arg7 harg7 arg8 harg8 hc0 x0 x1 x2 x3).2.2.1
      = piecesState arg2 harg2 arg3 harg3 arg4 harg4 arg5 harg5 x0 x1 x2 x3 (loadReset arg8)
        ++ [⟨Rect.unit (s := S32x128x128) ![0, 0, 0] S32x128x128.size inb_S32x128x128_S32x128x128_0_0_0, k0_pay2 (F := F)⟩] := by
  sl_kernel_rfl

/-- The forward output block's stores at a later chunk. -/
theorem runB_fwd (hc0) :
    (kernelRun0_B c i arg2 harg2 arg3 harg3 arg4 harg4 arg5 harg5 arg6 harg6 arg7 harg7 arg8 harg8 hc0 x0 x1 x2 x3 xs).1
      = piecesOut false arg2 harg2 arg3 harg3 x0 x1 (loadSlot arg8 harg8 xs) := by
  sl_kernel_rfl

/-- The backward output block's stores at a later chunk. -/
theorem runB_bwd (hc0) :
    (kernelRun0_B c i arg2 harg2 arg3 harg3 arg4 harg4 arg5 harg5 arg6 harg6 arg7 harg7 arg8 harg8 hc0 x0 x1 x2 x3 xs).2.1
      = piecesOut true arg4 harg4 arg5 harg5 x2 x3 (loadSlot arg8 harg8 xs) := by
  sl_kernel_rfl

/-- The state's stores at a later chunk. -/
theorem runB_state (hc0) :
    (kernelRun0_B c i arg2 harg2 arg3 harg3 arg4 harg4 arg5 harg5 arg6 harg6 arg7 harg7 arg8 harg8 hc0 x0 x1 x2 x3 xs).2.2.1
      = piecesState arg2 harg2 arg3 harg3 arg4 harg4 arg5 harg5 x0 x1 x2 x3 (loadSlot arg8 harg8 xs) := by
  sl_kernel_rfl

end Runs

end Cert.KernelIdeal.Tile

end
-- ==== Proof.Lanes.lean ====
/- The tile's operations read at an index, at the idealised values: lanes are named by head and place within the
   head, rows by number. -/
module

public import proofs.«01_k».proof.Proof.Tile
public import Idealize.ShloMosaic.Lib.Pointwise

@[expose] public section

set_option maxRecDepth 16384

noncomputable section

namespace Cert.KernelIdeal.Tile

open Cert.KernelIdeal Cert.KernelIdeal.Gen Idealize.ShloMosaic

/-- Lane `e` of head `d` of the pair. -/
def lane (d : Fin 2) (e : Fin 64) : Fin 128 := ⟨64 * d.val + e.val, by omega⟩

/-- A sum over the pair's lanes, head by head. -/
theorem sum_lanes (f : Fin 128 → EReal) : ∑ q, f q = ∑ d, ∑ e, f (lane d e) := by
  rw [← Fintype.sum_prod_type' fun d e => f (lane d e)]
  refine (Fintype.sum_equiv (finProdFinEquiv (m := 2) (n := 64)) _ _ fun x => ?_).symm
  exact congrArg f (Fin.ext (by simp [lane, finProdFinEquiv]; omega))

/-- A sum over the pair's lanes that one head alone feeds. -/
theorem sum_lanes_head (d : Fin 2) (f : Fin 128 → EReal) (hf : ∀ d' e, d' ≠ d → f (lane d' e) = 0) :
    ∑ q, f q = ∑ e, f (lane d e) := by
  rw [sum_lanes]
  exact Finset.sum_eq_single d (fun d' _ h => Finset.sum_eq_zero fun e _ => hf d' e h) fun h => absurd (Finset.mem_univ d) h

/-- Every lane is some head's. -/
theorem lane_surj (n : Fin 128) : n = lane ⟨n.val / 64, by omega⟩ ⟨n.val % 64, by omega⟩ :=
  Fin.ext (by simp only [lane]; omega)

/-- A row's place in the order of visiting. -/
def rank (rev : Bool) (t : Fin 64) : ℕ := bif rev then 63 - t.val else t.val

/-- The first head's lanes are those of head 0. -/
theorem firstHead_at (s : Fin 64) (d : Fin 2) (e : Fin 64) : firstHead (ix2 s (lane d e)) = if d = 0 then 1#1 else 0#1 := by
  pointwise [firstHead, lane]
  revert d e
  decide +kernel

/-- The lane's place within its head. -/
theorem laneMod_at (t : Fin 64) (d : Fin 2) (s : Fin 64) : laneMod (ix2 t (lane d s)) = BitVec.ofNat 32 s.val := by
  pointwise [laneMod, laneRem, width, lane]
  revert d s
  decide +kernel

/-- The mask of strictly earlier rows. -/
theorem earlier_at (rev : Bool) (t : Fin 64) (d : Fin 2) (s : Fin 64) :
    earlier rev (ix2 t (lane d s)) = if rank rev s < rank rev t then 1#1 else 0#1 := by
  pointwise [earlier, laneMod_at]
  revert rev t s
  decide +kernel

/-- The mask of rows up to the row itself. -/
theorem upTo_at (rev : Bool) (t : Fin 64) (d : Fin 2) (s : Fin 64) :
    upTo rev (ix2 t (lane d s)) = if rank rev s ≤ rank rev t then 1#1 else 0#1 := by
  pointwise [upTo, laneMod_at]
  revert rev t s
  decide +kernel

/-- The mask of one head's key and value lanes. -/
theorem sameHead_at (d' : Fin 2) (m : Fin 64) (d : Fin 2) (e : Fin 64) :
    sameHead (ix2 (lane d' m) (lane d e)) = if d' = d then 1#1 else 0#1 := by
  have hl : ∀ n : Fin 128, head (fun _ => BitVec.ofNat 32 n.val) (ix2 0 0) = BitVec.ofNat 32 (n.val / 64) := by
    pointwise [head, signs]
    decide +kernel
  have h0 : head (iota .tc S128x128 32 [0] iota_S128x128_d0_w32) (ix2 (lane d' m) (lane d e)) = BitVec.ofNat 32 d'.val := by
    refine Eq.trans ?_ ((hl (lane d' m)).trans (congrArg _ (by simp only [lane]; omega)))
    pointwise [head, signs]
  have h1 : head (iota .tc S128x128 32 [1] iota_S128x128_d1_w32) (ix2 (lane d' m) (lane d e)) = BitVec.ofNat 32 d.val := by
    refine Eq.trans ?_ ((hl (lane d e)).trans (congrArg _ (by simp only [lane]; omega)))
    pointwise [head, signs]
  pointwise [sameHead, h0, h1]
  exact (by decide : ∀ x y : Fin 2, IntOp.cmpi CmpIPredicate.eq (BitVec.ofNat 32 x.val) (BitVec.ofNat 32 y.val)
    = if x = y then 1#1 else 0#1) d' d

/-- A scalar select under a decided bit. -/
theorem select_ite {c : Prop} [Decidable c] (x y : EReal) : Scalar.select (if c then 1#1 else 0#1) x y = if c then x else y := by
  split <;> rfl

/-- The stacked rectangle at an index. -/
theorem stack_at (x : FVec Ideal S64x128 .bf16) (d' : Fin 2) (s : Fin 64) (d : Fin 2) (e : Fin 64) :
    stack x (ix2 (lane d' s) (lane d e)) = if d' = d then x (ix2 s (lane d e)) else 0 := by
  pointwise [stack]
  match d' with
  | 0 =>
    have h : (lane 0 s).val = s.val := by simp [lane]
    rw [dif_pos (by omega), firstHead_at, select_ite]
    simp only [h, eq_comm]
  | 1 =>
    have h : (lane 1 s).val - 64 = s.val := by simp [lane]
    rw [dif_neg (by simp [lane]), firstHead_at, select_ite]
    simp only [h]
    fin_cases d <;> rfl

/-- A product against a stacked rectangle: one head's part alone. -/
theorem sum_stack (f : Fin 128 → EReal) (x : FVec Ideal S64x128 .bf16) (d : Fin 2) (e : Fin 64) :
    ∑ q, f q * stack x (ix2 q (lane d e)) = ∑ s, f (lane d s) * x (ix2 s (lane d e)) := by
  rw [sum_lanes_head d _ fun d' s h => by rw [stack_at, if_neg h]; exact mul_zero _]
  exact Finset.sum_congr rfl fun s _ => by rw [stack_at, if_pos rfl]

/-- A product against a stacked rectangle's row: the row's own head alone. -/
theorem sum_stack_row (f : Fin 128 → EReal) (x : FVec Ideal S64x128 .bf16) (d : Fin 2) (s : Fin 64) :
    ∑ q, f q * stack x (ix2 (lane d s) q) = ∑ m, f (lane d m) * x (ix2 s (lane d m)) := by
  rw [sum_lanes_head d _ fun d' m h => by rw [stack_at, if_neg (Ne.symm h)]; exact mul_zero _]
  exact Finset.sum_congr rfl fun m _ => by rw [stack_at, if_pos rfl]

/-- One level's right-hand side. -/
theorem levelZ_at (p z : FVec Ideal S64x128 .f32) (t : Fin 64) (d : Fin 2) (e : Fin 64) :
    levelZ p z (ix2 t (lane d e)) = z (ix2 t (lane d e)) + ∑ s, p (ix2 t (lane d s)) * z (ix2 s (lane d e)) := by
  pointwise [levelZ, level]
  rw [sum_stack]
  pointwise []

/-- One level's coupling. -/
theorem levelP_at (p z : FVec Ideal S64x128 .f32) (t : Fin 64) (d : Fin 2) (e : Fin 64) :
    levelP p z (ix2 t (lane d e)) = ∑ s, p (ix2 t (lane d s)) * p (ix2 s (lane d e)) := by
  pointwise [levelP, level]
  rw [sum_stack]
  pointwise []

/-- The last level. -/
theorem lastLevel_at (p z : FVec Ideal S64x128 .f32) (t : Fin 64) (d : Fin 2) (e : Fin 64) :
    lastLevel p z (ix2 t (lane d e)) = z (ix2 t (lane d e)) + ∑ s, p (ix2 t (lane d s)) * z (ix2 s (lane d e)) := by
  pointwise [lastLevel]
  rw [sum_stack]
  pointwise []

/-- Rows `a` against `b` in the couplings. -/
theorem coupB_at (rev : Bool) (a r b k : FVec Ideal S64x128 .bf16) (t : Fin 64) (d : Fin 2) (s : Fin 64) :
    coupB rev (grams a r b k) (ix2 t (lane d s))
      = if rank rev s < rank rev t then ∑ m, a (ix2 t (lane d m)) * b (ix2 s (lane d m)) else 0 := by
  pointwise [coupB, grams, above, above2]
  rw [sum_stack_row, earlier_at, select_ite]

/-- Rows `a` against `k` in the couplings. -/
theorem coupK_at (rev : Bool) (a r b k : FVec Ideal S64x128 .bf16) (t : Fin 64) (d : Fin 2) (s : Fin 64) :
    coupK rev (grams a r b k) (ix2 t (lane d s))
      = if rank rev s < rank rev t then ∑ m, a (ix2 t (lane d m)) * k (ix2 s (lane d m)) else 0 := by
  pointwise [coupK, grams, above, above2]
  rw [sum_stack_row, earlier_at, select_ite]

/-- Rows `r` against `b` in the couplings. -/
theorem readsB_at (rev : Bool) (a r b k : FVec Ideal S64x128 .bf16) (t : Fin 64) (d : Fin 2) (s : Fin 64) :
    reads rev (grams a r b k) (ix2 t ⟨(lane d s).val, by omega⟩)
      = if rank rev s ≤ rank rev t then ∑ m, r (ix2 t (lane d m)) * b (ix2 s (lane d m)) else 0 := by
  pointwise [reads, grams, above, above2]
  rw [sum_stack_row, upTo_at, select_ite]

/-- Rows `r` against `k` in the couplings. -/
theorem readsK_at (rev : Bool) (a r b k : FVec Ideal S64x128 .bf16) (t : Fin 64) (d : Fin 2) (s : Fin 64) :
    reads rev (grams a r b k) (ix2 t ⟨128 + (lane d s).val, by omega⟩)
      = if rank rev s ≤ rank rev t then ∑ m, r (ix2 t (lane d m)) * k (ix2 s (lane d m)) else 0 := by
  pointwise [reads, grams, above, above2]
  rw [sum_stack_row, upTo_at, select_ite]

/-- The right-hand side. -/
theorem start_at (rev : Bool) (gm : FVec Ideal S128x256 .f32) (a v : FVec Ideal S64x128 .bf16) (h : FVec Ideal S128x128 .f32) (t : Fin 64) (d : Fin 2) (e : Fin 64) :
    start rev gm a v h (ix2 t (lane d e)) = (∑ q, a (ix2 t q) * h (ix2 q (lane d e))) + ∑ s, coupK rev gm (ix2 t (lane d s)) * v (ix2 s (lane d e)) := by
  pointwise [start, above2]
  rw [sum_stack]

/-- The outputs. -/
theorem outputs_at (rev : Bool) (gm : FVec Ideal S128x256 .f32) (r v : FVec Ideal S64x128 .bf16) (u : FVec Ideal S64x128 .f32) (h : FVec Ideal S128x128 .f32) (t : Fin 64) (d : Fin 2) (e : Fin 64) :
    outputs rev gm r v u h (ix2 t (lane d e)) = (∑ q, r (ix2 t q) * h (ix2 q (lane d e)))
      + ((∑ s, reads rev gm (ix2 t ⟨(lane d s).val, by omega⟩) * u (ix2 s (lane d e)))
        + ∑ s, reads rev gm (ix2 t ⟨128 + (lane d s).val, by omega⟩) * v (ix2 s (lane d e))) := by
  pointwise [outputs, above2]
  rw [sum_stack fun q => reads rev gm (ix2 t ⟨q.val, by omega⟩), sum_stack fun q => reads rev gm (ix2 t ⟨128 + q.val, by omega⟩)]
  pointwise []

/-- The state after the chunk. -/
theorem state_at (p : Fin 4) (tot : FVec Ideal S1x512 .f32) (b k v : FVec Ideal S64x128 .bf16) (u : FVec Ideal S64x128 .f32) (h : FVec Ideal S128x128 .f32)
    (d' : Fin 2) (m : Fin 64) (d : Fin 2) (e : Fin 64) :
    state p tot b k v u h (ix2 (lane d' m) (lane d e)) =
      h (ix2 (lane d' m) (lane d e)) * Ideal.exp (tot (ix2 0 ⟨128 * p.val + (lane d' m).val, by have := (lane d' m).isLt; omega⟩))
      + if d' = d then (∑ s, b (ix2 s (lane d' m)) * u (ix2 s (lane d e))) + ∑ s, k (ix2 s (lane d' m)) * v (ix2 s (lane d e)) else 0 := by
  pointwise [state, above, carry]
  rw [sameHead_at, select_ite]

end Cert.KernelIdeal.Tile

end
-- ==== Proof.Rows.lean ====
/- The row's full-width operands at an index, at the idealised values. -/
module

public import proofs.«01_k».proof.Proof.Lanes

@[expose] public section

set_option maxRecDepth 16384

noncomputable section

namespace Cert.KernelIdeal.Tile

open Cert.KernelIdeal Cert.KernelIdeal.Gen Idealize.ShloMosaic

/-- The row visited just before. -/
def back (rev : Bool) (t : Fin 64) : Fin 64 := bif rev then ⟨(t.val + 1) % 64, by omega⟩ else ⟨(t.val + 63) % 64, by omega⟩

/-- The row visited last. -/
def final (rev : Bool) : Fin 64 := bif rev then 0 else 63

/-- Lane `n` of pair `p` in the row. -/
def wideLane (p : Fin 4) (n : Fin 128) : Fin 512 := ⟨128 * p.val + n.val, by omega⟩

/-- A pair's lanes in the row. -/
theorem pair_at {φ : FTy} (p : Fin 4) (x : FVec Ideal S64x512 φ) (t : Fin 64) (n : Fin 128) :
    pair p x (ix2 t n) = x (ix2 t (wideLane p n)) := by
  pointwise [pair, wideLane]

/-- A loaded row as a rectangle. -/
theorem rect_at {φ : FTy} (x : FVec Ideal S1x64x512 φ) (t : Fin 64) (n : Fin 512) : rect x (ix2 t n) = x (ix3 0 t n) := by
  pointwise [rect]

/-- The decay sums before each row. -/
theorem priorG_at (rev : Bool) (g : FVec Ideal S1x64x512 .f32) (t : Fin 64) (n : Fin 512) :
    priorG rev g (ix2 t n) = if rank rev t = 0 then 0 else g (ix3 0 (back rev t) n) := by
  pointwise [priorG, rect]
  have hm : IntOp.cmpi CmpIPredicate.eq (BitVec.ofNat 32 t.val) (bif rev then 63#32 else 0#32)
      = if rank rev t = 0 then 1#1 else 0#1 := by revert rev t; decide
  have hb : (⟨(t.val + 64 - (bif rev then 63#32 else 1#32).toNat % 64) % 64, by omega⟩ : Fin 64) = back rev t := by
    revert rev t; decide
  rw [hm, select_ite, hb]

/-- Minus the normalised key, decayed to the row before. -/
theorem rowA_at (rev : Bool) (g : FVec Ideal S1x64x512 .f32) (kk : FVec Ideal S1x64x512 .bf16) (t : Fin 64) (n : Fin 512) :
    rowA rev g kk (ix2 t n) = (0 - kk (ix3 0 t n)) * Ideal.exp (if rank rev t = 0 then 0 else g (ix3 0 (back rev t) n)) := by
  pointwise [rowA, wide, rect]
  rw [priorG_at]

/-- The receptance, decayed. -/
theorem rowR_at (g : FVec Ideal S1x64x512 .f32) (r : FVec Ideal S1x64x512 .bf16) (t : Fin 64) (n : Fin 512) :
    rowR g r (ix2 t n) = r (ix3 0 t n) * Ideal.exp (g (ix3 0 t n)) := by
  pointwise [rowR, wide, rect]

/-- A key scaled against the decay. -/
theorem rowT_at (g : FVec Ideal S1x64x512 .f32) (x : FVec Ideal S1x64x512 .bf16) (t : Fin 64) (n : Fin 512) :
    rowT g x (ix2 t n) = x (ix3 0 t n) * Ideal.exp (0 - g (ix3 0 t n)) := by
  pointwise [rowT, wide, rect, shrink]

/-- The chunk's whole decay sums. -/
theorem total_at (rev : Bool) (g : FVec Ideal S1x64x512 .f32) (n : Fin 512) :
    total rev g (ix2 0 n) = g (ix3 0 (final rev) n) := by
  cases rev <;> (pointwise [total, rect, final]; rfl)

/-- A key decayed to the chunk's end. -/
theorem rowH_at (rev : Bool) (g : FVec Ideal S1x64x512 .f32) (x : FVec Ideal S1x64x512 .bf16) (t : Fin 64) (n : Fin 512) :
    rowH rev g x (ix2 t n) = x (ix3 0 t n) * Ideal.exp (g (ix3 0 (final rev) n) - g (ix3 0 t n)) := by
  pointwise [rowH, wide, rect, rest]
  rw [total_at]

end Cert.KernelIdeal.Tile

end
-- ==== Proof.Stored.lean ====
/- The buffers the body leaves, read at an index: an output block and the state, as the tile's functions of a row's
   loads and of the state found there. -/
module

public import proofs.«01_k».proof.Proof.Pieces
public import proofs.«01_k».proof.Proof.Rows
public import Idealize.ShloMosaic.Lib.Pipeline.ValueKit
public import Idealize.ShloMosaic.Lib.WholeRead

@[expose] public section

set_option maxRecDepth 16384

noncomputable section

namespace Cert.KernelIdeal.Tile

open Cert.KernelIdeal Cert.KernelIdeal.Gen Idealize.ShloMosaic Idealize.ShloMosaic.TcCoe

/-- A row of a block of decay sums. -/
def rowG (g : Vec Ideal S4x64x512 .f32) (row : Fin 4) : FVec Ideal S1x64x512 .f32 := fun i => g (ix3 row (i 1) (i 2))

/-- Column `n` of the `j`-th part of the packed columns. -/
def partLane (j : Fin 5) (n : Fin 512) : Fin 2560 := ⟨512 * j.val + n.val, by omega⟩

/-- A row of the `j`-th part of a packed block. -/
def rowP (x : Vec Ideal S4x64x2560 .bf16) (j : Fin 5) (row : Fin 4) : FVec Ideal S1x64x512 .bf16 := fun i =>
  x (ix3 row (i 1) (partLane j (i 2)))

/-- A slot of the state. -/
def slotAt (xs : Vec Ideal S32x128x128 .f32) (q : Fin 32) : FVec Ideal S128x128 .f32 := fun i => xs (ix3 q (i 0) (i 1))

/-- A state read out of its slot. -/
theorem unslot_at (y : FVec Ideal S1x128x128 .f32) (a b : Fin 128) :
    (shapeCast S128x128 y shapeCasts_S1x128x128_S128x128) (ix2 a b) = y (ix3 0 a b) := by
  pointwise

/-- The whole state after the reset. -/
theorem reset_at (q : Fin 32) (a b : Fin 128) : k0_pay2 (F := Ideal) (ix3 q a b) = (0 : EReal) := by
  pointwise [k0_pay2]

/-- A row's loaded decay sums are the block's row. -/
theorem loadG_eq (arg : Memref sig .tc .vmem S4x64x512 .f32) (harg : arg.IsWhole) (x : Vec Ideal S4x64x512 .f32) (row : Fin 4) :
    loadG (F := Ideal) arg harg x row = rowG x row := by
  funext i
  refine (harg.readAt_unread _ _ _).trans ?_
  unfold rowG
  congr 1
  funext a
  apply Fin.ext
  have h0 : (i 0).val = 0 := by have := (i 0).isLt; change _ < 1 at this; omega
  fin_cases a
  · simp [ix3, Rect.idx_unit_val, h0]
  · simp [ix3, Rect.idx_unit_val]
  · simp [ix3, Rect.idx_unit_val]

/-- A row's loaded packed part is the block's row. -/
theorem loadP_eq (arg : Memref sig .tc .vmem S4x64x2560 .bf16) (harg : arg.IsWhole) (x : Vec Ideal S4x64x2560 .bf16) (j : Fin 5)
    (row : Fin 4) : loadP (F := Ideal) arg harg x j row = rowP x j row := by
  funext i
  refine (harg.readAt_unread _ _ _).trans ?_
  unfold rowP
  congr 1
  funext a
  apply Fin.ext
  have h0 : (i 0).val = 0 := by have := (i 0).isLt; change _ < 1 at this; omega
  fin_cases a
  · simp [ix3, h0, Rect.withinL, LoadRect.idx, Rect.unit]
  · simp [ix3, Rect.withinL, LoadRect.idx, Rect.unit]
  · simp [ix3, partLane, Rect.withinL, LoadRect.idx, Rect.unit]

/-- Where a slot's rectangle places an index. -/
theorem slot_idx (q : Fin 32) (a b : Fin 128) :
    (Rect.unit (s := S32x128x128) ![q.val, 0, 0] S1x128x128.size (inb_slot q)).toLoadRect.idx (ix3 (0 : Fin 1) a b) = ix3 q a b := by
  funext c
  apply Fin.ext
  fin_cases c
  · simp [ix3, Rect.idx_unit_val]
  · simp [ix3, Rect.idx_unit_val]
  · simp [ix3, Rect.idx_unit_val]

/-- A loaded slot is the scratch's. -/
theorem loadSlot_eq (arg : Memref sig .tc .vmem S32x128x128 .f32) (harg : arg.IsWhole) (xs : Vec Ideal S32x128x128 .f32) (q : Fin 32) :
    loadSlot (F := Ideal) arg harg xs q = slotAt xs q := by
  funext i
  obtain ⟨a, b, rfl⟩ : ∃ a b, i = ix2 a b := ⟨i 0, i 1, by funext a; fin_cases a <;> rfl⟩
  unfold loadSlot
  rw [unslot_at]
  refine (harg.readAt_unread _ _ _).trans ?_
  exact congrArg xs (slot_idx q a b)

/-- After the reset a loaded slot is zero. -/
theorem loadReset_at (arg : Memref sig .tc .vmem S32x128x128 .f32) (q : Fin 32) (a b : Fin 128) :
    loadReset (F := Ideal) arg q (ix2 a b) = (0 : EReal) := by
  unfold loadReset
  rw [unslot_at, View.readCov_eq_canon']
  refine Eq.trans ?_ (reset_at q a b)
  refine Eq.trans (congrFun (View.canon_cons_unit_lit inb_S32x128x128_S32x128x128_0_0_0 _ [] (by intro a; fin_cases a <;> rfl)) _) ?_
  exact congrArg (k0_pay2 (F := Ideal)) (slot_idx q a b)

section Stores

variable (rev : Bool) (argP : Memref sig .tc .vmem S4x64x2560 .bf16) (hargP : argP.IsWhole)
  (argG : Memref sig .tc .vmem S4x64x512 .f32) (hargG : argG.IsWhole)
  (x : Vec Ideal S4x64x2560 .bf16) (g : Vec Ideal S4x64x512 .f32) (h : Fin 32 → FVec Ideal S128x128 .f32)

/-- A row's and a pair's output from a block and the state found there. -/
def outOf (row p : Fin 4) (s : FVec Ideal S128x128 .f32) : FVec Ideal S64x128 .f32 :=
  outputAt (F := Ideal) rev p (rowG g row) (rowP x 0 row) (rowP x 1 row) (rowP x 2 row) (rowP x 3 row) (rowP x 4 row) s

/-- A row's and a pair's next state from a block and the state found there. -/
def stateOf (row p : Fin 4) (s : FVec Ideal S128x128 .f32) : FVec Ideal S128x128 .f32 :=
  stateAt (F := Ideal) rev p (rowG g row) (rowP x 0 row) (rowP x 1 row) (rowP x 2 row) (rowP x 3 row) (rowP x 4 row) s

/-- A stored output at an index. -/
theorem storeOut_at (row p : Fin 4) (t : Fin 64) (n : Fin 128) :
    storeOut (F := Ideal) rev argP hargP argG hargG x g h row p (ix3 0 t n) = outOf rev x g row p (h (slotOf row rev p)) (ix2 t n) := by
  unfold storeOut outOf
  rw [loadG_eq, loadP_eq, loadP_eq, loadP_eq, loadP_eq, loadP_eq]
  generalize outputAt (F := Ideal) rev p _ _ _ _ _ _ _ = y
  pointwise

/-- A stored state at an index. -/
theorem storeState_at (row p : Fin 4) (a b : Fin 128) :
    storeState (F := Ideal) rev argP hargP argG hargG x g h row p (ix3 0 a b) = stateOf rev x g row p (h (slotOf row rev p)) (ix2 a b) := by
  unfold storeState stateOf
  rw [loadG_eq, loadP_eq, loadP_eq, loadP_eq, loadP_eq, loadP_eq]
  generalize stateAt (F := Ideal) rev p _ _ _ _ _ _ _ = y
  pointwise

/-- An output block after its stores, at an index. -/
theorem piecesOut_at (row p : Fin 4) (t : Fin 64) (n : Fin 128) :
    View.canon (piecesOut (F := Ideal) rev argP hargP argG hargG x g h) (ix3 row t (wideLane p n)) = outOf rev x g row p (h (slotOf row rev p)) (ix2 t n) := by
  refine View.canon_ofFn_unit_eq_of_forall (S := S4x64x512) (Val := Elt Ideal) (e := .f32) (fun k : Fin 16 => ![(outRow k).val, 0, 128 * (outPair k).val]) S1x64x128.size
    (fun k => inb_out (outRow k) (outPair k)) (fun k => storeOut (F := Ideal) rev argP hargP argG hargG x g h (outRow k) (outPair k)) _ _ ?_ ?_
  · refine ⟨⟨15 - (4 * row.val + p.val), by omega⟩, fun a => ?_⟩
    have h1 := row.isLt; have h2 := p.isLt; have h3 := n.isLt; have h4 := t.isLt
    fin_cases a
    · simp [ix3, outRow]; omega
    · simp [ix3]
    · simp [ix3, outPair, wideLane]; omega
  · intro k
    intro y hy
    have h0 := hy 0; have h1 := hy 1; have h2 := hy 2
    obtain ⟨a, b, c, rfl⟩ : ∃ a b c, y = ix3 a b c := ⟨y 0, y 1, y 2, by funext a; fin_cases a <;> rfl⟩
    have ha : a = 0 := Subsingleton.elim (α := Fin 1) _ _
    subst ha
    have hc := c.isLt; have hk := k.isLt; have hn := n.isLt
    simp [ix3, wideLane] at h0 h1 h2
    have e0 : outRow k = row := Fin.ext h0.symm
    have e1 : outPair k = p := Fin.ext (by change _ < 128 at hc; omega)
    have e2 : c = n := Fin.ext (by rw [e1] at h2; omega)
    have e3 : b = t := Fin.ext h1.symm
    rw [e0, e1, e2, e3]
    exact storeOut_at rev argP hargP argG hargG x g h row p t n

end Stores

/-- A slot's row, pair and direction. -/
theorem slotOf_parts : ∀ (row : Fin 4) (rev : Bool) (p : Fin 4),
    stateRow (slotOf row rev p) = row ∧ statePair (slotOf row rev p) = p ∧ stateDir (slotOf row rev p) = rev := by decide

/-- The state after its stores, at an index, whatever was stored before them. -/
theorem piecesState_at (arg2 : Memref sig .tc .vmem S4x64x2560 .bf16) (harg2 : arg2.IsWhole) (arg3 : Memref sig .tc .vmem S4x64x512 .f32)
    (harg3 : arg3.IsWhole) (arg4 : Memref sig .tc .vmem S4x64x2560 .bf16) (harg4 : arg4.IsWhole) (arg5 : Memref sig .tc .vmem S4x64x512 .f32)
    (harg5 : arg5.IsWhole) (x0 : Vec Ideal S4x64x2560 .bf16) (x1 : Vec Ideal S4x64x512 .f32) (x2 : Vec Ideal S4x64x2560 .bf16)
    (x3 : Vec Ideal S4x64x512 .f32) (h : Fin 32 → FVec Ideal S128x128 .f32) (row : Fin 4) (rev : Bool) (p : Fin 4) (a b : Fin 128) :
    View.canon (piecesState (F := Ideal) arg2 harg2 arg3 harg3 arg4 harg4 arg5 harg5 x0 x1 x2 x3 h) (ix3 (slotOf row rev p) a b)
      = (bif rev then stateOf true x2 x3 row p (h (slotOf row true p)) else stateOf false x0 x1 row p (h (slotOf row false p))) (ix2 a b) := by
  refine View.canon_ofFn_unit_eq_of_forall (S := S32x128x128) (Val := Elt Ideal) (e := .f32) (fun k : Fin 32 => ![(stateSlot k).val, 0, 0]) S1x128x128.size
    (fun k => inb_slot (stateSlot k))
    (fun k => bif stateDir (stateSlot k) then storeState (F := Ideal) true arg4 harg4 arg5 harg5 x2 x3 h (stateRow (stateSlot k)) (statePair (stateSlot k))
      else storeState (F := Ideal) false arg2 harg2 arg3 harg3 x0 x1 h (stateRow (stateSlot k)) (statePair (stateSlot k))) _ _ ?_ ?_
  · refine ⟨⟨31 - (slotOf row rev p).val, by omega⟩, fun c => ?_⟩
    have h1 := (slotOf row rev p).isLt; have h3 := a.isLt; have h4 := b.isLt
    fin_cases c
    · simp [ix3, stateSlot]; omega
    · simp [ix3]
    · simp [ix3]
  · intro k
    intro y hy
    have h0 := hy 0; have h1 := hy 1; have h2 := hy 2
    obtain ⟨z, c, d, rfl⟩ : ∃ z c d, y = ix3 z c d := ⟨y 0, y 1, y 2, by funext a; fin_cases a <;> rfl⟩
    have hz : z = 0 := Subsingleton.elim (α := Fin 1) _ _
    subst hz
    simp [ix3] at h0 h1 h2
    have e0 : stateSlot k = slotOf row rev p := Fin.ext h0.symm
    have e1 : c = a := Fin.ext h1.symm
    have e2 : d = b := Fin.ext h2.symm
    obtain ⟨e3, e4, e5⟩ := slotOf_parts row rev p
    rw [e0, e1, e2, e3, e4, e5]
    cases rev
    · exact storeState_at false arg2 harg2 arg3 harg3 x0 x1 h row p a b
    · exact storeState_at true arg4 harg4 arg5 harg5 x2 x3 h row p a b

end Cert.KernelIdeal.Tile

end
-- ==== Proof.Scan.lean ====
/- The recurrence over the reals, token by token, as a function of the packed columns and of the decay sums. Both
   programs are proved to leave its readings. -/
module

public import Mathlib.Analysis.SpecialFunctions.Exp

@[expose] public section

noncomputable section

namespace Cert.Scan

/-- The token visited at step `τ`: the direction's own order. -/
def token (rev : Bool) (τ : ℕ) : Fin 4096 := bif rev then ⟨4095 - τ, by omega⟩ else ⟨τ % 4096, Nat.mod_lt _ (by omega)⟩

/-- Lane `m` of head `hd` in the `j`-th part of the packed columns. -/
def column (j : Fin 5) (hd : Fin 8) (m : Fin 64) : Fin 3072 := ⟨512 * j.val + (64 * hd.val + m.val), by omega⟩

/-- Lane `m` of head `hd` in a direction's decay sums. -/
def decayColumn (rev : Bool) (hd : Fin 8) (m : Fin 64) : Fin 1024 :=
  ⟨(bif rev then 512 else 0) + (64 * hd.val + m.val), by cases rev <;> simp <;> omega⟩

section Head

variable (P : Fin 8 → Fin 4096 → Fin 3072 → ℝ) (G : Fin 8 → Fin 4096 → Fin 1024 → ℝ) (rev : Bool) (b : Fin 8) (hd : Fin 8)

/-- The `j`-th part at step `τ`: receptance, key, value, removal key, replacement weight. -/
def part (j : Fin 5) (τ : ℕ) (m : Fin 64) : ℝ := P b (token rev τ) (column j hd m)

/-- The decay sum at step `τ`, restarted every 64 steps. -/
def decaySum (τ : ℕ) (m : Fin 64) : ℝ := G b (token rev τ) (decayColumn rev hd m)

/-- The decay sum before step `τ`. -/
def decaySumBefore (τ : ℕ) (m : Fin 64) : ℝ := if τ % 64 = 0 then 0 else decaySum G rev b hd (τ - 1) m

/-- The decay of step `τ`. -/
def decay (τ : ℕ) (m : Fin 64) : ℝ := Real.exp (decaySum G rev b hd τ m - decaySumBefore G rev b hd τ m)

/-- The state before step `τ`, at key lane `m` and value lane `e`: decayed, its answer to the removal key moved along the
replacement weight, and the step's value added along its key. -/
def state : ℕ → Fin 64 → Fin 64 → ℝ
  | 0 => fun _ _ => 0
  | τ + 1 => fun m e =>
      state τ m e * decay G rev b hd τ m + (∑ m', state τ m' e * (-part P rev b hd 3 τ m')) * part P rev b hd 4 τ m
        + part P rev b hd 2 τ e * part P rev b hd 1 τ m

/-- What step `τ` reads out of the state it leaves. -/
def reading (τ : ℕ) (e : Fin 64) : ℝ := ∑ m, state P G rev b hd (τ + 1) m e * part P rev b hd 0 τ m

end Head

end Cert.Scan

end
-- ==== Proof.Core.lean ====
/- The mathematics of one chunk of the delta-rule recurrence, over the reals, for one head, one direction and one
   value channel: the blocked form (a triangular system solved by repeated squaring, then two products) leaves the
   same outputs and the same state as the recurrence run row by row. -/
module

public import Mathlib.Analysis.SpecialFunctions.Exp

@[expose] public section

noncomputable section

namespace Cert.Core

/-- One squaring step on a matrix of row couplings. -/
def sq (P : Fin 64 → Fin 64 → ℝ) : Fin 64 → Fin 64 → ℝ := fun t s => ∑ c, P t c * P c s

/-- `x + P x`. -/
def push (P : Fin 64 → Fin 64 → ℝ) (z : Fin 64 → ℝ) : Fin 64 → ℝ := fun t => z t + ∑ c, P t c * z c

/-- The matrix after `l` squarings. -/
def pows (P : Fin 64 → Fin 64 → ℝ) : ℕ → Fin 64 → Fin 64 → ℝ
  | 0 => P
  | l + 1 => sq (pows P l)

/-- The right-hand side after `l` levels of doubling. -/
def levels (P : Fin 64 → Fin 64 → ℝ) (z : Fin 64 → ℝ) : ℕ → Fin 64 → ℝ
  | 0 => z
  | l + 1 => push (pows P l) (levels P z l)

/-- A coupling that only reaches rows earlier by `2 ^ l` places after `l` squarings. -/
theorem pows_reach (P : Fin 64 → Fin 64 → ℝ) (rk : Fin 64 → ℕ)
    (hP : ∀ t s, ¬ rk s < rk t → P t s = 0) (l : ℕ) :
    ∀ t s, ¬ rk s + 2 ^ l ≤ rk t → pows P l t s = 0 := by
  induction l with
  | zero => intro t s h; exact hP t s (by rw [pow_zero] at h; omega)
  | succ l ih =>
    intro t s h
    show ∑ c, pows P l t c * pows P l c s = 0
    refine Finset.sum_eq_zero fun c _ => ?_
    by_cases h1 : rk c + 2 ^ l ≤ rk t
    · by_cases h2 : rk s + 2 ^ l ≤ rk c
      · exact absurd (by rw [pow_succ]; omega) h
      · rw [ih c s h2, mul_zero]
    · rw [ih t c h1, zero_mul]

/-- A solution of `x = z + P x` stays one along the levels. -/
theorem levels_fix (P : Fin 64 → Fin 64 → ℝ) (z x : Fin 64 → ℝ) (hx : ∀ t, x t = z t + ∑ c, P t c * x c) (l : ℕ) :
    ∀ t, x t = levels P z l t + ∑ c, pows P l t c * x c := by
  induction l with
  | zero => exact hx
  | succ l ih =>
    intro t
    have h2 : ∑ c, pows P (l + 1) t c * x c = ∑ c, pows P l t c * ∑ d, pows P l c d * x d := by
      simp only [pows, sq, Finset.sum_mul, Finset.mul_sum]
      rw [Finset.sum_comm]
      exact Finset.sum_congr rfl fun c _ => Finset.sum_congr rfl fun d _ => by ring
    have h1 : levels P z (l + 1) t = levels P z l t + ∑ c, pows P l t c * levels P z l c := rfl
    rw [h1, h2, add_assoc, ← Finset.sum_add_distrib]
    refine (ih t).trans ?_
    congr 1
    exact Finset.sum_congr rfl fun c _ => by rw [← mul_add, ← ih c]

/-- Six levels solve a strictly triangular system of 64 rows. -/
theorem levels_solve (P : Fin 64 → Fin 64 → ℝ) (z x : Fin 64 → ℝ) (rk : Fin 64 → ℕ) (hrk : ∀ t, rk t < 64)
    (hP : ∀ t s, ¬ rk s < rk t → P t s = 0) (hx : ∀ t, x t = z t + ∑ c, P t c * x c) :
    ∀ t, levels P z 6 t = x t := by
  intro t
  rw [levels_fix P z x hx 6 t, Finset.sum_eq_zero, add_zero]
  intro c _
  rw [pows_reach P rk hP 6 t c (by have := hrk t; omega), zero_mul]

section Chunk

variable (rk : Fin 64 → ℕ)
  (G : ℕ → Fin 64 → ℝ) (r k kk b : Fin 64 → Fin 64 → ℝ) (v : Fin 64 → ℝ) (h : Fin 64 → ℝ)

/-- The strictly triangular coupling of the chunk's rows. -/
def coupling (t s : Fin 64) : ℝ :=
  if rk s < rk t then ∑ m, -kk t m * Real.exp (G (rk t) m) * (b s m * Real.exp (-G (rk s + 1) m)) else 0

/-- The system's right-hand side. -/
def rhs (t : Fin 64) : ℝ :=
  (∑ m, -kk t m * Real.exp (G (rk t) m) * h m)
    + ∑ s, (if rk s < rk t then ∑ m, -kk t m * Real.exp (G (rk t) m) * (k s m * Real.exp (-G (rk s + 1) m)) else 0) * v s

/-- What the blocked form adds to the state for each row. -/
def solved (t : Fin 64) : ℝ := levels (coupling rk G kk b) (rhs rk G k kk v h) 6 t

/-- The blocked form's output at a row. -/
def blockOut (t : Fin 64) : ℝ :=
  (∑ m, r t m * Real.exp (G (rk t + 1) m) * h m)
    + ((∑ s, (if rk s ≤ rk t then ∑ m, r t m * Real.exp (G (rk t + 1) m) * (b s m * Real.exp (-G (rk s + 1) m)) else 0)
          * solved rk G k kk b v h s)
      + ∑ s, (if rk s ≤ rk t then ∑ m, r t m * Real.exp (G (rk t + 1) m) * (k s m * Real.exp (-G (rk s + 1) m)) else 0) * v s)

/-- The blocked form's state after the chunk. -/
def blockState (m : Fin 64) : ℝ :=
  h m * Real.exp (G 64 m)
    + ((∑ s, b s m * Real.exp (G 64 m - G (rk s + 1) m) * solved rk G k kk b v h s)
      + ∑ s, k s m * Real.exp (G 64 m - G (rk s + 1) m) * v s)

variable (S : ℕ → Fin 64 → ℝ)

/-- The recurrence's own correction term at a row: the state read at minus the row's normalised key. -/
def corr (t : Fin 64) : ℝ := ∑ m, S (rk t) m * (-kk t m)

variable (hG : ∀ m, G 0 m = 0) (hinj : Function.Injective rk) (hlt : ∀ t, rk t < 64)
  (hsurj : ∀ j < 64, ∃ t, rk t = j) (h0 : ∀ m, S 0 m = h m)
  (hS : ∀ t m, S (rk t + 1) m = S (rk t) m * Real.exp (G (rk t + 1) m - G (rk t) m) + corr rk kk S t * b t m + v t * k t m)

include hG hinj hlt hsurj h0 hS in
/-- The state after `j` rows, unrolled. -/
theorem unrolled (j : ℕ) (hj : j ≤ 64) (m : Fin 64) :
    S j m = Real.exp (G j m) * (h m + ∑ s, if rk s < j then
      Real.exp (-G (rk s + 1) m) * (corr rk kk S s * b s m + v s * k s m) else 0) := by
  induction j with
  | zero => simp [hG, h0]
  | succ j ih =>
    obtain ⟨t, rfl⟩ := hsurj j (by omega)
    rw [hS t m, ih (by omega)]
    have hsum : (∑ s, if rk s < rk t + 1 then
          Real.exp (-G (rk s + 1) m) * (corr rk kk S s * b s m + v s * k s m) else 0)
        = (∑ s, if rk s < rk t then
          Real.exp (-G (rk s + 1) m) * (corr rk kk S s * b s m + v s * k s m) else 0)
          + Real.exp (-G (rk t + 1) m) * (corr rk kk S t * b t m + v t * k t m) := by
      have hone := Finset.sum_ite_eq' Finset.univ t fun s =>
        Real.exp (-G (rk s + 1) m) * (corr rk kk S s * b s m + v s * k s m)
      rw [if_pos (Finset.mem_univ t)] at hone
      rw [← hone, ← Finset.sum_add_distrib]
      refine Finset.sum_congr rfl fun s _ => ?_
      by_cases hst : s = t
      · subst hst; simp
      · have : rk s ≠ rk t := fun e => hst (hinj e)
        rw [if_neg hst, add_zero]
        exact if_congr (by omega) rfl rfl
    rw [hsum]
    have e1 : Real.exp (G (rk t + 1) m - G (rk t) m) * Real.exp (G (rk t) m) = Real.exp (G (rk t + 1) m) := by
      rw [← Real.exp_add]; congr 1; ring
    have e2 : Real.exp (G (rk t + 1) m) * Real.exp (-G (rk t + 1) m) = 1 := by
      rw [← Real.exp_add]; simp
    linear_combination (h m + ∑ s, if rk s < rk t then
          Real.exp (-G (rk s + 1) m) * (corr rk kk S s * b s m + v s * k s m) else 0) * e1 - (corr rk kk S t * b t m + v t * k t m) * e2

include hG hinj hlt hsurj h0 hS in
/-- A product against the state after `j` rows, unrolled. -/
theorem against (q : Fin 64 → ℝ) (j : ℕ) (hj : j ≤ 64) :
    ∑ m, q m * S j m = (∑ m, q m * Real.exp (G j m) * h m)
      + ((∑ s, (if rk s < j then ∑ m, q m * Real.exp (G j m) * (b s m * Real.exp (-G (rk s + 1) m)) else 0) * corr rk kk S s)
        + ∑ s, (if rk s < j then ∑ m, q m * Real.exp (G j m) * (k s m * Real.exp (-G (rk s + 1) m)) else 0) * v s) := by
  simp only [unrolled rk G k kk b v h S hG hinj hlt hsurj h0 hS j hj]
  have hsplit : ∀ m, q m * (Real.exp (G j m) * (h m + ∑ s, if rk s < j then
        Real.exp (-G (rk s + 1) m) * (corr rk kk S s * b s m + v s * k s m) else 0))
      = q m * (Real.exp (G j m) * h m) + ∑ s, q m * (Real.exp (G j m) * if rk s < j then
        Real.exp (-G (rk s + 1) m) * (corr rk kk S s * b s m + v s * k s m) else 0) := by
    intro m
    rw [mul_add, mul_add, Finset.mul_sum, Finset.mul_sum]
  rw [Finset.sum_congr rfl fun m _ => hsplit m, Finset.sum_add_distrib]
  refine congrArg₂ (· + ·) (Finset.sum_congr rfl fun m _ => by ring) ?_
  rw [← Finset.sum_add_distrib, Finset.sum_comm]
  refine Finset.sum_congr rfl fun s _ => ?_
  by_cases hs : rk s < j
  · simp only [if_pos hs, Finset.sum_mul]
    rw [← Finset.sum_add_distrib]
    exact Finset.sum_congr rfl fun m _ => by ring
  · simp [if_neg hs]

include hG hinj hlt hsurj h0 hS in
/-- The blocked form's solution is the recurrence's correction terms. -/
theorem solved_eq (t : Fin 64) : solved rk G k kk b v h t = corr rk kk S t := by
  refine levels_solve _ _ _ rk hlt (fun t s hts => if_neg hts) (fun t => ?_) t
  have e : corr rk kk S t = ∑ m, -kk t m * S (rk t) m := Finset.sum_congr rfl fun m _ => mul_comm _ _
  rw [e, against rk G k kk b v h S hG hinj hlt hsurj h0 hS (fun m => -kk t m) (rk t) (hlt t).le]
  simp only [rhs, coupling]
  ring

include hG hinj hlt hsurj h0 hS in
/-- The blocked outputs are the recurrence's. -/
theorem blockOut_eq (t : Fin 64) : blockOut rk G r k kk b v h t = ∑ m, S (rk t + 1) m * r t m := by
  rw [show (∑ m, S (rk t + 1) m * r t m) = ∑ m, r t m * S (rk t + 1) m from Finset.sum_congr rfl fun m _ => mul_comm _ _,
    against rk G k kk b v h S hG hinj hlt hsurj h0 hS (r t) (rk t + 1) (hlt t)]
  unfold blockOut
  simp only [solved_eq rk G k kk b v h S hG hinj hlt hsurj h0 hS, Nat.lt_succ_iff]

include hG hinj hlt hsurj h0 hS in
/-- The blocked state is the recurrence's after the chunk. -/
theorem blockState_eq (m : Fin 64) : blockState rk G k kk b v h m = S 64 m := by
  rw [unrolled rk G k kk b v h S hG hinj hlt hsurj h0 hS 64 le_rfl m]
  unfold blockState
  simp only [solved_eq rk G k kk b v h S hG hinj hlt hsurj h0 hS, hlt, if_true]
  rw [← Finset.sum_add_distrib, mul_add, Finset.mul_sum, mul_comm]
  congr 1
  refine Finset.sum_congr rfl fun s _ => ?_
  rw [sub_eq_add_neg, Real.exp_add]
  ring

end Chunk

end Cert.Core

end
-- ==== Proof.Chunk.lean ====
/- On real loads the tile's outputs and state are the blocked form of the recurrence over the reals. -/
module

public import proofs.«01_k».proof.Proof.Rows
public import proofs.«01_k».proof.Proof.Core

@[expose] public section

set_option maxRecDepth 16384

noncomputable section

namespace Cert.KernelIdeal.Tile

open Cert.KernelIdeal Cert.KernelIdeal.Gen Idealize.ShloMosaic

/-- A sum of reals among the extended reals. -/
theorem coe_sum {ι : Type*} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- A choice between a real and nothing among the extended reals. -/
theorem coe_ite {c : Prop} [Decidable c] (x : ℝ) : ((if c then x else 0 : ℝ) : EReal) = if c then (x : EReal) else 0 := by
  split <;> rfl

/-- The exponential of a real. -/
theorem exp_coe (x : ℝ) : Ideal.exp (x : EReal) = (Real.exp x : EReal) := rfl

/-- The row visited `j`-th. -/
def visited (rev : Bool) (j : Fin 64) : Fin 64 := bif rev then ⟨63 - j.val, by omega⟩ else j

/-- The decay sums after `j` rows: none before the first. -/
def sums (rev : Bool) (g : Fin 64 → ℝ) (j : ℕ) : ℝ := if h : 0 < j ∧ j ≤ 64 then g (visited rev ⟨j - 1, by omega⟩) else 0

/-- Before the first step nothing is summed. -/
theorem sums_zero (rev : Bool) (g : Fin 64 → ℝ) : sums rev g 0 = 0 := dif_neg (by omega)

/-- A rank is one of the chunk's 64 steps. -/
theorem rank_lt (rev : Bool) (t : Fin 64) : rank rev t < 64 := by revert rev t; decide

/-- No two tokens have the same rank. -/
theorem rank_inj (rev : Bool) : Function.Injective (rank rev) := by revert rev; unfold Function.Injective; decide +kernel

/-- The token visited at a step has that step as its rank … -/
theorem rank_visited (rev : Bool) (j : Fin 64) : rank rev (visited rev j) = j.val := by revert rev j; decide

/-- … and the token visited at a token's rank is that token. -/
theorem visited_rank (rev : Bool) (t : Fin 64) : visited rev ⟨rank rev t, rank_lt rev t⟩ = t := by revert rev t; decide

/-- … at a row itself. -/
theorem sums_rank (rev : Bool) (g : Fin 64 → ℝ) (t : Fin 64) : sums rev g (rank rev t + 1) = g t := by
  have := rank_lt rev t
  unfold sums
  rw [dif_pos (by omega)]
  exact congrArg g (visited_rank rev t)

/-- … before a row. -/
theorem sums_before (rev : Bool) (g : Fin 64 → ℝ) (t : Fin 64) :
    sums rev g (rank rev t) = if rank rev t = 0 then 0 else g (back rev t) := by
  have := rank_lt rev t
  by_cases h : rank rev t = 0
  · rw [if_pos h, h, sums_zero]
  · rw [if_neg h]
    unfold sums
    rw [dif_pos (by omega)]
    exact congrArg g ((by decide : ∀ (rev : Bool) (t : Fin 64) (h : rank rev t - 1 < 64), rank rev t ≠ 0 →
      visited rev ⟨rank rev t - 1, h⟩ = back rev t) rev t (by omega) h)

/-- … after the whole chunk. -/
theorem sums_all (rev : Bool) (g : Fin 64 → ℝ) : sums rev g 64 = g (final rev) := by
  unfold sums
  rw [dif_pos (by omega)]
  exact congrArg g ((by decide : ∀ (rev : Bool) (h : 64 - 1 < 64), visited rev ⟨64 - 1, h⟩ = final rev) rev (by omega))

/-- A loaded row that holds reals. -/
def Holds {φ : FTy} (x : FVec Ideal S1x64x512 φ) (f : Fin 64 → Fin 512 → ℝ) : Prop := ∀ t n, x (ix3 0 t n) = (f t n : EReal)

/-- A pair's state that holds reals, none coupling one head's keys to the other's values. -/
def HoldsState (h : FVec Ideal S128x128 .f32) (f : Fin 2 → Fin 64 → Fin 64 → ℝ) : Prop :=
  ∀ d' m d e, h (ix2 (lane d' m) (lane d e)) = ((if d' = d then f d m e else 0 : ℝ) : EReal)

section Real

variable (rev : Bool) (p : Fin 4) (d : Fin 2)
  {g : FVec Ideal S1x64x512 .f32} {x : FVec Ideal S1x64x512 .bf16} {gf xf : Fin 64 → Fin 512 → ℝ}
  (hg : Holds g gf) (hx : Holds x xf)

/-- Lane `m` of head `d` of pair `p`. -/
def at_ (p : Fin 4) (d : Fin 2) (m : Fin 64) : Fin 512 := wideLane p (lane d m)

/-- The head's decay sums. -/
def sumsAt (gf : Fin 64 → Fin 512 → ℝ) (j : ℕ) (m : Fin 64) : ℝ := sums rev (fun t => gf t (at_ p d m)) j

include hg hx

/-- Over the reals: the row, negated, scaled by the decays before its token's step … -/
theorem rowA_real (t m : Fin 64) :
    pair p (rowA (F := Ideal) rev g x) (ix2 t (lane d m))
      = ((-xf t (at_ p d m) * Real.exp (sumsAt rev p d gf (rank rev t) m) : ℝ) : EReal) := by
  have e : (if rank rev t = 0 then 0 else g (ix3 0 (back rev t) (wideLane p (lane d m))) : EReal)
      = ((sumsAt rev p d gf (rank rev t) m : ℝ) : EReal) := by
    rw [sumsAt, sums_before, hg]
    split <;> rfl
  rw [pair_at, rowA_at, hx, e, exp_coe, ← EReal.coe_zero, ← EReal.coe_sub, ← EReal.coe_mul, zero_sub]
  rfl

/-- … scaled by the decays up to that step … -/
theorem rowR_real (t m : Fin 64) :
    pair p (rowR (F := Ideal) g x) (ix2 t (lane d m))
      = ((xf t (at_ p d m) * Real.exp (sumsAt rev p d gf (rank rev t + 1) m) : ℝ) : EReal) := by
  rw [pair_at, rowR_at, hx, hg, sumsAt, sums_rank, exp_coe, ← EReal.coe_mul]
  rfl

/-- … scaled by the inverse of those … -/
theorem rowT_real (t m : Fin 64) :
    pair p (rowT (F := Ideal) g x) (ix2 t (lane d m))
      = ((xf t (at_ p d m) * Real.exp (-sumsAt rev p d gf (rank rev t + 1) m) : ℝ) : EReal) := by
  rw [pair_at, rowT_at, hx, hg, sumsAt, sums_rank]
  rw [← EReal.coe_zero, ← EReal.coe_sub, exp_coe, ← EReal.coe_mul, zero_sub]
  rfl

/-- … and scaled by the decays from that step to the chunk's end. -/
theorem rowH_real (t m : Fin 64) :
    pair p (rowH (F := Ideal) rev g x) (ix2 t (lane d m))
      = ((xf t (at_ p d m) * Real.exp (sumsAt rev p d gf 64 m - sumsAt rev p d gf (rank rev t + 1) m) : ℝ) : EReal) := by
  rw [pair_at, rowH_at, hx, hg, hg, sumsAt, sumsAt, sums_rank, sums_all]
  rw [← EReal.coe_sub, exp_coe, ← EReal.coe_mul]
  rfl

end Real

section Whole

variable (rev : Bool) (p : Fin 4) (d : Fin 2)
  {g : FVec Ideal S1x64x512 .f32} {r k v kk b : FVec Ideal S1x64x512 .bf16} {h : FVec Ideal S128x128 .f32}
  {gf rf kf vf kkf bf : Fin 64 → Fin 512 → ℝ} {hf : Fin 2 → Fin 64 → Fin 64 → ℝ}
  (hg : Holds g gf) (hr : Holds r rf) (hk : Holds k kf) (hv : Holds v vf) (hkk : Holds kk kkf) (hb : Holds b bf)
  (hh : HoldsState h hf)

/-- One head's lanes of a row. -/
def headOf (p : Fin 4) (d : Fin 2) (f : Fin 64 → Fin 512 → ℝ) (t m : Fin 64) : ℝ := f t (at_ p d m)

/-- The blocked form's coupling for one head. -/
def couplingAt (gf kkf bf : Fin 64 → Fin 512 → ℝ) : Fin 64 → Fin 64 → ℝ :=
  Core.coupling (rank rev) (sumsAt rev p d gf) (headOf p d kkf) (headOf p d bf)

/-- The blocked form's right-hand side for one head and value lane. -/
def rhsAt (gf kf vf kkf : Fin 64 → Fin 512 → ℝ) (hf : Fin 2 → Fin 64 → Fin 64 → ℝ) (e : Fin 64) : Fin 64 → ℝ :=
  Core.rhs (rank rev) (sumsAt rev p d gf) (headOf p d kf) (headOf p d kkf) (fun s => headOf p d vf s e) (fun m => hf d m e)

/-- The blocked form's solution for one head and value lane. -/
def solutionAt (gf kf vf kkf bf : Fin 64 → Fin 512 → ℝ) (hf : Fin 2 → Fin 64 → Fin 64 → ℝ) (e : Fin 64) : Fin 64 → ℝ :=
  Core.solved (rank rev) (sumsAt rev p d gf) (headOf p d kf) (headOf p d kkf) (headOf p d bf) (fun s => headOf p d vf s e)
    (fun m => hf d m e)

/-- The blocked form's outputs for one head and value lane. -/
def outAt (gf rf kf vf kkf bf : Fin 64 → Fin 512 → ℝ) (hf : Fin 2 → Fin 64 → Fin 64 → ℝ) (e : Fin 64) : Fin 64 → ℝ :=
  Core.blockOut (rank rev) (sumsAt rev p d gf) (headOf p d rf) (headOf p d kf) (headOf p d kkf) (headOf p d bf)
    (fun s => headOf p d vf s e) (fun m => hf d m e)

/-- The blocked form's state for one head and value lane. -/
def nextAt (gf kf vf kkf bf : Fin 64 → Fin 512 → ℝ) (hf : Fin 2 → Fin 64 → Fin 64 → ℝ) (m e : Fin 64) : ℝ :=
  Core.blockState (rank rev) (sumsAt rev p d gf) (headOf p d kf) (headOf p d kkf) (headOf p d bf)
    (fun s => headOf p d vf s e) (fun m => hf d m e) m

include hv in
/-- The value row is the reals' one. -/
theorem rectV_real (s e : Fin 64) : pair p (rect v) (ix2 s (lane d e)) = ((headOf p d vf s e : ℝ) : EReal) := by
  rw [pair_at, rect_at, hv]; rfl

include hg hkk hb in
/-- The coupling of two tokens through the removal keys is the reals' one. -/
theorem coupB_real (t s : Fin 64) :
    coupB rev (gramsAt (F := Ideal) rev p g r k kk b) (ix2 t (lane d s)) = ((couplingAt rev p d gf kkf bf t s : ℝ) : EReal) := by
  rw [gramsAt, coupB_at, couplingAt, Core.coupling, coe_ite, coe_sum]
  simp only [rowA_real rev p d hg hkk, rowT_real rev p d hg hb, ← EReal.coe_mul]
  rfl

include hg hkk hk in
/-- The coupling of two tokens through the keys is the reals' one. -/
theorem coupK_real (t s : Fin 64) :
    coupK rev (gramsAt (F := Ideal) rev p g r k kk b) (ix2 t (lane d s)) = ((couplingAt rev p d gf kkf kf t s : ℝ) : EReal) := by
  rw [gramsAt, coupK_at, couplingAt, Core.coupling, coe_ite, coe_sum]
  simp only [rowA_real rev p d hg hkk, rowT_real rev p d hg hk, ← EReal.coe_mul]
  rfl

include hh in
/-- A product against the state: the value lane's own head alone. -/
theorem against_state (f : Fin 128 → EReal) (q : Fin 64 → ℝ) (hq : ∀ m, f (lane d m) = (q m : EReal)) (e : Fin 64) :
    ∑ n, f n * h (ix2 n (lane d e)) = ((∑ m, q m * hf d m e : ℝ) : EReal) := by
  rw [sum_lanes_head d _ fun d' m hd => by rw [hh, if_neg hd]; exact mul_zero _, coe_sum]
  exact Finset.sum_congr rfl fun m _ => by rw [hh, if_pos rfl, hq, EReal.coe_mul]

include hg hkk hk hv hh in
/-- What the chunk's entering state contributes is the reals' one. -/
theorem start_real (t e : Fin 64) :
    start rev (gramsAt (F := Ideal) rev p g r k kk b) (pair p (rowA rev g kk)) (pair p (rect v)) h (ix2 t (lane d e))
      = ((rhsAt rev p d gf kf vf kkf hf e t : ℝ) : EReal) := by
  rw [start_at, against_state d hh _ _ (rowA_real rev p d hg hkk t), rhsAt, Core.rhs]
  simp only [coupK_real rev p d hg hk hkk, rectV_real p d hv, ← EReal.coe_mul, ← coe_sum, ← EReal.coe_add]
  rfl

/-- The levels of doubling over the reals. -/
theorem climb_real (P : Fin 2 → Fin 64 → Fin 64 → ℝ) (z : Fin 2 → Fin 64 → Fin 64 → ℝ) (pv zv : FVec Ideal S64x128 .f32)
    (hP : ∀ t d s, pv (ix2 t (lane d s)) = (P d t s : EReal)) (hz : ∀ t d e, zv (ix2 t (lane d e)) = (z d e t : EReal)) (n : ℕ) :
    (∀ t d s, (climb pv zv n).1 (ix2 t (lane d s)) = (Core.pows (P d) n t s : EReal))
      ∧ ∀ t d e, (climb pv zv n).2 (ix2 t (lane d e)) = (Core.levels (P d) (z d e) n t : EReal) := by
  induction n with
  | zero => exact ⟨hP, hz⟩
  | succ n ih =>
    obtain ⟨h1, h2⟩ := ih
    refine ⟨fun t d s => ?_, fun t d e => ?_⟩
    · refine (levelP_at _ _ t d s).trans ?_
      simp only [h1, ← EReal.coe_mul, ← coe_sum]
      rfl
    · refine (levelZ_at _ _ t d e).trans ?_
      simp only [h1, h2, ← EReal.coe_mul, ← coe_sum, ← EReal.coe_add]
      rfl

include hg hk hv hkk hb hh in
/-- The solved system is the reals' one. -/
theorem solved_real (t e : Fin 64) :
    solvedAt (F := Ideal) rev p g r k v kk b h (ix2 t (lane d e)) = ((solutionAt rev p d gf kf vf kkf bf hf e t : ℝ) : EReal) := by
  obtain ⟨h1, h2⟩ := climb_real (fun d => couplingAt rev p d gf kkf bf) (fun d e => rhsAt rev p d gf kf vf kkf hf e) _ _
    (fun t d s => coupB_real rev p d (r := r) (k := k) hg hkk hb t s) (fun t d e => start_real rev p d (r := r) (b := b) hg hk hv hkk hh t e) 5
  refine (lastLevel_at _ _ t d e).trans ?_
  simp only [h1, h2, ← EReal.coe_mul, ← coe_sum, ← EReal.coe_add]
  rfl

include hg hr hk hv hkk hb hh in
/-- The tile's outputs are the blocked form's. -/
theorem output_real (t e : Fin 64) :
    outputAt (F := Ideal) rev p g r k v kk b h (ix2 t (lane d e)) = ((outAt rev p d gf rf kf vf kkf bf hf e t : ℝ) : EReal) := by
  rw [outputAt, outputs_at, against_state d hh _ _ (rowR_real rev p d hg hr t)]
  simp only [gramsAt, readsB_at, readsK_at, rowR_real rev p d hg hr, rowT_real rev p d hg hb, rowT_real rev p d hg hk,
    rectV_real p d hv, solved_real rev p d hg hk hv hkk hb hh, ← EReal.coe_mul, ← coe_sum, ← coe_ite, ← EReal.coe_add]
  rfl

include hg hk hv hkk hb hh in
/-- The tile's state is the blocked form's, head by head. -/
theorem state_real : HoldsState (stateAt (F := Ideal) rev p g r k v kk b h) fun d => nextAt rev p d gf kf vf kkf bf hf := by
  intro d' m d e
  rw [stateAt, state_at]
  by_cases hd : d' = d
  · subst hd
    rw [if_pos rfl, if_pos rfl, hh, if_pos rfl, total_at, hg]
    simp only [rowH_real rev p d' hg hb, rowH_real rev p d' hg hk, rectV_real p d' hv, solved_real rev p d' hg hk hv hkk hb hh,
      exp_coe, ← EReal.coe_mul, ← coe_sum, ← EReal.coe_add]
    rw [nextAt, Core.blockState, sumsAt, sums_all]
    rfl
  · rw [if_neg hd, if_neg hd, hh, if_neg hd, EReal.coe_zero]
    exact (congrArg (· + (0 : EReal)) (zero_mul _)).trans (add_zero _)

end Whole

end Cert.KernelIdeal.Tile

end
-- ==== Proof.ScanChunk.lean ====
/- One chunk of the recurrence is the blocked form on the chunk's rows. -/
module

public import proofs.«01_k».proof.Proof.Scan
public import proofs.«01_k».proof.Proof.Chunk

@[expose] public section

set_option maxRecDepth 16384

noncomputable section

namespace Cert.KernelIdeal.Tile

open Cert.KernelIdeal Cert.KernelIdeal.Gen Idealize.ShloMosaic

/-- The head of a pair. -/
def headAt (p : Fin 4) (d : Fin 2) : Fin 8 := ⟨2 * p.val + d.val, by omega⟩

/-- The token at row `t` of the chunk visited `c`-th. -/
def rowToken (rev : Bool) (c : Fin 64) (t : Fin 64) : Fin 4096 :=
  bif rev then ⟨64 * (63 - c.val) + t.val, by omega⟩ else ⟨64 * c.val + t.val, by omega⟩

/-- A chunk's rows of the `j`-th part. -/
def partRows (P : Fin 8 → Fin 4096 → Fin 3072 → ℝ) (rev : Bool) (b : Fin 8) (c : Fin 64) (j : Fin 5) (t : Fin 64) (n : Fin 512) : ℝ :=
  P b (rowToken rev c t) ⟨512 * j.val + n.val, by omega⟩

/-- A chunk's rows of the decay sums. -/
def decayRows (G : Fin 8 → Fin 4096 → Fin 1024 → ℝ) (rev : Bool) (b : Fin 8) (c : Fin 64) (t : Fin 64) (n : Fin 512) : ℝ :=
  G b (rowToken rev c t) ⟨(bif rev then 512 else 0) + n.val, by cases rev <;> simp <;> omega⟩

variable (P : Fin 8 → Fin 4096 → Fin 3072 → ℝ) (G : Fin 8 → Fin 4096 → Fin 1024 → ℝ) (rev : Bool) (b : Fin 8) (c : Fin 64)
  (p : Fin 4) (d : Fin 2)

/-- The row's token is the one its step visits. -/
theorem token_rank (t : Fin 64) : Scan.token rev (64 * c.val + rank rev t) = rowToken rev c t := by
  have := rank_lt rev t
  apply Fin.ext
  cases rev <;> simp [Scan.token, rowToken, rank] <;> omega

/-- … and the row before it is visited the step before. -/
theorem token_back (t : Fin 64) (h : rank rev t ≠ 0) : Scan.token rev (64 * c.val + rank rev t - 1) = rowToken rev c (back rev t) := by
  have := rank_lt rev t
  apply Fin.ext
  cases rev <;> simp [Scan.token, rowToken, rank, back] at h ⊢ <;> omega

/-- A head's lane of a chunk's rows. -/
theorem headOf_partRows (j : Fin 5) (t m : Fin 64) :
    headOf p d (partRows P rev b c j) t m = Scan.part P rev b (headAt p d) j (64 * c.val + rank rev t) m := by
  unfold headOf partRows Scan.part
  rw [token_rank]
  congr 1
  apply Fin.ext
  simp [at_, wideLane, lane, headAt, Scan.column]
  omega

/-- The lane's place among the decay sums. -/
theorem decayRows_at (t m : Fin 64) :
    decayRows G rev b c t (at_ p d m) = G b (rowToken rev c t) (Scan.decayColumn rev (headAt p d) m) := by
  unfold decayRows
  congr 1
  apply Fin.ext
  simp [at_, wideLane, lane, headAt, Scan.decayColumn]
  omega

/-- The decay of a row's step, from the chunk's sums. -/
theorem decay_rank (t m : Fin 64) :
    Scan.decay G rev b (headAt p d) (64 * c.val + rank rev t) m
      = Real.exp (sumsAt rev p d (decayRows G rev b c) (rank rev t + 1) m - sumsAt rev p d (decayRows G rev b c) (rank rev t) m) := by
  have hr := rank_lt rev t
  rw [Scan.decay, sumsAt, sumsAt, sums_rank, sums_before, Scan.decaySum, token_rank, decayRows_at, decayRows_at, Scan.decaySumBefore]
  by_cases h : rank rev t = 0
  · rw [if_pos (by omega), if_pos h]
  · rw [if_neg (by omega), if_neg h, Scan.decaySum, token_back rev c t h]

/-- The recurrence's states through a chunk obey the blocked form's hypotheses. -/
theorem chunk_step (e t m : Fin 64) :
    Scan.state P G rev b (headAt p d) (64 * c.val + (rank rev t + 1)) m e
      = Scan.state P G rev b (headAt p d) (64 * c.val + rank rev t) m e
          * Real.exp (sumsAt rev p d (decayRows G rev b c) (rank rev t + 1) m - sumsAt rev p d (decayRows G rev b c) (rank rev t) m)
        + Core.corr (rank rev) (headOf p d (partRows P rev b c 3)) (fun j m => Scan.state P G rev b (headAt p d) (64 * c.val + j) m e) t
          * headOf p d (partRows P rev b c 4) t m
        + headOf p d (partRows P rev b c 2) t e * headOf p d (partRows P rev b c 1) t m := by
  rw [← decay_rank, Core.corr]
  simp only [headOf_partRows]
  rfl

/-- Every visit number is some row's. -/
theorem rank_surj (j : ℕ) (h : j < 64) : ∃ t, rank rev t = j := ⟨visited rev ⟨j, h⟩, rank_visited rev ⟨j, h⟩⟩

/-- The blocked form's outputs on a chunk are the recurrence's readings. -/
theorem outAt_chunk (e t : Fin 64) :
    outAt rev p d (decayRows G rev b c) (partRows P rev b c 0) (partRows P rev b c 1) (partRows P rev b c 2) (partRows P rev b c 3)
        (partRows P rev b c 4) (fun d m e => Scan.state P G rev b (headAt p d) (64 * c.val) m e) e t
      = Scan.reading P G rev b (headAt p d) (64 * c.val + rank rev t) e := by
  refine (Core.blockOut_eq (rank rev) _ _ _ _ _ _ _ (fun j m => Scan.state P G rev b (headAt p d) (64 * c.val + j) m e)
    (fun m => sums_zero rev _) (rank_inj rev) (rank_lt rev) (rank_surj rev) (fun m => rfl) (chunk_step P G rev b c p d e) t).trans ?_
  simp only [headOf_partRows]
  rfl

/-- The blocked form's state on a chunk is the recurrence's after the chunk. -/
theorem nextAt_chunk (m e : Fin 64) :
    nextAt rev p d (decayRows G rev b c) (partRows P rev b c 1) (partRows P rev b c 2) (partRows P rev b c 3)
        (partRows P rev b c 4) (fun d m e => Scan.state P G rev b (headAt p d) (64 * c.val) m e) m e
      = Scan.state P G rev b (headAt p d) (64 * (c.val + 1)) m e := by
  refine (Core.blockState_eq (rank rev) _ _ _ _ _ _ (fun j m => Scan.state P G rev b (headAt p d) (64 * c.val + j) m e)
    (fun m => sums_zero rev _) (rank_inj rev) (rank_lt rev) (rank_surj rev) (fun m => rfl) (chunk_step P G rev b c p d e) m).trans ?_
  rfl

end Cert.KernelIdeal.Tile

end
-- ==== Proof.Blocks.lean ====
/- The blocks the body is handed at a point, read off the arguments. -/
module

public import proofs.«01_k».proof.Proof.Gen.KernelIdeal.Value
public import proofs.«01_k».proof.Proof.Stored
public import proofs.«01_k».proof.Proof.ScanChunk

@[expose] public section

set_option maxRecDepth 16384

noncomputable section

namespace Cert.KernelIdeal.Tile

open Cert.KernelIdeal Cert.KernelIdeal.Gen Idealize.ShloMosaic Idealize.ShloMosaic.TcCoe Idealize.SL.Sem

variable (m : (ℓ : Loc nD τ sig) → Buf (Elt Ideal) ℓ) (c : Dev nD)

/-- The blocks each window is at, point by point. -/
theorem places : ∀ t : Fin cfg0.N,
    win0_0.index t = ![t.val / 64, t.val % 64, 0] ∧ win0_1.index t = ![t.val / 64, t.val % 64, 0]
    ∧ win0_2.index t = ![t.val / 64, 63 - t.val % 64, 0] ∧ win0_3.index t = ![t.val / 64, 63 - t.val % 64, 1]
    ∧ win0_4.index t = ![t.val / 64, t.val % 64, 0] ∧ win0_5.index t = ![t.val / 64, 63 - t.val % 64, 0] :=
  (by decide +kernel : ∀ t : Fin grid0.N, _)

/-- The batch row of a block's row. -/
def batch (t : Fin cfg0.N) (row : Fin 4) : Fin 8 :=
  ⟨4 * (t.val / 64) + row.val, by have := lt_of_lt_of_eq t.isLt (show cfg0.N = 128 from N_0); omega⟩

/-- The chunk a point visits. -/
def chunk (t : Fin cfg0.N) : Fin 64 := ⟨t.val % 64, Nat.mod_lt _ (by omega)⟩

/-- A row's token, forward. -/
theorem rowToken_fwd (q s : Fin 64) : (rowToken false q s).val = 64 * q.val + s.val := rfl

/-- A row's token, backward. -/
theorem rowToken_bwd (q s : Fin 64) : (rowToken true q s).val = 64 * (63 - q.val) + s.val := rfl

/-- The forward decay sums at a point. -/
theorem block1_at (t : Fin cfg0.N) (row : Fin 4) (s : Fin 64) (n : Fin 512) :
    (iblk m c 1 t : Vec Ideal S4x64x512 .f32) (ix3 row s n)
      = m ((c : Thread nD τ).loc main_arg1) (ix3 (batch t row) (rowToken false (chunk t) s) ⟨n.val, by omega⟩) := by
  have h := places t
  blk_ext [iblk, V, h.2.1, batch, rowToken_fwd, chunk]

/-- The backward decay sums at a point. -/
theorem block3_at (t : Fin cfg0.N) (row : Fin 4) (s : Fin 64) (n : Fin 512) :
    (iblk m c 3 t : Vec Ideal S4x64x512 .f32) (ix3 row s n)
      = m ((c : Thread nD τ).loc main_arg1) (ix3 (batch t row) (rowToken true (chunk t) s) ⟨512 + n.val, by omega⟩) := by
  have h := places t
  blk_ext [iblk, V, h.2.2.2.1, batch, rowToken_bwd, chunk]

/-- The packed columns at a point, forward. -/
theorem block0_at (t : Fin cfg0.N) (row : Fin 4) (s : Fin 64) (n : Fin 2560) :
    (X0_0 m c t : Vec Ideal S4x64x2560 .bf16) (ix3 row s n)
      = m ((c : Thread nD τ).loc main_arg0) (ix3 (batch t row) (rowToken false (chunk t) s) ⟨n.val, by omega⟩) := by
  have h := places t
  unfold X0_0 Pipeline.Window.fill
  rw [dif_pos (moved0_0 t _)]
  blk_ext [iblk, V, h.1, batch, rowToken_fwd, chunk]

/-- The packed columns at a point, backward. -/
theorem block2_at (t : Fin cfg0.N) (row : Fin 4) (s : Fin 64) (n : Fin 2560) :
    (X0_2 m c t : Vec Ideal S4x64x2560 .bf16) (ix3 row s n)
      = m ((c : Thread nD τ).loc main_arg0) (ix3 (batch t row) (rowToken true (chunk t) s) ⟨n.val, by omega⟩) := by
  have h := places t
  unfold X0_2 Pipeline.Window.fill
  rw [dif_pos (moved0_2 t _)]
  blk_ext [iblk, V, h.2.2.1, batch, rowToken_bwd, chunk]

end Cert.KernelIdeal.Tile

end
-- ==== Proof.Points.lean ====
/- What the body leaves at a point on real arguments: the recurrence's readings in the output blocks, the recurrence's
   state in the scratch. -/
module

public import proofs.«01_k».proof.Proof.Blocks

@[expose] public section

set_option maxRecDepth 16384

noncomputable section

namespace Cert.KernelIdeal.Tile

open Cert.KernelIdeal Cert.KernelIdeal.Gen Idealize.ShloMosaic Idealize.ShloMosaic.TcCoe Idealize.SL.Sem

/-- Stores made before a store that covers an index do not show there. -/
theorem canon_append_left {S : Shape} {e : EltTy} (L' : List (View.Piece (Elt Ideal) S e)) (y : S.Idx) :
    ∀ L : List (View.Piece (Elt Ideal) S e), (∃ p ∈ L, y ∈ p.1.set) → View.canon (L ++ L') y = View.canon L y
  | [], h => by obtain ⟨p, hp, _⟩ := h; exact absurd hp List.not_mem_nil
  | q :: L, h => by
    by_cases hm : y ∈ q.1.set
    · obtain ⟨x, rfl⟩ := q.1.exists_idx_of_mem hm
      rw [List.cons_append]
      exact (View.canon_cons_emb q.1 q.2 (L ++ L') x).trans (View.canon_cons_emb q.1 q.2 L x).symm
    · rw [List.cons_append, View.canon_cons_of_not_mem _ _ hm, View.canon_cons_of_not_mem _ _ hm]
      refine canon_append_left L' y L ?_
      obtain ⟨p, hp, hy⟩ := h
      rcases List.mem_cons.mp hp with rfl | hp
      · exact absurd hy hm
      · exact ⟨p, hp, hy⟩

section Step

variable (P : Fin 8 → Fin 4096 → Fin 3072 → ℝ) (G : Fin 8 → Fin 4096 → Fin 1024 → ℝ) (rev : Bool) (b : Fin 8) (q : Fin 64) (row p : Fin 4)
  {x : Vec Ideal S4x64x2560 .bf16} {g : Vec Ideal S4x64x512 .f32} {s : FVec Ideal S128x128 .f32}
  (hx : ∀ j, Holds (rowP x j row) (partRows P rev b q j)) (hg : Holds (rowG g row) (decayRows G rev b q))
  (hs : HoldsState s fun d m e => Scan.state P G rev b (headAt p d) (64 * q.val) m e)

include hx hg hs

/-- A row's and a pair's output at a chunk holds the recurrence's readings. -/
theorem outOf_real (t : Fin 64) (d : Fin 2) (e : Fin 64) :
    outOf rev x g row p s (ix2 t (lane d e)) = ((Scan.reading P G rev b (headAt p d) (64 * q.val + rank rev t) e : ℝ) : EReal) := by
  unfold outOf
  rw [output_real rev p d hg (hx 0) (hx 1) (hx 2) (hx 3) (hx 4) hs, outAt_chunk]

/-- A row's and a pair's next state holds the recurrence's after the chunk. -/
theorem stateOf_real :
    HoldsState (stateOf rev x g row p s) fun d m e => Scan.state P G rev b (headAt p d) (64 * (q.val + 1)) m e := by
  intro d' m d e
  dsimp only
  rw [← nextAt_chunk]
  exact state_real rev p hg (hx 1) (hx 2) (hx 3) (hx 4) hs d' m d e

end Step

section Points

variable (m : (ℓ : Loc nD τ sig) → Buf (Elt Ideal) ℓ) (c : Dev nD)
  (P : Fin 8 → Fin 4096 → Fin 3072 → ℝ) (G : Fin 8 → Fin 4096 → Fin 1024 → ℝ)
  (hP : ∀ b s n, m ((c : Thread nD τ).loc main_arg0) (ix3 b s n) = ((P b s n : ℝ) : EReal))
  (hG : ∀ b s n, m ((c : Thread nD τ).loc main_arg1) (ix3 b s n) = ((G b s n : ℝ) : EReal))

include hG in
/-- The forward decay sums handed to the body. -/
theorem holds1 (t : Fin cfg0.N) (row : Fin 4) : Holds (rowG (iblk m c 1 t) row) (decayRows G false (batch t row) (chunk t)) := by
  intro s n
  refine (block1_at m c t row s n).trans ((hG _ _ _).trans ?_)
  unfold decayRows
  congr 3
  simp

include hG in
/-- The backward decay sums handed to the body. -/
theorem holds3 (t : Fin cfg0.N) (row : Fin 4) : Holds (rowG (iblk m c 3 t) row) (decayRows G true (batch t row) (chunk t)) := by
  intro s n
  exact (block3_at m c t row s n).trans (hG _ _ _)

include hP in
/-- The packed columns handed to the body, forward. -/
theorem holds0 (t : Fin cfg0.N) (row : Fin 4) (j : Fin 5) : Holds (rowP (X0_0 m c t) j row) (partRows P false (batch t row) (chunk t) j) := by
  intro s n
  exact (block0_at m c t row s (partLane j n)).trans (hP _ _ _)

include hP in
/-- The packed columns handed to the body, backward. -/
theorem holds2 (t : Fin cfg0.N) (row : Fin 4) (j : Fin 5) : Holds (rowP (X0_2 m c t) j row) (partRows P true (batch t row) (chunk t) j) := by
  intro s n
  exact (block2_at m c t row s (partLane j n)).trans (hP _ _ _)

/-- The state's slots at a point hold the recurrence's states at step `64 * k` of each row. -/
def Carries (t : Fin cfg0.N) (k : ℕ) (h : Fin 32 → FVec Ideal S128x128 .f32) : Prop :=
  ∀ (row : Fin 4) (rev : Bool) (p : Fin 4),
    HoldsState (h (slotOf row rev p)) fun d m e => Scan.state P G rev (batch t row) (headAt p d) (64 * k) m e

/-- What the body leaves at a point, over the state's slots it found. -/
def LeftOver (t : Fin cfg0.N) (h : Fin 32 → FVec Ideal S128x128 .f32) : Prop :=
  (outsAt0 m c t.val t.isLt).1
      = View.canon (piecesOut (F := Ideal) false (ms0_0 t) (hs0_0 t) (ms0_1 t) (hs0_1 t) (X0_0 m c t) (iblk m c 1 t) h)
  ∧ (outsAt0 m c t.val t.isLt).2.1
      = View.canon (piecesOut (F := Ideal) true (ms0_2 t) (hs0_2 t) (ms0_3 t) (hs0_3 t) (X0_2 m c t) (iblk m c 3 t) h)
  ∧ ∃ L, (outsAt0 m c t.val t.isLt).2.2
      = View.canon (piecesState (F := Ideal) (ms0_0 t) (hs0_0 t) (ms0_1 t) (hs0_1 t) (ms0_2 t) (hs0_2 t) (ms0_3 t) (hs0_3 t)
          (X0_0 m c t) (iblk m c 1 t) (X0_2 m c t) (iblk m c 3 t) h ++ L)

/-- At a row's first chunk the body starts from the reset state. -/
theorem leftOver_first (t : Fin cfg0.N) (h0 : t.val % 64 = 0) : LeftOver m c t (loadReset scM0_0) := by
  rw [LeftOver, outsAt0_A m c t h0]
  refine ⟨?_, ?_,
    [⟨Rect.unit (s := S32x128x128) ![0, 0, 0] S32x128x128.size inb_S32x128x128_S32x128x128_0_0_0, k0_pay2 (F := Ideal)⟩], ?_⟩
  · dsimp only
    rw [out0_A_4, View.read_writes_junk_eq_canon, runA_fwd]
  · dsimp only
    rw [out0_A_5, View.read_writes_junk_eq_canon, runA_bwd]
  · dsimp only
    rw [sout0_A_0, View.read_writes_junk_eq_canon, runA_state]

/-- At a later chunk the body starts from the state the point before left. -/
theorem leftOver_later (t : Fin cfg0.N) (h0 : ¬t.val % 64 = 0) :
    LeftOver m c t (slotAt (outsAt0 m c (t.val - 1) (Nat.lt_of_le_of_lt (Nat.sub_le _ _) t.isLt)).2.2) := by
  have e : slotAt (outsAt0 m c (t.val - 1) (Nat.lt_of_le_of_lt (Nat.sub_le _ _) t.isLt)).2.2
      = loadSlot scM0_0 (Memref.isWhole_whole _) (outsAt0 m c (t.val - 1) (Nat.lt_of_le_of_lt (Nat.sub_le _ _) t.isLt)).2.2 := by
    funext q; rw [loadSlot_eq]
  rw [e, LeftOver, outsAt0_B m c t h0]
  refine ⟨?_, ?_, [], ?_⟩
  · dsimp only
    rw [out0_B_4, View.read_writes_junk_eq_canon, runB_fwd]
  · dsimp only
    rw [out0_B_5, View.read_writes_junk_eq_canon, runB_bwd]
  · dsimp only
    rw [sout0_B_0, View.read_writes_junk_eq_canon, runB_state, List.append_nil]

/-- The reset state is the recurrence's first. -/
theorem carries_reset (t : Fin cfg0.N) : Carries P G t 0 (loadReset scM0_0) := by
  intro row rev p d' k d e
  rw [loadReset_at]
  show (0 : EReal) = ((if d' = d then (0 : ℝ) else 0 : ℝ) : EReal)
  rw [ite_self, EReal.coe_zero]

include hP hG in
/-- A point that found the recurrence's states leaves the next ones. -/
theorem carries_next (t : Fin cfg0.N) (h : Fin 32 → FVec Ideal S128x128 .f32) (hl : LeftOver m c t h) (hc : Carries P G t (chunk t).val h) :
    Carries P G t ((chunk t).val + 1) (slotAt (outsAt0 m c t.val t.isLt).2.2) := by
  obtain ⟨_, _, L, e⟩ := hl
  intro row rev p d' k d e'
  show (outsAt0 m c t.val t.isLt).2.2 (ix3 (slotOf row rev p) (lane d' k) (lane d e')) = _
  rw [e, canon_append_left, piecesState_at]
  · cases rev
    · exact stateOf_real P G false (batch t row) (chunk t) row p (holds0 m c P hP t row) (holds1 m c G hG t row) (hc row false p) d' k d e'
    · exact stateOf_real P G true (batch t row) (chunk t) row p (holds2 m c P hP t row) (holds3 m c G hG t row) (hc row true p) d' k d e'
  · refine ⟨_, (List.mem_ofFn).mpr ⟨⟨31 - (slotOf row rev p).val, by omega⟩, rfl⟩, ?_⟩
    have hk : stateSlot ⟨31 - (slotOf row rev p).val, by omega⟩ = slotOf row rev p := by
      apply Fin.ext; have := (slotOf row rev p).isLt; simp [stateSlot]; omega
    have hm : ∀ q, q = slotOf row rev p → ix3 (slotOf row rev p) (lane d' k) (lane d e')
        ∈ (Rect.unit (s := S32x128x128) ![q.val, 0, 0] S1x128x128.size (inb_slot q)).set := by
      rintro _ rfl
      rw [← slot_idx]
      exact (Rect.unit (s := S32x128x128) _ S1x128x128.size (inb_slot _)).toLoadRect.idx_mem _
    exact hm _ hk

include hP hG in
/-- At every point the body found the recurrence's states at the chunk's first step. -/
theorem found : ∀ (n : ℕ) (hn : n < cfg0.N), ∃ h, LeftOver m c ⟨n, hn⟩ h ∧ Carries P G ⟨n, hn⟩ (chunk ⟨n, hn⟩).val h
  | 0, hn => ⟨_, leftOver_first m c ⟨0, hn⟩ rfl, carries_reset P G ⟨0, hn⟩⟩
  | n + 1, hn => by
    by_cases h0 : (n + 1) % 64 = 0
    · refine ⟨_, leftOver_first m c ⟨n + 1, hn⟩ h0, ?_⟩
      have e : (chunk ⟨n + 1, hn⟩).val = 0 := h0
      rw [e]
      exact carries_reset P G ⟨n + 1, hn⟩
    · obtain ⟨h, hl, hc⟩ := found n (by omega)
      refine ⟨_, leftOver_later m c ⟨n + 1, hn⟩ h0, ?_⟩
      have e : (chunk ⟨n + 1, hn⟩).val = (chunk ⟨n, by omega⟩).val + 1 := by simp only [chunk]; omega
      have hb : ∀ row, batch ⟨n + 1, hn⟩ row = batch ⟨n, by omega⟩ row := by intro row; apply Fin.ext; simp only [batch]; omega
      rw [e]
      intro row rev p
      rw [hb]
      exact carries_next m c P G hP hG ⟨n, by omega⟩ h hl hc row rev p

include hP hG in
/-- The forward output block at a point holds the recurrence's readings. -/
theorem out4_real (t : Fin cfg0.N) (row : Fin 4) (s : Fin 64) (p : Fin 4) (d : Fin 2) (e : Fin 64) :
    (outsAt0 m c t.val t.isLt).1 (ix3 row s (wideLane p (lane d e)))
      = ((Scan.reading P G false (batch t row) (headAt p d) (64 * (chunk t).val + s.val) e : ℝ) : EReal) := by
  obtain ⟨h, ⟨hl, _, _⟩, hc⟩ := found m c P G hP hG t.val t.isLt
  rw [hl, piecesOut_at]
  exact outOf_real P G false (batch t row) (chunk t) row p (holds0 m c P hP t row) (holds1 m c G hG t row) (hc row false p) s d e

include hP hG in
/-- The backward output block at a point holds the recurrence's readings. -/
theorem out5_real (t : Fin cfg0.N) (row : Fin 4) (s : Fin 64) (p : Fin 4) (d : Fin 2) (e : Fin 64) :
    (outsAt0 m c t.val t.isLt).2.1 (ix3 row s (wideLane p (lane d e)))
      = ((Scan.reading P G true (batch t row) (headAt p d) (64 * (chunk t).val + (63 - s.val)) e : ℝ) : EReal) := by
  obtain ⟨h, ⟨_, hl, _⟩, hc⟩ := found m c P G hP hG t.val t.isLt
  rw [hl, piecesOut_at]
  exact outOf_real P G true (batch t row) (chunk t) row p (holds2 m c P hP t row) (holds3 m c G hG t row) (hc row true p) s d e

end Points

end Cert.KernelIdeal.Tile

end
-- ==== Proof.Arrays.lean ====
/- The kernel's two result arrays after the grid, at an index: the recurrence's readings, token by token. -/
module

public import proofs.«01_k».proof.Proof.Points

@[expose] public section

set_option maxRecDepth 16384

noncomputable section

namespace Cert.KernelIdeal.Tile

open Cert.KernelIdeal Cert.KernelIdeal.Gen Idealize.ShloMosaic Idealize.ShloMosaic.TcCoe Idealize.SL.Sem

/-- The readings as an array of a batch row, a token and a lane of the eight heads. -/
def readings (P : Fin 8 → Fin 4096 → Fin 3072 → ℝ) (G : Fin 8 → Fin 4096 → Fin 1024 → ℝ) (rev : Bool) : Vec Ideal S8x4096x512 .f32 := fun i =>
  ((Scan.reading P G rev (i 0) ⟨(i 2).val / 64, Nat.div_lt_of_lt_mul (i 2).isLt⟩ (bif rev then 4095 - (i 1).val else (i 1).val)
    ⟨(i 2).val % 64, Nat.mod_lt _ (by omega)⟩ : ℝ) : EReal)

variable (m : (ℓ : Loc nD τ sig) → Buf (Elt Ideal) ℓ) (c : Dev nD)
  (P : Fin 8 → Fin 4096 → Fin 3072 → ℝ) (G : Fin 8 → Fin 4096 → Fin 1024 → ℝ)
  (hP : ∀ b s n, m ((c : Thread nD τ).loc main_arg0) (ix3 b s n) = ((P b s n : ℝ) : EReal))
  (hG : ∀ b s n, m ((c : Thread nD τ).loc main_arg1) (ix3 b s n) = ((G b s n : ℝ) : EReal))

/-- The readings at an index whose coordinates are known. -/
theorem readings_at (rev : Bool) (i : S8x4096x512.Idx) (b : Fin 8) (τ : ℕ) (p : Fin 4) (d : Fin 2) (e : Fin 64) (h0 : (i 0).val = b.val)
    (h1 : (bif rev then 4095 - (i 1).val else (i 1).val) = τ) (h2 : (i 2).val = 128 * p.val + (64 * d.val + e.val)) :
    readings P G rev i = ((Scan.reading P G rev b (headAt p d) τ e : ℝ) : EReal) := by
  have e0 : i 0 = b := Fin.ext h0
  have e2 : (⟨(i 2).val / 64, Nat.div_lt_of_lt_mul (i 2).isLt⟩ : Fin 8) = headAt p d := Fin.ext (by simp only [headAt]; omega)
  have e3 : (⟨(i 2).val % 64, Nat.mod_lt _ (by omega)⟩ : Fin 64) = e := Fin.ext (by simp only; omega)
  unfold readings
  rw [h1, e0, e2, e3]

/-- Every index of a block is a row's, a pair's and a head's. -/
theorem block_index (y : S4x64x512.Idx) : ∃ (row : Fin 4) (s : Fin 64) (p : Fin 4) (d : Fin 2) (e : Fin 64), y = ix3 row s (wideLane p (lane d e)) := by
  have h2 : (y 2).val < 512 := (y 2).isLt
  refine ⟨y 0, y 1, ⟨(y 2).val / 128, by omega⟩, ⟨(y 2).val / 64 % 2, by omega⟩, ⟨(y 2).val % 64, by omega⟩, ?_⟩
  funext a
  fin_cases a
  · rfl
  · rfl
  · exact Fin.ext (by simp only [ix3, wideLane, lane]; show (y 2).val = 128 * ((y 2).val / 128) + (64 * ((y 2).val / 64 % 2) + (y 2).val % 64); omega)

include hP hG in
/-- The forward result. -/
theorem array4 : (dats m 0 c).arrAt 4 cfg0.N = readings P G false := by
  refine (dats m 0 c).arrAt_eq_of_covers 4 _ (by decide +kernel) fun t hf y => ?_
  blk_simp
  rw [after0_4]
  obtain ⟨row, s, p, d, e, rfl⟩ := block_index y
  have h := places t
  refine (out4_real m c P G hP hG t row s p d e).trans (readings_at P G false _ _ _ p d e ?_ ?_ ?_).symm
  · blk_simp [h.2.2.2.2.1]; simp only [batch]; omega
  · rw [cond_false]; blk_simp [h.2.2.2.2.1]; simp only [chunk]; omega
  · blk_simp [h.2.2.2.2.1]; simp only [wideLane, lane]

include hP hG in
/-- The backward result. -/
theorem array5 : (dats m 0 c).arrAt 5 cfg0.N = readings P G true := by
  refine (dats m 0 c).arrAt_eq_of_covers 5 _ (by decide +kernel) fun t hf y => ?_
  blk_simp
  rw [after0_5]
  obtain ⟨row, s, p, d, e, rfl⟩ := block_index y
  have h := places t
  refine (out5_real m c P G hP hG t row s p d e).trans (readings_at P G true _ _ _ p d e ?_ ?_ ?_).symm
  · blk_simp [h.2.2.2.2.2]; simp only [batch]; omega
  · rw [cond_true]; blk_simp [h.2.2.2.2.2]; simp only [chunk]; omega
  · blk_simp [h.2.2.2.2.2]; simp only [wideLane, lane]

end Cert.KernelIdeal.Tile

end
-- ==== Proof.RefEntry.lean ====
/- What the reference's loop starts from, read at an index of the arguments. -/
module

public import proofs.«01_k».proof.Proof.Gen.ReferenceIdeal.Run
public import proofs.«01_k».proof.Proof.Rows

@[expose] public section

set_option maxRecDepth 16384

noncomputable section

namespace Cert.ReferenceIdeal.Steps

open Cert.ReferenceIdeal Cert.ReferenceIdeal.Gen Cert.ReferenceIdeal.Value Idealize.ShloMosaic Idealize.ShloMosaic.TcCoe Idealize.SL.Sem
open Idealize.ShloMosaic.StableHlo Idealize.ShloMosaic.Tactic

/-- The forward rows, then the backward rows with their tokens reversed, by token. -/
def both (x y : FVec Ideal S8x4096x8x64 .f32) : FVec Ideal S4096x16x8x64 .f32 :=
  transpose S4096x16x8x64 [1, 0, 2, 3]
    (concatenate S16x4096x8x64 0 [⟨S8x4096x8x64, x⟩, ⟨S8x4096x8x64, Host.reverse [1] y⟩] concatenates_S8x4096x8x64_S8x4096x8x64_S16x4096x8x64_d0)
    transposes_S16x4096x8x64_S4096x16x8x64_1_0_2_3

/-- Each part's columns lie within the packed array. -/
theorem slices_part (j : Fin 5) : S8x4096x3072.Slices ![0, 0, 512 * j.val] S8x4096x512 := by
  revert j; decide

/-- The `j`-th part of the packed columns, by heads. -/
def partHeads (x : Vec Ideal S8x4096x3072 .bf16) (j : Fin 5) : FVec Ideal S8x4096x8x64 .f32 :=
  shapeCast S8x4096x8x64 (extractStridedSlice S8x4096x512 ![0, 0, 512 * j.val] (extf .f32 x bitsLt_bf16_f32) (slices_part j)) shapeCasts_S8x4096x512_S8x4096x8x64

/-- A direction's decay sums, by chunks. -/
def sumsFwd (g : Vec Ideal S8x4096x1024 .f32) : FVec Ideal S8x64x64x512 .f32 :=
  shapeCast S8x64x64x512 (extractStridedSlice S8x4096x512 ![0, 0, 0] g slices_S8x4096x1024_S8x4096x512_0_0_0) shapeCasts_S8x4096x512_S8x64x64x512

/-- The other direction's. -/
def sumsBwd (g : Vec Ideal S8x4096x1024 .f32) : FVec Ideal S8x64x64x512 .f32 :=
  shapeCast S8x64x64x512 (extractStridedSlice S8x4096x512 ![0, 0, 512] g slices_S8x4096x1024_S8x4096x512_0_0_512) shapeCasts_S8x4096x512_S8x64x64x512

/-- Each chunk's rows moved one token on, a zero in front. -/
def moveOn (G : FVec Ideal S8x64x64x512 .f32) : FVec Ideal S8x64x64x512 .f32 :=
  extractStridedSlice S8x64x64x512 ![0, 0, 0, 0]
    (pad S8x64x65x512 ![0, 0, 1, 0] ![0, 0, 0, 0] ![0, 0, 0, 0] G (sitofp (F := Ideal) .f32 (constantI S_ 32 0#32))
      pads_S8x64x64x512_S8x64x65x512_000_000_100_000 h_S_) slices_S8x64x65x512_S8x64x64x512_0_0_0_0

/-- Each chunk's rows moved one token back, a zero behind. -/
def moveBack (G : FVec Ideal S8x64x64x512 .f32) : FVec Ideal S8x64x64x512 .f32 :=
  extractStridedSlice S8x64x64x512 ![0, 0, 1, 0]
    (pad S8x64x65x512 ![0, 0, 0, 0] ![0, 0, 1, 0] ![0, 0, 0, 0] G (sitofp (F := Ideal) .f32 (constantI S_ 32 0#32))
      pads_S8x64x64x512_S8x64x65x512_000_000_010_000 h_S_) slices_S8x64x65x512_S8x64x64x512_0_0_1_0

/-- The forward decays, by heads. -/
def decayFwd (g : Vec Ideal S8x4096x1024 .f32) : FVec Ideal S8x4096x8x64 .f32 :=
  shapeCast S8x4096x8x64 (Host.exp (subf (sumsFwd g) (moveOn (sumsFwd g)))) shapeCasts_S8x64x64x512_S8x4096x8x64

/-- The backward decays, by heads. -/
def decayBwd (g : Vec Ideal S8x4096x1024 .f32) : FVec Ideal S8x4096x8x64 .f32 :=
  shapeCast S8x4096x8x64 (Host.exp (subf (sumsBwd g) (moveBack (sumsBwd g)))) shapeCasts_S8x64x64x512_S8x4096x8x64

variable (m : (ℓ : Loc nD τ sig) → Buf (Elt Ideal) ℓ) (c : Dev nD)

/-- The first eight of the batch are the forward direction's … -/
theorem both_fwd (x y : FVec Ideal S8x4096x8x64 .f32) (τ : Fin 4096) (b : Fin 8) (h : Fin 8) (e : Fin 64) :
    both x y (ix4 τ ⟨b.val, by omega⟩ h e) = x (ix4 b τ h e) := by
  pointwise [both]

/-- … and the other eight the backward direction's, time turned. -/
theorem both_bwd (x y : FVec Ideal S8x4096x8x64 .f32) (τ : Fin 4096) (b : Fin 8) (h : Fin 8) (e : Fin 64) :
    both x y (ix4 τ ⟨8 + b.val, by omega⟩ h e) = y (ix4 b ⟨4095 - τ.val, by omega⟩ h e) := by
  pointwise [both]
  refine congrArg y ?_
  funext a
  fin_cases a
  · rfl
  · exact Fin.ext (by show (Fin.rev τ).val = _; rw [Fin.val_rev]; simp only [ix4]; show _ = 4095 - τ.val; omega)
  · rfl
  · rfl

/-- The forward direction's summed log decays at an index … -/
theorem sumsFwd_at (g : Vec Ideal S8x4096x1024 .f32) (b : Fin 8) (q s : Fin 64) (n : Fin 512) :
    sumsFwd g (ix4 b q s n) = g (ix3 b ⟨64 * q.val + s.val, by omega⟩ ⟨n.val, by omega⟩) := by
  pointwise [sumsFwd]
  congr 2
  exact Fin.ext (by simp only; omega)

/-- … and the backward direction's. -/
theorem sumsBwd_at (g : Vec Ideal S8x4096x1024 .f32) (b : Fin 8) (q s : Fin 64) (n : Fin 512) :
    sumsBwd g (ix4 b q s n) = g (ix3 b ⟨64 * q.val + s.val, by omega⟩ ⟨512 + n.val, by omega⟩) := by
  pointwise [sumsBwd]
  congr 2
  exact Fin.ext (by simp only; omega)

/-- The padding value is zero. -/
theorem padding_zero : (FloatOps.sitofp (F := Ideal) FTy.f32 (0#32 : BitVec 32)) = (0 : EReal) := by
  simp [FloatOps.sitofp]

/-- A row moved on is the one before it. -/
theorem moveOn_at (G : FVec Ideal S8x64x64x512 .f32) (b : Fin 8) (q s : Fin 64) (n : Fin 512) :
    moveOn G (ix4 b q s n) = if hs : 1 ≤ s.val then G (ix4 b q ⟨s.val - 1, by omega⟩ n) else 0 := by
  pointwise [moveOn]
  split_ifs
  · rfl
  · omega
  · omega
  · exact padding_zero

/-- A row moved back is the one behind it. -/
theorem moveBack_at (G : FVec Ideal S8x64x64x512 .f32) (b : Fin 8) (q s : Fin 64) (n : Fin 512) :
    moveBack G (ix4 b q s n) = if hs : 1 + s.val < 64 then G (ix4 b q ⟨1 + s.val, hs⟩ n) else 0 := by
  pointwise [moveBack]
  split_ifs
  · rfl
  · exact padding_zero

/-- A lane of the eight heads. -/
def headLane (h : Fin 8) (e : Fin 64) : Fin 512 := ⟨h.val * 64 + e.val, by omega⟩

/-- The forward direction's decay at an index: the exponential of the difference of neighbouring sums … -/
theorem decayFwd_at (g : Vec Ideal S8x4096x1024 .f32) (b : Fin 8) (q s : Fin 64) (h : Fin 8) (e : Fin 64) :
    decayFwd g (ix4 b ⟨64 * q.val + s.val, by omega⟩ h e)
      = Ideal.exp (sumsFwd g (ix4 b q s (headLane h e)) - moveOn (sumsFwd g) (ix4 b q s (headLane h e))) := by
  unfold decayFwd
  generalize sumsFwd g = y
  generalize moveOn y = z
  pointwise
  rfl

/-- … and the backward direction's. -/
theorem decayBwd_at (g : Vec Ideal S8x4096x1024 .f32) (b : Fin 8) (q s : Fin 64) (h : Fin 8) (e : Fin 64) :
    decayBwd g (ix4 b ⟨64 * q.val + s.val, by omega⟩ h e)
      = Ideal.exp (sumsBwd g (ix4 b q s (headLane h e)) - moveBack (sumsBwd g) (ix4 b q s (headLane h e))) := by
  unfold decayBwd
  generalize sumsBwd g = y
  generalize moveBack y = z
  pointwise
  rfl

/-- A part at an index, a head's lanes beside each other. -/
theorem partHeads_at (x : Vec Ideal S8x4096x3072 .bf16) (j : Fin 5) (b : Fin 8) (τ : Fin 4096) (h : Fin 8) (e : Fin 64) :
    partHeads x j (ix4 b τ h e) = x (ix3 b τ ⟨512 * j.val + (64 * h.val + e.val), by omega⟩) := by
  pointwise [partHeads]
  congr 2
  exact Fin.ext (by simp only; omega)

end Cert.ReferenceIdeal.Steps

end
-- ==== Proof.RefStart.lean ====
/- The contents the reference's loop starts from, as functions of the arguments. -/
module

public import proofs.«01_k».proof.Proof.RefEntry

@[expose] public section

set_option maxRecDepth 16384

noncomputable section

namespace Cert.ReferenceIdeal.Steps

open Cert.ReferenceIdeal Cert.ReferenceIdeal.Gen Cert.ReferenceIdeal.Value Idealize.ShloMosaic Idealize.ShloMosaic.TcCoe Idealize.SL.Sem
open Idealize.ShloMosaic.StableHlo Idealize.ShloMosaic.Tactic

variable (m : (ℓ : Loc nD τ sig) → Buf (Elt Ideal) ℓ) (c : Dev nD)

/-- The contents once the decays are made. -/
abbrev cutContents : Valuation τ sig (Elt Ideal) :=
  after hostOps0_4 (after hostOps0_3 (after hostOps0_2 (after hostOps0_1 (after hostOps0 (launchContents m c)))))

set_option maxHeartbeats 1000000 in
/-- Where the loop starts, the forward decays are these … -/
theorem cut21 : cutContents m c (Proc.devRef .tc main_v21) = decayFwd (m ((c.tc : Thread nD τ).loc main_arg1)) := by
  unfold decayFwd moveOn sumsFwd
  after_results_entrywise []

set_option maxHeartbeats 1000000 in
/-- … the backward decays these … -/
theorem cut24 : cutContents m c (Proc.devRef .tc main_v24) = decayBwd (m ((c.tc : Thread nD τ).loc main_arg1)) := by
  unfold decayBwd moveBack sumsBwd
  after_results_entrywise []

set_option maxHeartbeats 1000000 in
/-- … and the parts these. -/
theorem cut_parts : cutContents m c (Proc.devRef .tc main_v2) = partHeads (m ((c.tc : Thread nD τ).loc main_arg0)) 0
    ∧ cutContents m c (Proc.devRef .tc main_v4) = partHeads (m ((c.tc : Thread nD τ).loc main_arg0)) 1
    ∧ cutContents m c (Proc.devRef .tc main_v6) = partHeads (m ((c.tc : Thread nD τ).loc main_arg0)) 2
    ∧ cutContents m c (Proc.devRef .tc main_v8) = partHeads (m ((c.tc : Thread nD τ).loc main_arg0)) 3
    ∧ cutContents m c (Proc.devRef .tc main_v10) = partHeads (m ((c.tc : Thread nD τ).loc main_arg0)) 4 := by
  refine ⟨?_, ?_, ?_, ?_, ?_⟩ <;> after_results_entrywise []

/-- The remaining operations before the loop. -/
abbrev laterContents (X : Valuation τ sig (Elt Ideal)) : Valuation τ sig (Elt Ideal) :=
  after hostOps0_16 (after hostOps0_15 (after hostOps0_14 (after hostOps0_13 (after hostOps0_12 (after hostOps0_11 (after hostOps0_10
    (after hostOps0_9 (after hostOps0_8 (after hostOps0_7 (after hostOps0_6 (after hostOps0_5 X)))))))))))

/-- What the loop is entered with is what the later steps make of that. -/
theorem entry_eq : entryContents preI m c = laterContents (cutContents m c) := rfl

set_option maxHeartbeats 1000000 in
/-- What the later steps make of the parts. -/
theorem later_parts (X : Valuation τ sig (Elt Ideal)) :
    laterContents X (Proc.devRef .tc main_v45_0) = both (X (Proc.devRef .tc main_v2)) (X (Proc.devRef .tc main_v2))
    ∧ laterContents X (Proc.devRef .tc main_v45_1) = both (X (Proc.devRef .tc main_v21)) (X (Proc.devRef .tc main_v24))
    ∧ laterContents X (Proc.devRef .tc main_v45_2) = both (X (Proc.devRef .tc main_v4)) (X (Proc.devRef .tc main_v4))
    ∧ laterContents X (Proc.devRef .tc main_v45_3) = both (X (Proc.devRef .tc main_v6)) (X (Proc.devRef .tc main_v6))
    ∧ laterContents X (Proc.devRef .tc main_v45_4) = both (X (Proc.devRef .tc main_v8)) (X (Proc.devRef .tc main_v8))
    ∧ laterContents X (Proc.devRef .tc main_v45_5) = both (X (Proc.devRef .tc main_v10)) (X (Proc.devRef .tc main_v10)) := by
  unfold both
  refine ⟨?_, ?_, ?_, ?_, ?_, ?_⟩ <;> after_results_entrywise []

/-- The loop's first state is zero. -/
theorem later_state (X : Valuation τ sig (Elt Ideal)) (d : Fin 16) (h : Fin 8) (e e' : Fin 64) :
    (laterContents X (Proc.devRef .tc main_v45_7) : Vec Ideal S16x8x64x64 .f32) (ix4 d h e e') = (0 : EReal) := by
  after_reads_simp
  show broadcastInDim S16x8x64x64 ![] bcast_S_S16x8x64x64 (constant (F := Ideal) S_ .f32 0x00000000#32) (ix4 d h e e') = (0 : EReal)
  pointwise

end Cert.ReferenceIdeal.Steps

end
-- ==== Proof.RefStep.lean ====
/- One step of the reference's loop, read at an index: the slices of the step's token, the next state and the step's
   reading, on real arguments. -/
module

public import proofs.«01_k».proof.Proof.Gen.ReferenceIdeal.Run
public import proofs.«01_k».proof.Proof.Chunk
public import Idealize.ShloMosaic.Lib.DynamicIndex

@[expose] public section

set_option maxRecDepth 16384

noncomputable section

namespace Cert.ReferenceIdeal.Steps

open Cert.ReferenceIdeal Cert.ReferenceIdeal.Gen Idealize.ShloMosaic Idealize.ShloMosaic.TcCoe Idealize.SL.Sem

/-- The loop's counter at step `k`, read as a number. -/
theorem counter_toInt (k : ℕ) (hk : k < 4096) : (Scf.iv 0#32 1#32 k).toInt = (k : ℤ) := by
  simp only [Scf.iv, BitVec.zero_add, BitVec.mul_one]
  rw [BitVec.toInt_eq_toNat_of_lt (by rw [BitVec.toNat_ofNat]; omega), BitVec.toNat_ofNat, Nat.mod_eq_of_lt (by omega)]

/-- Where a step starts reading or writing. -/
def startAt (n : (⟨S_, .i32⟩ : BufTy).Contents (Elt Ideal)) : Fin 4 → ℤ := fun k =>
  (((![n, constantI S_ 32 0#32, constantI S_ 32 0#32, constantI S_ 32 0#32] : Fin 4 → (⟨S_, .i32⟩ : BufTy).Contents (Elt Ideal))) k
    (Shape.Idx.first h_S_)).toInt

/-- A step reads at its own number. -/
theorem startAt_eq (k : ℕ) (hk : k < 4096) : startAt (fun _ => Scf.iv 0#32 1#32 k) = ![(k : ℤ), 0, 0, 0] := by
  funext a
  fin_cases a
  · exact counter_toInt k hk
  · rfl
  · rfl
  · rfl

/-- A sequence's entry at the step. -/
def entryAt (X : Vec Ideal S4096x16x8x64 .f32) (n : (⟨S_, .i32⟩ : BufTy).Contents (Elt Ideal)) : FVec Ideal S16x8x64 .f32 :=
  shapeCast S16x8x64 (Host.dynamicSlice S1x16x8x64 X (startAt n) sliceFits_S4096x16x8x64_S1x16x8x64) shapeCasts_S1x16x8x64_S16x8x64

/-- A step's entry lies within the array. -/
theorem slices_step (k : Fin 4096) : S4096x16x8x64.Slices ![k.val, 0, 0, 0] S1x16x8x64 := by
  refine ⟨rfl, fun a => ?_⟩
  have := k.isLt
  fin_cases a
  · show k.val + 1 ≤ 4096; omega
  · show 0 + 16 ≤ 16; omega
  · show 0 + 8 ≤ 8; omega
  · show 0 + 64 ≤ 64; omega

/-- A step's entry at an index. -/
theorem entryAt_at (X : Vec Ideal S4096x16x8x64 .f32) (k : Fin 4096) (d : Fin 16) (h : Fin 8) (e : Fin 64) :
    entryAt X (fun _ => Scf.iv 0#32 1#32 k.val) (ix3 d h e) = X (ix4 k d h e) := by
  unfold entryAt
  rw [startAt_eq k.val k.isLt, Host.dynamicSlice_eq_extractStridedSlice S1x16x8x64 X _ ![k.val, 0, 0, 0] _ (slices_step k)
    (by intro a; fin_cases a <;> rfl)]
  pointwise

/-- The state a step leaves, from the state it found and the step's entries. -/
def nextState (S : FVec Ideal S16x8x64x64 .f32) (w k v kk b : FVec Ideal S16x8x64 .f32) : FVec Ideal S16x8x64x64 .f32 :=
  addf (addf (mulf S (broadcastInDim S16x8x64x64 ![0, 1, 2, 3] bcast_S16x8x1x64_S16x8x64x64_0_1_2_3 (broadcastInDim S16x8x1x64 ![0, 1, 3] bcast_S16x8x64_S16x8x1x64_0_1_3 w)))
      (mulf (broadcastInDim S16x8x64x64 ![0, 1, 2, 3] bcast_S16x8x64x1_S16x8x64x64_0_1_2_3 (broadcastInDim S16x8x64x1 ![0, 1, 2] bcast_S16x8x64_S16x8x64x1_0_1_2 (Host.dotGeneral dot_S16x8x64x64_S16x8x64_S16x8x64_3_2_2_n_01_01 none S (Host.negf kk))))
        (broadcastInDim S16x8x64x64 ![0, 1, 2, 3] bcast_S16x8x1x64_S16x8x64x64_0_1_2_3 (broadcastInDim S16x8x1x64 ![0, 1, 3] bcast_S16x8x64_S16x8x1x64_0_1_3 b))))
    (mulf (broadcastInDim S16x8x64x64 ![0, 1, 2, 3] bcast_S16x8x64x1_S16x8x64x64_0_1_2_3 (broadcastInDim S16x8x64x1 ![0, 1, 2] bcast_S16x8x64_S16x8x64x1_0_1_2 v))
      (broadcastInDim S16x8x64x64 ![0, 1, 2, 3] bcast_S16x8x1x64_S16x8x64x64_0_1_2_3 (broadcastInDim S16x8x1x64 ![0, 1, 3] bcast_S16x8x64_S16x8x1x64_0_1_3 k)))

/-- The state after a step at an index: the generalised delta rule. -/
theorem nextState_at (S : FVec Ideal S16x8x64x64 .f32) (w k v kk b : FVec Ideal S16x8x64 .f32) (d : Fin 16) (h : Fin 8) (e m : Fin 64) :
    nextState S w k v kk b (ix4 d h e m)
      = S (ix4 d h e m) * w (ix3 d h m) + (∑ m', S (ix4 d h e m') * (-kk (ix3 d h m'))) * b (ix3 d h m) + v (ix3 d h e) * k (ix3 d h m) := by
  pointwise [nextState]

/-- What a step reads out of a state. -/
def readOut (S : FVec Ideal S16x8x64x64 .f32) (r : FVec Ideal S16x8x64 .f32) : FVec Ideal S16x8x64 .f32 :=
  Host.dotGeneral dot_S16x8x64x64_S16x8x64_S16x8x64_3_2_2_n_01_01 none S r

/-- What a step reads out of the state at an index. -/
theorem readOut_at (S : FVec Ideal S16x8x64x64 .f32) (r : FVec Ideal S16x8x64 .f32) (d : Fin 16) (h : Fin 8) (e : Fin 64) :
    readOut S r (ix3 d h e) = ∑ m, S (ix4 d h e m) * r (ix3 d h m) := by
  pointwise [readOut]

/-- The readings with a step's written over them. -/
def written (Y : Vec Ideal S4096x16x8x64 .f32) (y : FVec Ideal S16x8x64 .f32) (n : (⟨S_, .i32⟩ : BufTy).Contents (Elt Ideal)) : Vec Ideal S4096x16x8x64 .f32 :=
  Host.dynamicUpdateSlice Y (broadcastInDim S1x16x8x64 ![1, 2, 3] bcast_S16x8x64_S1x16x8x64_1_2_3 y) (startAt n) updateFits_S4096x16x8x64_S1x16x8x64

/-- A step writes its own entry and no other. -/
theorem written_at (Y : Vec Ideal S4096x16x8x64 .f32) (y : FVec Ideal S16x8x64 .f32) (k i : Fin 4096) (d : Fin 16) (h : Fin 8) (e : Fin 64) :
    written Y y (fun _ => Scf.iv 0#32 1#32 k.val) (ix4 i d h e) = if i = k then y (ix3 d h e) else Y (ix4 i d h e) := by
  unfold written
  rw [startAt_eq k.val k.isLt]
  have hk := k.isLt
  have c0 : Host.clampedStart S4096x16x8x64 S1x16x8x64 rfl ![(k.val : ℤ), 0, 0, 0] 0 = k.val :=
    Host.clampedStart_of_le (s := S4096x16x8x64) (t := S1x16x8x64) rfl _ 0 k.val rfl (by show k.val + 1 ≤ 4096; omega)
  have c1 : Host.clampedStart S4096x16x8x64 S1x16x8x64 rfl ![(k.val : ℤ), 0, 0, 0] 1 = 0 :=
    Host.clampedStart_of_le (s := S4096x16x8x64) (t := S1x16x8x64) rfl _ 1 0 rfl (by decide)
  have c2 : Host.clampedStart S4096x16x8x64 S1x16x8x64 rfl ![(k.val : ℤ), 0, 0, 0] 2 = 0 :=
    Host.clampedStart_of_le (s := S4096x16x8x64) (t := S1x16x8x64) rfl _ 2 0 rfl (by decide)
  have c3 : Host.clampedStart S4096x16x8x64 S1x16x8x64 rfl ![(k.val : ℤ), 0, 0, 0] 3 = 0 :=
    Host.clampedStart_of_le (s := S4096x16x8x64) (t := S1x16x8x64) rfl _ 3 0 rfl (by decide)
  pointwise
  by_cases hi : i = k
  · rw [if_pos hi, dif_pos (by rw [c0, c1, c2, c3, hi]; omega)]
    simp only [c1, c2, c3, Nat.sub_zero, Fin.eta]
  · rw [if_neg hi, dif_neg (by rw [c0]; exact fun h => hi (Fin.ext (by omega)))]

open Cert.ReferenceIdeal.Value

/-- The loop's state after a step is the next state. -/
theorem step7_eq (V : Valuation τ sig (Elt Ideal)) :
    step_main_v45_7 V = nextState (V (Proc.devRef .tc main_v45_7)) (entryAt (V (Proc.devRef .tc main_v45_1)) (V (Proc.devRef .tc main_v45_6)))
      (entryAt (V (Proc.devRef .tc main_v45_2)) (V (Proc.devRef .tc main_v45_6))) (entryAt (V (Proc.devRef .tc main_v45_3)) (V (Proc.devRef .tc main_v45_6)))
      (entryAt (V (Proc.devRef .tc main_v45_4)) (V (Proc.devRef .tc main_v45_6))) (entryAt (V (Proc.devRef .tc main_v45_5)) (V (Proc.devRef .tc main_v45_6))) := by
  unfold step_main_v45_7 res_main_while0b_v74 nextState entryAt startAt
  rfl

/-- The loop's result after a step has the step's entry written. -/
theorem step8_eq (V : Valuation τ sig (Elt Ideal)) :
    step_main_v45_8 V = written (V (Proc.devRef .tc main_v45_8))
      (readOut (step_main_v45_7 V) (entryAt (V (Proc.devRef .tc main_v45_0)) (V (Proc.devRef .tc main_v45_6)))) (V (Proc.devRef .tc main_v45_6)) := by
  unfold step_main_v45_8 step_main_v45_7 written readOut entryAt startAt
  rfl

end Cert.ReferenceIdeal.Steps

end
-- ==== Proof.RefLoop.lean ====
/- The reference's loop, step by step: its state and its readings are the recurrence's. -/
module

public import proofs.«01_k».proof.Proof.RefStart
public import proofs.«01_k».proof.Proof.RefStep
public import proofs.«01_k».proof.Proof.Scan

@[expose] public section

set_option maxRecDepth 16384

noncomputable section

namespace Cert.ReferenceIdeal.Steps

open Cert.ReferenceIdeal Cert.ReferenceIdeal.Gen Cert.ReferenceIdeal.Value Idealize.ShloMosaic Idealize.ShloMosaic.TcCoe Idealize.SL.Sem
open Idealize.ShloMosaic.StableHlo
open Cert.KernelIdeal.Tile (exp_coe coe_sum)

/-- The loop's row of a direction and a batch row: the forward rows first. -/
def rowOf (rev : Bool) (b : Fin 8) : Fin 16 := ⟨(bif rev then 8 else 0) + b.val, by cases rev <;> simp <;> omega⟩

/-- A sequence of both directions at a step: the direction's own rows at the step's token. -/
theorem both_at (x y : FVec Ideal S8x4096x8x64 .f32) (rev : Bool) (k : Fin 4096) (b : Fin 8) (h : Fin 8) (e : Fin 64) :
    both x y (ix4 k (rowOf rev b) h e) = (bif rev then y else x) (ix4 b (Scan.token rev k.val) h e) := by
  cases rev
  · have e0 : rowOf false b = ⟨b.val, by omega⟩ := Fin.ext (by simp [rowOf])
    have e1 : Scan.token false k.val = k := Fin.ext (by simp [Scan.token])
    rw [e0, e1]
    exact both_fwd x y k b h e
  · exact both_bwd x y k b h e

section Sequences

variable (P : Fin 8 → Fin 4096 → Fin 3072 → ℝ) (G : Fin 8 → Fin 4096 → Fin 1024 → ℝ)
  {x : Vec Ideal S8x4096x3072 .bf16} {g : Vec Ideal S8x4096x1024 .f32}
  (hx : ∀ b s n, x (ix3 b s n) = ((P b s n : ℝ) : EReal)) (hg : ∀ b s n, g (ix3 b s n) = ((G b s n : ℝ) : EReal))

include hx in
/-- A part's sequence holds the recurrence's part. -/
theorem part_at (j : Fin 5) (rev : Bool) (k : Fin 4096) (b h : Fin 8) (e : Fin 64) :
    both (partHeads x j) (partHeads x j) (ix4 k (rowOf rev b) h e) = ((Scan.part P rev b h j k.val e : ℝ) : EReal) := by
  rw [both_at, Bool.cond_self, partHeads_at]
  exact hx _ _ _

include hg in
/-- The decays' sequence holds the recurrence's decay. -/
theorem decay_at (rev : Bool) (k : Fin 4096) (b h : Fin 8) (e : Fin 64) :
    both (decayFwd g) (decayBwd g) (ix4 k (rowOf rev b) h e) = ((Scan.decay G rev b h k.val e : ℝ) : EReal) := by
  have hk := k.isLt
  have hh := h.isLt
  have he := e.isLt
  rw [both_at, Scan.decay, ← exp_coe, EReal.coe_sub]
  cases rev
  · have e0 : Scan.token false k.val = ⟨64 * (⟨k.val / 64, by omega⟩ : Fin 64).val + (⟨k.val % 64, by omega⟩ : Fin 64).val, by simp only; omega⟩ :=
      Fin.ext (by simp only [Scan.token, cond_false]; omega)
    have e1 : (⟨(headLane h e).val, by omega⟩ : Fin 1024) = Scan.decayColumn false h e :=
      Fin.ext (by simp only [headLane, Scan.decayColumn, cond_false]; omega)
    rw [Scan.decaySum, e0, cond_false, decayFwd_at, moveOn_at, sumsFwd_at, hg, e1, Scan.decaySumBefore]
    by_cases h0 : k.val % 64 = 0
    · rw [dif_neg (by simp only; omega), if_pos h0, EReal.coe_zero]
    · have e2 : Scan.token false (k.val - 1) = ⟨64 * (⟨k.val / 64, by omega⟩ : Fin 64).val + (⟨k.val % 64 - 1, by omega⟩ : Fin 64).val, by simp only; omega⟩ :=
        Fin.ext (by simp only [Scan.token, cond_false]; omega)
      rw [dif_pos (by simp only; omega), if_neg h0, sumsFwd_at, hg, e1, Scan.decaySum, e2]
  · have e0 : Scan.token true k.val = ⟨64 * (⟨63 - k.val / 64, by omega⟩ : Fin 64).val + (⟨63 - k.val % 64, by omega⟩ : Fin 64).val, by simp only; omega⟩ :=
      Fin.ext (by simp only [Scan.token, cond_true]; omega)
    have e1 : (⟨512 + (headLane h e).val, by omega⟩ : Fin 1024) = Scan.decayColumn true h e :=
      Fin.ext (by simp only [headLane, Scan.decayColumn, cond_true]; omega)
    rw [Scan.decaySum, e0, cond_true, decayBwd_at, moveBack_at, sumsBwd_at, hg, e1, Scan.decaySumBefore]
    by_cases h0 : k.val % 64 = 0
    · rw [dif_neg (by simp only; omega), if_pos h0, EReal.coe_zero]
    · have e2 : Scan.token true (k.val - 1) = ⟨64 * (⟨63 - k.val / 64, by omega⟩ : Fin 64).val + (⟨1 + (63 - k.val % 64), by omega⟩ : Fin 64).val, by simp only; omega⟩ :=
        Fin.ext (by simp only [Scan.token, cond_true]; omega)
      rw [dif_pos (by simp only; omega), if_neg h0, sumsBwd_at, hg, e1, Scan.decaySum, e2]

end Sequences

section Loop

variable (P : Fin 8 → Fin 4096 → Fin 3072 → ℝ) (G : Fin 8 → Fin 4096 → Fin 1024 → ℝ)

/-- The carried contents after `k` steps. -/
structure After (k : ℕ) (V : Valuation τ sig (Elt Ideal)) : Prop where
  seqR : ∀ (i : Fin 4096) rev b h e, (V (Proc.devRef .tc main_v45_0) : Vec Ideal S4096x16x8x64 .f32) (ix4 i (rowOf rev b) h e) = ((Scan.part P rev b h 0 i.val e : ℝ) : EReal)
  seqW : ∀ (i : Fin 4096) rev b h e, (V (Proc.devRef .tc main_v45_1) : Vec Ideal S4096x16x8x64 .f32) (ix4 i (rowOf rev b) h e) = ((Scan.decay G rev b h i.val e : ℝ) : EReal)
  seqK : ∀ (i : Fin 4096) rev b h e, (V (Proc.devRef .tc main_v45_2) : Vec Ideal S4096x16x8x64 .f32) (ix4 i (rowOf rev b) h e) = ((Scan.part P rev b h 1 i.val e : ℝ) : EReal)
  seqV : ∀ (i : Fin 4096) rev b h e, (V (Proc.devRef .tc main_v45_3) : Vec Ideal S4096x16x8x64 .f32) (ix4 i (rowOf rev b) h e) = ((Scan.part P rev b h 2 i.val e : ℝ) : EReal)
  seqKk : ∀ (i : Fin 4096) rev b h e, (V (Proc.devRef .tc main_v45_4) : Vec Ideal S4096x16x8x64 .f32) (ix4 i (rowOf rev b) h e) = ((Scan.part P rev b h 3 i.val e : ℝ) : EReal)
  seqB : ∀ (i : Fin 4096) rev b h e, (V (Proc.devRef .tc main_v45_5) : Vec Ideal S4096x16x8x64 .f32) (ix4 i (rowOf rev b) h e) = ((Scan.part P rev b h 4 i.val e : ℝ) : EReal)
  state : ∀ rev b h e e', (V (Proc.devRef .tc main_v45_7) : Vec Ideal S16x8x64x64 .f32) (ix4 (rowOf rev b) h e e') = ((Scan.state P G rev b h k e' e : ℝ) : EReal)
  readings : ∀ (i : Fin 4096), i.val < k → ∀ rev b h e,
    (V (Proc.devRef .tc main_v45_8) : Vec Ideal S4096x16x8x64 .f32) (ix4 i (rowOf rev b) h e) = ((Scan.reading P G rev b h i.val e : ℝ) : EReal)

/-- A sequence's entry at the step of a counter. -/
theorem entry_real {k : ℕ} (hk : k < 4096) (X : Vec Ideal S4096x16x8x64 .f32) {f : Bool → Fin 8 → Fin 8 → ℕ → Fin 64 → ℝ}
    (hX : ∀ (i : Fin 4096) rev b h e, X (ix4 i (rowOf rev b) h e) = ((f rev b h i.val e : ℝ) : EReal)) (rev : Bool) (b h : Fin 8) (e : Fin 64) :
    entryAt X (fun _ => Scf.iv 0#32 1#32 k) (ix3 (rowOf rev b) h e) = ((f rev b h k e : ℝ) : EReal) :=
  (entryAt_at X ⟨k, hk⟩ _ _ _).trans (hX _ _ _ _ _)

omit P G in
/-- The next state at an index where what it is computed from is real. -/
theorem nextState_real {S : FVec Ideal S16x8x64x64 .f32} {w k v kk b : FVec Ideal S16x8x64 .f32} {d : Fin 16} {h : Fin 8}
    {s : Fin 64 → Fin 64 → ℝ} {rw rk rv rkk rb : Fin 64 → ℝ} (hS : ∀ e e', S (ix4 d h e e') = ((s e' e : ℝ) : EReal))
    (hw : ∀ e, w (ix3 d h e) = ((rw e : ℝ) : EReal)) (hk : ∀ e, k (ix3 d h e) = ((rk e : ℝ) : EReal)) (hv : ∀ e, v (ix3 d h e) = ((rv e : ℝ) : EReal))
    (hkk : ∀ e, kk (ix3 d h e) = ((rkk e : ℝ) : EReal)) (hb : ∀ e, b (ix3 d h e) = ((rb e : ℝ) : EReal)) (e e' : Fin 64) :
    nextState S w k v kk b (ix4 d h e e') = ((s e' e * rw e' + (∑ x, s x e * -rkk x) * rb e' + rv e * rk e' : ℝ) : EReal) := by
  rw [nextState_at]
  simp only [hS, hw, hk, hv, hkk, hb, ← EReal.coe_neg, ← EReal.coe_mul, ← coe_sum, ← EReal.coe_add]

omit P G in
/-- What is read out at an index where the state and the row read with are real. -/
theorem readOut_real {S : FVec Ideal S16x8x64x64 .f32} {r : FVec Ideal S16x8x64 .f32} {d : Fin 16} {h : Fin 8}
    {s : Fin 64 → Fin 64 → ℝ} {rr : Fin 64 → ℝ} (hS : ∀ e e', S (ix4 d h e e') = ((s e' e : ℝ) : EReal))
    (hr : ∀ e, r (ix3 d h e) = ((rr e : ℝ) : EReal)) (e : Fin 64) :
    readOut S r (ix3 d h e) = ((∑ x, s x e * rr x : ℝ) : EReal) := by
  rw [readOut_at]
  simp only [hS, hr, ← EReal.coe_mul, ← coe_sum]

/-- The next state is the recurrence's. -/
theorem state_next {k : ℕ} (hk : k < 4096) {V : Valuation τ sig (Elt Ideal)} (hV : After P G k V)
    (hc : V (Proc.devRef .tc main_v45_6) = fun _ => Scf.iv 0#32 1#32 k) (rev : Bool) (b h : Fin 8) (e e' : Fin 64) :
    (step_main_v45_7 V : Vec Ideal S16x8x64x64 .f32) (ix4 (rowOf rev b) h e e') = ((Scan.state P G rev b h (k + 1) e' e : ℝ) : EReal) := by
  rw [step7_eq, hc]
  exact nextState_real (s := Scan.state P G rev b h k) (hV.state rev b h) (fun e => entry_real hk _ hV.seqW rev b h e)
    (fun e => entry_real hk _ hV.seqK rev b h e) (fun e => entry_real hk _ hV.seqV rev b h e)
    (fun e => entry_real hk _ hV.seqKk rev b h e) (fun e => entry_real hk _ hV.seqB rev b h e) e e'

/-- One step of the loop is one step of the recurrence. -/
theorem after_next {k : ℕ} (hk : k < 4096) {V : Valuation τ sig (Elt Ideal)} (hV : After P G k V)
    (hc : V (Proc.devRef .tc main_v45_6) = fun _ => Scf.iv 0#32 1#32 k) : After P G (k + 1) (STEP V) where
  seqR := by rw [STEP_main_v45_0]; exact hV.seqR
  seqW := by rw [STEP_main_v45_1]; exact hV.seqW
  seqK := by rw [STEP_main_v45_2]; exact hV.seqK
  seqV := by rw [STEP_main_v45_3]; exact hV.seqV
  seqKk := by rw [STEP_main_v45_4]; exact hV.seqKk
  seqB := by rw [STEP_main_v45_5]; exact hV.seqB
  state := by rw [STEP_main_v45_7]; exact state_next P G hk hV hc
  readings := by
    intro i hi rev b h e
    rw [STEP_main_v45_8, step8_eq, hc]
    refine (written_at _ _ ⟨k, hk⟩ i _ h e).trans ?_
    by_cases h0 : i = ⟨k, hk⟩
    · rw [if_pos h0, h0]
      exact readOut_real (s := Scan.state P G rev b h (k + 1)) (state_next P G hk hV hc rev b h) (fun e => entry_real hk _ hV.seqR rev b h e) e
    · rw [if_neg h0]
      exact hV.readings i (by have : i.val ≠ k := fun h => h0 (Fin.ext h); omega) rev b h e

variable (m : (ℓ : Loc nD τ sig) → Buf (Elt Ideal) ℓ) (c : Dev nD)
  (hP : ∀ b s n, m ((c.tc : Thread nD τ).loc main_arg0) (ix3 b s n) = ((P b s n : ℝ) : EReal))
  (hG : ∀ b s n, m ((c.tc : Thread nD τ).loc main_arg1) (ix3 b s n) = ((G b s n : ℝ) : EReal))

include hP hG in
/-- Before the first step. -/
theorem after_zero : After P G 0 (entryContents preI m c) where
  seqR := by
    intro i rev b h e
    rw [entry_eq, (later_parts _).1, (cut_parts m c).1]; exact part_at P hP 0 rev i b h e
  seqW := by
    intro i rev b h e
    rw [entry_eq, (later_parts _).2.1, cut21, cut24]; exact decay_at G hG rev i b h e
  seqK := by
    intro i rev b h e
    rw [entry_eq, (later_parts _).2.2.1, (cut_parts m c).2.1]; exact part_at P hP 1 rev i b h e
  seqV := by
    intro i rev b h e
    rw [entry_eq, (later_parts _).2.2.2.1, (cut_parts m c).2.2.1]; exact part_at P hP 2 rev i b h e
  seqKk := by
    intro i rev b h e
    rw [entry_eq, (later_parts _).2.2.2.2.1, (cut_parts m c).2.2.2.1]; exact part_at P hP 3 rev i b h e
  seqB := by
    intro i rev b h e
    rw [entry_eq, (later_parts _).2.2.2.2.2, (cut_parts m c).2.2.2.2]; exact part_at P hP 4 rev i b h e
  state := by
    intro rev b h e e'
    rw [entry_eq]; exact later_state _ _ _ _ _
  readings := fun i hi => absurd hi (by omega)

include hP hG in
/-- After any number of steps. -/
theorem after_steps : ∀ k, k ≤ 4096 → After P G k (STEP^[k] (entryContents preI m c))
  | 0, _ => after_zero P G m c hP hG
  | k + 1, hk => by
    rw [Function.iterate_succ_apply']
    exact after_next P G (by omega) (after_steps k (by omega)) ((atK_agree m c k main_v45_6 (by decide)).symm.trans (atK_ctr m c k))

end Loop

end Cert.ReferenceIdeal.Steps

end
-- ==== Proof.RefArrays.lean ====
/- The reference's two results at an index: the recurrence's readings, token by token. -/
module

public import proofs.«01_k».proof.Proof.RefLoop

@[expose] public section

set_option maxRecDepth 16384

noncomputable section

namespace Cert.ReferenceIdeal.Steps

open Cert.ReferenceIdeal Cert.ReferenceIdeal.Gen Cert.ReferenceIdeal.Value Idealize.ShloMosaic Idealize.ShloMosaic.TcCoe Idealize.SL.Sem
open Idealize.ShloMosaic.StableHlo

/-- The first result out of the loop's readings. -/
def forwardOf (Y : FVec Ideal S4096x16x8x64 .f32) : FVec Ideal S8x4096x512 .f32 :=
  shapeCast S8x4096x512 (extractStridedSlice S8x4096x8x64 ![0, 0, 0, 0] (transpose S16x4096x8x64 [1, 0, 2, 3] Y transposes_S4096x16x8x64_S16x4096x8x64_1_0_2_3) slices_S16x4096x8x64_S8x4096x8x64_0_0_0_0) shapeCasts_S8x4096x8x64_S8x4096x512

/-- The backward rows of the loop's readings, by token. -/
def backwardRows (Y : FVec Ideal S4096x16x8x64 .f32) : FVec Ideal S8x4096x8x64 .f32 :=
  extractStridedSlice S8x4096x8x64 ![8, 0, 0, 0] (transpose S16x4096x8x64 [1, 0, 2, 3] Y transposes_S4096x16x8x64_S16x4096x8x64_1_0_2_3) slices_S16x4096x8x64_S8x4096x8x64_8_0_0_0

/-- The second result out of the backward rows. -/
def backwardOf (Z : FVec Ideal S8x4096x8x64 .f32) : FVec Ideal S8x4096x512 .f32 :=
  shapeCast S8x4096x512 (Host.reverse [1] Z) shapeCasts_S8x4096x8x64_S8x4096x512

/-- The first result at an index. -/
theorem forwardOf_at (Y : FVec Ideal S4096x16x8x64 .f32) (b : Fin 8) (s : Fin 4096) (n : Fin 512) :
    forwardOf Y (ix3 b s n) = Y (ix4 s ⟨0 + b.val, by omega⟩ ⟨n.val / 64, by omega⟩ ⟨n.val % 64, by omega⟩) := by
  pointwise [forwardOf]

/-- The backward rows at an index. -/
theorem backwardRows_at (Y : FVec Ideal S4096x16x8x64 .f32) (b : Fin 8) (s : Fin 4096) (h : Fin 8) (e : Fin 64) :
    backwardRows Y (ix4 b s h e) = Y (ix4 s ⟨8 + b.val, by omega⟩ h e) := by
  pointwise [backwardRows]

/-- The second result at an index: the rows read from the last token to the first. -/
theorem backwardOf_at (Z : FVec Ideal S8x4096x8x64 .f32) (b : Fin 8) (s : Fin 4096) (n : Fin 512) :
    backwardOf Z (ix3 b s n) = Z (ix4 b ⟨4095 - s.val, by omega⟩ ⟨n.val / 64, by omega⟩ ⟨n.val % 64, by omega⟩) := by
  pointwise [backwardOf]
  have hs : Fin.rev s = ⟨4095 - s.val, by omega⟩ := Fin.ext (by rw [Fin.val_rev]; simp only; omega)
  rw [← hs]
  rfl

variable (m : (ℓ : Loc nD τ sig) → Buf (Elt Ideal) ℓ) (c : Dev nD)
  (P : Fin 8 → Fin 4096 → Fin 3072 → ℝ) (G : Fin 8 → Fin 4096 → Fin 1024 → ℝ)
  (hP : ∀ b s n, m ((c.tc : Thread nD τ).loc main_arg0) (ix3 b s n) = ((P b s n : ℝ) : EReal))
  (hG : ∀ b s n, m ((c.tc : Thread nD τ).loc main_arg1) (ix3 b s n) = ((G b s n : ℝ) : EReal))

include hP hG

/-- The first result at an index. -/
theorem out48_at (b : Fin 8) (s : Fin 4096) (n : Fin 512) :
    (out_main_v48 (STEP^[4096] (entryContents preI m c)) : FVec Ideal S8x4096x512 .f32) (ix3 b s n)
      = ((Scan.reading P G false b ⟨n.val / 64, by omega⟩ s.val ⟨n.val % 64, by omega⟩ : ℝ) : EReal) :=
  (forwardOf_at _ b s n).trans ((after_steps P G m c hP hG 4096 (le_refl _)).readings s s.isLt false b _ _)

/-- The second result at an index. -/
theorem out51_at (b : Fin 8) (s : Fin 4096) (n : Fin 512) :
    (out_main_v51 (STEP^[4096] (entryContents preI m c)) : FVec Ideal S8x4096x512 .f32) (ix3 b s n)
      = ((Scan.reading P G true b ⟨n.val / 64, by omega⟩ (4095 - s.val) ⟨n.val % 64, by omega⟩ : ℝ) : EReal) :=
  (backwardOf_at (backwardRows _) b s n).trans ((backwardRows_at _ b _ _ _).trans
    ((after_steps P G m c hP hG 4096 (le_refl _)).readings ⟨4095 - s.val, by omega⟩ (by simp only; omega) true b _ _))

end Cert.ReferenceIdeal.Steps

end
-- ==== Proof.Meet.lean ====
/- The kernel's run and the reference's run end at one array each for the forward and the backward direction. -/
module

public import proofs.«01_k».proof.Proof.Finite
public import proofs.«01_k».proof.Proof.Arrays
public import proofs.«01_k».proof.Proof.RefArrays

@[expose] public section

set_option maxRecDepth 16384

noncomputable section

namespace Cert.Proof

open Idealize.ShloMosaic Idealize.ShloMosaic.TcCoe Idealize.SL.Sem
open Cert.KernelIdeal.Tile (readings)

/-- The packed projections of one device's memory, as real numbers. -/
def packOf (m : (ℓ : Loc KernelIdeal.nD KernelIdeal.τ KernelIdeal.sig) → Buf (Elt Ideal) ℓ) (c : Dev KernelIdeal.nD)
    (b : Fin 8) (s : Fin 4096) (n : Fin 3072) : ℝ :=
  EReal.toReal (m ((c.tc : Thread KernelIdeal.nD KernelIdeal.τ).loc KernelIdeal.main_arg0) (ix3 b s n))

/-- The summed log decays of one device's memory, as real numbers. -/
def sumsOf (m : (ℓ : Loc KernelIdeal.nD KernelIdeal.τ KernelIdeal.sig) → Buf (Elt Ideal) ℓ) (c : Dev KernelIdeal.nD)
    (b : Fin 8) (s : Fin 4096) (n : Fin 1024) : ℝ :=
  EReal.toReal (m ((c.tc : Thread KernelIdeal.nD KernelIdeal.τ).loc KernelIdeal.main_arg1) (ix3 b s n))

/-- The reference's forward result is the array of the forward readings. -/
theorem reference_forward (m : (ℓ : Loc ReferenceIdeal.nD ReferenceIdeal.τ ReferenceIdeal.sig) → Buf (Elt Ideal) ℓ) (c : Dev ReferenceIdeal.nD)
    (P : Fin 8 → Fin 4096 → Fin 3072 → ℝ) (G : Fin 8 → Fin 4096 → Fin 1024 → ℝ)
    (hP : ∀ b s n, m ((c.tc : Thread ReferenceIdeal.nD ReferenceIdeal.τ).loc ReferenceIdeal.main_arg0) (ix3 b s n) = ((P b s n : ℝ) : EReal))
    (hG : ∀ b s n, m ((c.tc : Thread ReferenceIdeal.nD ReferenceIdeal.τ).loc ReferenceIdeal.main_arg1) (ix3 b s n) = ((G b s n : ℝ) : EReal)) :
    (ReferenceIdeal.Value.out_main_v48 (ReferenceIdeal.Value.STEP^[4096] (StableHlo.entryContents ReferenceIdeal.Value.preI m c)) : FVec Ideal ReferenceIdeal.S8x4096x512 .f32)
      = readings P G false := by
  funext i
  have hi : i = ix3 (i 0) (i 1) (i 2) := by funext a; fin_cases a <;> rfl
  rw [hi]
  exact ReferenceIdeal.Steps.out48_at m c P G hP hG (i 0) (i 1) (i 2)

/-- The reference's backward result is the array of the backward readings. -/
theorem reference_backward (m : (ℓ : Loc ReferenceIdeal.nD ReferenceIdeal.τ ReferenceIdeal.sig) → Buf (Elt Ideal) ℓ) (c : Dev ReferenceIdeal.nD)
    (P : Fin 8 → Fin 4096 → Fin 3072 → ℝ) (G : Fin 8 → Fin 4096 → Fin 1024 → ℝ)
    (hP : ∀ b s n, m ((c.tc : Thread ReferenceIdeal.nD ReferenceIdeal.τ).loc ReferenceIdeal.main_arg0) (ix3 b s n) = ((P b s n : ℝ) : EReal))
    (hG : ∀ b s n, m ((c.tc : Thread ReferenceIdeal.nD ReferenceIdeal.τ).loc ReferenceIdeal.main_arg1) (ix3 b s n) = ((G b s n : ℝ) : EReal)) :
    (ReferenceIdeal.Value.out_main_v51 (ReferenceIdeal.Value.STEP^[4096] (StableHlo.entryContents ReferenceIdeal.Value.preI m c)) : FVec Ideal ReferenceIdeal.S8x4096x512 .f32)
      = readings P G true := by
  funext i
  have hi : i = ix3 (i 0) (i 1) (i 2) := by funext a; fin_cases a <;> rfl
  rw [hi]
  exact ReferenceIdeal.Steps.out51_at m c P G hP hG (i 0) (i 1) (i 2)

/-- Over the extended reals, from finite arguments, the kernel and the reference end with the same two arrays: what the
    recurrence reads out of its state after every token, forward and backward. -/
theorem algebraic : Cert.algebraic_KernelIdeal_ReferenceIdeal_pre_finite_inputs (hKernelIdeal := KernelIdeal.Gen.facts)
    (hReferenceIdeal := ReferenceIdeal.Gen.facts) (hPre_finite_inputs := Pre_finite_inputs.Gen.facts) := by
  intro m g m' g' hpre hargs
  have hP := fun c b s n => (Finite.reals (hpre c)).1 (ix3 b s n)
  have hG := fun c b s n => (Finite.reals (hpre c)).2 (ix3 b s n)
  refine ⟨fun c => readings (packOf m c) (sumsOf m c) false, fun c => readings (packOf m c) (sumsOf m c) true, ?_, ?_⟩
  · refine (θ_run _ _ _).mono (fun r h c => ?_) (KernelIdeal.Value.run_blocks m g)
    exact ⟨(h c).1.trans (KernelIdeal.Tile.array4 m c _ _ (hP c) (hG c)), (h c).2.1.trans (KernelIdeal.Tile.array5 m c _ _ (hP c) (hG c)), (h c).2.2⟩
  · refine (θ_run _ _ _).mono (fun r h c => ?_) (ReferenceIdeal.Value.run m' g')
    have hP' := fun b s n => (congrFun (hargs c).1 (ix3 b s n)).trans (hP c b s n)
    have hG' := fun b s n => (congrFun (hargs c).2 (ix3 b s n)).trans (hG c b s n)
    exact ⟨(h c).1.trans (reference_forward m' c _ _ hP' hG'), (h c).2.1.trans (reference_backward m' c _ _ hP' hG'), (h c).2.2⟩

/-- The reference ends, leaves its arguments as they were, and declares no semaphore. -/
theorem reference_frame (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r => (∀ c : Dev ReferenceIdeal.nD,
      r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1))
      ∧ r.2.sem = fun _ => 0) :=
  (θ_run _ _ _).mono (fun r h => ⟨fun c => (h c).2.2, sem_eq_zero_of_no_sems (by decide) r.2⟩) (ReferenceIdeal.Value.run m g)

end Cert.Proof

end
-- ==== Proof.Half.lean ====
/- The last call's body on one half of a block of rows, as a function of the vectors it loads: the group norm and gate
   of the RWKV heads, the norm and gate of the GLA heads, the output projection, the feed-forward part and the per-layer
   embedding. Both halves of a block are this function. -/
module

public import proofs.«01_k».proof.Proof.Gen.TailIdeal

@[expose] public section

noncomputable section

namespace Cert.TailIdeal.Half

open Cert.TailIdeal Cert.TailIdeal.Gen Idealize.ShloMosaic

variable {F : FTy → Type} [FloatOps F]

/-- The arrays that every row shares, as loaded. -/
structure Shared (F : FTy → Type) [FloatOps F] where
  seg : Vec F S512x512 .bf16
  rk : Vec F S1x512 .f32
  lnw : Vec F S1x512 .f32
  lnb : Vec F S1x512 .f32
  gn : Vec F S1x128 .f32
  wor : Vec F S512x1024 .bf16
  wog : Vec F S512x1024 .bf16
  nmix : Vec F S1x1024 .f32
  nfpre : Vec F S1x1024 .f32
  nfpost : Vec F S1x1024 .f32
  gate : Vec F S1024x2816 .bf16
  up : Vec F S1024x2816 .bf16
  down : Vec F S2816x1024 .bf16
  pproj : Vec F S256x1024 .bf16
  pgate : Vec F S1024x1024 .bf16
  pbias : Vec F S1x1024 .f32
  nple : Vec F S1x1024 .f32

/-- The rows of one half, as loaded. -/
structure Rows (F : FTy → Type) [FloatOps F] where
  x : Vec F S128x1024 .f32
  yf : Vec F S128x512 .f32
  yb : Vec F S128x512 .f32
  r : Vec F S128x512 .bf16
  k : Vec F S128x512 .bf16
  v : Vec F S128x512 .bf16
  g : Vec F S128x512 .bf16
  of : Vec F S128x512 .f32
  ob : Vec F S128x512 .f32
  z : Vec F S128x512 .bf16
  p : Vec F S128x256 .f32

/-! ## The RWKV heads -/

/-- Each lane's sum over the lanes of its head, as a product with the block matrix. -/
def headSums (seg : Vec F S512x512 .bf16) (a : FVec F S128x512 .f32) : FVec F S128x512 .f32 :=
  matmul dot_S128x512_S512x512_S128x512_1_0_0_1_n_n none (truncf .bf16 a bitsLt_bf16_f32)
    (shapeCast S512x512 seg shapeCasts_S512x512_S512x512) (constant S128x512 .f32 0x00000000#32)

/-- Each lane's mean over its head. -/
def headMean (seg : Vec F S512x512 .bf16) (a : FVec F S128x512 .f32) : FVec F S128x512 .f32 :=
  mulf (headSums seg a) (broadcast S128x512 (Scalar.ofBits .f32 0x3C800000#32))

/-- A row of 512 weights on every row. -/
def wide (w : Vec F S1x512 .f32) : FVec F S128x512 .f32 :=
  broadcastTo S128x512 (shapeCast S1x512 w shapeCasts_S1x512_S1x512) broadcasts_S1x512_S128x512

/-- The readings of both directions, each lane less its head's mean. -/
def centred (seg : Vec F S512x512 .bf16) (y : FVec F S128x512 .f32) : FVec F S128x512 .f32 := subf y (headMean seg y)

/-- The group norm of centred readings. -/
def groupNorm (seg : Vec F S512x512 .bf16) (lnw lnb : Vec F S1x512 .f32) (c : FVec F S128x512 .f32) : FVec F S128x512 .f32 :=
  addf (mulf (mulf c (rsqrt (addf (headMean seg (mulf c c)) (broadcast S128x512 (Scalar.ofBits .f32 0x3A27C5AC#32))))) (wide lnw)) (wide lnb)

/-- Each lane's share of its head's bonus. -/
def bonus (seg : Vec F S512x512 .bf16) (rk : Vec F S1x512 .f32) (r k v : Vec F S128x512 .bf16) : FVec F S128x512 .f32 :=
  mulf (headSums seg (mulf (mulf (extf .f32 r bitsLt_bf16_f32) (extf .f32 k bitsLt_bf16_f32)) (wide rk))) (extf .f32 v bitsLt_bf16_f32)

/-- The gated RWKV heads. -/
def rwkvHeads (W : Shared F) (R : Rows F) : FVec F S128x512 .f32 :=
  mulf (addf (groupNorm W.seg W.lnw W.lnb (centred W.seg (addf R.yf R.yb))) (bonus W.seg W.rk R.r R.k R.v)) (extf .f32 R.g bitsLt_bf16_f32)

/-! ## The GLA heads -/

/-- The lanes of one GLA head keep their place. -/
theorem slices_gla (h : Fin 4) : S128x512.Slices ![0, 128 * h.val] S128x128 := by revert h; decide

/-- `x · 1 / (1 + exp (− x))` of a GLA head's gate. -/
def gateGla (x : FVec F S128x128 .f32) : FVec F S128x128 .f32 :=
  mulf x (divf (broadcast S128x128 (Scalar.ofBits .f32 0x3F800000#32))
    (addf (broadcast S128x128 (Scalar.ofBits .f32 0x3F800000#32)) (exp (subf (broadcast S128x128 (Scalar.ofBits .f32 0x00000000#32)) x))))

/-- The root-mean-square norm of a GLA head's readings. -/
def normGla (w : Vec F S1x128 .f32) (x : FVec F S128x128 .f32) : FVec F S128x128 .f32 :=
  mulf
    (mulf x
      (broadcastTo S128x128
        (rsqrt (addf
          (divf (shapeCast S128x1 (multiReduction .add [1] S128 (mulf x x) 0x00000000#32 reduces_S128x128_S128 (.inl rfl) rfl) shapeCasts_S128_S128x1)
            (broadcast S128x1 (Scalar.ofBits .f32 0x43000000#32)))
          (broadcast S128x1 (Scalar.ofBits .f32 0x358637BD#32)))) broadcasts_S128x1_S128x128))
    (broadcastTo S128x128 (shapeCast S1x128 w shapeCasts_S1x128_S1x128) broadcasts_S1x128_S128x128)

/-- One gated GLA head. -/
def glaHead (w : Vec F S1x128 .f32) (o z : FVec F S128x512 .f32) (h : Fin 4) : FVec F S128x128 .f32 :=
  mulf (normGla w (extractStridedSlice S128x128 ![0, 128 * h.val] o (slices_gla h)))
    (gateGla (extractStridedSlice S128x128 ![0, 128 * h.val] z (slices_gla h)))

/-- The gated GLA heads beside each other. -/
def glaHeads (W : Shared F) (R : Rows F) : FVec F S128x512 .f32 :=
  concatenate S128x512 1
    [⟨S128x128, glaHead W.gn (addf R.of R.ob) (extf .f32 R.z bitsLt_bf16_f32) 0⟩, ⟨S128x128, glaHead W.gn (addf R.of R.ob) (extf .f32 R.z bitsLt_bf16_f32) 1⟩,
      ⟨S128x128, glaHead W.gn (addf R.of R.ob) (extf .f32 R.z bitsLt_bf16_f32) 2⟩, ⟨S128x128, glaHead W.gn (addf R.of R.ob) (extf .f32 R.z bitsLt_bf16_f32) 3⟩]
    concatenates_S128x128_S128x128_S128x128_S128x128_S128x512_d1

/-! ## The projections -/

/-- A row of 1024 weights on every row. -/
def broad (w : Vec F S1x1024 .f32) : FVec F S128x1024 .f32 :=
  broadcastTo S128x1024 (shapeCast S1x1024 w shapeCasts_S1x1024_S1x1024) broadcasts_S1x1024_S128x1024

/-- The root-mean-square norm of rows of 1024. -/
def norm (w : Vec F S1x1024 .f32) (x : FVec F S128x1024 .f32) : FVec F S128x1024 .f32 :=
  mulf
    (mulf x
      (broadcastTo S128x1024
        (rsqrt (addf
          (divf (shapeCast S128x1 (multiReduction .add [1] S128 (mulf x x) 0x00000000#32 reduces_S128x1024_S128 (.inl rfl) rfl) shapeCasts_S128_S128x1)
            (broadcast S128x1 (Scalar.ofBits .f32 0x44800000#32)))
          (broadcast S128x1 (Scalar.ofBits .f32 0x358637BD#32)))) broadcasts_S128x1_S128x1024))
    (broad w)

/-- The output projection of the two halves of the heads. -/
def mixOf (wor wog : Vec F S512x1024 .bf16) (a b : FVec F S128x512 .f32) : FVec F S128x1024 .f32 :=
  addf
    (matmul dot_S128x512_S512x1024_S128x1024_1_0_0_1_n_n none (truncf .bf16 a bitsLt_bf16_f32)
      (shapeCast S512x1024 wor shapeCasts_S512x1024_S512x1024) (constant S128x1024 .f32 0x00000000#32))
    (matmul dot_S128x512_S512x1024_S128x1024_1_0_0_1_n_n none (truncf .bf16 b bitsLt_bf16_f32)
      (shapeCast S512x1024 wog shapeCasts_S512x1024_S512x1024) (constant S128x1024 .f32 0x00000000#32))

/-- A product into the feed-forward width. -/
def widen (w : Vec F S1024x2816 .bf16) (x : FVec F S128x1024 .f32) : FVec F S128x2816 .f32 :=
  matmul dot_S128x1024_S1024x2816_S128x2816_1_0_0_1_n_n none (truncf .bf16 x bitsLt_bf16_f32)
    (shapeCast S1024x2816 w shapeCasts_S1024x2816_S1024x2816) (constant S128x2816 .f32 0x00000000#32)

/-- The gated feed-forward values. -/
def swiglu (a b : FVec F S128x2816 .f32) : FVec F S128x2816 .f32 :=
  mulf
    (mulf a (divf (broadcast S128x2816 (Scalar.ofBits .f32 0x3F800000#32))
      (addf (broadcast S128x2816 (Scalar.ofBits .f32 0x3F800000#32)) (exp (subf (broadcast S128x2816 (Scalar.ofBits .f32 0x00000000#32)) a))))) b

/-- The product back from the feed-forward width. -/
def narrow (w : Vec F S2816x1024 .bf16) (a : FVec F S128x2816 .f32) : FVec F S128x1024 .f32 :=
  matmul dot_S128x2816_S2816x1024_S128x1024_1_0_0_1_n_n none (truncf .bf16 a bitsLt_bf16_f32)
    (shapeCast S2816x1024 w shapeCasts_S2816x1024_S2816x1024) (constant S128x1024 .f32 0x00000000#32)

/-- The rows after the mixing part. -/
def mixed (W : Shared F) (R : Rows F) : FVec F S128x1024 .f32 :=
  addf R.x (norm W.nmix (mixOf W.wor W.wog (rwkvHeads W R) (glaHeads W R)))

/-- The rows after the feed-forward part. -/
def fed (W : Shared F) (h : FVec F S128x1024 .f32) : FVec F S128x1024 .f32 :=
  addf h (norm W.nfpost (narrow W.down (swiglu (widen W.gate (norm W.nfpre h)) (widen W.up (norm W.nfpre h)))))

/-- The per-layer embedding, projected. -/
def embed (w : Vec F S256x1024 .bf16) (p : Vec F S128x256 .f32) : FVec F S128x1024 .f32 :=
  matmul dot_S128x256_S256x1024_S128x1024_1_0_0_1_n_n none (truncf .bf16 p bitsLt_bf16_f32)
    (shapeCast S256x1024 w shapeCasts_S256x1024_S256x1024) (constant S128x1024 .f32 0x00000000#32)

/-- The embedding's gate before the sigmoid. -/
def gateArg (w : Vec F S1024x1024 .bf16) (b : Vec F S1x1024 .f32) (h : FVec F S128x1024 .f32) : FVec F S128x1024 .f32 :=
  addf
    (matmul dot_S128x1024_S1024x1024_S128x1024_1_0_0_1_n_n none (truncf .bf16 h bitsLt_bf16_f32)
      (shapeCast S1024x1024 w shapeCasts_S1024x1024_S1024x1024) (constant S128x1024 .f32 0x00000000#32))
    (broad b)

/-- `1 / (1 + exp (− x))`. -/
def sigmoid (x : FVec F S128x1024 .f32) : FVec F S128x1024 .f32 :=
  divf (broadcast S128x1024 (Scalar.ofBits .f32 0x3F800000#32))
    (addf (broadcast S128x1024 (Scalar.ofBits .f32 0x3F800000#32)) (exp (subf (broadcast S128x1024 (Scalar.ofBits .f32 0x00000000#32)) x)))

/-- The rows after the per-layer embedding. -/
def embedded (W : Shared F) (p : Vec F S128x256 .f32) (h : FVec F S128x1024 .f32) : FVec F S128x1024 .f32 :=
  addf h (norm W.nple (mulf (sigmoid (gateArg W.pgate W.pbias h)) (embed W.pproj p)))

/-- What one half's rows become. -/
def result (W : Shared F) (R : Rows F) : FVec F S128x1024 .f32 := embedded W R.p (fed W (mixed W R))

end Cert.TailIdeal.Half

end
-- ==== Proof.HalfPieces.lean ====
/- The stores of the last call's body at a point: the two halves of the output block, each the half's function of what
   it loads. -/
module

public import proofs.«01_k».proof.Proof.TailIdealRun
import all proofs.«01_k».proof.Proof.TailIdealRun
public import proofs.«01_k».proof.Proof.Half

@[expose] public section

set_option maxRecDepth 65536

noncomputable section

namespace Cert.TailIdeal.Half

open Cert.TailIdeal Cert.TailIdeal.Gen Cert.TailIdeal.Launch Idealize.ShloMosaic Idealize.ShloMosaic.TcCoe

variable {F : FTy → Type} [FloatOps F]

/-- A whole rectangle lies in itself. -/
theorem inb_all {a b : ℕ} : ∀ d, (![0, 0] : Fin 2 → ℕ) d + (⟨2, ![a, b]⟩ : Shape).size d ≤ (⟨2, ![a, b]⟩ : Shape).size d := by
  intro d; fin_cases d <;> simp

/-- One half's rows lie in the block. -/
theorem inb_half {b : ℕ} (u : Fin 2) :
    ∀ d, (![128 * u.val, 0] : Fin 2 → ℕ) d + (⟨2, ![128, b]⟩ : Shape).size d ≤ (⟨2, ![256, b]⟩ : Shape).size d := by
  intro d; fin_cases d <;> simp; omega

/-- One third's columns lie in the packed block. -/
theorem inb_third (j : Fin 3) : ∀ d, (![0, 512 * j.val] : Fin 2 → ℕ) d + S256x512.size d ≤ S256x1536.size d := by
  revert j; decide

/-- A whole block, as loaded. -/
def loadAll {a b : ℕ} {e : EltTy} (arg : Memref sig .tc .vmem ⟨2, ![a, b]⟩ e) (harg : arg.IsWhole) (x : Vec F ⟨2, ![a, b]⟩ e) :
    Vec F ⟨2, ![a, b]⟩ e :=
  View.readAt (Elt F) arg.view (Rect.unit (s := ⟨2, ![a, b]⟩) ![0, 0] (⟨2, ![a, b]⟩ : Shape).size inb_all).toLoadRect (harg.unread x)

/-- One half of a block of rows, as loaded. -/
def loadHalf {b : ℕ} {e : EltTy} (u : Fin 2) (arg : Memref sig .tc .vmem ⟨2, ![256, b]⟩ e) (harg : arg.IsWhole)
    (x : Vec F ⟨2, ![256, b]⟩ e) : Vec F ⟨2, ![128, b]⟩ e :=
  View.readAt (Elt F) arg.view
    (Rect.unit (s := ⟨2, ![256, b]⟩) ![128 * u.val, 0] (⟨2, ![128, b]⟩ : Shape).size (inb_half u)).toLoadRect (harg.unread x)

/-- One half of a third of the packed block, as loaded. -/
def loadThird (j : Fin 3) (u : Fin 2) (arg : Memref sig .tc .vmem S256x1536 .bf16) (harg : arg.IsWhole) (x : Vec F S256x1536 .bf16) :
    Vec F S128x512 .bf16 :=
  View.readAt (Elt F) arg.view
    ((Rect.unit (s := S256x1536) ![0, 512 * j.val] S256x512.size (inb_third j)).withinL
      (Rect.unit (s := S256x512) ![128 * u.val, 0] S128x512.size (inb_half u)).toLoadRect (fun _ => rfl)) (harg.unread x)

variable (c : Dev nD) (i : grid0.Coords)
  (arg1 : Memref sig .tc .vmem S256x1024 .f32) (harg1 : arg1.IsWhole) (arg2 : Memref sig .tc .vmem S256x512 .f32) (harg2 : arg2.IsWhole)
  (arg3 : Memref sig .tc .vmem S256x512 .f32) (harg3 : arg3.IsWhole) (arg4 : Memref sig .tc .vmem S256x1536 .bf16) (harg4 : arg4.IsWhole)
  (arg5 : Memref sig .tc .vmem S256x512 .bf16) (harg5 : arg5.IsWhole) (arg6 : Memref sig .tc .vmem S256x512 .f32) (harg6 : arg6.IsWhole)
  (arg7 : Memref sig .tc .vmem S256x512 .f32) (harg7 : arg7.IsWhole) (arg8 : Memref sig .tc .vmem S256x512 .bf16) (harg8 : arg8.IsWhole)
  (arg9 : Memref sig .tc .vmem S256x256 .f32) (harg9 : arg9.IsWhole) (arg10 : Memref sig .tc .vmem S512x512 .bf16) (harg10 : arg10.IsWhole)
  (arg11 : Memref sig .tc .vmem S1x512 .f32) (harg11 : arg11.IsWhole) (arg12 : Memref sig .tc .vmem S1x512 .f32) (harg12 : arg12.IsWhole)
  (arg13 : Memref sig .tc .vmem S1x512 .f32) (harg13 : arg13.IsWhole) (arg14 : Memref sig .tc .vmem S1x128 .f32) (harg14 : arg14.IsWhole)
  (arg15 : Memref sig .tc .vmem S512x1024 .bf16) (harg15 : arg15.IsWhole) (arg16 : Memref sig .tc .vmem S512x1024 .bf16) (harg16 : arg16.IsWhole)
  (arg17 : Memref sig .tc .vmem S1x1024 .f32) (harg17 : arg17.IsWhole) (arg18 : Memref sig .tc .vmem S1x1024 .f32) (harg18 : arg18.IsWhole)
  (arg19 : Memref sig .tc .vmem S1x1024 .f32) (harg19 : arg19.IsWhole) (arg20 : Memref sig .tc .vmem S1024x2816 .bf16) (harg20 : arg20.IsWhole)
  (arg21 : Memref sig .tc .vmem S1024x2816 .bf16) (harg21 : arg21.IsWhole) (arg22 : Memref sig .tc .vmem S2816x1024 .bf16) (harg22 : arg22.IsWhole)
  (arg23 : Memref sig .tc .vmem S256x1024 .bf16) (harg23 : arg23.IsWhole) (arg24 : Memref sig .tc .vmem S1024x1024 .bf16) (harg24 : arg24.IsWhole)
  (arg25 : Memref sig .tc .vmem S1x1024 .f32) (harg25 : arg25.IsWhole) (arg26 : Memref sig .tc .vmem S1x1024 .f32) (harg26 : arg26.IsWhole)
  (arg27 : Memref sig .tc .vmem S256x1024 .f32) (harg27 : arg27.IsWhole)
  (x0 : Vec F S256x1024 .f32) (x1 : Vec F S256x512 .f32) (x2 : Vec F S256x512 .f32) (x3 : Vec F S256x1536 .bf16) (x4 : Vec F S256x512 .bf16)
  (x5 : Vec F S256x512 .f32) (x6 : Vec F S256x512 .f32) (x7 : Vec F S256x512 .bf16) (x8 : Vec F S256x256 .f32) (x9 : Vec F S512x512 .bf16)
  (x10 : Vec F S1x512 .f32) (x11 : Vec F S1x512 .f32) (x12 : Vec F S1x512 .f32) (x13 : Vec F S1x128 .f32) (x14 : Vec F S512x1024 .bf16)
  (x15 : Vec F S512x1024 .bf16) (x16 : Vec F S1x1024 .f32) (x17 : Vec F S1x1024 .f32) (x18 : Vec F S1x1024 .f32) (x19 : Vec F S1024x2816 .bf16)
  (x20 : Vec F S1024x2816 .bf16) (x21 : Vec F S2816x1024 .bf16) (x22 : Vec F S256x1024 .bf16) (x23 : Vec F S1024x1024 .bf16)
  (x24 : Vec F S1x1024 .f32) (x25 : Vec F S1x1024 .f32)

/-- The shared arrays, as loaded. -/
def loadShared : Shared F :=
  { seg := loadAll arg10 harg10 x9, rk := loadAll arg11 harg11 x10, lnw := loadAll arg12 harg12 x11, lnb := loadAll arg13 harg13 x12,
    gn := loadAll arg14 harg14 x13, wor := loadAll arg15 harg15 x14, wog := loadAll arg16 harg16 x15, nmix := loadAll arg17 harg17 x16,
    nfpre := loadAll arg18 harg18 x17, nfpost := loadAll arg19 harg19 x18, gate := loadAll arg20 harg20 x19, up := loadAll arg21 harg21 x20,
    down := loadAll arg22 harg22 x21, pproj := loadAll arg23 harg23 x22, pgate := loadAll arg24 harg24 x23, pbias := loadAll arg25 harg25 x24,
    nple := loadAll arg26 harg26 x25 }

/-- One half's rows, as loaded. -/
def loadRows (u : Fin 2) : Rows F :=
  { x := loadHalf u arg1 harg1 x0, yf := loadHalf u arg2 harg2 x1, yb := loadHalf u arg3 harg3 x2,
    r := loadThird 0 u arg4 harg4 x3, k := loadThird 1 u arg4 harg4 x3, v := loadThird 2 u arg4 harg4 x3, g := loadHalf u arg5 harg5 x4,
    of := loadHalf u arg6 harg6 x5, ob := loadHalf u arg7 harg7 x6, z := loadHalf u arg8 harg8 x7, p := loadHalf u arg9 harg9 x8 }

/-- The output block's stores, last first, from the shared arrays and each half's rows. -/
def pieces (W : Shared F) (R : Fin 2 → Rows F) : List (View.Piece (Elt F) S256x1024 .f32) :=
  [⟨Rect.unit (s := S256x1024) ![128 * (1 : Fin 2).val, 0] S128x1024.size (inb_half 1), result W (R 1)⟩,
    ⟨Rect.unit (s := S256x1024) ![128 * (0 : Fin 2).val, 0] S128x1024.size (inb_half 0), result W (R 0)⟩]

/-- The body's stores are the two halves. -/
theorem run_pieces :
    (kernelRun0_A c i
        arg1 harg1 arg2 harg2 arg3 harg3 arg4 harg4 arg5 harg5 arg6 harg6 arg7 harg7 arg8 harg8 arg9 harg9 arg10 harg10 arg11 harg11 arg12 harg12
        arg13 harg13 arg14 harg14 arg15 harg15 arg16 harg16 arg17 harg17 arg18 harg18 arg19 harg19 arg20 harg20 arg21 harg21 arg22 harg22
        arg23 harg23 arg24 harg24 arg25 harg25 arg26 harg26 arg27 harg27 x0 x1 x2 x3 x4 x5 x6 x7 x8 x9 x10 x11 x12 x13 x14 x15 x16 x17 x18 x19 x20
        x21 x22 x23 x24 x25).1
      = pieces
        (loadShared
        arg10 harg10 arg11 harg11 arg12 harg12 arg13 harg13 arg14 harg14 arg15 harg15 arg16 harg16 arg17 harg17 arg18 harg18 arg19 harg19
        arg20 harg20 arg21 harg21 arg22 harg22 arg23 harg23 arg24 harg24 arg25 harg25 arg26 harg26 x9 x10 x11 x12 x13 x14 x15 x16 x17 x18 x19 x20 x21
        x22 x23 x24 x25)
        (loadRows
        arg1 harg1 arg2 harg2 arg3 harg3 arg4 harg4 arg5 harg5 arg6 harg6 arg7 harg7 arg8 harg8 arg9 harg9 x0 x1 x2 x3 x4 x5 x6 x7 x8) := by
  sl_kernel_rfl

end Cert.TailIdeal.Half

end
-- ==== Proof.TailRow.lean ====
/- The last part of the layer on one token, over the extended reals: what both the kernel and the reference compute, row
   by row. The RWKV heads get their group norm, bonus and gate; the GLA heads their norm and gate; then come the output
   projection, the gated feed-forward part and the per-layer embedding, each through a root-mean-square norm. -/
module

public import Idealize.ShloMosaic.Lib.Pointwise

@[expose] public section

noncomputable section

namespace Cert.Row

open Idealize.ShloMosaic

/-- The layer's weights. -/
structure Weights where
  rk : Fin 512 → EReal
  lnw : Fin 512 → EReal
  lnb : Fin 512 → EReal
  gn : Fin 128 → EReal
  wo : Fin 1024 → Fin 1024 → EReal
  nmix : Fin 1024 → EReal
  nfpre : Fin 1024 → EReal
  nfpost : Fin 1024 → EReal
  gate : Fin 1024 → Fin 2816 → EReal
  up : Fin 1024 → Fin 2816 → EReal
  down : Fin 2816 → Fin 1024 → EReal
  pproj : Fin 256 → Fin 1024 → EReal
  pgate : Fin 1024 → Fin 1024 → EReal
  pbias : Fin 1024 → EReal
  nple : Fin 1024 → EReal

/-- One token's rows of the arguments. -/
structure Token where
  x : Fin 1024 → EReal
  yf : Fin 512 → EReal
  yb : Fin 512 → EReal
  r : Fin 512 → EReal
  k : Fin 512 → EReal
  v : Fin 512 → EReal
  g : Fin 512 → EReal
  of : Fin 512 → EReal
  ob : Fin 512 → EReal
  z : Fin 512 → EReal
  p : Fin 256 → EReal

/-- Lane `e` of the RWKV head that lane `n` belongs to. -/
def lane64 (n : Fin 512) (e : Fin 64) : Fin 512 := ⟨64 * (n.val / 64) + e.val, by omega⟩

/-- Lane `e` of the GLA head that lane `n` belongs to. -/
def lane128 (n : Fin 512) (e : Fin 128) : Fin 512 := ⟨128 * (n.val / 128) + e.val, by omega⟩

/-- The place of a lane in its GLA head. -/
def within128 (n : Fin 512) : Fin 128 := ⟨n.val % 128, Nat.mod_lt _ (by omega)⟩

/-- The sum over a lane's RWKV head. -/
def headSum (a : Fin 512 → EReal) (n : Fin 512) : EReal := ∑ e : Fin 64, a (lane64 n e)

/-- The mean over a lane's RWKV head. -/
def headMean (a : Fin 512 → EReal) (n : Fin 512) : EReal := Ideal.div (headSum a n) (Ideal.ofBits .f32 0x42800000#32)

/-- A row less its heads' means. -/
def centred (y : Fin 512 → EReal) (n : Fin 512) : EReal := y n - headMean y n

/-- The group norm of a centred row. -/
def groupNorm (W : Weights) (c : Fin 512 → EReal) (n : Fin 512) : EReal :=
  c n * Ideal.rsqrt (headMean (fun e => c e * c e) n + Ideal.ofBits .f32 0x3A27C5AC#32) * W.lnw n + W.lnb n

/-- The gated RWKV heads. -/
def rwkvHeads (W : Weights) (T : Token) (n : Fin 512) : EReal :=
  (groupNorm W (centred fun e => T.yf e + T.yb e) n + headSum (fun e => T.r e * T.k e * W.rk e) n * T.v n) * T.g n

/-- The root-mean-square norm of `N` values with divisor `d`. -/
def rms {N : ℕ} (d : EReal) (w a : Fin N → EReal) (i : Fin N) : EReal :=
  a i * Ideal.rsqrt (Ideal.div (∑ j, a j * a j) d + Ideal.ofBits .f32 0x358637BD#32) * w i

/-- The norm of a row of 1024. -/
def norm (w a : Fin 1024 → EReal) : Fin 1024 → EReal := rms (Ideal.ofBits .f32 0x44800000#32) w a

/-- The sigmoid. -/
def sigmoid (u : EReal) : EReal := Ideal.div 1 (1 + Ideal.exp (0 - u))

/-- The gated GLA heads. -/
def glaHeads (W : Weights) (T : Token) (n : Fin 512) : EReal :=
  rms (Ideal.ofBits .f32 0x43000000#32) W.gn (fun e => T.of (lane128 n e) + T.ob (lane128 n e)) (within128 n)
    * (T.z n * sigmoid (T.z n))

/-- A vector times a matrix. -/
def dot {K N : ℕ} (a : Fin K → EReal) (w : Fin K → Fin N → EReal) (i : Fin N) : EReal := ∑ j, a j * w j i

/-- The output projection of the two kinds of heads. -/
def mix (wo : Fin 1024 → Fin 1024 → EReal) (a b : Fin 512 → EReal) (i : Fin 1024) : EReal :=
  dot a (fun j => wo ⟨j.val, by omega⟩) i + dot b (fun j => wo ⟨512 + j.val, by omega⟩) i

/-- The token after the mixing part. -/
def mixed (W : Weights) (T : Token) (i : Fin 1024) : EReal :=
  T.x i + norm W.nmix (mix W.wo (rwkvHeads W T) (glaHeads W T)) i

/-- The gated feed-forward values. -/
def act (W : Weights) (h : Fin 1024 → EReal) (j : Fin 2816) : EReal :=
  dot (norm W.nfpre h) W.gate j * sigmoid (dot (norm W.nfpre h) W.gate j) * dot (norm W.nfpre h) W.up j

/-- The token after the feed-forward part. -/
def fed (W : Weights) (h : Fin 1024 → EReal) (i : Fin 1024) : EReal := h i + norm W.nfpost (dot (act W h) W.down) i

/-- The per-layer embedding, gated by the token. -/
def embedding (W : Weights) (p : Fin 256 → EReal) (h : Fin 1024 → EReal) (i : Fin 1024) : EReal :=
  sigmoid (dot h W.pgate i + W.pbias i) * dot p W.pproj i

/-- The token after the per-layer embedding. -/
def embedded (W : Weights) (p : Fin 256 → EReal) (h : Fin 1024 → EReal) (i : Fin 1024) : EReal :=
  h i + norm W.nple (embedding W p h) i

/-- What a token becomes. -/
def result (W : Weights) (T : Token) : Fin 1024 → EReal := embedded W T.p (fed W (mixed W T))

section Arguments

variable (x : Vec Ideal ⟨2, ![32768, 1024]⟩ .f32) (yf yb : Vec Ideal ⟨2, ![32768, 512]⟩ .f32) (pack : Vec Ideal ⟨2, ![32768, 3072]⟩ .bf16)
  (of ob : Vec Ideal ⟨2, ![32768, 512]⟩ .f32) (z : Vec Ideal ⟨2, ![32768, 512]⟩ .bf16) (p : Vec Ideal ⟨2, ![32768, 256]⟩ .f32)
  (rk : Vec Ideal ⟨2, ![8, 64]⟩ .f32) (lnw lnb : Vec Ideal ⟨1, ![512]⟩ .f32) (gn : Vec Ideal ⟨1, ![128]⟩ .f32)
  (wo : Vec Ideal ⟨2, ![1024, 1024]⟩ .f32) (nmix nfpre nfpost : Vec Ideal ⟨1, ![1024]⟩ .f32) (gate up : Vec Ideal ⟨2, ![1024, 2816]⟩ .f32)
  (down : Vec Ideal ⟨2, ![2816, 1024]⟩ .f32) (pproj : Vec Ideal ⟨2, ![256, 1024]⟩ .f32) (pgate : Vec Ideal ⟨2, ![1024, 1024]⟩ .f32)
  (pbias nple : Vec Ideal ⟨1, ![1024]⟩ .f32)

/-- The weights that the arguments hold. -/
def weightsOf : Weights where
  rk n := rk (ix2 ⟨n.val / 64, by omega⟩ ⟨n.val % 64, by omega⟩)
  lnw n := lnw (ix1 n)
  lnb n := lnb (ix1 n)
  gn n := gn (ix1 n)
  wo j i := wo (ix2 j i)
  nmix n := nmix (ix1 n)
  nfpre n := nfpre (ix1 n)
  nfpost n := nfpost (ix1 n)
  gate j i := gate (ix2 j i)
  up j i := up (ix2 j i)
  down j i := down (ix2 j i)
  pproj j i := pproj (ix2 j i)
  pgate j i := pgate (ix2 j i)
  pbias n := pbias (ix1 n)
  nple n := nple (ix1 n)

/-- The rows of the arguments at a token. The packed columns hold `r`, `k`, `v` first and the gate last. -/
def tokenOf (t : Fin 32768) : Token where
  x n := x (ix2 t n)
  yf n := yf (ix2 t n)
  yb n := yb (ix2 t n)
  r n := pack (ix2 t ⟨n.val, by omega⟩)
  k n := pack (ix2 t ⟨512 + n.val, by omega⟩)
  v n := pack (ix2 t ⟨1024 + n.val, by omega⟩)
  g n := pack (ix2 t ⟨2560 + n.val, by omega⟩)
  of n := of (ix2 t n)
  ob n := ob (ix2 t n)
  z n := z (ix2 t n)
  p n := p (ix2 t n)

/-- The array of results. -/
def resultOf : Vec Ideal ⟨2, ![32768, 1024]⟩ .f32 := fun i =>
  result (weightsOf rk lnw lnb gn wo nmix nfpre nfpost gate up down pproj pgate pbias nple) (tokenOf x yf yb pack of ob z p (i 0)) (i 1)

end Arguments

end Cert.Row

end
-- ==== Proof.HalfRows.lean ====
/- One half's function of its loads, at an index, is the token's function of the row's loads, given that the block matrix
   holds one where two lanes share a head and zero elsewhere. -/
module

public import proofs.«01_k».proof.Proof.Half
public import proofs.«01_k».proof.Proof.TailRow

@[expose] public section

set_option maxRecDepth 16384

noncomputable section

namespace Cert.TailIdeal.Half

open Cert.TailIdeal Cert.TailIdeal.Gen Idealize.ShloMosaic

/-- The weights that the shared arrays hold. -/
def weights (W : Shared Ideal) : Row.Weights where
  rk n := W.rk (ix2 0 n)
  lnw n := W.lnw (ix2 0 n)
  lnb n := W.lnb (ix2 0 n)
  gn n := W.gn (ix2 0 n)
  wo j i := if h : j.val < 512 then W.wor (ix2 ⟨j.val, h⟩ i) else W.wog (ix2 ⟨j.val - 512, by omega⟩ i)
  nmix n := W.nmix (ix2 0 n)
  nfpre n := W.nfpre (ix2 0 n)
  nfpost n := W.nfpost (ix2 0 n)
  gate j i := W.gate (ix2 j i)
  up j i := W.up (ix2 j i)
  down j i := W.down (ix2 j i)
  pproj j i := W.pproj (ix2 j i)
  pgate j i := W.pgate (ix2 j i)
  pbias n := W.pbias (ix2 0 n)
  nple n := W.nple (ix2 0 n)

/-- The token in row `t`. -/
def token (R : Rows Ideal) (t : Fin 128) : Row.Token where
  x n := R.x (ix2 t n)
  yf n := R.yf (ix2 t n)
  yb n := R.yb (ix2 t n)
  r n := R.r (ix2 t n)
  k n := R.k (ix2 t n)
  v n := R.v (ix2 t n)
  g n := R.g (ix2 t n)
  of n := R.of (ix2 t n)
  ob n := R.ob (ix2 t n)
  z n := R.z (ix2 t n)
  p n := R.p (ix2 t n)

/-- The block matrix: one where two lanes share a head, zero elsewhere. -/
def IsBlocks (seg : Vec Ideal S512x512 .bf16) : Prop :=
  ∀ a b : Fin 512, seg (ix2 a b) = if a.val / 64 = b.val / 64 then (1 : EReal) else 0

/-- A sum over the lanes of one head. -/
theorem sum_head (f : Fin 512 → EReal) (n : Fin 512) :
    ∑ a : Fin 512, f a * (if a.val / 64 = n.val / 64 then (1 : EReal) else 0) = Row.headSum f n := by
  simp only [mul_ite, mul_one, mul_zero]
  rw [← Finset.sum_filter]
  unfold Row.headSum
  symm
  refine Finset.sum_bij (fun e _ => Row.lane64 n e) ?_ ?_ ?_ ?_
  · intro e _
    simp only [Finset.mem_filter, Finset.mem_univ, true_and, Row.lane64]
    omega
  · intro e _ e' _ h
    have := congrArg Fin.val h
    simp only [Row.lane64] at this
    exact Fin.ext (by omega)
  · intro a ha
    simp only [Finset.mem_filter, Finset.mem_univ, true_and] at ha
    exact ⟨⟨a.val % 64, Nat.mod_lt _ (by omega)⟩, Finset.mem_univ _, Fin.ext (by simp only [Row.lane64]; omega)⟩
  · intro e _
    rfl

/-- The product with the block matrix sums each lane's head. -/
theorem headSums_at {seg : Vec Ideal S512x512 .bf16} (hs : IsBlocks seg) (a : FVec Ideal S128x512 .f32) (t : Fin 128) (n : Fin 512) :
    headSums seg a (ix2 t n) = Row.headSum (fun e => a (ix2 t e)) n := by
  pointwise [headSums]
  refine Eq.trans ?_ (sum_head _ n)
  exact Finset.sum_congr rfl fun e _ => by rw [hs e n]

/-- The word of one sixty-fourth times a value is the value by sixty-four. -/
theorem over_64 (x : EReal) : x * Ideal.ofBits .f32 0x3C800000#32 = Ideal.div x (Ideal.ofBits .f32 0x42800000#32) := by
  have e1 : Ideal.ofBits .f32 0x3C800000#32 = (((1 : ℝ) / 64 : ℝ) : EReal) := by
    simp [Ideal.ofBits, Ideal.ieee, -EReal.coe_mul]; norm_num
  have e2 : Ideal.ofBits .f32 0x42800000#32 = ((64 : ℝ) : EReal) := by
    simp [Ideal.ofBits, Ideal.ieee, -EReal.coe_mul]; norm_num
  rw [e1, e2, Ideal.div_coe (by norm_num)]

/-- Each lane's mean over its head. -/
theorem headMean_at {seg : Vec Ideal S512x512 .bf16} (hs : IsBlocks seg) (a : FVec Ideal S128x512 .f32) (t : Fin 128) (n : Fin 512) :
    headMean seg a (ix2 t n) = Row.headMean (fun e => a (ix2 t e)) n := by
  unfold headMean Row.headMean
  rw [← headSums_at hs a t n, ← over_64]
  rfl

/-- The gated RWKV heads. -/
theorem rwkvHeads_at (W : Shared Ideal) (hs : IsBlocks W.seg) (R : Rows Ideal) (t : Fin 128) (n : Fin 512) :
    rwkvHeads W R (ix2 t n) = Row.rwkvHeads (weights W) (token R t) n := by
  have hc (e : Fin 512) : centred W.seg (addf R.yf R.yb) (ix2 t e) = Row.centred (fun e => R.yf (ix2 t e) + R.yb (ix2 t e)) e := by
    show (R.yf (ix2 t e) + R.yb (ix2 t e)) - headMean W.seg (addf R.yf R.yb) (ix2 t e) = _
    rw [headMean_at hs]
    rfl
  have hg : groupNorm W.seg W.lnw W.lnb (centred W.seg (addf R.yf R.yb)) (ix2 t n)
      = Row.groupNorm (weights W) (Row.centred fun e => R.yf (ix2 t e) + R.yb (ix2 t e)) n := by
    generalize hcc : centred W.seg (addf R.yf R.yb) = c at hc ⊢
    pointwise [groupNorm, wide]
    rw [headMean_at hs]
    unfold Row.groupNorm
    rw [← hc n]
    simp only [← hc]
    rfl
  have hb : bonus W.seg W.rk R.r R.k R.v (ix2 t n)
      = Row.headSum (fun e => R.r (ix2 t e) * R.k (ix2 t e) * W.rk (ix2 0 e)) n * R.v (ix2 t n) := by
    show headSums W.seg _ (ix2 t n) * R.v (ix2 t n) = _
    rw [headSums_at hs]
    congr 2
    funext e
    pointwise [wide]
  show (groupNorm W.seg W.lnw W.lnb (centred W.seg (addf R.yf R.yb)) (ix2 t n) + bonus W.seg W.rk R.r R.k R.v (ix2 t n)) * R.g (ix2 t n) = _
  rw [hg, hb]
  rfl

/-- One gated GLA head. -/
theorem glaHead_at (W : Shared Ideal) (R : Rows Ideal) (t : Fin 128) (n : Fin 512) (h : Fin 4) (e : Fin 128) (hn : n.val = 128 * h.val + e.val) :
    glaHead W.gn (addf R.of R.ob) (extf .f32 R.z bitsLt_bf16_f32) h (ix2 t e) = Row.glaHeads (weights W) (token R t) n := by
  have hlt : 128 * h.val + e.val < 512 := by have := h.isLt; have := e.isLt; omega
  obtain ⟨n, hn'⟩ := n
  obtain rfl : n = 128 * h.val + e.val := hn
  pointwise [glaHead, normGla, gateGla]
  unfold Row.glaHeads Row.rms Row.sigmoid
  have e1 : Row.within128 ⟨128 * h.val + e.val, by omega⟩ = e := Fin.ext (by simp only [Row.within128]; omega)
  have e2 (x : Fin 128) : Row.lane128 ⟨128 * h.val + e.val, by omega⟩ x = ⟨128 * h.val + x.val, by omega⟩ := Fin.ext (by simp only [Row.lane128]; omega)
  rw [e1]
  simp only [e2]
  rfl

/-- Four heads of 128 lanes beside each other. -/
theorem beside_at (A : Fin 4 → FVec Ideal S128x128 .f32) (t : Fin 128) (n : Fin 512) :
    concatenate S128x512 1 [⟨S128x128, A 0⟩, ⟨S128x128, A 1⟩, ⟨S128x128, A 2⟩, ⟨S128x128, A 3⟩]
      concatenates_S128x128_S128x128_S128x128_S128x128_S128x512_d1 (ix2 t n)
      = A ⟨n.val / 128, by omega⟩ (ix2 t ⟨n.val % 128, Nat.mod_lt _ (by omega)⟩) := by
  have key (h : Fin 4) (e : Fin 128) (hn : n.val = 128 * h.val + e.val) :
      A h (ix2 t e) = A ⟨n.val / 128, by omega⟩ (ix2 t ⟨n.val % 128, Nat.mod_lt _ (by omega)⟩) := by
    have a1 : (⟨n.val / 128, by omega⟩ : Fin 4) = h := Fin.ext (by simp only; omega)
    have a2 : (⟨n.val % 128, Nat.mod_lt _ (by omega)⟩ : Fin 128) = e := Fin.ext (by simp only; omega)
    rw [a1, a2]
  pointwise []
  split_ifs <;> first
    | contradiction
    | exact key 0 ⟨n.val, by omega⟩ (by simp)
    | exact key 1 ⟨n.val - 128, by omega⟩ (by simp; omega)
    | exact key 2 ⟨n.val - 128 - 128, by omega⟩ (by simp; omega)
    | exact key 3 ⟨n.val - 128 - 128 - 128, by omega⟩ (by simp; omega)

/-- The gated GLA heads. -/
theorem glaHeads_at (W : Shared Ideal) (R : Rows Ideal) (t : Fin 128) (n : Fin 512) :
    glaHeads W R (ix2 t n) = Row.glaHeads (weights W) (token R t) n := by
  unfold glaHeads
  rw [beside_at (fun h => glaHead W.gn (addf R.of R.ob) (extf .f32 R.z bitsLt_bf16_f32) h) t n]
  exact glaHead_at W R t n _ _ (by simp only; omega)

/-- The norm of a row of 1024. -/
theorem norm_at (w : Vec Ideal S1x1024 .f32) (x : FVec Ideal S128x1024 .f32) (t : Fin 128) (i : Fin 1024) :
    norm w x (ix2 t i) = Row.norm (fun n => w (ix2 0 n)) (fun n => x (ix2 t n)) i := by
  pointwise [norm, broad]
  rfl

/-- The output projection. -/
theorem mixOf_at (W : Shared Ideal) (a b : FVec Ideal S128x512 .f32) (t : Fin 128) (i : Fin 1024) :
    mixOf W.wor W.wog a b (ix2 t i) = Row.mix (weights W).wo (fun n => a (ix2 t n)) (fun n => b (ix2 t n)) i := by
  pointwise [mixOf]
  unfold Row.mix Row.dot weights
  congr 1

/-- A product into the feed-forward width. -/
theorem widen_at (w : Vec Ideal S1024x2816 .bf16) (x : FVec Ideal S128x1024 .f32) (t : Fin 128) (j : Fin 2816) :
    widen w x (ix2 t j) = Row.dot (fun n => x (ix2 t n)) (fun a b => w (ix2 a b)) j := by
  pointwise [widen]
  rfl

/-- The product back from the feed-forward width. -/
theorem narrow_at (w : Vec Ideal S2816x1024 .bf16) (x : FVec Ideal S128x2816 .f32) (t : Fin 128) (i : Fin 1024) :
    narrow w x (ix2 t i) = Row.dot (fun n => x (ix2 t n)) (fun a b => w (ix2 a b)) i := by
  pointwise [narrow]
  rfl

/-- The gated feed-forward values. -/
theorem swiglu_at (a b : FVec Ideal S128x2816 .f32) (t : Fin 128) (j : Fin 2816) :
    swiglu a b (ix2 t j) = a (ix2 t j) * Row.sigmoid (a (ix2 t j)) * b (ix2 t j) := by
  pointwise [swiglu]
  rfl

/-- The rows after the mixing part. -/
theorem mixed_at (W : Shared Ideal) (hs : IsBlocks W.seg) (R : Rows Ideal) (t : Fin 128) (i : Fin 1024) :
    mixed W R (ix2 t i) = Row.mixed (weights W) (token R t) i := by
  show R.x (ix2 t i) + norm W.nmix _ (ix2 t i) = _
  rw [norm_at]
  simp only [mixOf_at, rwkvHeads_at W hs, glaHeads_at]
  rfl

/-- The rows after the feed-forward part. -/
theorem fed_at (W : Shared Ideal) (h : FVec Ideal S128x1024 .f32) (t : Fin 128) (i : Fin 1024) :
    fed W h (ix2 t i) = Row.fed (weights W) (fun n => h (ix2 t n)) i := by
  show h (ix2 t i) + norm W.nfpost _ (ix2 t i) = _
  rw [norm_at]
  simp only [narrow_at, swiglu_at, widen_at, norm_at]
  rfl

/-- The per-layer embedding, gated. -/
theorem embedding_at (W : Shared Ideal) (p : Vec Ideal S128x256 .f32) (h : FVec Ideal S128x1024 .f32) (t : Fin 128) (i : Fin 1024) :
    mulf (sigmoid (gateArg W.pgate W.pbias h)) (embed W.pproj p) (ix2 t i)
      = Row.embedding (weights W) (fun n => p (ix2 t n)) (fun n => h (ix2 t n)) i := by
  pointwise [sigmoid, gateArg, embed, broad]
  rfl

/-- What one half's rows become, row by row. -/
theorem result_at (W : Shared Ideal) (hs : IsBlocks W.seg) (R : Rows Ideal) (t : Fin 128) (i : Fin 1024) :
    result W R (ix2 t i) = Row.result (weights W) (token R t) i := by
  show fed W (mixed W R) (ix2 t i) + norm W.nple _ (ix2 t i) = _
  rw [norm_at, fed_at]
  simp only [embedding_at, fed_at, mixed_at W hs]
  rfl

end Cert.TailIdeal.Half

end
-- ==== Proof.TailFound.lean ====
/- What the last call's grid finds: the weights as the operations before it lay them out, and each point's rows. -/
module

public import proofs.«01_k».proof.Proof.Gen.TailIdeal.Frame.Runs
public import proofs.«01_k».proof.Proof.HalfRows
public import Idealize.ShloMosaic.Lib.StableHlo.RunRead
public import Idealize.ShloMosaic.Lib.Pipeline.ValueKit

@[expose] public section

set_option maxRecDepth 16384

noncomputable section

namespace Cert.TailIdeal.Half

open Cert.TailIdeal Cert.TailIdeal.Gen Idealize.ShloMosaic Idealize.ShloMosaic.TcCoe Idealize.SL.Sem

/-- Which head each lane belongs to, as the program works it out. -/
def headIds : Vec Ideal S512 .i32 :=
  select (andi (cmpi .ne (signi (iotaInDim S512 32 0)) (broadcastInDim S512 ![] bcast_S_S512 (signi (constantI S_ 32 64#32))))
      (cmpi .ne (Host.remsi (iotaInDim S512 32 0) (broadcastInDim S512 ![] bcast_S_S512 (constantI S_ 32 64#32)))
        (broadcastInDim S512 ![] bcast_S_S512 (constantI S_ 32 0#32))))
    (subi (Host.divsi (iotaInDim S512 32 0) (broadcastInDim S512 ![] bcast_S_S512 (constantI S_ 32 64#32)))
      (broadcastInDim S512 ![] bcast_S_S512 (constantI S_ 32 1#32)))
    (Host.divsi (iotaInDim S512 32 0) (broadcastInDim S512 ![] bcast_S_S512 (constantI S_ 32 64#32)))

/-- A lane's head is its number over sixty-four. -/
theorem headIds_at : ∀ a : Fin 512, headIds (ix1 a) = BitVec.ofNat 32 (a.val / 64) := by
  decide +kernel

/-- Two heads' numbers compared. -/
theorem same_head : ∀ p q : Fin 8, IntOp.cmpi .eq (BitVec.ofNat 32 p.val) (BitVec.ofNat 32 q.val) = if p.val = q.val then 1#1 else 0#1 := by
  decide

variable (m : (ℓ : Loc nD τ sig) → Buf (Elt Ideal) ℓ) (c : Dev nD)

/-- The block matrix that the grid finds. -/
theorem found_blocks : IsBlocks (V m c main_v7 : Vec Ideal S512x512 .bf16) := by
  intro a b
  unfold V
  simp only [List.flatten_cons, List.flatten_nil, List.append_nil, List.cons_append, List.nil_append]
  after_reads_simp
  change (uitofp (F := Ideal) .bf16 (cmpi .eq (broadcastInDim S512x512 ![0, 1] bcast_S512x1_S512x512_0_1 (broadcastInDim S512x1 ![0] bcast_S512_S512x1_0 headIds))
    (broadcastInDim S512x512 ![0, 1] bcast_S1x512_S512x512_0_1 (broadcastInDim S1x512 ![1] bcast_S512_S1x512_1 headIds)))) (ix2 a b) = _
  have ha := headIds_at a
  have hb := headIds_at b
  generalize headIds = H at ha hb ⊢
  pointwise
  rw [ha, hb, same_head ⟨a.val / 64, by omega⟩ ⟨b.val / 64, by omega⟩]
  split_ifs <;> simp [FloatOps.uitofp]

/-- The other arrays that the grid finds, off the arguments: rows of the vectors, and the matrices as they are. -/
theorem found :
    (∀ n, (V m c main_v9 : Vec Ideal S1x512 .f32) (ix2 0 n) = m ((c : Thread nD τ).loc main_arg8) (ix2 ⟨n.val / 64, by omega⟩ ⟨n.val % 64, by omega⟩))
    ∧ (∀ n, (V m c main_v10 : Vec Ideal S1x512 .f32) (ix2 0 n) = m ((c : Thread nD τ).loc main_arg9) (ix1 n))
    ∧ (∀ n, (V m c main_v11 : Vec Ideal S1x512 .f32) (ix2 0 n) = m ((c : Thread nD τ).loc main_arg10) (ix1 n))
    ∧ (∀ n, (V m c main_v12 : Vec Ideal S1x128 .f32) (ix2 0 n) = m ((c : Thread nD τ).loc main_arg11) (ix1 n))
    ∧ (∀ n, (V m c main_v15 : Vec Ideal S1x1024 .f32) (ix2 0 n) = m ((c : Thread nD τ).loc main_arg13) (ix1 n))
    ∧ (∀ n, (V m c main_v16 : Vec Ideal S1x1024 .f32) (ix2 0 n) = m ((c : Thread nD τ).loc main_arg14) (ix1 n))
    ∧ (∀ n, (V m c main_v17 : Vec Ideal S1x1024 .f32) (ix2 0 n) = m ((c : Thread nD τ).loc main_arg15) (ix1 n))
    ∧ (∀ n, (V m c main_v23 : Vec Ideal S1x1024 .f32) (ix2 0 n) = m ((c : Thread nD τ).loc main_arg21) (ix1 n))
    ∧ (∀ n, (V m c main_v24 : Vec Ideal S1x1024 .f32) (ix2 0 n) = m ((c : Thread nD τ).loc main_arg22) (ix1 n))
    ∧ (∀ j i, (V m c main_v13 : Vec Ideal S512x1024 .bf16) (ix2 j i) = m ((c : Thread nD τ).loc main_arg12) (ix2 ⟨j.val, by omega⟩ i))
    ∧ (∀ j i, (V m c main_v14 : Vec Ideal S512x1024 .bf16) (ix2 j i) = m ((c : Thread nD τ).loc main_arg12) (ix2 ⟨512 + j.val, by omega⟩ i))
    ∧ (∀ j i, (V m c main_v18 : Vec Ideal S1024x2816 .bf16) (ix2 j i) = m ((c : Thread nD τ).loc main_arg16) (ix2 j i))
    ∧ (∀ j i, (V m c main_v19 : Vec Ideal S1024x2816 .bf16) (ix2 j i) = m ((c : Thread nD τ).loc main_arg17) (ix2 j i))
    ∧ (∀ j i, (V m c main_v20 : Vec Ideal S2816x1024 .bf16) (ix2 j i) = m ((c : Thread nD τ).loc main_arg18) (ix2 j i))
    ∧ (∀ j i, (V m c main_v21 : Vec Ideal S256x1024 .bf16) (ix2 j i) = m ((c : Thread nD τ).loc main_arg19) (ix2 j i))
    ∧ (∀ j i, (V m c main_v22 : Vec Ideal S1024x1024 .bf16) (ix2 j i) = m ((c : Thread nD τ).loc main_arg20) (ix2 j i)) := by
  unfold V
  simp only [List.flatten_cons, List.flatten_nil, List.append_nil, List.cons_append, List.nil_append]
  refine ⟨?_, ?_, ?_, ?_, ?_, ?_, ?_, ?_, ?_, ?_, ?_, ?_, ?_, ?_, ?_, ?_⟩ <;> intros <;> after_reads_simp <;> pointwise

/-- The blocks each window is at, point by point: the rows' move with the point, the weights' stay. -/
theorem places : ∀ t : Fin cfg0.N,
    win0_0.index t = ![t.val, 0] ∧ win0_1.index t = ![t.val, 0] ∧ win0_2.index t = ![t.val, 0] ∧ win0_3.index t = ![t.val, 0]
    ∧ win0_4.index t = ![t.val, 5] ∧ win0_5.index t = ![t.val, 0] ∧ win0_6.index t = ![t.val, 0] ∧ win0_7.index t = ![t.val, 0]
    ∧ win0_8.index t = ![t.val, 0] ∧ win0_26.index t = ![t.val, 0] :=
  (by decide +kernel : ∀ t : Fin grid0.N, _)

/-- The weights' windows stay at their only block. -/
theorem stays : ∀ t : Fin cfg0.N,
    win0_9.index t = ![0, 0] ∧ win0_10.index t = ![0, 0] ∧ win0_11.index t = ![0, 0] ∧ win0_12.index t = ![0, 0]
    ∧ win0_13.index t = ![0, 0] ∧ win0_14.index t = ![0, 0] ∧ win0_15.index t = ![0, 0] ∧ win0_16.index t = ![0, 0]
    ∧ win0_17.index t = ![0, 0] ∧ win0_18.index t = ![0, 0] ∧ win0_19.index t = ![0, 0] ∧ win0_20.index t = ![0, 0]
    ∧ win0_21.index t = ![0, 0] ∧ win0_22.index t = ![0, 0] ∧ win0_23.index t = ![0, 0] ∧ win0_24.index t = ![0, 0] ∧ win0_25.index t = ![0, 0] :=
  (by decide +kernel : ∀ t : Fin grid0.N, _)

/-- The token of a row of a point's blocks. -/
def tokenAt (t : Fin cfg0.N) (s : Fin 256) : Fin 32768 :=
  ⟨256 * t.val + s.val, by have := lt_of_lt_of_eq t.isLt (show cfg0.N = 128 from N_0); omega⟩

set_option maxHeartbeats 4000000 in
/-- A row block's row is the array's at its token. -/
theorem rows_at (t : Fin cfg0.N) (s : Fin 256) :
    (∀ n, (iblk m c 0 t : Vec Ideal S256x1024 .f32) (ix2 s n) = m ((c : Thread nD τ).loc main_arg0) (ix2 (tokenAt t s) n))
    ∧ (∀ n, (iblk m c 1 t : Vec Ideal S256x512 .f32) (ix2 s n) = m ((c : Thread nD τ).loc main_arg1) (ix2 (tokenAt t s) n))
    ∧ (∀ n, (iblk m c 2 t : Vec Ideal S256x512 .f32) (ix2 s n) = m ((c : Thread nD τ).loc main_arg2) (ix2 (tokenAt t s) n))
    ∧ (∀ n : Fin 1536, (iblk m c 3 t : Vec Ideal S256x1536 .bf16) (ix2 s n) = m ((c : Thread nD τ).loc main_arg3) (ix2 (tokenAt t s) ⟨n.val, by omega⟩))
    ∧ (∀ n : Fin 512, (iblk m c 4 t : Vec Ideal S256x512 .bf16) (ix2 s n) = m ((c : Thread nD τ).loc main_arg3) (ix2 (tokenAt t s) ⟨2560 + n.val, by omega⟩))
    ∧ (∀ n, (iblk m c 5 t : Vec Ideal S256x512 .f32) (ix2 s n) = m ((c : Thread nD τ).loc main_arg4) (ix2 (tokenAt t s) n))
    ∧ (∀ n, (iblk m c 6 t : Vec Ideal S256x512 .f32) (ix2 s n) = m ((c : Thread nD τ).loc main_arg5) (ix2 (tokenAt t s) n))
    ∧ (∀ n, (iblk m c 7 t : Vec Ideal S256x512 .bf16) (ix2 s n) = m ((c : Thread nD τ).loc main_arg6) (ix2 (tokenAt t s) n))
    ∧ (∀ n, (iblk m c 8 t : Vec Ideal S256x256 .f32) (ix2 s n) = m ((c : Thread nD τ).loc main_arg7) (ix2 (tokenAt t s) n)) := by
  obtain ⟨h0, h1, h2, h3, h4, h5, h6, h7, h8, _⟩ := places t
  rw [← V_main_arg0 m c, ← V_main_arg1 m c, ← V_main_arg2 m c, ← V_main_arg3 m c, ← V_main_arg4 m c, ← V_main_arg5 m c, ← V_main_arg6 m c, ← V_main_arg7 m c]
  refine ⟨?_, ?_, ?_, ?_, ?_, ?_, ?_, ?_, ?_⟩ <;> intro n <;> blk_ext [iblk, h0, h1, h2, h3, h4, h5, h6, h7, h8, tokenAt]

end Cert.TailIdeal.Half

end
-- ==== Proof.TailBlocks.lean ====
/- The blocks the last call's body is handed at a point: the weights' are the whole arrays, at every point. -/
module

public import proofs.«01_k».proof.Proof.TailFound

@[expose] public section

set_option maxRecDepth 16384

noncomputable section

namespace Cert.TailIdeal.Half

open Cert.TailIdeal Cert.TailIdeal.Gen Idealize.ShloMosaic Idealize.ShloMosaic.TcCoe Idealize.SL.Sem

variable (m : (ℓ : Loc nD τ sig) → Buf (Elt Ideal) ℓ) (c : Dev nD)

/-- The arguments' rows at a token. -/
def tokenArgs (r : Fin 32768) : Row.Token :=
  Row.tokenOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) r

/-- The arguments' weights. -/
def weightsArgs : Row.Weights :=
  Row.weightsOf (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))
    (m ((c : Thread nD τ).loc main_arg14)) (m ((c : Thread nD τ).loc main_arg15)) (m ((c : Thread nD τ).loc main_arg16))
    (m ((c : Thread nD τ).loc main_arg17)) (m ((c : Thread nD τ).loc main_arg18)) (m ((c : Thread nD τ).loc main_arg19))
    (m ((c : Thread nD τ).loc main_arg20)) (m ((c : Thread nD τ).loc main_arg21)) (m ((c : Thread nD τ).loc main_arg22))

/-- The shared arrays at a point. -/
def sharedAt (t : Fin cfg0.N) : Shared Ideal where
  seg := iblk m c 9 t
  rk := iblk m c 10 t
  lnw := iblk m c 11 t
  lnb := iblk m c 12 t
  gn := iblk m c 13 t
  wor := iblk m c 14 t
  wog := iblk m c 15 t
  nmix := iblk m c 16 t
  nfpre := iblk m c 17 t
  nfpost := iblk m c 18 t
  gate := iblk m c 19 t
  up := iblk m c 20 t
  down := iblk m c 21 t
  pproj := iblk m c 22 t
  pgate := iblk m c 23 t
  pbias := iblk m c 24 t
  nple := iblk m c 25 t

set_option maxHeartbeats 4000000 in
/-- A weight's block, at every point, is the whole array. -/
theorem wholes (t : Fin cfg0.N) :
    (iblk m c 9 t : Vec Ideal S512x512 .bf16) = V m c main_v7
    ∧ (iblk m c 10 t : Vec Ideal S1x512 .f32) = V m c main_v9
    ∧ (iblk m c 11 t : Vec Ideal S1x512 .f32) = V m c main_v10
    ∧ (iblk m c 12 t : Vec Ideal S1x512 .f32) = V m c main_v11
    ∧ (iblk m c 13 t : Vec Ideal S1x128 .f32) = V m c main_v12
    ∧ (iblk m c 14 t : Vec Ideal S512x1024 .bf16) = V m c main_v13
    ∧ (iblk m c 15 t : Vec Ideal S512x1024 .bf16) = V m c main_v14
    ∧ (iblk m c 16 t : Vec Ideal S1x1024 .f32) = V m c main_v15
    ∧ (iblk m c 17 t : Vec Ideal S1x1024 .f32) = V m c main_v16
    ∧ (iblk m c 18 t : Vec Ideal S1x1024 .f32) = V m c main_v17
    ∧ (iblk m c 19 t : Vec Ideal S1024x2816 .bf16) = V m c main_v18
    ∧ (iblk m c 20 t : Vec Ideal S1024x2816 .bf16) = V m c main_v19
    ∧ (iblk m c 21 t : Vec Ideal S2816x1024 .bf16) = V m c main_v20
    ∧ (iblk m c 22 t : Vec Ideal S256x1024 .bf16) = V m c main_v21
    ∧ (iblk m c 23 t : Vec Ideal S1024x1024 .bf16) = V m c main_v22
    ∧ (iblk m c 24 t : Vec Ideal S1x1024 .f32) = V m c main_v23
    ∧ (iblk m c 25 t : Vec Ideal S1x1024 .f32) = V m c main_v24 := by
  obtain ⟨h9, h10, h11, h12, h13, h14, h15, h16, h17, h18, h19, h20, h21, h22, h23, h24, h25⟩ := stays t
  refine ⟨?_, ?_, ?_, ?_, ?_, ?_, ?_, ?_, ?_, ?_, ?_, ?_, ?_, ?_, ?_, ?_, ?_⟩ <;> funext y
  all_goals
    rw [show y = ix2 (y 0) (y 1) by funext a; fin_cases a <;> rfl]
    generalize y 0 = a
    generalize y 1 = b
    blk_ext [iblk, h9, h10, h11, h12, h13, h14, h15, h16, h17, h18, h19, h20, h21, h22, h23, h24, h25]

/-- The shared arrays are what the grid finds. -/
theorem sharedAt_eq (t : Fin cfg0.N) : sharedAt m c t =
    { seg := V m c main_v7, rk := V m c main_v9, lnw := V m c main_v10, lnb := V m c main_v11, gn := V m c main_v12, wor := V m c main_v13,
      wog := V m c main_v14, nmix := V m c main_v15, nfpre := V m c main_v16, nfpost := V m c main_v17, gate := V m c main_v18,
      up := V m c main_v19, down := V m c main_v20, pproj := V m c main_v21, pgate := V m c main_v22, pbias := V m c main_v23,
      nple := V m c main_v24 } := by
  obtain ⟨h9, h10, h11, h12, h13, h14, h15, h16, h17, h18, h19, h20, h21, h22, h23, h24, h25⟩ := wholes m c t
  unfold sharedAt
  rw [h9, h10, h11, h12, h13, h14, h15, h16, h17, h18, h19, h20, h21, h22, h23, h24, h25]

/-- At every point the block matrix is the heads'. -/
theorem sharedAt_blocks (t : Fin cfg0.N) : IsBlocks (sharedAt m c t).seg := by
  rw [sharedAt_eq]
  exact found_blocks m c

/-- At every point the weights are the arguments'. -/
theorem sharedAt_weights (t : Fin cfg0.N) : weights (sharedAt m c t) = weightsArgs m c := by
  obtain ⟨f9, f10, f11, f12, f15, f16, f17, f23, f24, f13, f14, f18, f19, f20, f21, f22⟩ := found m c
  rw [sharedAt_eq]
  unfold weights weightsArgs Row.weightsOf
  simp only [f9, f10, f11, f12, f15, f16, f17, f23, f24, f13, f14, f18, f19, f20, f21, f22]
  congr 1
  funext j i
  split_ifs with h
  · rfl
  · congr 2
    exact Fin.ext (by simp only; omega)

end Cert.TailIdeal.Half

end
-- ==== Proof.TailStored.lean ====
/- The output block of the last call at a point: every row is the token's result. Then the whole array. -/
module

public import proofs.«01_k».proof.Proof.HalfPieces
public import proofs.«01_k».proof.Proof.TailIdealFrame
public import proofs.«01_k».proof.Proof.TailBlocks
public import Idealize.ShloMosaic.Lib.WholeRead

@[expose] public section

set_option maxRecDepth 16384

noncomputable section

namespace Cert.TailIdeal.Half

open Cert.TailIdeal Cert.TailIdeal.Gen Cert.TailIdeal.Launch Idealize.ShloMosaic Idealize.ShloMosaic.TcCoe Idealize.SL.Sem

/-- A whole load is the block. -/
theorem loadAll_eq {a b : ℕ} {e : EltTy} (arg : Memref sig .tc .vmem ⟨2, ![a, b]⟩ e) (harg : arg.IsWhole) (x : Vec Ideal ⟨2, ![a, b]⟩ e) :
    loadAll (F := Ideal) arg harg x = x := by
  funext i
  refine (harg.readAt_unread _ _ _).trans ?_
  congr 1
  funext d
  apply Fin.ext
  fin_cases d <;> simp [Rect.idx_unit_val]

/-- A row of one half of the block. -/
def rowOf (u : Fin 2) (t : Fin 128) : Fin 256 := ⟨128 * u.val + t.val, by omega⟩

/-- A load of one half is the block's rows. -/
theorem loadHalf_at {b : ℕ} {e : EltTy} (u : Fin 2) (arg : Memref sig .tc .vmem ⟨2, ![256, b]⟩ e) (harg : arg.IsWhole)
    (x : Vec Ideal ⟨2, ![256, b]⟩ e) (t : Fin 128) (n : Fin b) : loadHalf (F := Ideal) u arg harg x (ix2 t n) = x (ix2 (rowOf u t) n) := by
  refine (harg.readAt_unread _ _ _).trans ?_
  congr 1
  funext d
  apply Fin.ext
  fin_cases d <;> simp [ix2, rowOf, Rect.idx_unit_val]

/-- A load of one half of a third of the packed block is the block's rows at the third's columns. -/
theorem loadThird_at (j : Fin 3) (u : Fin 2) (arg : Memref sig .tc .vmem S256x1536 .bf16) (harg : arg.IsWhole) (x : Vec Ideal S256x1536 .bf16)
    (t : Fin 128) (n : Fin 512) :
    loadThird (F := Ideal) j u arg harg x (ix2 t n) = x (ix2 (rowOf u t) ⟨512 * j.val + n.val, by omega⟩) := by
  refine (harg.readAt_unread _ _ _).trans ?_
  congr 1
  funext d
  apply Fin.ext
  fin_cases d <;> simp [ix2, rowOf, Rect.withinL, LoadRect.idx, Rect.unit]

/-- The block after the two stores, at a row of either half. -/
theorem pieces_at (W : Shared Ideal) (R : Fin 2 → Rows Ideal) (u : Fin 2) (t : Fin 128) (i : Fin 1024) :
    View.canon (pieces W R) (ix2 (rowOf u t) i) = result W (R u) (ix2 t i) := by
  have hidx (w : Fin 2) : (Rect.unit (s := S256x1024) ![128 * w.val, 0] S128x1024.size (inb_half w)).idx (ix2 t i) = ix2 (rowOf w t) i := by
    funext d
    apply Fin.ext
    fin_cases d <;> simp [ix2, rowOf, Rect.idx_unit_val]
  have hemb (w : Fin 2) (L : List (View.Piece (Elt Ideal) S256x1024 .f32)) :
      View.canon (⟨Rect.unit (s := S256x1024) ![128 * w.val, 0] S128x1024.size (inb_half w), result W (R w)⟩ :: L) (ix2 (rowOf w t) i)
        = result W (R w) (ix2 t i) := by
    rw [← hidx w]
    exact View.canon_cons_emb (Val := Elt Ideal) (e := .f32) (Rect.unit (s := S256x1024) ![128 * w.val, 0] S128x1024.size (inb_half w)) (result W (R w)) L (ix2 t i)
  obtain rfl | rfl : u = 0 ∨ u = 1 := by omega
  · refine (View.canon_cons_of_not_mem _ _ ?_).trans (hemb 0 [])
    intro h
    obtain ⟨x, hx⟩ := (Rect.unit (s := S256x1024) ![128 * (1 : Fin 2).val, 0] S128x1024.size (inb_half 1)).exists_idx_of_mem h
    have h0 := congrArg (fun y : S256x1024.Idx => (y 0).val) hx
    simp [ix2, rowOf, Rect.idx_unit_val] at h0
    omega
  · exact hemb 1 _

variable (m : (ℓ : Loc nD τ sig) → Buf (Elt Ideal) ℓ) (c : Dev nD)

/-- One half's rows at a point. -/
def rowsAt (t : Fin cfg0.N) (u : Fin 2) : Rows Ideal :=
  loadRows (F := Ideal) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t)
    (iblk m c 0 t) (iblk m c 1 t) (iblk m c 2 t) (iblk m c 3 t) (iblk m c 4 t) (iblk m c 5 t) (iblk m c 6 t) (iblk m c 7 t) (iblk m c 8 t) u

/-- A row of a half is the token's. -/
theorem rowsAt_token (t : Fin cfg0.N) (u : Fin 2) (s : Fin 128) : token (rowsAt m c t u) s = tokenArgs m c (tokenAt t (rowOf u s)) := by
  obtain ⟨h0, h1, h2, h3, h4, h5, h6, h7, h8⟩ := rows_at m c t (rowOf u s)
  unfold token tokenArgs Row.tokenOf rowsAt loadRows
  congr 1 <;> funext n
  · exact (loadHalf_at u _ _ _ s n).trans (h0 n)
  · exact (loadHalf_at u _ _ _ s n).trans (h1 n)
  · exact (loadHalf_at u _ _ _ s n).trans (h2 n)
  · exact (loadThird_at 0 u _ _ _ s n).trans ((h3 _).trans (by simp))
  · exact (loadThird_at 1 u _ _ _ s n).trans ((h3 _).trans (by simp))
  · exact (loadThird_at 2 u _ _ _ s n).trans ((h3 _).trans (by simp))
  · exact (loadHalf_at u _ _ _ s n).trans (h4 n)
  · exact (loadHalf_at u _ _ _ s n).trans (h5 n)
  · exact (loadHalf_at u _ _ _ s n).trans (h6 n)
  · exact (loadHalf_at u _ _ _ s n).trans (h7 n)
  · exact (loadHalf_at u _ _ _ s n).trans (h8 n)

/-- The shared arrays, as loaded at a point, are its blocks. -/
theorem loadShared_at (t : Fin cfg0.N) :
    loadShared (F := Ideal) (ms0_9 t) (hs0_9 t) (ms0_10 t) (hs0_10 t) (ms0_11 t) (hs0_11 t) (ms0_12 t) (hs0_12 t) (ms0_13 t) (hs0_13 t)
      (ms0_14 t) (hs0_14 t) (ms0_15 t) (hs0_15 t) (ms0_16 t) (hs0_16 t) (ms0_17 t) (hs0_17 t) (ms0_18 t) (hs0_18 t) (ms0_19 t) (hs0_19 t)
      (ms0_20 t) (hs0_20 t) (ms0_21 t) (hs0_21 t) (ms0_22 t) (hs0_22 t) (ms0_23 t) (hs0_23 t) (ms0_24 t) (hs0_24 t) (ms0_25 t) (hs0_25 t)
      (iblk m c 9 t) (iblk m c 10 t) (iblk m c 11 t) (iblk m c 12 t) (iblk m c 13 t) (iblk m c 14 t) (iblk m c 15 t) (iblk m c 16 t)
      (iblk m c 17 t) (iblk m c 18 t) (iblk m c 19 t) (iblk m c 20 t) (iblk m c 21 t) (iblk m c 22 t) (iblk m c 23 t) (iblk m c 24 t)
      (iblk m c 25 t) = sharedAt m c t := by
  unfold loadShared sharedAt
  simp only [loadAll_eq]

/-- The output block at a point is the two halves. -/
theorem outsAt0_pieces (t : Fin cfg0.N) : outsAt0 m c t = View.canon (pieces (sharedAt m c t) (rowsAt m c t)) := by
  rw [← loadShared_at]
  unfold outsAt0 out0_A_26
  rw [run_pieces]
  exact View.read_writes_junk_eq_canon _ _

/-- The output block at a point, at a row and a column, is the token's result. -/
theorem outsAt0_at (t : Fin cfg0.N) (s : Fin 256) (i : Fin 1024) :
    outsAt0 m c t (ix2 s i) = Row.result (weightsArgs m c) (tokenArgs m c (tokenAt t s)) i := by
  obtain ⟨u, r, rfl⟩ : ∃ (u : Fin 2) (r : Fin 128), s = rowOf u r :=
    ⟨⟨s.val / 128, by omega⟩, ⟨s.val % 128, by omega⟩, Fin.ext (by simp only [rowOf]; omega)⟩
  rw [outsAt0_pieces, pieces_at, result_at _ (sharedAt_blocks m c t), sharedAt_weights, rowsAt_token]

/-- The result array after the grid. -/
theorem array26 : (dats m 0 c).arrAt 26 cfg0.N = fun y : S32768x1024.Idx => Row.result (weightsArgs m c) (tokenArgs m c (y 0)) (y 1) := by
  refine (dats m 0 c).arrAt_eq_of_covers 26 _ (by decide +kernel) fun t hf y => ?_
  blk_simp
  rw [after0_26]
  obtain ⟨s, i, rfl⟩ : ∃ s i, y = ix2 s i := ⟨y 0, y 1, by funext a; fin_cases a <;> rfl⟩
  obtain ⟨_, _, _, _, _, _, _, _, _, h⟩ := places t
  refine (outsAt0_at m c t s i).trans ?_
  congr 2
  · apply Fin.ext
    blk_simp [h]; simp only [tokenAt]; omega
  · apply Fin.ext
    blk_simp [h]

end Cert.TailIdeal.Half

end
-- ==== Proof.TailRefRows.lean ====
/- The last part's reference, stage by stage, at an index: each stage is the token's function of the rows before it. -/
module

public import proofs.«01_k».proof.Proof.Gen.TailReferenceIdeal
public import proofs.«01_k».proof.Proof.TailRow

@[expose] public section

set_option maxRecDepth 16384

noncomputable section

namespace Cert.TailReferenceIdeal.Rows

open Cert.TailReferenceIdeal Cert.TailReferenceIdeal.Gen Idealize.ShloMosaic

/-- The norm of every row. -/
def norm (w : FVec Ideal S1024 .f32) (a : FVec Ideal S32768x1024 .f32) : FVec Ideal S32768x1024 .f32 :=
  mulf (mulf a (broadcastInDim S32768x1024 ![0, 1] bcast_S32768x1_S32768x1024_0_1 (Host.rsqrt (addf
      (Host.divf (broadcastInDim S32768x1 ![0] bcast_S32768_S32768x1_0
          (Host.reduceAdd (mulf a a) (constant S_ .f32 0x00000000#32) reducesTo_S32768x1024_S32768_d1 h_S_))
        (broadcastInDim S32768x1 ![] bcast_S_S32768x1 (constant S_ .f32 0x44800000#32)))
      (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 w))

/-- The heads of a row beside each other. -/
def heads (y : FVec Ideal S32768x512 .f32) : FVec Ideal S32768x8x64 .f32 := shapeCast _ y shapeCasts_S32768x512_S32768x8x64

/-- Each head's mean. -/
def mean (y : FVec Ideal S32768x8x64 .f32) : FVec Ideal S32768x8x1 .f32 :=
  Host.divf (broadcastInDim S32768x8x1 ![0, 1] bcast_S32768x8_S32768x8x1_0_1
      (Host.reduceAdd y (constant S_ .f32 0x00000000#32) reducesTo_S32768x8x64_S32768x8_d2 h_S_))
    (broadcastInDim S32768x8x1 ![] bcast_S_S32768x8x1 (constant S_ .f32 0x42800000#32))

/-- Each head less its mean. -/
def centred (y : FVec Ideal S32768x8x64 .f32) : FVec Ideal S32768x8x64 .f32 :=
  subf y (broadcastInDim S32768x8x64 ![0, 1, 2] bcast_S32768x8x1_S32768x8x64_0_1_2 (mean y))

/-- The group norm of centred heads, as rows. -/
def groupNorm (lnw lnb : FVec Ideal S512 .f32) (d : FVec Ideal S32768x8x64 .f32) : FVec Ideal S32768x512 .f32 :=
  addf (mulf (shapeCast _ (mulf d (broadcastInDim S32768x8x64 ![0, 1, 2] bcast_S32768x8x1_S32768x8x64_0_1_2 (Host.rsqrt (addf
      (mean (mulf d d)) (broadcastInDim S32768x8x1 ![] bcast_S_S32768x8x1 (constant S_ .f32 0x3A27C5AC#32)))))) shapeCasts_S32768x8x64_S32768x512)
      (broadcastInDim S32768x512 ![0, 1] bcast_S1x512_S32768x512_0_1 (broadcastInDim S1x512 ![1] bcast_S512_S1x512_1 lnw)))
    (broadcastInDim S32768x512 ![0, 1] bcast_S1x512_S32768x512_0_1 (broadcastInDim S1x512 ![1] bcast_S512_S1x512_1 lnb))

/-- The bonus of every head. -/
def bonus (rk : FVec Ideal S8x64 .f32) (r k v : FVec Ideal S32768x512 .f32) : FVec Ideal S32768x8x64 .f32 :=
  mulf (broadcastInDim S32768x8x64 ![0, 1, 2] bcast_S32768x8x1_S32768x8x64_0_1_2 (broadcastInDim S32768x8x1 ![0, 1] bcast_S32768x8_S32768x8x1_0_1
      (Host.reduceAdd (mulf (mulf (heads r) (heads k))
          (broadcastInDim S32768x8x64 ![0, 1, 2] bcast_S1x8x64_S32768x8x64_0_1_2 (broadcastInDim S1x8x64 ![1, 2] bcast_S8x64_S1x8x64_1_2 rk)))
        (constant S_ .f32 0x00000000#32) reducesTo_S32768x8x64_S32768x8_d2 h_S_)))
    (heads v)

/-- The gated RWKV heads. -/
def rwkvHeads (rk : FVec Ideal S8x64 .f32) (lnw lnb : FVec Ideal S512 .f32) (y r k v g : FVec Ideal S32768x512 .f32) : FVec Ideal S32768x512 .f32 :=
  mulf (shapeCast _ (addf (heads (groupNorm lnw lnb (centred (heads y)))) (bonus rk r k v)) shapeCasts_S32768x8x64_S32768x512) g

/-- The sigmoid of every GLA entry. -/
def sigmoidGla (z : FVec Ideal S32768x4x128 .f32) : FVec Ideal S32768x4x128 .f32 :=
  Host.divf (broadcastInDim S32768x4x128 ![] bcast_S_S32768x4x128 (constant S_ .f32 0x3F800000#32))
    (addf (broadcastInDim S32768x4x128 ![] bcast_S_S32768x4x128 (constant S_ .f32 0x3F800000#32)) (Host.exp (Host.negf z)))

/-- The gated GLA heads. -/
def glaHeads (gn : FVec Ideal S128 .f32) (o z : FVec Ideal S32768x4x128 .f32) : FVec Ideal S32768x512 .f32 :=
  shapeCast _ (mulf (mulf (mulf o (broadcastInDim S32768x4x128 ![0, 1, 2] bcast_S32768x4x1_S32768x4x128_0_1_2 (Host.rsqrt (addf
        (Host.divf (broadcastInDim S32768x4x1 ![0, 1] bcast_S32768x4_S32768x4x1_0_1
            (Host.reduceAdd (mulf o o) (constant S_ .f32 0x00000000#32) reducesTo_S32768x4x128_S32768x4_d2 h_S_))
          (broadcastInDim S32768x4x1 ![] bcast_S_S32768x4x1 (constant S_ .f32 0x43000000#32)))
        (broadcastInDim S32768x4x1 ![] bcast_S_S32768x4x1 (constant S_ .f32 0x358637BD#32))))))
      (broadcastInDim S32768x4x128 ![0, 1, 2] bcast_S1x1x128_S32768x4x128_0_1_2 (broadcastInDim S1x1x128 ![2] bcast_S128_S1x1x128_2 gn)))
    (mulf z (sigmoidGla z))) shapeCasts_S32768x4x128_S32768x512

/-- The output projection of the two kinds of heads beside each other. -/
def mix (wo : FVec Ideal S1024x1024 .f32) (a b : FVec Ideal S32768x512 .f32) : FVec Ideal S32768x1024 .f32 :=
  Host.dotGeneral dot_S32768x1024_S1024x1024_S32768x1024_1_0_0_1_n_n none
    (concatenate S32768x1024 1 [⟨S32768x512, a⟩, ⟨S32768x512, b⟩] concatenates_S32768x512_S32768x512_S32768x1024_d1) wo

/-- The gated feed-forward values. -/
def act (up : FVec Ideal S1024x2816 .f32) (n : FVec Ideal S32768x1024 .f32) (u : FVec Ideal S32768x2816 .f32) : FVec Ideal S32768x2816 .f32 :=
  mulf (mulf u (Host.divf (broadcastInDim S32768x2816 ![] bcast_S_S32768x2816 (constant S_ .f32 0x3F800000#32))
      (addf (broadcastInDim S32768x2816 ![] bcast_S_S32768x2816 (constant S_ .f32 0x3F800000#32)) (Host.exp (Host.negf u)))))
    (Host.dotGeneral dot_S32768x1024_S1024x2816_S32768x2816_1_0_0_1_n_n none n up)

/-- The per-layer embedding, gated. -/
def embedding (pgate : FVec Ideal S1024x1024 .f32) (pbias : FVec Ideal S1024 .f32) (pproj : FVec Ideal S256x1024 .f32) (p : FVec Ideal S32768x256 .f32)
    (h : FVec Ideal S32768x1024 .f32) : FVec Ideal S32768x1024 .f32 :=
  mulf (Host.divf (broadcastInDim S32768x1024 ![] bcast_S_S32768x1024 (constant S_ .f32 0x3F800000#32))
      (addf (broadcastInDim S32768x1024 ![] bcast_S_S32768x1024 (constant S_ .f32 0x3F800000#32)) (Host.exp (Host.negf (addf
        (Host.dotGeneral dot_S32768x1024_S1024x1024_S32768x1024_1_0_0_1_n_n none h pgate)
        (broadcastInDim S32768x1024 ![0, 1] bcast_S1x1024_S32768x1024_0_1 (broadcastInDim S1x1024 ![1] bcast_S1024_S1x1024_1 pbias)))))))
    (Host.dotGeneral dot_S32768x256_S256x1024_S32768x1024_1_0_0_1_n_n none p pproj)

/-- The negation under the exponential. -/
theorem zero_less (x : EReal) : 0 - x = -x := by rw [sub_eq_add_neg, zero_add]

/-- The norm at an index. -/
theorem norm_at (w : FVec Ideal S1024 .f32) (a : FVec Ideal S32768x1024 .f32) (t : Fin 32768) (i : Fin 1024) :
    norm w a (ix2 t i) = Row.norm (fun n => w (ix1 n)) (fun n => a (ix2 t n)) i := by
  pointwise [norm]
  rfl

/-- A head's mean. -/
theorem mean_at (y : FVec Ideal S32768x8x64 .f32) (t : Fin 32768) (h : Fin 8) :
    mean y (ix3 t h 0) = Ideal.div (∑ e, y (ix3 t h e)) (Ideal.ofBits .f32 0x42800000#32) := by
  pointwise [mean]

/-- A head's lane is a lane of the row. -/
theorem heads_at (y : FVec Ideal S32768x512 .f32) (t : Fin 32768) (h : Fin 8) (e : Fin 64) :
    heads y (ix3 t h e) = y (ix2 t ⟨64 * h.val + e.val, by omega⟩) := by
  pointwise [heads]
  exact congrArg y (congrArg (ix2 t) (Fin.ext (by simp only; omega)))

/-- A head's lane less the head's mean. -/
theorem centred_at (y : FVec Ideal S32768x8x64 .f32) (t : Fin 32768) (h : Fin 8) (e : Fin 64) :
    centred y (ix3 t h e) = y (ix3 t h e) - mean y (ix3 t h 0) := by
  pointwise [centred]

/-- The group norm at an index. -/
theorem groupNorm_at (lnw lnb : FVec Ideal S512 .f32) (d : FVec Ideal S32768x8x64 .f32) (t : Fin 32768) (n : Fin 512) :
    groupNorm lnw lnb d (ix2 t n) = d (ix3 t ⟨n.val / 64, by omega⟩ ⟨n.val % 64, by omega⟩)
      * Ideal.rsqrt (mean (mulf d d) (ix3 t ⟨n.val / 64, by omega⟩ 0) + Ideal.ofBits .f32 0x3A27C5AC#32) * lnw (ix1 n) + lnb (ix1 n) := by
  pointwise [groupNorm]

/-- The bonus at an index. -/
theorem bonus_at (rk : FVec Ideal S8x64 .f32) (r k v : FVec Ideal S32768x512 .f32) (t : Fin 32768) (h : Fin 8) (e : Fin 64) :
    bonus rk r k v (ix3 t h e) = (∑ x, heads r (ix3 t h x) * heads k (ix3 t h x) * rk (ix2 h x)) * heads v (ix3 t h e) := by
  pointwise [bonus]

/-- The RWKV heads at an index. -/
theorem rwkvHeads_at (rk : FVec Ideal S8x64 .f32) (lnw lnb : FVec Ideal S512 .f32) (y r k v g : FVec Ideal S32768x512 .f32) (t : Fin 32768) (n : Fin 512) :
    rwkvHeads rk lnw lnb y r k v g (ix2 t n)
      = (groupNorm lnw lnb (centred (heads y)) (ix2 t n) + bonus rk r k v (ix3 t ⟨n.val / 64, by omega⟩ ⟨n.val % 64, by omega⟩)) * g (ix2 t n) := by
  unfold rwkvHeads
  generalize groupNorm lnw lnb (centred (heads y)) = A
  generalize bonus rk r k v = B
  pointwise [heads]

/-- The GLA heads at an index. -/
theorem glaHeads_at (gn : FVec Ideal S128 .f32) (o z : FVec Ideal S32768x4x128 .f32) (t : Fin 32768) (n : Fin 512) :
    glaHeads gn o z (ix2 t n) = Row.rms (Ideal.ofBits .f32 0x43000000#32) (fun e => gn (ix1 e)) (fun e => o (ix3 t ⟨n.val / 128, by omega⟩ e)) ⟨n.val % 128, by omega⟩
      * (z (ix3 t ⟨n.val / 128, by omega⟩ ⟨n.val % 128, by omega⟩) * Row.sigmoid (z (ix3 t ⟨n.val / 128, by omega⟩ ⟨n.val % 128, by omega⟩))) := by
  pointwise [glaHeads, sigmoidGla]
  unfold Row.rms Row.sigmoid
  rw [zero_less]

/-- The output projection at an index. -/
theorem mix_at (wo : FVec Ideal S1024x1024 .f32) (a b : FVec Ideal S32768x512 .f32) (t : Fin 32768) (i : Fin 1024) :
    mix wo a b (ix2 t i) = Row.mix (fun j i => wo (ix2 j i)) (fun n => a (ix2 t n)) (fun n => b (ix2 t n)) i := by
  pointwise [mix]
  rfl

/-- The feed-forward part's activation at an index. -/
theorem act_at (up : FVec Ideal S1024x2816 .f32) (n : FVec Ideal S32768x1024 .f32) (u : FVec Ideal S32768x2816 .f32) (t : Fin 32768) (j : Fin 2816) :
    act up n u (ix2 t j) = u (ix2 t j) * Row.sigmoid (u (ix2 t j)) * Row.dot (fun i => n (ix2 t i)) (fun a b => up (ix2 a b)) j := by
  pointwise [act]
  unfold Row.sigmoid
  rw [zero_less]
  rfl

/-- The per-layer embedding at an index. -/
theorem embedding_at (pgate : FVec Ideal S1024x1024 .f32) (pbias : FVec Ideal S1024 .f32) (pproj : FVec Ideal S256x1024 .f32) (p : FVec Ideal S32768x256 .f32)
    (h : FVec Ideal S32768x1024 .f32) (t : Fin 32768) (i : Fin 1024) :
    embedding pgate pbias pproj p h (ix2 t i)
      = Row.sigmoid (Row.dot (fun n => h (ix2 t n)) (fun a b => pgate (ix2 a b)) i + pbias (ix1 i))
        * Row.dot (fun n => p (ix2 t n)) (fun a b => pproj (ix2 a b)) i := by
  pointwise [embedding]
  unfold Row.sigmoid
  rw [zero_less]
  rfl

end Cert.TailReferenceIdeal.Rows

end
-- ==== Proof.TailRefToken.lean ====
/- The last part's reference as a whole, at an index: what the token becomes. -/
module

public import proofs.«01_k».proof.Proof.TailRefRows

@[expose] public section

set_option maxRecDepth 16384

noncomputable section

namespace Cert.TailReferenceIdeal.Rows

open Cert.TailReferenceIdeal Cert.TailReferenceIdeal.Gen Idealize.ShloMosaic

variable (x : FVec Ideal S32768x1024 .f32) (yf yb : FVec Ideal S32768x512 .f32) (pack : FVec Ideal S32768x3072 .bf16)
  (of ob : FVec Ideal S32768x512 .f32) (z : FVec Ideal S32768x512 .bf16) (p : FVec Ideal S32768x256 .f32)
  (rk : FVec Ideal S8x64 .f32) (lnw lnb : FVec Ideal S512 .f32) (gn : FVec Ideal S128 .f32)
  (wo : FVec Ideal S1024x1024 .f32) (nmix nfpre nfpost : FVec Ideal S1024 .f32) (gate up : FVec Ideal S1024x2816 .f32)
  (down : FVec Ideal S2816x1024 .f32) (pproj : FVec Ideal S256x1024 .f32) (pgate : FVec Ideal S1024x1024 .f32)
  (pbias nple : FVec Ideal S1024 .f32) (h : FVec Ideal S32768x1024 .f32)

/-- The gated RWKV heads of the arguments. -/
def rwkvOf : FVec Ideal S32768x512 .f32 :=
  rwkvHeads rk lnw lnb (addf yf yb)
    (extractStridedSlice S32768x512 ![0, 0] (extf .f32 pack bitsLt_bf16_f32) slices_S32768x3072_S32768x512_0_0)
    (extractStridedSlice S32768x512 ![0, 512] (extf .f32 pack bitsLt_bf16_f32) slices_S32768x3072_S32768x512_0_512)
    (extractStridedSlice S32768x512 ![0, 1024] (extf .f32 pack bitsLt_bf16_f32) slices_S32768x3072_S32768x512_0_1024)
    (extractStridedSlice S32768x512 ![0, 2560] (extf .f32 pack bitsLt_bf16_f32) slices_S32768x3072_S32768x512_0_2560)

/-- The gated GLA heads of the arguments. -/
def glaOf : FVec Ideal S32768x512 .f32 :=
  glaHeads gn (shapeCast _ (addf of ob) shapeCasts_S32768x512_S32768x4x128)
    (shapeCast _ (extf .f32 z bitsLt_bf16_f32) shapeCasts_S32768x512_S32768x4x128)

/-- The tokens after the mixing part. -/
def mixed : FVec Ideal S32768x1024 .f32 :=
  addf x (norm nmix (mix wo (rwkvOf yf yb pack rk lnw lnb) (glaOf of ob z gn)))

/-- The tokens after the feed-forward part. -/
def fed : FVec Ideal S32768x1024 .f32 :=
  addf h (norm nfpost (Host.dotGeneral dot_S32768x2816_S2816x1024_S32768x1024_1_0_0_1_n_n none
    (act up (norm nfpre h) (Host.dotGeneral dot_S32768x1024_S1024x2816_S32768x2816_1_0_0_1_n_n none (norm nfpre h) gate)) down))

/-- The tokens after the per-layer embedding. -/
def embedded : FVec Ideal S32768x1024 .f32 := addf h (norm nple (embedding pgate pbias pproj p h))

/-- What the tokens become. -/
def result : FVec Ideal S32768x1024 .f32 :=
  embedded p pproj pgate pbias nple (fed nfpre nfpost gate up down (mixed x yf yb pack of ob z rk lnw lnb gn wo nmix))

/-- The gated RWKV heads at an index. -/
theorem rwkvOf_at (t : Fin 32768) (n : Fin 512) :
    rwkvOf yf yb pack rk lnw lnb (ix2 t n) = Row.rwkvHeads (Row.weightsOf rk lnw lnb gn wo nmix nfpre nfpost gate up down pproj pgate pbias nple) (Row.tokenOf x yf yb pack of ob z p t) n := by
  have hy (n' : Fin 512) (hh : n'.val / 64 = n.val / 64) (e : Fin 64) (he : n'.val % 64 = e.val) :
      centred (heads (addf yf yb)) (ix3 t ⟨n.val / 64, by omega⟩ e) = Row.centred (fun e => yf (ix2 t e) + yb (ix2 t e)) n' := by
    rw [centred_at, mean_at]
    simp only [heads_at]
    unfold Row.centred Row.headMean Row.headSum
    have e1 : (⟨64 * (n.val / 64) + e.val, by omega⟩ : Fin 512) = n' := Fin.ext (by simp only; omega)
    have e2 (x : Fin 64) : (⟨64 * (n.val / 64) + x.val, by omega⟩ : Fin 512) = Row.lane64 n' x := Fin.ext (by simp only [Row.lane64]; omega)
    simp only [e1, e2]
    rfl
  unfold rwkvOf
  rw [rwkvHeads_at, groupNorm_at, mean_at, bonus_at]
  have e0 := hy n rfl ⟨n.val % 64, by omega⟩ rfl
  have e1 (e : Fin 64) : mulf (centred (heads (addf yf yb))) (centred (heads (addf yf yb))) (ix3 t ⟨n.val / 64, by omega⟩ e)
      = Row.centred (fun e => yf (ix2 t e) + yb (ix2 t e)) (Row.lane64 n e) * Row.centred (fun e => yf (ix2 t e) + yb (ix2 t e)) (Row.lane64 n e) := by
    have := hy (Row.lane64 n e) (by simp only [Row.lane64]; omega) e (by simp only [Row.lane64]; omega)
    rw [← this]
    rfl
  rw [e0]
  simp only [e1, heads_at]
  have e3 : (⟨64 * (n.val / 64) + n.val % 64, by omega⟩ : Fin 512) = n := Fin.ext (by simp only; omega)
  simp only [e3]
  have c0 (j : Fin 512) : extractStridedSlice S32768x512 ![0, 0] (extf .f32 pack bitsLt_bf16_f32) slices_S32768x3072_S32768x512_0_0 (ix2 t j)
      = (Row.tokenOf x yf yb pack of ob z p t).r j := by
    pointwise
    rfl
  have c1 (j : Fin 512) : extractStridedSlice S32768x512 ![0, 512] (extf .f32 pack bitsLt_bf16_f32) slices_S32768x3072_S32768x512_0_512 (ix2 t j)
      = (Row.tokenOf x yf yb pack of ob z p t).k j := by
    pointwise
    rfl
  have c2 (j : Fin 512) : extractStridedSlice S32768x512 ![0, 1024] (extf .f32 pack bitsLt_bf16_f32) slices_S32768x3072_S32768x512_0_1024 (ix2 t j)
      = (Row.tokenOf x yf yb pack of ob z p t).v j := by
    pointwise
    rfl
  have c3 (j : Fin 512) : extractStridedSlice S32768x512 ![0, 2560] (extf .f32 pack bitsLt_bf16_f32) slices_S32768x3072_S32768x512_0_2560 (ix2 t j)
      = (Row.tokenOf x yf yb pack of ob z p t).g j := by
    pointwise
    rfl
  simp only [c0, c1, c2, c3]
  have e4 (e : Fin 64) : rk (ix2 ⟨n.val / 64, by omega⟩ e) = (Row.weightsOf rk lnw lnb gn wo nmix nfpre nfpost gate up down pproj pgate pbias nple).rk (Row.lane64 n e) := by
    unfold Row.weightsOf Row.lane64
    have a1 : (⟨(64 * (n.val / 64) + e.val) / 64, by omega⟩ : Fin 8) = ⟨n.val / 64, by omega⟩ := Fin.ext (by simp only; omega)
    have a2 : (⟨(64 * (n.val / 64) + e.val) % 64, by omega⟩ : Fin 64) = e := Fin.ext (by simp only; omega)
    simp only [a1, a2]
  simp only [e4]
  rfl

/-- The gated GLA heads at an index. -/
theorem glaOf_at (t : Fin 32768) (n : Fin 512) : glaOf of ob z gn (ix2 t n) = Row.glaHeads (Row.weightsOf rk lnw lnb gn wo nmix nfpre nfpost gate up down pproj pgate pbias nple) (Row.tokenOf x yf yb pack of ob z p t) n := by
  have ho (e : Fin 128) : shapeCast S32768x4x128 (addf of ob) shapeCasts_S32768x512_S32768x4x128 (ix3 t ⟨n.val / 128, by omega⟩ e)
      = of (ix2 t (Row.lane128 n e)) + ob (ix2 t (Row.lane128 n e)) := by
    have e1 : Row.lane128 n e = ⟨n.val / 128 * 128 + e.val, by omega⟩ := Fin.ext (by simp only [Row.lane128]; omega)
    rw [e1]
    pointwise
  have hz : shapeCast S32768x4x128 (extf .f32 z bitsLt_bf16_f32) shapeCasts_S32768x512_S32768x4x128 (ix3 t ⟨n.val / 128, by omega⟩ ⟨n.val % 128, by omega⟩)
      = z (ix2 t n) := by
    pointwise
  unfold glaOf
  rw [glaHeads_at, hz]
  simp only [ho]
  rfl

/-- The tokens after the mixing part, at an index. -/
theorem mixed_at (t : Fin 32768) (i : Fin 1024) :
    mixed x yf yb pack of ob z rk lnw lnb gn wo nmix (ix2 t i) = Row.mixed (Row.weightsOf rk lnw lnb gn wo nmix nfpre nfpost gate up down pproj pgate pbias nple) (Row.tokenOf x yf yb pack of ob z p t) i := by
  show x (ix2 t i) + norm nmix _ (ix2 t i) = _
  rw [norm_at]
  simp only [mix_at, rwkvOf_at x yf yb pack of ob z p rk lnw lnb gn wo nmix nfpre nfpost gate up down pproj pgate pbias nple,
    glaOf_at x yf yb pack of ob z p rk lnw lnb gn wo nmix nfpre nfpost gate up down pproj pgate pbias nple]
  rfl

/-- A product into the feed-forward width, at an index. -/
theorem widen_at (a : FVec Ideal S32768x1024 .f32) (w : FVec Ideal S1024x2816 .f32) (t : Fin 32768) (j : Fin 2816) :
    Host.dotGeneral dot_S32768x1024_S1024x2816_S32768x2816_1_0_0_1_n_n none a w (ix2 t j) = Row.dot (fun n => a (ix2 t n)) (fun a b => w (ix2 a b)) j := by
  pointwise
  rfl

/-- The product back, at an index. -/
theorem narrow_at (a : FVec Ideal S32768x2816 .f32) (w : FVec Ideal S2816x1024 .f32) (t : Fin 32768) (i : Fin 1024) :
    Host.dotGeneral dot_S32768x2816_S2816x1024_S32768x1024_1_0_0_1_n_n none a w (ix2 t i) = Row.dot (fun n => a (ix2 t n)) (fun a b => w (ix2 a b)) i := by
  pointwise
  rfl

/-- The tokens after the feed-forward part, at an index. -/
theorem fed_at (t : Fin 32768) (i : Fin 1024) :
    fed nfpre nfpost gate up down h (ix2 t i) = Row.fed (Row.weightsOf rk lnw lnb gn wo nmix nfpre nfpost gate up down pproj pgate pbias nple) (fun n => h (ix2 t n)) i := by
  show h (ix2 t i) + norm nfpost _ (ix2 t i) = _
  rw [norm_at]
  simp only [narrow_at, act_at, widen_at, norm_at]
  rfl

/-- The reference's array is the tokens' results. -/
theorem result_eq :
    result x yf yb pack of ob z p rk lnw lnb gn wo nmix nfpre nfpost gate up down pproj pgate pbias nple
      = Row.resultOf x yf yb pack of ob z p rk lnw lnb gn wo nmix nfpre nfpost gate up down pproj pgate pbias nple := by
  funext y
  obtain ⟨t, i, rfl⟩ : ∃ t i, y = ix2 t i := ⟨y 0, y 1, by funext a; fin_cases a <;> rfl⟩
  show fed nfpre nfpost gate up down _ (ix2 t i) + norm nple _ (ix2 t i) = _
  rw [norm_at]
  simp only [embedding_at, fed_at rk lnw lnb gn wo nmix nfpre nfpost gate up down pproj pgate pbias nple,
    mixed_at x yf yb pack of ob z p rk lnw lnb gn wo nmix nfpre nfpost gate up down pproj pgate pbias nple]
  rfl

end Cert.TailReferenceIdeal.Rows

end
-- ==== Proof.TailRefRun.lean ====
/- The last call's reference: its run ends with the tokens' results. -/
module

public import proofs.«01_k».proof.Proof.TailRefToken
public import proofs.«01_k».proof.Proof.Gen.TailReferenceIdeal.Run

@[expose] public section

set_option maxRecDepth 16384

noncomputable section

namespace Cert.TailReferenceIdeal.Rows

open Cert.TailReferenceIdeal Cert.TailReferenceIdeal.Gen Cert.TailReferenceIdeal.Value Idealize.ShloMosaic Idealize.ShloMosaic.TcCoe Idealize.SL.Sem

variable (V0 : Valuation τ sig (Elt Ideal))

/-- The program's arrays, stage by stage, are the reference's stages. -/
theorem stage82 : res_main_v82 V0 = mixed (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)) (V0 (Proc.devRef .tc main_arg8)) (V0 (Proc.devRef .tc main_arg9))
    (V0 (Proc.devRef .tc main_arg10)) (V0 (Proc.devRef .tc main_arg11)) (V0 (Proc.devRef .tc main_arg12)) (V0 (Proc.devRef .tc main_arg13)) := rfl

/-- The feed-forward part's stage is that function of the stages before. -/
theorem stage114 : res_main_v114 V0 = fed (V0 (Proc.devRef .tc main_arg14)) (V0 (Proc.devRef .tc main_arg15)) (V0 (Proc.devRef .tc main_arg16))
    (V0 (Proc.devRef .tc main_arg17)) (V0 (Proc.devRef .tc main_arg18)) (res_main_v82 V0) := rfl

/-- The embedding's stage is that function of the stages before. -/
theorem stage126 : res_main_v126 V0 = embedding (V0 (Proc.devRef .tc main_arg20)) (V0 (Proc.devRef .tc main_arg21)) (V0 (Proc.devRef .tc main_arg19)) (V0 (Proc.devRef .tc main_arg7))
    (res_main_v114 V0) := rfl

/-- The program's result, as its run leaves it, off its arguments. -/
def resultArgs (m : (ℓ : Loc nD τ sig) → Buf (Elt Ideal) ℓ) (c : Dev nD) : FVec Ideal S32768x1024 .f32 :=
  Row.resultOf (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14)) (m ((c : Thread nD τ).loc main_arg15))
    (m ((c : Thread nD τ).loc main_arg16)) (m ((c : Thread nD τ).loc main_arg17)) (m ((c : Thread nD τ).loc main_arg18)) (m ((c : Thread nD τ).loc main_arg19))
    (m ((c : Thread nD τ).loc main_arg20)) (m ((c : Thread nD τ).loc main_arg21)) (m ((c : Thread nD τ).loc main_arg22))

/-- The run ends with the tokens' results, and the arguments as they were. -/
theorem run_tokens (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v140) = resultArgs m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) := by
  refine (θ_run _ _ _).mono (fun r h c => ⟨(h c).1.trans ?_, (h c).2⟩) (Value.run m ρ)
  refine Eq.trans ?_ (result_eq _ _ _ _ _ _ _ _ _ _ _ _ _ _ _ _ _ _ _ _ _ _ _)
  unfold result
  rw [stage126, stage114, stage82]
  rfl

end Cert.TailReferenceIdeal.Rows

end
-- ==== Proof.TailMeet.lean ====
/- The last call and its reference end with the same array: every token's result. -/
module

public import proofs.«01_k».proof.Defs
public import proofs.«01_k».proof.Proof.TailStored
public import proofs.«01_k».proof.Proof.TailRefRun

@[expose] public section

set_option maxRecDepth 16384

noncomputable section

namespace Cert.Proof

open Idealize.ShloMosaic Idealize.ShloMosaic.TcCoe Idealize.SL.Sem

/-- Over the extended reals, from any arguments, the last call and its reference end with the same array. -/
theorem tail_algebraic : Cert.algebraic_TailIdeal_TailReferenceIdeal (hTailIdeal := TailIdeal.Gen.facts)
    (hTailReferenceIdeal := TailReferenceIdeal.Gen.facts) := by
  intro m g m' g' _ hargs
  refine ⟨fun c => fun y : TailIdeal.S32768x1024.Idx =>
    Row.result (TailIdeal.Half.weightsArgs m c) (TailIdeal.Half.tokenArgs m c (y 0)) (y 1), ?_, ?_⟩
  · refine (θ_run _ _ _).mono (fun r h c => ?_) (TailIdeal.Launch.run_result m g)
    exact ⟨(h c).1.trans (TailIdeal.Half.array26 m c), (h c).2⟩
  · refine (θ_run _ _ _).mono (fun r h c => ?_) (TailReferenceIdeal.Rows.run_tokens m' g')
    refine ⟨(h c).1.trans ?_, (h c).2⟩
    obtain ⟨a0, a1, a2, a3, a4, a5, a6, a7, a8, a9, a10, a11, a12, a13, a14, a15, a16, a17, a18, a19, a20, a21, a22⟩ := hargs c
    unfold TailReferenceIdeal.Rows.resultArgs
    rw [a0, a1, a2, a3, a4, a5, a6, a7, a8, a9, a10, a11, a12, a13, a14, a15, a16, a17, a18, a19, a20, a21, a22]
    rfl

/-- The last call's reference ends, leaves its arguments as they were, and declares no semaphore. -/
theorem tail_reference_frame (m : (ℓ : Loc TailReferenceIdeal.nD TailReferenceIdeal.τ TailReferenceIdeal.sig) → Buf (Elt Ideal) ℓ)
    (g : Dev TailReferenceIdeal.nD → PrngReg) :
    θ_run (TailReferenceIdeal.defs (F := Ideal)) (onTc (τ := TailReferenceIdeal.τ) (TailReferenceIdeal.main (F := Ideal))) ⟨m, fun _ => 0, g⟩ (fun r => (∀ c : Dev TailReferenceIdeal.nD,
      r.2.mem ((c.tc : Thread TailReferenceIdeal.nD TailReferenceIdeal.τ).loc TailReferenceIdeal.main_arg0) = m ((c.tc : Thread TailReferenceIdeal.nD TailReferenceIdeal.τ).loc TailReferenceIdeal.main_arg0)
      ∧ r.2.mem ((c.tc : Thread TailReferenceIdeal.nD TailReferenceIdeal.τ).loc TailReferenceIdeal.main_arg1) = m ((c.tc : Thread TailReferenceIdeal.nD TailReferenceIdeal.τ).loc TailReferenceIdeal.main_arg1)
      ∧ r.2.mem ((c.tc : Thread TailReferenceIdeal.nD TailReferenceIdeal.τ).loc TailReferenceIdeal.main_arg2) = m ((c.tc : Thread TailReferenceIdeal.nD TailReferenceIdeal.τ).loc TailReferenceIdeal.main_arg2)
      ∧ r.2.mem ((c.tc : Thread TailReferenceIdeal.nD TailReferenceIdeal.τ).loc TailReferenceIdeal.main_arg3) = m ((c.tc : Thread TailReferenceIdeal.nD TailReferenceIdeal.τ).loc TailReferenceIdeal.main_arg3)
      ∧ r.2.mem ((c.tc : Thread TailReferenceIdeal.nD TailReferenceIdeal.τ).loc TailReferenceIdeal.main_arg4) = m ((c.tc : Thread TailReferenceIdeal.nD TailReferenceIdeal.τ).loc TailReferenceIdeal.main_arg4)
      ∧ r.2.mem ((c.tc : Thread TailReferenceIdeal.nD TailReferenceIdeal.τ).loc TailReferenceIdeal.main_arg5) = m ((c.tc : Thread TailReferenceIdeal.nD TailReferenceIdeal.τ).loc TailReferenceIdeal.main_arg5)
      ∧ r.2.mem ((c.tc : Thread TailReferenceIdeal.nD TailReferenceIdeal.τ).loc TailReferenceIdeal.main_arg6) = m ((c.tc : Thread TailReferenceIdeal.nD TailReferenceIdeal.τ).loc TailReferenceIdeal.main_arg6)
      ∧ r.2.mem ((c.tc : Thread TailReferenceIdeal.nD TailReferenceIdeal.τ).loc TailReferenceIdeal.main_arg7) = m ((c.tc : Thread TailReferenceIdeal.nD TailReferenceIdeal.τ).loc TailReferenceIdeal.main_arg7)
      ∧ r.2.mem ((c.tc : Thread TailReferenceIdeal.nD TailReferenceIdeal.τ).loc TailReferenceIdeal.main_arg8) = m ((c.tc : Thread TailReferenceIdeal.nD TailReferenceIdeal.τ).loc TailReferenceIdeal.main_arg8)
      ∧ r.2.mem ((c.tc : Thread TailReferenceIdeal.nD TailReferenceIdeal.τ).loc TailReferenceIdeal.main_arg9) = m ((c.tc : Thread TailReferenceIdeal.nD TailReferenceIdeal.τ).loc TailReferenceIdeal.main_arg9)
      ∧ r.2.mem ((c.tc : Thread TailReferenceIdeal.nD TailReferenceIdeal.τ).loc TailReferenceIdeal.main_arg10) = m ((c.tc : Thread TailReferenceIdeal.nD TailReferenceIdeal.τ).loc TailReferenceIdeal.main_arg10)
      ∧ r.2.mem ((c.tc : Thread TailReferenceIdeal.nD TailReferenceIdeal.τ).loc TailReferenceIdeal.main_arg11) = m ((c.tc : Thread TailReferenceIdeal.nD TailReferenceIdeal.τ).loc TailReferenceIdeal.main_arg11)
      ∧ r.2.mem ((c.tc : Thread TailReferenceIdeal.nD TailReferenceIdeal.τ).loc TailReferenceIdeal.main_arg12) = m ((c.tc : Thread TailReferenceIdeal.nD TailReferenceIdeal.τ).loc TailReferenceIdeal.main_arg12)
      ∧ r.2.mem ((c.tc : Thread TailReferenceIdeal.nD TailReferenceIdeal.τ).loc TailReferenceIdeal.main_arg13) = m ((c.tc : Thread TailReferenceIdeal.nD TailReferenceIdeal.τ).loc TailReferenceIdeal.main_arg13)
      ∧ r.2.mem ((c.tc : Thread TailReferenceIdeal.nD TailReferenceIdeal.τ).loc TailReferenceIdeal.main_arg14) = m ((c.tc : Thread TailReferenceIdeal.nD TailReferenceIdeal.τ).loc TailReferenceIdeal.main_arg14)
      ∧ r.2.mem ((c.tc : Thread TailReferenceIdeal.nD TailReferenceIdeal.τ).loc TailReferenceIdeal.main_arg15) = m ((c.tc : Thread TailReferenceIdeal.nD TailReferenceIdeal.τ).loc TailReferenceIdeal.main_arg15)
      ∧ r.2.mem ((c.tc : Thread TailReferenceIdeal.nD TailReferenceIdeal.τ).loc TailReferenceIdeal.main_arg16) = m ((c.tc : Thread TailReferenceIdeal.nD TailReferenceIdeal.τ).loc TailReferenceIdeal.main_arg16)
      ∧ r.2.mem ((c.tc : Thread TailReferenceIdeal.nD TailReferenceIdeal.τ).loc TailReferenceIdeal.main_arg17) = m ((c.tc : Thread TailReferenceIdeal.nD TailReferenceIdeal.τ).loc TailReferenceIdeal.main_arg17)
      ∧ r.2.mem ((c.tc : Thread TailReferenceIdeal.nD TailReferenceIdeal.τ).loc TailReferenceIdeal.main_arg18) = m ((c.tc : Thread TailReferenceIdeal.nD TailReferenceIdeal.τ).loc TailReferenceIdeal.main_arg18)
      ∧ r.2.mem ((c.tc : Thread TailReferenceIdeal.nD TailReferenceIdeal.τ).loc TailReferenceIdeal.main_arg19) = m ((c.tc : Thread TailReferenceIdeal.nD TailReferenceIdeal.τ).loc TailReferenceIdeal.main_arg19)
      ∧ r.2.mem ((c.tc : Thread TailReferenceIdeal.nD TailReferenceIdeal.τ).loc TailReferenceIdeal.main_arg20) = m ((c.tc : Thread TailReferenceIdeal.nD TailReferenceIdeal.τ).loc TailReferenceIdeal.main_arg20)
      ∧ r.2.mem ((c.tc : Thread TailReferenceIdeal.nD TailReferenceIdeal.τ).loc TailReferenceIdeal.main_arg21) = m ((c.tc : Thread TailReferenceIdeal.nD TailReferenceIdeal.τ).loc TailReferenceIdeal.main_arg21)
      ∧ r.2.mem ((c.tc : Thread TailReferenceIdeal.nD TailReferenceIdeal.τ).loc TailReferenceIdeal.main_arg22) = m ((c.tc : Thread TailReferenceIdeal.nD TailReferenceIdeal.τ).loc TailReferenceIdeal.main_arg22))
      ∧ r.2.sem = fun _ => 0) :=
  (θ_run _ _ _).mono (fun r h => ⟨fun c => (h c).2, sem_eq_zero_of_no_sems (by decide) r.2⟩) (TailReferenceIdeal.Value.run m g)

end Cert.Proof

end
-- ==== Proof.FrontTok.lean ====
/- What the first call computes, token by token, over the extended reals: the normed input's projection, the mix with the
   two neighbouring tokens, the RWKV heads' receptance, key, value, removal key, rate, gate and summed log decays, and the
   GLA heads' convolved query, key and value, gate and log decays. Kernel and reference both compute these. -/
module

public import Idealize.ShloMosaic.Lib.Pointwise
public import proofs.«01_k».proof.Proof.TailRow

@[expose] public section

noncomputable section

namespace Cert.Tok

open Idealize.ShloMosaic

/-- The layer's input and the weights of its first part. -/
structure Args where
  x : Fin 8 → Fin 4096 → Fin 1024 → EReal
  nm : Fin 1024 → EReal
  w : Fin 1024 → Fin 3424 → EReal
  mu : Fin 1856 → EReal
  w0 : Fin 2 → Fin 512 → EReal
  wup : Fin 2 → Fin 64 → Fin 512 → EReal
  a0 : Fin 512 → EReal
  aup : Fin 64 → Fin 512 → EReal
  gup : Fin 128 → Fin 512 → EReal
  kk : Fin 512 → EReal
  ka : Fin 512 → EReal
  cw : Fin 3 → Fin 1024 → EReal
  gaup : Fin 2 → Fin 16 → Fin 256 → EReal
  gab : Fin 2 → Fin 256 → EReal

/-- Those off arrays. -/
def argsOf (x : Vec Ideal ⟨3, ![8, 4096, 1024]⟩ .f32) (nm : Vec Ideal ⟨1, ![1024]⟩ .f32) (w : Vec Ideal ⟨2, ![1024, 3424]⟩ .f32)
    (mu : Vec Ideal ⟨1, ![1856]⟩ .f32) (w0 : Vec Ideal ⟨2, ![2, 512]⟩ .f32) (wup : Vec Ideal ⟨3, ![2, 64, 512]⟩ .f32)
    (a0 : Vec Ideal ⟨1, ![512]⟩ .f32) (aup : Vec Ideal ⟨2, ![64, 512]⟩ .f32) (gup : Vec Ideal ⟨2, ![128, 512]⟩ .f32)
    (kk : Vec Ideal ⟨1, ![512]⟩ .f32) (ka : Vec Ideal ⟨1, ![512]⟩ .f32) (cw : Vec Ideal ⟨3, ![3, 1, 1024]⟩ .f32)
    (gaup : Vec Ideal ⟨3, ![2, 16, 256]⟩ .f32) (gab : Vec Ideal ⟨2, ![2, 256]⟩ .f32) : Args where
  x b s i := x (ix3 b s i)
  nm i := nm (ix1 i)
  w i j := w (ix2 i j)
  mu j := mu (ix1 j)
  w0 d n := w0 (ix2 d n)
  wup d i n := wup (ix3 d i n)
  a0 n := a0 (ix1 n)
  aup i n := aup (ix2 i n)
  gup i n := gup (ix2 i n)
  kk n := kk (ix1 n)
  ka n := ka (ix1 n)
  cw q j := cw (ix3 q 0 j)
  gaup d i n := gaup (ix3 d i n)
  gab d n := gab (ix2 d n)

variable (A : Args) (b : Fin 8) (s : Fin 4096)

/-- The token's row, normed. -/
def normed (i : Fin 1024) : EReal := Row.norm A.nm (A.x b s) i

/-- The token's projected columns. -/
def proj (j : Fin 3424) : EReal := ∑ i, normed A b s i * A.w i j

/-- The projected columns of the token before, zero before the first. -/
def before (j : Fin 3424) : EReal := if h : 1 ≤ s.val then proj A b ⟨s.val - 1, by omega⟩ j else 0

/-- The projected columns of the token after, zero after the last. -/
def after (j : Fin 3424) : EReal := if h : s.val + 1 < 4096 then proj A b ⟨s.val + 1, h⟩ j else 0

/-- The RWKV columns, moved toward the mean of the neighbours. -/
def shifted (j : Fin 1856) : EReal :=
  proj A b s ⟨j.val, by omega⟩ + A.mu j * (Ideal.ofBits .f32 0x3F000000#32 * (before A b s ⟨j.val, by omega⟩ + after A b s ⟨j.val, by omega⟩)
    - proj A b s ⟨j.val, by omega⟩)

/-- What a direction's decay is the logistic function of. -/
def decayLogit (d : Fin 2) (n : Fin 512) : EReal :=
  A.w0 d n + ∑ i : Fin 64, Ideal.tanh (shifted A b s ⟨1536 + 64 * d.val + i.val, by omega⟩) * A.wup d i n

/-- A direction's log decay. -/
def logDecay (d : Fin 2) (n : Fin 512) : EReal := Ideal.ofBits .f32 0xBF1B4598#32 * Row.sigmoid (decayLogit A b s d n)

/-- Token `r` of the chunk of 64 that a token lies in. -/
def inChunk (r : Fin 64) : Fin 4096 := ⟨64 * (s.val / 64) + r.val, by omega⟩

/-- A token's log decays summed from its chunk's first token on, or, in the second direction, from its chunk's last. -/
def summed (d : Fin 2) (n : Fin 512) : EReal :=
  ∑ r : Fin 64, if (if d = 0 then r.val ≤ s.val % 64 else s.val % 64 ≤ r.val) then logDecay A b (inChunk s r) d n else 0

/-- The in-context learning rate. -/
def rate (n : Fin 512) : EReal := Row.sigmoid (A.a0 n + ∑ i : Fin 64, shifted A b s ⟨1664 + i.val, by omega⟩ * A.aup i n)

/-- The output gate. -/
def gate (n : Fin 512) : EReal := ∑ i : Fin 128, Row.sigmoid (shifted A b s ⟨1728 + i.val, by omega⟩) * A.gup i n

/-- The key before the rate. -/
def key (n : Fin 512) : EReal := shifted A b s ⟨512 + n.val, by omega⟩

/-- The removal key, of length one within a head. -/
def removal (n : Fin 512) : EReal :=
  key A b s n * A.kk n * Ideal.rsqrt (max (Row.headSum (fun e => key A b s e * A.kk e * (key A b s e * A.kk e)) n) (Ideal.ofBits .f32 0x179ABE15#32))

/-- The key. -/
def keyed (n : Fin 512) : EReal :=
  key A b s n * (1 + (rate A b s n - 1) * A.ka n)

/-- The six packed parts: receptance, key, value, removal key, its product with the rate, gate. -/
def part (q : Fin 6) (n : Fin 512) : EReal :=
  match q with
  | 0 => shifted A b s ⟨n.val, by omega⟩
  | 1 => keyed A b s n
  | 2 => shifted A b s ⟨1024 + n.val, by omega⟩
  | 3 => removal A b s n
  | 4 => removal A b s n * rate A b s n
  | 5 => gate A b s n

/-- The packed parts side by side. -/
def pack (j : Fin 3072) : EReal := part A b s ⟨j.val / 512, by omega⟩ ⟨j.val % 512, by omega⟩

/-- The summed log decays of both directions side by side. -/
def decays (j : Fin 1024) : EReal := summed A b s ⟨j.val / 512, by omega⟩ ⟨j.val % 512, by omega⟩

/-- The convolution along the tokens before its activation. -/
def conv (j : Fin 1024) : EReal :=
  before A b s ⟨1856 + j.val, by omega⟩ * A.cw 0 j + proj A b s ⟨1856 + j.val, by omega⟩ * A.cw 1 j + after A b s ⟨1856 + j.val, by omega⟩ * A.cw 2 j

/-- The GLA heads' query, key and value. -/
def qkv (j : Fin 1024) : EReal := conv A b s j * Row.sigmoid (conv A b s j)

/-- The same, the query scaled. -/
def gpack (j : Fin 1024) : EReal := if j.val < 256 then qkv A b s j * Ideal.ofBits .f32 0x3E000000#32 else qkv A b s j

/-- The GLA gate's columns. -/
def glaGate (j : Fin 512) : EReal := proj A b s ⟨2880 + j.val, by omega⟩

/-- What a direction's GLA log decay is the log of the logistic function of. -/
def glaLogit (d : Fin 2) (n : Fin 256) : EReal :=
  ∑ i : Fin 16, proj A b s ⟨3392 + 16 * d.val + i.val, by omega⟩ * A.gaup d i n + A.gab d n

/-- The logarithm of one plus the exponential, as both programs form it. -/
def softplus (u : EReal) : EReal := max u 0 + Ideal.log (1 + Ideal.exp (-(max u (-u))))

/-- A direction's GLA log decay. -/
def glaDecay (d : Fin 2) (n : Fin 256) : EReal := Ideal.div (-softplus (-glaLogit A b s d n)) (Ideal.ofBits .f32 0x41800000#32)

/-- The GLA log decays of both directions side by side. -/
def glaDecays (j : Fin 512) : EReal := glaDecay A b s ⟨j.val / 256, by omega⟩ ⟨j.val % 256, by omega⟩

/-- The normed rows with eight rows of zeros before the first token and after the last. -/
def padded (u : ℕ) (i : Fin 1024) : EReal := if h : 8 ≤ u ∧ u < 4104 then normed A b ⟨u - 8, by omega⟩ i else 0

/-- Row `p` of block `t` of 256 tokens. -/
def tok (t : Fin 16) (p : Fin 256) : Fin 4096 := ⟨256 * t.val + p.val, by omega⟩

/-- A projected column of the padded rows: the token's own, and zero off the tokens. -/
theorem padded_proj (u : ℕ) (j : Fin 3424) :
    ∑ i, padded A b u i * A.w i j = if h : 8 ≤ u ∧ u < 4104 then proj A b ⟨u - 8, by omega⟩ j else 0 := by
  unfold padded
  split_ifs
  · rfl
  · simp

/-- The padded row eight on from a block's row is the token's own … -/
theorem padded_own (t : Fin 16) (p : Fin 256) (j : Fin 3424) :
    ∑ i, padded A b (256 * t.val + (p.val + 8)) i * A.w i j = proj A b (tok t p) j := by
  rw [padded_proj, dif_pos (by omega)]
  rfl

/-- … the one before it the token before's … -/
theorem padded_before (t : Fin 16) (p : Fin 256) (j : Fin 3424) :
    ∑ i, padded A b (256 * t.val + (p.val + 7)) i * A.w i j = before A b (tok t p) j := by
  rw [padded_proj]
  unfold before tok
  by_cases h : 1 ≤ 256 * t.val + p.val
  · rw [dif_pos (by omega), dif_pos h]
    congr 1
  · rw [dif_neg (by omega), dif_neg h]

/-- … and the one after it the token after's. -/
theorem padded_after (t : Fin 16) (p : Fin 256) (j : Fin 3424) :
    ∑ i, padded A b (256 * t.val + (p.val + 9)) i * A.w i j = after A b (tok t p) j := by
  rw [padded_proj]
  unfold after tok
  by_cases h : 256 * t.val + p.val + 1 < 4096
  · rw [dif_pos (by omega), dif_pos h]
    congr 1
  · rw [dif_neg (by omega), dif_neg h]

/-- The logistic function's values are real. -/
theorem sigmoid_real (u : EReal) : ∃ r : ℝ, Row.sigmoid u = r := by
  unfold Row.sigmoid
  induction u using EReal.rec with
  | bot =>
    have h : Ideal.exp (0 - (⊥ : EReal)) = ⊤ := by rw [show (0 : EReal) - ⊥ = ⊤ by simp]; rfl
    have h1 : (1 : EReal) + ⊤ = ⊤ := EReal.add_top_of_ne_bot (by decide)
    exact ⟨0, by rw [h, h1]; simp [Ideal.div]⟩
  | top =>
    have h : Ideal.exp (0 - (⊤ : EReal)) = 0 := by rw [show (0 : EReal) - ⊤ = ⊥ by simp]; rfl
    exact ⟨1, by rw [h]; simp [Ideal.div]⟩
  | coe r =>
    refine ⟨1 / (1 + Real.exp (-r)), ?_⟩
    have h : (0 : EReal) - (r : EReal) = ((-r : ℝ) : EReal) := by rw [zero_sub]; rfl
    rw [h]
    show Ideal.div 1 (1 + ((Real.exp (-r) : ℝ) : EReal)) = _
    have h2 : (1 : EReal) + ((Real.exp (-r) : ℝ) : EReal) = ((1 + Real.exp (-r) : ℝ) : EReal) := by push_cast; rfl
    rw [h2]
    have hp : (0 : ℝ) < 1 + Real.exp (-r) := by positivity
    rw [Ideal.div_coe hp.ne']
    rw [one_mul, one_div]

/-- A log decay less itself is zero: it is real. -/
theorem logDecay_sub (d : Fin 2) (n : Fin 512) : logDecay A b s d n - logDecay A b s d n = 0 := by
  obtain ⟨r, hr⟩ := sigmoid_real (decayLogit A b s d n)
  have hc : Ideal.ofBits .f32 0xBF1B4598#32 = ((-(10175896 / 16777216) : ℝ) : EReal) := by
    simp [Ideal.ofBits, Ideal.ieee, -EReal.coe_mul]; norm_num
  unfold logDecay
  rw [hr, hc, ← EReal.coe_mul, ← EReal.coe_sub, sub_self]
  rfl

/-- A sum over the 256 rows of a block of what lies in one row's chunk. -/
theorem sum_chunk (p : Fin 256) (h : Fin 256 → EReal) :
    ∑ q : Fin 256, (if p.val / 64 = q.val / 64 then h q else 0) = ∑ r : Fin 64, h ⟨64 * (p.val / 64) + r.val, by omega⟩ := by
  rw [← Finset.sum_filter]
  symm
  refine Finset.sum_bij (fun r _ => ⟨64 * (p.val / 64) + r.val, by omega⟩) ?_ ?_ ?_ ?_
  · intro r _
    simp only [Finset.mem_filter, Finset.mem_univ, true_and]
    omega
  · intro r _ r' _ h
    have := congrArg Fin.val h
    exact Fin.ext (by simpa using this)
  · intro q hq
    simp only [Finset.mem_filter, Finset.mem_univ, true_and] at hq
    exact ⟨⟨q.val % 64, Nat.mod_lt _ (by omega)⟩, Finset.mem_univ _, Fin.ext (by simp only; omega)⟩
  · intro r _
    rfl

/-- A product with one row of the 0/1 matrix of a direction sums a token's chunk up to the token. -/
theorem sum_decays (t : Fin 16) (p : Fin 256) (d : Fin 2) (n : Fin 512) (g : Fin 256 → EReal)
    (hg : ∀ q : Fin 256, g q = if p.val / 64 = q.val / 64 ∧ (if d = 0 then q.val ≤ p.val else p.val ≤ q.val) then (1 : EReal) else 0) :
    ∑ q : Fin 256, g q * logDecay A b (tok t q) d n = summed A b (tok t p) d n := by
  have e : ∀ q : Fin 256, g q * logDecay A b (tok t q) d n
      = if p.val / 64 = q.val / 64 then (if (if d = 0 then q.val ≤ p.val else p.val ≤ q.val) then logDecay A b (tok t q) d n else 0) else 0 := by
    intro q
    rw [hg q, ite_and]
    split_ifs <;> simp
  simp only [e]
  rw [sum_chunk p fun q => if (if d = 0 then q.val ≤ p.val else p.val ≤ q.val) then logDecay A b (tok t q) d n else 0]
  unfold summed
  refine Finset.sum_congr rfl fun r _ => ?_
  have ht : tok t ⟨64 * (p.val / 64) + r.val, by omega⟩ = inChunk (tok t p) r := by
    unfold tok inChunk
    exact Fin.ext (by simp only; omega)
  rw [ht]
  have hs : (tok t p).val % 64 = p.val % 64 := by unfold tok; simp only; omega
  rw [hs]
  refine if_congr ?_ rfl rfl
  split_ifs <;> simp only <;> omega

/-- A sum over 128 lanes, half by half. -/
theorem sum_halves (f : Fin 128 → EReal) :
    ∑ i : Fin 128, f i = ∑ i : Fin 64, f ⟨i.val, by omega⟩ + ∑ i : Fin 64, f ⟨64 + i.val, by omega⟩ :=
  Fin.sum_univ_add (a := 64) (b := 64) f

/-- A sum over 128 lanes of which all but the first 32 are zero. -/
theorem sum_sixteens (f : Fin 128 → EReal) (hf : ∀ i, 32 ≤ i.val → f i = 0) :
    ∑ i : Fin 128, f i = ∑ i : Fin 16, f ⟨i.val, by omega⟩ + ∑ i : Fin 16, f ⟨16 + i.val, by omega⟩ := by
  rw [show ∑ i : Fin 128, f i = _ from Fin.sum_univ_add (a := 32) (b := 96) f]
  rw [show ∑ i : Fin 32, f (Fin.castAdd 96 i) = _ from Fin.sum_univ_add (a := 16) (b := 16) fun i => f (Fin.castAdd 96 i)]
  rw [Finset.sum_eq_zero (s := Finset.univ) (f := fun i : Fin 96 => f (Fin.natAdd 32 i)) fun i _ => hf _ (by simp), add_zero]
  rfl

end Cert.Tok

end
-- ==== Proof.FrontBody.lean ====
/- The first call's body at a point, stage by stage, at an index: given what its 272 rows are and what the weights it loads
   hold, each value it stores is the token's. -/
module

public import proofs.«01_k».proof.Proof.Gen.FrontIdeal.Skeleton
public import proofs.«01_k».proof.Proof.FrontTok
public import proofs.«01_k».proof.Proof.HalfRows

@[expose] public section

set_option maxRecDepth 16384

noncomputable section

namespace Cert.FrontIdeal.Body

open Cert.FrontIdeal Cert.FrontIdeal.Gen Idealize.ShloMosaic

/-- The row of a token-block's 272 rows that stands `d` rows before the row above its first (`d` is 7, 8 or 9). -/
def near (p : Fin 256) (d : Fin 16) : Fin 272 := ⟨p.val + d.val, by omega⟩

/-- The weights as the body loads them. -/
structure Host where
  wr : Vec Ideal S1024x1920 .bf16
  wg : Vec Ideal S1024x1664 .bf16
  mu : Vec Ideal S1x1920 .f32
  w0 : Vec Ideal S1x1024 .f32
  wup : Vec Ideal S128x1024 .bf16
  a0 : Vec Ideal S1x512 .f32
  aup : Vec Ideal S128x512 .bf16
  gup : Vec Ideal S128x512 .bf16
  kk : Vec Ideal S1x512 .f32
  ka : Vec Ideal S1x512 .f32
  seg : Vec Ideal S512x512 .bf16
  fwd : Vec Ideal S256x256 .bf16
  bwd : Vec Ideal S256x256 .bf16
  cw0 : Vec Ideal S1x1024 .f32
  cw1 : Vec Ideal S1x1024 .f32
  cw2 : Vec Ideal S1x1024 .f32
  gaup : Vec Ideal S128x512 .bf16
  gab : Vec Ideal S1x512 .f32

/-- What those arrays hold: the layer's weights, some of them padded, some laid along a diagonal of blocks, and 0/1
    matrices for the sums over a head and over a chunk. -/
structure Holds (A : Tok.Args) (H : Host) : Prop where
  wr : ∀ (i : Fin 1024) (j : Fin 1728), H.wr (ix2 i ⟨j.val, by omega⟩) = A.w i ⟨j.val, by omega⟩
  wrGate : ∀ (i : Fin 1024) (j : Fin 128), H.wr (ix2 i ⟨1792 + j.val, by omega⟩) = A.w i ⟨1728 + j.val, by omega⟩
  mu : ∀ j : Fin 1728, H.mu (ix2 0 ⟨j.val, by omega⟩) = A.mu ⟨j.val, by omega⟩
  muGate : ∀ j : Fin 128, H.mu (ix2 0 ⟨1792 + j.val, by omega⟩) = A.mu ⟨1728 + j.val, by omega⟩
  wg : ∀ (i : Fin 1024) (j : Fin 1568), H.wg (ix2 i ⟨j.val, by omega⟩) = A.w i ⟨1856 + j.val, by omega⟩
  w0 : ∀ (d : Fin 2) (n : Fin 512), H.w0 (ix2 0 ⟨512 * d.val + n.val, by omega⟩) = A.w0 d n
  wup : ∀ (d e : Fin 2) (i : Fin 64) (n : Fin 512),
    H.wup (ix2 ⟨64 * e.val + i.val, by omega⟩ ⟨512 * d.val + n.val, by omega⟩) = if e = d then A.wup d i n else 0
  a0 : ∀ n : Fin 512, H.a0 (ix2 0 n) = A.a0 n
  aup : ∀ (i : Fin 64) (n : Fin 512), H.aup (ix2 ⟨i.val, by omega⟩ n) = A.aup i n
  aupRest : ∀ (i : Fin 64) (n : Fin 512), H.aup (ix2 ⟨64 + i.val, by omega⟩ n) = 0
  gup : ∀ (i : Fin 128) (n : Fin 512), H.gup (ix2 i n) = A.gup i n
  kk : ∀ n : Fin 512, H.kk (ix2 0 n) = A.kk n
  ka : ∀ n : Fin 512, H.ka (ix2 0 n) = A.ka n
  seg : ∀ a c : Fin 512, H.seg (ix2 a c) = if a.val / 64 = c.val / 64 then (1 : EReal) else 0
  fwd : ∀ p q : Fin 256, H.fwd (ix2 p q) = if p.val / 64 = q.val / 64 ∧ q.val ≤ p.val then (1 : EReal) else 0
  bwd : ∀ p q : Fin 256, H.bwd (ix2 p q) = if p.val / 64 = q.val / 64 ∧ p.val ≤ q.val then (1 : EReal) else 0
  cw0 : ∀ j : Fin 1024, H.cw0 (ix2 0 j) = A.cw 0 j
  cw1 : ∀ j : Fin 1024, H.cw1 (ix2 0 j) = A.cw 1 j
  cw2 : ∀ j : Fin 1024, H.cw2 (ix2 0 j) = A.cw 2 j
  gaup : ∀ (d e : Fin 2) (i : Fin 16) (n : Fin 256),
    H.gaup (ix2 ⟨16 * e.val + i.val, by omega⟩ ⟨256 * d.val + n.val, by omega⟩) = if e = d then A.gaup d i n else 0
  gaupRest : ∀ (i : Fin 128) (n : Fin 512), 32 ≤ i.val → H.gaup (ix2 i n) = 0
  gab : ∀ (d : Fin 2) (n : Fin 256), H.gab (ix2 0 ⟨256 * d.val + n.val, by omega⟩) = A.gab d n

variable {A : Tok.Args} {b : Fin 8} {t : Fin 16} {H : Host} (hH : Holds A H) {xn : FVec Ideal S272x1024 .bf16}

/-- The 272 rows are the normed rows of the block's tokens, with the eight rows before and after. -/
def AreRows (A : Tok.Args) (b : Fin 8) (t : Fin 16) (xn : FVec Ideal S272x1024 .bf16) : Prop :=
  ∀ (q : Fin 272) (i : Fin 1024), xn (ix2 q i) = Tok.padded A b (256 * t.val + q.val) i

variable (hx : AreRows A b t xn)

include hx

/-- A column of the product at a token's own row. -/
theorem own_of (w : Fin 1024 → EReal) (j : Fin 3424) (hw : ∀ i, w i = A.w i j) (p : Fin 256) :
    ∑ i : Fin 1024, xn (ix2 (near p 8) i) * w i = Tok.proj A b (Tok.tok t p) j := by
  have h : ∀ (q : Fin 272) (i : Fin 1024), xn (ix2 q i) = Tok.padded A b (256 * t.val + q.val) i := hx
  simp only [hw, h]
  exact Tok.padded_own A b t p j

/-- The same at the row before. -/
theorem before_of (w : Fin 1024 → EReal) (j : Fin 3424) (hw : ∀ i, w i = A.w i j) (p : Fin 256) :
    ∑ i : Fin 1024, xn (ix2 (near p 7) i) * w i = Tok.before A b (Tok.tok t p) j := by
  have h : ∀ (q : Fin 272) (i : Fin 1024), xn (ix2 q i) = Tok.padded A b (256 * t.val + q.val) i := hx
  simp only [hw, h]
  exact Tok.padded_before A b t p j

/-- The same at the row after. -/
theorem after_of (w : Fin 1024 → EReal) (j : Fin 3424) (hw : ∀ i, w i = A.w i j) (p : Fin 256) :
    ∑ i : Fin 1024, xn (ix2 (near p 9) i) * w i = Tok.after A b (Tok.tok t p) j := by
  have h : ∀ (q : Fin 272) (i : Fin 1024), xn (ix2 q i) = Tok.padded A b (256 * t.val + q.val) i := hx
  simp only [hw, h]
  exact Tok.padded_after A b t p j

omit hx in
/-- The row eight on, as the body's slice names it. -/
theorem slice_near (p : Fin 256) (h : 8 + p.val < 272) : (⟨8 + p.val, h⟩ : Fin 272) = near p 8 :=
  Fin.ext (by simp only [near]; omega)

omit hx in
/-- The row seven on, as the body's rotation by one names it. -/
theorem rotate_near (p : Fin 256) (h : (8 + p.val + 272 - 1) % 272 < 272) : (⟨(8 + p.val + 272 - 1) % 272, h⟩ : Fin 272) = near p 7 :=
  Fin.ext (by simp only [near]; omega)

omit hx in
/-- The row nine on, as the body's rotation by all but one names it. -/
theorem rotate_back_near (p : Fin 256) (h : (8 + p.val + 272 - 271) % 272 < 272) :
    (⟨(8 + p.val + 272 - 271) % 272, h⟩ : Fin 272) = near p 9 :=
  Fin.ext (by simp only [near]; omega)

/-- The shifted RWKV columns, wherever the arrays hold the layer's column. -/
theorem shifted_of (w : Vec Ideal S1024x1920 .bf16) (mu : Vec Ideal S1x1920 .f32) (p : Fin 256) (j : Fin 1920) (c : Fin 1856)
    (hw : ∀ i, w (ix2 i j) = A.w i ⟨c.val, by omega⟩) (hmu : mu (ix2 0 j) = A.mu c) :
    k0_pay6 (F := Ideal) xn w mu (ix2 p j) = Tok.shifted A b (Tok.tok t p) c := by
  pointwise [k0_pay6]
  simp only [slice_near, rotate_near, rotate_back_near]
  rw [own_of hx _ _ hw, before_of hx _ _ hw, after_of hx _ _ hw, hmu]
  rfl

include hH

/-- The shifted columns up to the rate's. -/
theorem shifted_at (p : Fin 256) (j : Fin 1728) :
    k0_pay6 (F := Ideal) xn H.wr H.mu (ix2 p ⟨j.val, by omega⟩) = Tok.shifted A b (Tok.tok t p) ⟨j.val, by omega⟩ :=
  shifted_of hx _ _ _ _ _ (fun i => hH.wr i j) (hH.mu j)

/-- The shifted columns of the gate. -/
theorem shiftedGate_at (p : Fin 256) (j : Fin 128) :
    k0_pay6 (F := Ideal) xn H.wr H.mu (ix2 p ⟨1792 + j.val, by omega⟩) = Tok.shifted A b (Tok.tok t p) ⟨1728 + j.val, by omega⟩ :=
  shifted_of hx _ _ _ _ _ (fun i => hH.wrGate i j) (hH.muGate j)

/-- The receptance. -/
theorem r_at (p : Fin 256) (n : Fin 512) : k0_pay7 (F := Ideal) xn H.wr H.mu (ix2 p n) = Tok.shifted A b (Tok.tok t p) ⟨n.val, by omega⟩ := by
  refine Eq.trans ?_ (shifted_at hH hx p ⟨n.val, by omega⟩)
  unfold k0_pay7
  generalize k0_pay6 (F := Ideal) xn H.wr H.mu = z
  pointwise

/-- The key before the rate. -/
theorem k_at (p : Fin 256) (n : Fin 512) : k0_pay8 (F := Ideal) xn H.wr H.mu (ix2 p n) = Tok.key A b (Tok.tok t p) n := by
  refine Eq.trans ?_ (shifted_at hH hx p ⟨512 + n.val, by omega⟩)
  unfold k0_pay8
  generalize k0_pay6 (F := Ideal) xn H.wr H.mu = z
  pointwise

/-- The value. -/
theorem v_at (p : Fin 256) (n : Fin 512) :
    k0_pay9 (F := Ideal) xn H.wr H.mu (ix2 p n) = Tok.shifted A b (Tok.tok t p) ⟨1024 + n.val, by omega⟩ := by
  refine Eq.trans ?_ (shifted_at hH hx p ⟨1024 + n.val, by omega⟩)
  unfold k0_pay9
  generalize k0_pay6 (F := Ideal) xn H.wr H.mu = z
  pointwise

/-- A direction's decay. -/
theorem decay_at (p : Fin 256) (d : Fin 2) (n : Fin 512) :
    k0_pay12 (F := Ideal) xn H.wr H.mu H.w0 H.wup (ix2 p ⟨512 * d.val + n.val, by omega⟩)
      = Row.sigmoid (Tok.decayLogit A b (Tok.tok t p) d n) := by
  have e : Tok.decayLogit A b (Tok.tok t p) d n = H.w0 (ix2 0 ⟨512 * d.val + n.val, by omega⟩)
      + ∑ i : Fin 128, Ideal.tanh (k0_pay6 (F := Ideal) xn H.wr H.mu (ix2 p ⟨1536 + i.val, by omega⟩))
        * H.wup (ix2 i ⟨512 * d.val + n.val, by omega⟩) := by
    rw [hH.w0, Tok.sum_halves]
    have h0 (i : Fin 64) := hH.wup d 0 i n
    have h1 (i : Fin 64) := hH.wup d 1 i n
    have s0 (i : Fin 64) := shifted_at hH hx p ⟨1536 + i.val, by omega⟩
    have s1 (i : Fin 64) := shifted_at hH hx p ⟨1536 + (64 + i.val), by omega⟩
    simp only [Fin.val_zero, Fin.val_one, mul_zero, mul_one, zero_add] at h0 h1
    simp only [h0, h1, s0, s1]
    unfold Tok.decayLogit
    congr 1
    fin_cases d
    · simp
    · have hn (x : Fin 64) : (⟨1536 + (64 + x.val), by omega⟩ : Fin 1856) = ⟨1600 + x.val, by omega⟩ := Fin.ext (by simp only; omega)
      simp [hn]
  rw [e]
  unfold k0_pay12
  generalize k0_pay6 (F := Ideal) xn H.wr H.mu = z
  pointwise
  rfl

/-- The rate. -/
theorem rate_at (p : Fin 256) (n : Fin 512) :
    k0_pay18 (k0_pay16 (F := Ideal) (k0_pay10 xn H.wr H.mu) H.a0 H.aup) k0_pay17 (ix2 p n) = Tok.rate A b (Tok.tok t p) n := by
  have e : A.a0 n + ∑ i : Fin 64, Tok.shifted A b (Tok.tok t p) ⟨1664 + i.val, by omega⟩ * A.aup i n = H.a0 (ix2 0 n)
      + ∑ i : Fin 128, k0_pay6 (F := Ideal) xn H.wr H.mu (ix2 p ⟨1664 + i.val, by omega⟩) * H.aup (ix2 i n) := by
    rw [hH.a0, Tok.sum_halves]
    have s0 (i : Fin 64) := shifted_at hH hx p ⟨1664 + i.val, by omega⟩
    simp only [hH.aup, hH.aupRest, s0, mul_zero, Finset.sum_const_zero, add_zero]
  unfold Tok.rate
  rw [e]
  unfold k0_pay10
  generalize k0_pay6 (F := Ideal) xn H.wr H.mu = z
  pointwise [k0_pay18, k0_pay16, k0_pay17]
  rfl

/-- The gate. -/
theorem gate_at (p : Fin 256) (n : Fin 512) :
    k0_pay19 (F := Ideal) (k0_pay11 xn H.wr H.mu) H.gup (ix2 p n) = Tok.gate A b (Tok.tok t p) n := by
  unfold Tok.gate
  have s0 (i : Fin 128) := shiftedGate_at hH hx p i
  simp only [← s0, ← hH.gup]
  unfold k0_pay11
  generalize k0_pay6 (F := Ideal) xn H.wr H.mu = z
  pointwise [k0_pay19]
  rfl

/-- The removal key. -/
theorem removal_at (p : Fin 256) (n : Fin 512) :
    k0_pay20 (F := Ideal) (k0_pay8 xn H.wr H.mu) H.kk H.seg (ix2 p n) = Tok.removal A b (Tok.tok t p) n := by
  have hk (e : Fin 512) := k_at hH hx p e
  unfold Tok.removal
  rw [← TailIdeal.Half.sum_head]
  simp only [← hk, ← hH.kk, ← hH.seg _ n]
  generalize k0_pay8 (F := Ideal) xn H.wr H.mu = z
  pointwise [k0_pay20]

/-- The key with the rate. -/
theorem keyed_at (p : Fin 256) (n : Fin 512) :
    k0_pay21 (F := Ideal) (k0_pay8 xn H.wr H.mu) (k0_pay16 (k0_pay10 xn H.wr H.mu) H.a0 H.aup) k0_pay17 H.ka (ix2 p n)
      = Tok.keyed A b (Tok.tok t p) n := by
  unfold Tok.keyed
  rw [← k_at hH hx p n, ← rate_at hH hx p n, ← hH.ka]
  unfold k0_pay21
  generalize k0_pay8 (F := Ideal) xn H.wr H.mu = z
  generalize k0_pay18 (k0_pay16 (F := Ideal) (k0_pay10 xn H.wr H.mu) H.a0 H.aup) k0_pay17 = y
  pointwise

/-- The removal key times the rate. -/
theorem removed_at (p : Fin 256) (n : Fin 512) :
    k0_pay22 (F := Ideal) (k0_pay8 xn H.wr H.mu) (k0_pay16 (k0_pay10 xn H.wr H.mu) H.a0 H.aup) k0_pay17 H.kk H.seg (ix2 p n)
      = Tok.removal A b (Tok.tok t p) n * Tok.rate A b (Tok.tok t p) n := by
  rw [← removal_at hH hx p n, ← rate_at hH hx p n]
  rfl

/-- A product of a direction's 0/1 matrix with the log decays and with what rounding left of them: the summed log decays. -/
theorem summed_of (p : Fin 256) (d : Fin 2) (n : Fin 512) (g : Fin 256 → EReal)
    (hg : ∀ q : Fin 256, g q = if p.val / 64 = q.val / 64 ∧ (if d = 0 then q.val ≤ p.val else p.val ≤ q.val) then (1 : EReal) else 0)
    (l : Fin 256 → EReal) (hl : ∀ q, l q = Tok.logDecay A b (Tok.tok t q) d n) :
    ∑ q : Fin 256, g q * l q + ∑ q : Fin 256, g q * (l q - l q) = Tok.summed A b (Tok.tok t p) d n := by
  simp only [hl, Tok.logDecay_sub, mul_zero, Finset.sum_const_zero, add_zero]
  exact Tok.sum_decays A b t p d n g hg

/-- The stored sums of the first direction. -/
theorem fwd_at (z : Fin 1) (p : Fin 256) (n : Fin 512) :
    k0_pay14 (F := Ideal) (k0_pay12 xn H.wr H.mu H.w0 H.wup) H.fwd (ix3 z p n) = Tok.summed A b (Tok.tok t p) 0 n := by
  have hd (q : Fin 256) := decay_at hH hx q 0 n
  generalize k0_pay12 (F := Ideal) xn H.wr H.mu H.w0 H.wup = y at hd
  rw [← summed_of hH hx p 0 n (fun q => H.fwd (ix2 p q)) (fun q => by rw [hH.fwd]; simp)
    (fun q => Ideal.ofBits .f32 0xBF1B4598#32 * y (ix2 q ⟨512 * (0 : Fin 2).val + n.val, by simp; omega⟩))
    (fun q => by rw [hd q]; rfl)]
  pointwise [k0_pay14, k0_pay13]

/-- The stored sums of the second. -/
theorem bwd_at (z : Fin 1) (p : Fin 256) (n : Fin 512) :
    k0_pay15 (F := Ideal) (k0_pay12 xn H.wr H.mu H.w0 H.wup) H.bwd (ix3 z p n) = Tok.summed A b (Tok.tok t p) 1 n := by
  have hd (q : Fin 256) := decay_at hH hx q 1 n
  generalize k0_pay12 (F := Ideal) xn H.wr H.mu H.w0 H.wup = y at hd
  rw [← summed_of hH hx p 1 n (fun q => H.bwd (ix2 p q)) (fun q => by rw [hH.bwd]; simp)
    (fun q => Ideal.ofBits .f32 0xBF1B4598#32 * y (ix2 q ⟨512 * (1 : Fin 2).val + n.val, by simp; omega⟩))
    (fun q => by rw [hd q]; rfl)]
  pointwise [k0_pay15, k0_pay13]

end Cert.FrontIdeal.Body

end
-- ==== Proof.FrontGla.lean ====
/- The first call's body at a point, continued: its 272 rows are the normed rows of its tokens, and what it computes from
   the GLA columns is the token's. -/
module

public import proofs.«01_k».proof.Proof.FrontBody

@[expose] public section

set_option maxRecDepth 16384

noncomputable section

namespace Cert.FrontIdeal.Body

open Cert.FrontIdeal Cert.FrontIdeal.Gen Idealize.ShloMosaic

variable {A : Tok.Args} {b : Fin 8} {t : Fin 16} {H : Host}

/-- The bit that keeps a row: it is off for the eight rows before the first token and the eight after the last. -/
theorem keep_bit : ∀ (q : Fin 272) (t : Fin 16),
    IntOp.andi (IntOp.ori (IntOp.cmpi .sge (BitVec.ofNat 32 q.val) 8#32) (Scalar.cmpi .sgt (BitVec.ofNat 32 t.val) 0#32))
      (IntOp.ori (IntOp.cmpi .slt (BitVec.ofNat 32 q.val) 264#32) (Scalar.cmpi .slt (BitVec.ofNat 32 t.val) 15#32))
      = if 8 ≤ 256 * t.val + q.val ∧ 256 * t.val + q.val < 4104 then 1#1 else 0#1 := by
  decide +kernel

/-- The block's 272 rows are the normed rows of its tokens with their neighbours, zero off the tokens. -/
theorem rows_at (i : grid0.Coords) (ht : (i 1).val = t.val) (v0 : Vec Ideal S1x8x1024 .f32) (v2 : Vec Ideal S1x256x1024 .f32)
    (v4 : Vec Ideal S1x8x1024 .f32) (v19 : Vec Ideal S1x1024 .f32)
    (h0 : ∀ (e : Fin 8) (c : Fin 1024) (h : 0 < t.val), v0 (ix3 0 e c) = A.x b ⟨256 * t.val - 8 + e.val, by omega⟩ c)
    (h2 : ∀ (p : Fin 256) (c : Fin 1024), v2 (ix3 0 p c) = A.x b (Tok.tok t p) c)
    (h4 : ∀ (e : Fin 8) (c : Fin 1024) (h : t.val < 15), v4 (ix3 0 e c) = A.x b ⟨256 * t.val + 256 + e.val, by omega⟩ c)
    (hn : ∀ c : Fin 1024, v19 (ix2 0 c) = A.nm c) : AreRows A b t (k0_pay4 (F := Ideal) i v0 v2 v4 v19) := by
  intro q c
  pointwise [k0_pay4]
  rw [ht, keep_bit q t]
  unfold Tok.padded
  by_cases h : 8 ≤ 256 * t.val + q.val ∧ 256 * t.val + q.val < 4104
  · have e (x : Fin 1024) : (if h : q.val < 8 then v0 (ix3 0 ⟨q.val, by omega⟩ x)
          else if h : q.val - 8 < 256 then v2 (ix3 0 ⟨q.val - 8, by omega⟩ x) else v4 (ix3 0 ⟨q.val - 8 - 256, by omega⟩ x))
        = A.x b ⟨256 * t.val + q.val - 8, by omega⟩ x := by
      split_ifs with h1 h3
      · rw [h0 _ _ (by omega)]
        exact congrArg (fun r => A.x b r x) (Fin.ext (by simp only; omega))
      · rw [h2]
        exact congrArg (fun r => A.x b r x) (Fin.ext (by simp only [Tok.tok]; omega))
      · rw [h4 _ _ (by omega)]
        exact congrArg (fun r => A.x b r x) (Fin.ext (by simp only; omega))
    rw [if_pos h, dif_pos h]
    simp only [e, hn]
    rfl
  · rw [if_neg h, dif_neg h]
    rfl

variable (hH : Holds A H) {xn : FVec Ideal S272x1024 .bf16} (hx : AreRows A b t xn)

include hH hx

/-- The GLA columns at a token's own row. -/
theorem own_at (p : Fin 256) (j : Fin 1568) : k0_pay5 (F := Ideal) xn H.wg (ix2 (near p 8) ⟨j.val, by omega⟩)
    = Tok.proj A b (Tok.tok t p) ⟨1856 + j.val, by omega⟩ := by
  rw [← own_of hx (fun i => H.wg (ix2 i ⟨j.val, by omega⟩)) _ (fun i => hH.wg i j)]
  pointwise [k0_pay5]

/-- At the row before. -/
theorem before_at (p : Fin 256) (j : Fin 1568) : k0_pay5 (F := Ideal) xn H.wg (ix2 (near p 7) ⟨j.val, by omega⟩)
    = Tok.before A b (Tok.tok t p) ⟨1856 + j.val, by omega⟩ := by
  rw [← before_of hx (fun i => H.wg (ix2 i ⟨j.val, by omega⟩)) _ (fun i => hH.wg i j)]
  pointwise [k0_pay5]

/-- At the row after. -/
theorem after_at (p : Fin 256) (j : Fin 1568) : k0_pay5 (F := Ideal) xn H.wg (ix2 (near p 9) ⟨j.val, by omega⟩)
    = Tok.after A b (Tok.tok t p) ⟨1856 + j.val, by omega⟩ := by
  rw [← after_of hx (fun i => H.wg (ix2 i ⟨j.val, by omega⟩)) _ (fun i => hH.wg i j)]
  pointwise [k0_pay5]

/-- The stored gate. -/
theorem glaGate_at (z : Fin 1) (p : Fin 256) (n : Fin 512) :
    k0_pay30 (F := Ideal) (k0_pay5 xn H.wg) (ix3 z p n) = Tok.glaGate A b (Tok.tok t p) n := by
  have h := own_at hH hx p ⟨1024 + n.val, by omega⟩
  generalize k0_pay5 (F := Ideal) xn H.wg = y at h
  pointwise [k0_pay30]
  simp only [slice_near]
  rw [h]
  unfold Tok.glaGate
  congr 1
  exact Fin.ext (by simp only; omega)

/-- The convolved and activated columns. -/
theorem qkv_at (p : Fin 256) (j : Fin 1024) :
    k0_pay34 (F := Ideal) (k0_pay31 (k0_pay5 xn H.wg)) (k0_pay32 (k0_pay5 xn H.wg)) (k0_pay33 (k0_pay5 xn H.wg)) H.cw0 H.cw1 H.cw2 (ix2 p j)
      = Tok.qkv A b (Tok.tok t p) j := by
  have h1 := own_at hH hx p ⟨j.val, by omega⟩
  have h2 := before_at hH hx p ⟨j.val, by omega⟩
  have h3 := after_at hH hx p ⟨j.val, by omega⟩
  generalize k0_pay5 (F := Ideal) xn H.wg = y at h1 h2 h3
  have hc : Tok.conv A b (Tok.tok t p) j = H.cw0 (ix2 0 j) * y (ix2 (near p 7) ⟨j.val, by omega⟩)
      + H.cw1 (ix2 0 j) * y (ix2 (near p 8) ⟨j.val, by omega⟩) + H.cw2 (ix2 0 j) * y (ix2 (near p 9) ⟨j.val, by omega⟩) := by
    rw [h1, h2, h3, hH.cw0, hH.cw1, hH.cw2, mul_comm (A.cw 0 j), mul_comm (A.cw 1 j), mul_comm (A.cw 2 j)]
    rfl
  unfold Tok.qkv
  rw [hc]
  pointwise [k0_pay34, k0_pay31, k0_pay32, k0_pay33]
  simp only [slice_near, rotate_near, rotate_back_near]
  rfl

/-- What a direction's decay is formed from, negated. -/
theorem glaLogit_at (p : Fin 256) (d : Fin 2) (n : Fin 256) :
    k0_pay35 (F := Ideal) (k0_pay5 xn H.wg) H.gaup H.gab (ix2 p ⟨256 * d.val + n.val, by omega⟩)
      = 0 - Tok.glaLogit A b (Tok.tok t p) d n := by
  have e : Tok.glaLogit A b (Tok.tok t p) d n
      = ∑ i : Fin 128, k0_pay5 (F := Ideal) xn H.wg (ix2 (near p 8) ⟨1536 + i.val, by omega⟩)
          * H.gaup (ix2 i ⟨256 * d.val + n.val, by omega⟩) + H.gab (ix2 0 ⟨256 * d.val + n.val, by omega⟩) := by
    rw [hH.gab, Tok.sum_sixteens _ fun i hi => by rw [hH.gaupRest i _ hi, mul_zero]]
    have h0 (i : Fin 16) := hH.gaup d 0 i n
    have h1 (i : Fin 16) := hH.gaup d 1 i n
    have s0 (i : Fin 16) := own_at hH hx p ⟨1536 + i.val, by omega⟩
    have s1 (i : Fin 16) := own_at hH hx p ⟨1536 + (16 + i.val), by omega⟩
    simp only [Fin.val_zero, Fin.val_one, mul_zero, mul_one, zero_add] at h0 h1
    simp only [h0, h1, s0, s1]
    unfold Tok.glaLogit
    congr 1
    fin_cases d
    · have hn (x : Fin 16) : (⟨1856 + (1536 + x.val), by omega⟩ : Fin 3424) = ⟨3392 + x.val, by omega⟩ := Fin.ext (by simp only; omega)
      simp [hn]
    · have hn (x : Fin 16) : (⟨1856 + (1536 + (16 + x.val)), by omega⟩ : Fin 3424) = ⟨3408 + x.val, by omega⟩ := Fin.ext (by simp only; omega)
      simp [hn]
  rw [e]
  generalize k0_pay5 (F := Ideal) xn H.wg = y
  pointwise [k0_pay35]
  simp only [slice_near]

/-- A direction's stored log decay. -/
theorem glaDecay_at (z : Fin 1) (p : Fin 256) (d : Fin 2) (n : Fin 256) :
    k0_pay1 (F := Ideal) (k0_pay36 (k0_pay5 xn H.wg) H.gaup H.gab) (k0_pay37 (k0_pay5 xn H.wg) H.gaup H.gab) (Scalar.ofBits .f32 0x3F800000#32)
      (ix3 z p ⟨256 * d.val + n.val, by omega⟩) = Tok.glaDecay A b (Tok.tok t p) d n := by
  have h := glaLogit_at hH hx p d n
  unfold k0_pay36 k0_pay37
  generalize k0_pay35 (F := Ideal) (k0_pay5 xn H.wg) H.gaup H.gab = y at h
  pointwise [k0_pay1]
  rw [h]
  unfold Tok.glaDecay Tok.softplus
  have h16 : Ideal.ofBits .f32 0x41800000#32 = ((16 : ℝ) : EReal) := by
    simp [Ideal.ofBits, Ideal.ieee, -EReal.coe_mul]; norm_num
  have hi : Ideal.ofBits .f32 0x3D800000#32 = ((1 / 16 : ℝ) : EReal) := by
    simp [Ideal.ofBits, Ideal.ieee, -EReal.coe_mul]; norm_num
  rw [h16, hi, Ideal.div_coe (by norm_num : (16 : ℝ) ≠ 0)]
  simp only [zero_sub]
  have ha (x : EReal) : FloatOps.absf (F := Ideal) (φ := .f32) x = max x (-x) := rfl
  rw [ha]

end Cert.FrontIdeal.Body

end
-- ==== Proof.FrontPieces.lean ====
/- The stores of the first call's body at a point, each a function of what it loads. -/
module

public import proofs.«01_k».proof.Proof.Gen.FrontIdeal.Frame.RunA
import all proofs.«01_k».proof.Proof.Gen.FrontIdeal.Frame.RunA
public import proofs.«01_k».proof.Proof.FrontGla

@[expose] public section

set_option maxRecDepth 65536

noncomputable section

namespace Cert.FrontIdeal.Body

open Cert.FrontIdeal Cert.FrontIdeal.Gen Idealize.ShloMosaic Idealize.ShloMosaic.TcCoe

/-- A whole rectangle lies in itself. -/
theorem inb2 {a b : ℕ} : ∀ d, (![0, 0] : Fin 2 → ℕ) d + (⟨2, ![a, b]⟩ : Shape).size d ≤ (⟨2, ![a, b]⟩ : Shape).size d := by
  intro d; fin_cases d <;> simp

/-- The same, with three axes. -/
theorem inb3 {a b e : ℕ} : ∀ d, (![0, 0, 0] : Fin 3 → ℕ) d + (⟨3, ![a, b, e]⟩ : Shape).size d ≤ (⟨3, ![a, b, e]⟩ : Shape).size d := by
  intro d; fin_cases d <;> simp

/-- A row of three lies in them. -/
theorem inbRow (q : Fin 3) : ∀ d, (![q.val, 0] : Fin 2 → ℕ) d + S1x1024.size d ≤ S3x1024.size d := by
  revert q; decide

/-- A band of columns lies in a block that is wide enough. -/
theorem inbBand {o w b : ℕ} (h : o + w ≤ b) :
    ∀ d, (![0, 0, o] : Fin 3 → ℕ) d + (⟨3, ![1, 256, w]⟩ : Shape).size d ≤ (⟨3, ![1, 256, b]⟩ : Shape).size d := by
  intro d; fin_cases d <;> simp [h]

/-- A whole block of two axes, as loaded. -/
def load2 {a b : ℕ} {e : EltTy} (arg : Memref sig .tc .vmem ⟨2, ![a, b]⟩ e) (harg : arg.IsWhole) (x : Vec Ideal ⟨2, ![a, b]⟩ e) :
    Vec Ideal ⟨2, ![a, b]⟩ e :=
  View.readAt (Elt Ideal) arg.view (Rect.unit (s := ⟨2, ![a, b]⟩) ![0, 0] (⟨2, ![a, b]⟩ : Shape).size inb2).toLoadRect (harg.unread x)

/-- A whole block of three axes, as loaded. -/
def load3 {a b d : ℕ} {e : EltTy} (arg : Memref sig .tc .vmem ⟨3, ![a, b, d]⟩ e) (harg : arg.IsWhole) (x : Vec Ideal ⟨3, ![a, b, d]⟩ e) :
    Vec Ideal ⟨3, ![a, b, d]⟩ e :=
  View.readAt (Elt Ideal) arg.view (Rect.unit (s := ⟨3, ![a, b, d]⟩) ![0, 0, 0] (⟨3, ![a, b, d]⟩ : Shape).size inb3).toLoadRect (harg.unread x)

/-- One of the convolution's rows, as loaded. -/
def loadRow (q : Fin 3) (arg : Memref sig .tc .vmem S3x1024 .f32) (harg : arg.IsWhole) (x : Vec Ideal S3x1024 .f32) : Vec Ideal S1x1024 .f32 :=
  View.readAt (Elt Ideal) arg.view (Rect.unit (s := S3x1024) ![q.val, 0] S1x1024.size (inbRow q)).toLoadRect (harg.unread x)

/-- A store of a band of a block's columns. -/
def band {b : ℕ} {e : EltTy} (o w : ℕ) (h : o + w ≤ b) (v : Vec Ideal ⟨3, ![1, 256, w]⟩ e) : View.Piece (Elt Ideal) ⟨3, ![1, 256, b]⟩ e :=
  ⟨Rect.unit (s := ⟨3, ![1, 256, b]⟩) ![0, 0, o] (⟨3, ![1, 256, w]⟩ : Shape).size (inbBand h), v⟩

/-- The stores into the packed output, last first. -/
def packPieces (H : Host) (xn : FVec Ideal S272x1024 .bf16) : List (View.Piece (Elt Ideal) S1x256x3072 .bf16) :=
  [band 2560 512 (by omega) (k0_pay29 (k0_pay19 (k0_pay11 xn H.wr H.mu) H.gup)),
    band 2048 512 (by omega) (k0_pay28 (k0_pay22 (k0_pay8 xn H.wr H.mu) (k0_pay16 (k0_pay10 xn H.wr H.mu) H.a0 H.aup) k0_pay17 H.kk H.seg)),
    band 1536 512 (by omega) (k0_pay27 (k0_pay20 (k0_pay8 xn H.wr H.mu) H.kk H.seg)),
    band 1024 512 (by omega) (k0_pay26 (k0_pay9 xn H.wr H.mu)),
    band 512 512 (by omega) (k0_pay25 (k0_pay21 (k0_pay8 xn H.wr H.mu) (k0_pay16 (k0_pay10 xn H.wr H.mu) H.a0 H.aup) k0_pay17 H.ka)),
    band 0 512 (by omega) (k0_pay24 (k0_pay23 (k0_pay7 xn H.wr H.mu)))]

/-- Into the running sums of the log decays. -/
def decayPieces (H : Host) (xn : FVec Ideal S272x1024 .bf16) : List (View.Piece (Elt Ideal) S1x256x1024 .f32) :=
  [band 512 512 (by omega) (k0_pay15 (k0_pay12 xn H.wr H.mu H.w0 H.wup) H.bwd),
    band 0 512 (by omega) (k0_pay14 (k0_pay12 xn H.wr H.mu H.w0 H.wup) H.fwd)]

/-- The convolved columns of a block. -/
def blockQkv (H : Host) (xn : FVec Ideal S272x1024 .bf16) : FVec Ideal S256x1024 .f32 :=
  k0_pay34 (k0_pay31 (k0_pay5 xn H.wg)) (k0_pay32 (k0_pay5 xn H.wg)) (k0_pay33 (k0_pay5 xn H.wg)) H.cw0 H.cw1 H.cw2

/-- Into the GLA heads' packed output. -/
def gpackPieces (H : Host) (xn : FVec Ideal S272x1024 .bf16) : List (View.Piece (Elt Ideal) S1x256x1024 .bf16) :=
  [band 256 768 (by omega) (k0_pay3 (blockQkv H xn)), band 0 256 (by omega) (k0_pay2 (blockQkv H xn))]

/-- Into the GLA log decays. -/
def laPieces (H : Host) (xn : FVec Ideal S272x1024 .bf16) : List (View.Piece (Elt Ideal) S1x256x512 .f32) :=
  [band 0 512 (by omega) (k0_pay1 (k0_pay36 (k0_pay5 xn H.wg) H.gaup H.gab) (k0_pay37 (k0_pay5 xn H.wg) H.gaup H.gab) (Scalar.ofBits .f32 0x3F800000#32))]

/-- Into the GLA gate. -/
def gatePieces (H : Host) (xn : FVec Ideal S272x1024 .bf16) : List (View.Piece (Elt Ideal) S1x256x512 .bf16) :=
  [band 0 512 (by omega) (k0_pay30 (k0_pay5 xn H.wg))]

variable (c : Dev nD) (i : grid0.Coords)
  (arg2 : Memref sig .tc .vmem S1x256x1024 .f32) (harg2 : arg2.IsWhole)
  (arg3 : Memref sig .tc .vmem S1x8x1024 .f32) (harg3 : arg3.IsWhole)
  (arg4 : Memref sig .tc .vmem S1x8x1024 .f32) (harg4 : arg4.IsWhole)
  (arg5 : Memref sig .tc .vmem S1x1024 .f32) (harg5 : arg5.IsWhole)
  (arg6 : Memref sig .tc .vmem S1024x1920 .bf16) (harg6 : arg6.IsWhole)
  (arg7 : Memref sig .tc .vmem S1024x1664 .bf16) (harg7 : arg7.IsWhole)
  (arg8 : Memref sig .tc .vmem S1x1920 .f32) (harg8 : arg8.IsWhole)
  (arg9 : Memref sig .tc .vmem S1x1024 .f32) (harg9 : arg9.IsWhole)
  (arg10 : Memref sig .tc .vmem S128x1024 .bf16) (harg10 : arg10.IsWhole)
  (arg11 : Memref sig .tc .vmem S1x512 .f32) (harg11 : arg11.IsWhole)
  (arg12 : Memref sig .tc .vmem S128x512 .bf16) (harg12 : arg12.IsWhole)
  (arg13 : Memref sig .tc .vmem S128x512 .bf16) (harg13 : arg13.IsWhole)
  (arg14 : Memref sig .tc .vmem S1x512 .f32) (harg14 : arg14.IsWhole)
  (arg15 : Memref sig .tc .vmem S1x512 .f32) (harg15 : arg15.IsWhole)
  (arg16 : Memref sig .tc .vmem S512x512 .bf16) (harg16 : arg16.IsWhole)
  (arg17 : Memref sig .tc .vmem S256x256 .bf16) (harg17 : arg17.IsWhole)
  (arg18 : Memref sig .tc .vmem S256x256 .bf16) (harg18 : arg18.IsWhole)
  (arg19 : Memref sig .tc .vmem S3x1024 .f32) (harg19 : arg19.IsWhole)
  (arg20 : Memref sig .tc .vmem S128x512 .bf16) (harg20 : arg20.IsWhole)
  (arg21 : Memref sig .tc .vmem S1x512 .f32) (harg21 : arg21.IsWhole)
  (arg22 : Memref sig .tc .vmem S1x256x3072 .bf16) (harg22 : arg22.IsWhole)
  (arg23 : Memref sig .tc .vmem S1x256x1024 .f32) (harg23 : arg23.IsWhole)
  (arg24 : Memref sig .tc .vmem S1x256x1024 .bf16) (harg24 : arg24.IsWhole)
  (arg25 : Memref sig .tc .vmem S1x256x512 .f32) (harg25 : arg25.IsWhole)
  (arg26 : Memref sig .tc .vmem S1x256x512 .bf16) (harg26 : arg26.IsWhole)
  (x0 : Vec Ideal S1x256x1024 .f32) (x1 : Vec Ideal S1x8x1024 .f32) (x2 : Vec Ideal S1x8x1024 .f32) (x3 : Vec Ideal S1x1024 .f32) (x4 : Vec Ideal S1024x1920 .bf16) (x5 : Vec Ideal S1024x1664 .bf16) (x6 : Vec Ideal S1x1920 .f32) (x7 : Vec Ideal S1x1024 .f32) (x8 : Vec Ideal S128x1024 .bf16) (x9 : Vec Ideal S1x512 .f32) (x10 : Vec Ideal S128x512 .bf16) (x11 : Vec Ideal S128x512 .bf16) (x12 : Vec Ideal S1x512 .f32) (x13 : Vec Ideal S1x512 .f32) (x14 : Vec Ideal S512x512 .bf16) (x15 : Vec Ideal S256x256 .bf16) (x16 : Vec Ideal S256x256 .bf16) (x17 : Vec Ideal S3x1024 .f32) (x18 : Vec Ideal S128x512 .bf16) (x19 : Vec Ideal S1x512 .f32)

/-- The weights, as loaded. -/
def loadHost : Host where
  wr := load2 arg6 harg6 x4
  wg := load2 arg7 harg7 x5
  mu := load2 arg8 harg8 x6
  w0 := load2 arg9 harg9 x7
  wup := load2 arg10 harg10 x8
  a0 := load2 arg11 harg11 x9
  aup := load2 arg12 harg12 x10
  gup := load2 arg13 harg13 x11
  kk := load2 arg14 harg14 x12
  ka := load2 arg15 harg15 x13
  seg := load2 arg16 harg16 x14
  fwd := load2 arg17 harg17 x15
  bwd := load2 arg18 harg18 x16
  cw0 := loadRow 0 arg19 harg19 x17
  cw1 := loadRow 1 arg19 harg19 x17
  cw2 := loadRow 2 arg19 harg19 x17
  gaup := load2 arg20 harg20 x18
  gab := load2 arg21 harg21 x19

/-- The block's rows, as loaded. -/
def loadRows : FVec Ideal S272x1024 .bf16 :=
  k0_pay4 i (load3 arg3 harg3 x1) (load3 arg2 harg2 x0) (load3 arg4 harg4 x2) (load2 arg5 harg5 x3)

/-- The packed output's stores. -/
theorem run_packPieces : (kernelRun0_A (F := Ideal) c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22
      arg23 harg23 arg24 harg24 arg25 harg25 arg26 harg26 x0 x1 x2 x3 x4 x5 x6 x7 x8 x9 x10 x11 x12 x13 x14 x15 x16 x17 x18 x19).1
    = packPieces (loadHost arg6 harg6 arg7 harg7 arg8 harg8 arg9 harg9 arg10 harg10 arg11 harg11 arg12 harg12 arg13 harg13 arg14 harg14 arg15 harg15 arg16
      harg16 arg17 harg17 arg18 harg18 arg19 harg19 arg20 harg20 arg21 harg21 x4 x5 x6 x7 x8 x9 x10 x11 x12 x13 x14 x15 x16 x17 x18 x19)
      (loadRows i arg2 harg2 arg3 harg3 arg4 harg4 arg5 harg5 x0 x1 x2 x3) := by
  sl_kernel_rfl

/-- The running sums'. -/
theorem run_decayPieces : (kernelRun0_A (F := Ideal) c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22
      arg23 harg23 arg24 harg24 arg25 harg25 arg26 harg26 x0 x1 x2 x3 x4 x5 x6 x7 x8 x9 x10 x11 x12 x13 x14 x15 x16 x17 x18 x19).2.1
    = decayPieces (loadHost arg6 harg6 arg7 harg7 arg8 harg8 arg9 harg9 arg10 harg10 arg11 harg11 arg12 harg12 arg13 harg13 arg14 harg14 arg15 harg15 arg16
      harg16 arg17 harg17 arg18 harg18 arg19 harg19 arg20 harg20 arg21 harg21 x4 x5 x6 x7 x8 x9 x10 x11 x12 x13 x14 x15 x16 x17 x18 x19)
      (loadRows i arg2 harg2 arg3 harg3 arg4 harg4 arg5 harg5 x0 x1 x2 x3) := by
  sl_kernel_rfl

/-- The GLA heads' packed output's. -/
theorem run_gpackPieces : (kernelRun0_A (F := Ideal) c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22
      arg23 harg23 arg24 harg24 arg25 harg25 arg26 harg26 x0 x1 x2 x3 x4 x5 x6 x7 x8 x9 x10 x11 x12 x13 x14 x15 x16 x17 x18 x19).2.2.1
    = gpackPieces (loadHost arg6 harg6 arg7 harg7 arg8 harg8 arg9 harg9 arg10 harg10 arg11 harg11 arg12 harg12 arg13 harg13 arg14 harg14 arg15 harg15 arg16
      harg16 arg17 harg17 arg18 harg18 arg19 harg19 arg20 harg20 arg21 harg21 x4 x5 x6 x7 x8 x9 x10 x11 x12 x13 x14 x15 x16 x17 x18 x19)
      (loadRows i arg2 harg2 arg3 harg3 arg4 harg4 arg5 harg5 x0 x1 x2 x3) := by
  sl_kernel_rfl

/-- The GLA log decays'. -/
theorem run_laPieces : (kernelRun0_A (F := Ideal) c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22
      arg23 harg23 arg24 harg24 arg25 harg25 arg26 harg26 x0 x1 x2 x3 x4 x5 x6 x7 x8 x9 x10 x11 x12 x13 x14 x15 x16 x17 x18 x19).2.2.2.1
    = laPieces (loadHost arg6 harg6 arg7 harg7 arg8 harg8 arg9 harg9 arg10 harg10 arg11 harg11 arg12 harg12 arg13 harg13 arg14 harg14 arg15 harg15 arg16
      harg16 arg17 harg17 arg18 harg18 arg19 harg19 arg20 harg20 arg21 harg21 x4 x5 x6 x7 x8 x9 x10 x11 x12 x13 x14 x15 x16 x17 x18 x19)
      (loadRows i arg2 harg2 arg3 harg3 arg4 harg4 arg5 harg5 x0 x1 x2 x3) := by
  sl_kernel_rfl

/-- The GLA gate's. -/
theorem run_gatePieces : (kernelRun0_A (F := Ideal) c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22
      arg23 harg23 arg24 harg24 arg25 harg25 arg26 harg26 x0 x1 x2 x3 x4 x5 x6 x7 x8 x9 x10 x11 x12 x13 x14 x15 x16 x17 x18 x19).2.2.2.2.1
    = gatePieces (loadHost arg6 harg6 arg7 harg7 arg8 harg8 arg9 harg9 arg10 harg10 arg11 harg11 arg12 harg12 arg13 harg13 arg14 harg14 arg15 harg15 arg16
      harg16 arg17 harg17 arg18 harg18 arg19 harg19 arg20 harg20 arg21 harg21 x4 x5 x6 x7 x8 x9 x10 x11 x12 x13 x14 x15 x16 x17 x18 x19)
      (loadRows i arg2 harg2 arg3 harg3 arg4 harg4 arg5 harg5 x0 x1 x2 x3) := by
  sl_kernel_rfl

end Cert.FrontIdeal.Body

end
-- ==== Proof.FrontFound.lean ====
/- What the first call's grid finds: the weights as the operations before it lay them out. -/
module

public import proofs.«01_k».proof.Proof.Gen.FrontIdeal.Frame.Runs
public import proofs.«01_k».proof.Proof.FrontGla
public import proofs.«01_k».proof.Proof.TailFound

@[expose] public section

set_option maxRecDepth 16384

noncomputable section

namespace Cert.FrontIdeal.Body

open Cert.FrontIdeal Cert.FrontIdeal.Gen Idealize.ShloMosaic Idealize.ShloMosaic.TcCoe Idealize.SL.Sem

/-- Which chunk each row of a block belongs to, as the program works it out. -/
def chunkIds : Vec Ideal S256 .i32 :=
  select (andi (cmpi .ne (signi (iotaInDim S256 32 0)) (broadcastInDim S256 ![] bcast_S_S256 (signi (constantI S_ 32 64#32))))
      (cmpi .ne (Host.remsi (iotaInDim S256 32 0) (broadcastInDim S256 ![] bcast_S_S256 (constantI S_ 32 64#32)))
        (broadcastInDim S256 ![] bcast_S_S256 (constantI S_ 32 0#32))))
    (subi (Host.divsi (iotaInDim S256 32 0) (broadcastInDim S256 ![] bcast_S_S256 (constantI S_ 32 64#32)))
      (broadcastInDim S256 ![] bcast_S_S256 (constantI S_ 32 1#32)))
    (Host.divsi (iotaInDim S256 32 0) (broadcastInDim S256 ![] bcast_S_S256 (constantI S_ 32 64#32)))

/-- A row's chunk is its number over sixty-four. -/
theorem chunkIds_at : ∀ a : Fin 256, chunkIds (ix1 a) = BitVec.ofNat 32 (a.val / 64) := by
  decide +kernel

/-- Two rows' numbers compared. -/
theorem le_bit : ∀ p q : Fin 256, IntOp.cmpi .sle (BitVec.ofNat 32 p.val) (BitVec.ofNat 32 q.val) = if p.val ≤ q.val then 1#1 else 0#1 := by
  decide +kernel

/-- The same, the other way. -/
theorem ge_bit : ∀ p q : Fin 256, IntOp.cmpi .sge (BitVec.ofNat 32 p.val) (BitVec.ofNat 32 q.val) = if q.val ≤ p.val then 1#1 else 0#1 := by
  decide +kernel

/-- Two bits joined, as a number. -/
theorem joined (a b : Prop) [Decidable a] [Decidable b] :
    FloatOps.uitofp (F := Ideal) .bf16 (IntOp.andi (if a then 1#1 else 0#1) (if b then 1#1 else 0#1)) = if a ∧ b then (1 : EReal) else 0 := by
  by_cases ha : a <;> by_cases hb : b <;> simp [ha, hb, FloatOps.uitofp, IntOp.andi]

variable (m : (ℓ : Loc nD τ sig) → Buf (Elt Ideal) ℓ) (c : Dev nD)

/-- The arguments. -/
def args : Tok.Args :=
  Tok.argsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13))

/-- The heads' block matrix. -/
theorem found_seg (a b : Fin 512) :
    (V m c main_v47 : Vec Ideal S512x512 .bf16) (ix2 a b) = if a.val / 64 = b.val / 64 then (1 : EReal) else 0 := by
  unfold V
  simp only [List.flatten_cons, List.flatten_nil, List.append_nil, List.cons_append, List.nil_append]
  after_reads_simp
  change (uitofp (F := Ideal) .bf16 (cmpi .eq (broadcastInDim S512x512 ![0, 1] bcast_S512x1_S512x512_0_1 (broadcastInDim S512x1 ![0] bcast_S512_S512x1_0 TailIdeal.Half.headIds))
    (broadcastInDim S512x512 ![0, 1] bcast_S1x512_S512x512_0_1 (broadcastInDim S1x512 ![1] bcast_S512_S1x512_1 TailIdeal.Half.headIds)))) (ix2 a b) = _
  have ha := TailIdeal.Half.headIds_at a
  have hb := TailIdeal.Half.headIds_at b
  generalize TailIdeal.Half.headIds = H at ha hb ⊢
  pointwise
  rw [ha, hb, TailIdeal.Half.same_head ⟨a.val / 64, by omega⟩ ⟨b.val / 64, by omega⟩]
  split_ifs <;> simp [FloatOps.uitofp]

/-- The first direction's 0/1 matrix. -/
theorem found_fwd (p q : Fin 256) :
    (V m c main_v66 : Vec Ideal S256x256 .bf16) (ix2 p q) = if p.val / 64 = q.val / 64 ∧ q.val ≤ p.val then (1 : EReal) else 0 := by
  unfold V
  simp only [List.flatten_cons, List.flatten_nil, List.append_nil, List.cons_append, List.nil_append]
  after_reads_simp
  change (uitofp (F := Ideal) .bf16 (andi
    (cmpi .eq (broadcastInDim S256x256 ![0, 1] bcast_S256x1_S256x256_0_1 (broadcastInDim S256x1 ![0] bcast_S256_S256x1_0 chunkIds))
      (broadcastInDim S256x256 ![0, 1] bcast_S1x256_S256x256_0_1 (broadcastInDim S1x256 ![1] bcast_S256_S1x256_1 chunkIds)))
    (cmpi .sle (broadcastInDim S256x256 ![0, 1] bcast_S1x256_S256x256_0_1 (broadcastInDim S1x256 ![1] bcast_S256_S1x256_1 (iotaInDim S256 32 0)))
      (broadcastInDim S256x256 ![0, 1] bcast_S256x1_S256x256_0_1 (broadcastInDim S256x1 ![0] bcast_S256_S256x1_0 (iotaInDim S256 32 0)))))) (ix2 p q) = _
  have ha := chunkIds_at p
  have hb := chunkIds_at q
  generalize chunkIds = H at ha hb ⊢
  pointwise
  rw [ha, hb, TailIdeal.Half.same_head ⟨p.val / 64, by omega⟩ ⟨q.val / 64, by omega⟩, le_bit q p]
  exact joined _ _

/-- The second direction's. -/
theorem found_bwd (p q : Fin 256) :
    (V m c main_v73 : Vec Ideal S256x256 .bf16) (ix2 p q) = if p.val / 64 = q.val / 64 ∧ p.val ≤ q.val then (1 : EReal) else 0 := by
  unfold V
  simp only [List.flatten_cons, List.flatten_nil, List.append_nil, List.cons_append, List.nil_append]
  after_reads_simp
  change (uitofp (F := Ideal) .bf16 (andi
    (cmpi .eq (broadcastInDim S256x256 ![0, 1] bcast_S256x1_S256x256_0_1 (broadcastInDim S256x1 ![0] bcast_S256_S256x1_0 chunkIds))
      (broadcastInDim S256x256 ![0, 1] bcast_S1x256_S256x256_0_1 (broadcastInDim S1x256 ![1] bcast_S256_S1x256_1 chunkIds)))
    (cmpi .sge (broadcastInDim S256x256 ![0, 1] bcast_S1x256_S256x256_0_1 (broadcastInDim S1x256 ![1] bcast_S256_S1x256_1 (iotaInDim S256 32 0)))
      (broadcastInDim S256x256 ![0, 1] bcast_S256x1_S256x256_0_1 (broadcastInDim S256x1 ![0] bcast_S256_S256x1_0 (iotaInDim S256 32 0)))))) (ix2 p q) = _
  have ha := chunkIds_at p
  have hb := chunkIds_at q
  generalize chunkIds = H at ha hb ⊢
  pointwise
  rw [ha, hb, TailIdeal.Half.same_head ⟨p.val / 64, by omega⟩ ⟨q.val / 64, by omega⟩, ge_bit q p]
  exact joined _ _

end Cert.FrontIdeal.Body

end
-- ==== Proof.FrontHost.lean ====
/- The weights as the first call's grid finds them, at an index: the operations before it pad them, lay some along a diagonal
   of blocks, and change no value. -/
module

public import proofs.«01_k».proof.Proof.FrontFound

@[expose] public section

set_option maxRecDepth 16384

noncomputable section

namespace Cert.FrontIdeal.Body

open Cert.FrontIdeal Cert.FrontIdeal.Gen Idealize.ShloMosaic Idealize.ShloMosaic.TcCoe Idealize.SL.Sem

/-- What the paddings are filled with. -/
def filler : Vec Ideal S_ .f32 := sitofp (F := Ideal) .f32 (constantI S_ 32 0#32)

/-- It is zero. -/
theorem filler_at (i : S_.Idx) : filler i = (0 : EReal) := by
  simp [filler, sitofp, constantI, FloatOps.sitofp]

/-- The RWKV columns of the projection, the rate's padded. -/
def rwkvCols (w : Vec Ideal S1024x3424 .f32) : Vec Ideal S1024x1920 .f32 :=
  have z : Vec Ideal S1024x1856 .f32 := extractStridedSlice S1024x1856 ![0, 0] w slices_S1024x3424_S1024x1856_0_0
  concatenate S1024x1920 1 [⟨S1024x1664, extractStridedSlice S1024x1664 ![0, 0] z slices_S1024x1856_S1024x1664_0_0⟩,
    ⟨S1024x128, pad S1024x128 ![0, 0] ![0, 64] ![0, 0] (extractStridedSlice S1024x64 ![0, 1664] z slices_S1024x1856_S1024x64_0_1664) filler
      pads_S1024x64_S1024x128_000_0640 h_S_⟩,
    ⟨S1024x128, extractStridedSlice S1024x128 ![0, 1728] z slices_S1024x1856_S1024x128_0_1728⟩]
    concatenates_S1024x1664_S1024x128_S1024x128_S1024x1920_d1

/-- The mixing weights, padded alike. -/
def muCols (w : Vec Ideal S1856 .f32) : Vec Ideal S1x1920 .f32 :=
  have z : Vec Ideal S1x1856 .f32 := shapeCast S1x1856 w shapeCasts_S1856_S1x1856
  concatenate S1x1920 1 [⟨S1x1664, extractStridedSlice S1x1664 ![0, 0] z slices_S1x1856_S1x1664_0_0⟩,
    ⟨S1x128, pad S1x128 ![0, 0] ![0, 64] ![0, 0] (extractStridedSlice S1x64 ![0, 1664] z slices_S1x1856_S1x64_0_1664) filler
      pads_S1x64_S1x128_000_0640 h_S_⟩,
    ⟨S1x128, extractStridedSlice S1x128 ![0, 1728] z slices_S1x1856_S1x128_0_1728⟩]
    concatenates_S1x1664_S1x128_S1x128_S1x1920_d1

/-- The GLA columns, the last padded. -/
def glaCols (w : Vec Ideal S1024x3424 .f32) : Vec Ideal S1024x1664 .f32 :=
  concatenate S1024x1664 1 [⟨S1024x1536, extractStridedSlice S1024x1536 ![0, 1856] w slices_S1024x3424_S1024x1536_0_1856⟩,
    ⟨S1024x128, pad S1024x128 ![0, 0] ![0, 96] ![0, 0] (extractStridedSlice S1024x32 ![0, 3392] w slices_S1024x3424_S1024x32_0_3392) filler
      pads_S1024x32_S1024x128_000_0960 h_S_⟩] concatenates_S1024x1536_S1024x128_S1024x1664_d1

/-- Both directions' decay weights along a diagonal. -/
def decayBlocks (w : Vec Ideal S2x64x512 .f32) : Vec Ideal S128x1024 .f32 :=
  have z : Vec Ideal S64x512 .f32 := broadcastInDim S64x512 ![] bcast_S_S64x512 (constant (F := Ideal) S_ .f32 0x00000000#32)
  concatenate S128x1024 0 [
    ⟨S64x1024, concatenate S64x1024 1 [⟨S64x512, shapeCast S64x512 (extractStridedSlice S1x64x512 ![0, 0, 0] w slices_S2x64x512_S1x64x512_0_0_0) shapeCasts_S1x64x512_S64x512⟩,
      ⟨S64x512, z⟩] concatenates_S64x512_S64x512_S64x1024_d1⟩,
    ⟨S64x1024, concatenate S64x1024 1 [⟨S64x512, z⟩,
      ⟨S64x512, shapeCast S64x512 (extractStridedSlice S1x64x512 ![1, 0, 0] w slices_S2x64x512_S1x64x512_1_0_0) shapeCasts_S1x64x512_S64x512⟩] concatenates_S64x512_S64x512_S64x1024_d1⟩]
    concatenates_S64x1024_S64x1024_S128x1024_d0

/-- Both directions' GLA decay weights along a diagonal, padded. -/
def glaBlocks (w : Vec Ideal S2x16x256 .f32) : Vec Ideal S128x512 .f32 :=
  have z : Vec Ideal S16x256 .f32 := broadcastInDim S16x256 ![] bcast_S_S16x256 (constant (F := Ideal) S_ .f32 0x00000000#32)
  pad S128x512 ![0, 0] ![96, 0] ![0, 0] (concatenate S32x512 0 [
    ⟨S16x512, concatenate S16x512 1 [⟨S16x256, shapeCast S16x256 (extractStridedSlice S1x16x256 ![0, 0, 0] w slices_S2x16x256_S1x16x256_0_0_0) shapeCasts_S1x16x256_S16x256⟩,
      ⟨S16x256, z⟩] concatenates_S16x256_S16x256_S16x512_d1⟩,
    ⟨S16x512, concatenate S16x512 1 [⟨S16x256, z⟩,
      ⟨S16x256, shapeCast S16x256 (extractStridedSlice S1x16x256 ![1, 0, 0] w slices_S2x16x256_S1x16x256_1_0_0) shapeCasts_S1x16x256_S16x256⟩] concatenates_S16x256_S16x256_S16x512_d1⟩]
    concatenates_S16x512_S16x512_S32x512_d0) filler pads_S32x512_S128x512_0960_000 h_S_

/-- The rate's weights, padded. -/
def rateRows (w : Vec Ideal S64x512 .f32) : Vec Ideal S128x512 .f32 :=
  pad S128x512 ![0, 0] ![64, 0] ![0, 0] w filler pads_S64x512_S128x512_0640_000 h_S_

set_option maxHeartbeats 4000000 in
/-- An entry of the RWKV columns. -/
theorem rwkvCols_at (w : Vec Ideal S1024x3424 .f32) (i : Fin 1024) (j : Fin 1920) :
    rwkvCols w (ix2 i j) = if h : j.val < 1728 then w (ix2 i ⟨j.val, by omega⟩) else if h' : 1792 ≤ j.val then w (ix2 i ⟨j.val - 64, by omega⟩) else 0 := by
  by_cases h1 : j.val < 1728
  · rw [dif_pos h1]
    pointwise [rwkvCols]
    rw [filler_at]
    split_ifs <;> first | omega | with_reducible rfl | exact congrArg (fun r => w (ix2 i r)) (Fin.ext (by first | omega | (simp only; omega)))
  rw [dif_neg h1]
  by_cases h2 : 1792 ≤ j.val
  · rw [dif_pos h2]
    pointwise [rwkvCols]
    rw [filler_at]
    split_ifs <;> first | omega | with_reducible rfl | exact congrArg (fun r => w (ix2 i r)) (Fin.ext (by first | omega | (simp only; omega)))
  · rw [dif_neg h2]
    pointwise [rwkvCols]
    rw [filler_at]
    split_ifs <;> first | omega | with_reducible rfl

/-- An entry of the mixing weights. -/
theorem muCols_at (w : Vec Ideal S1856 .f32) (j : Fin 1920) :
    muCols w (ix2 0 j) = if h : j.val < 1728 then w (ix1 ⟨j.val, by omega⟩) else if h' : 1792 ≤ j.val then w (ix1 ⟨j.val - 64, by omega⟩) else 0 := by
  by_cases h1 : j.val < 1728
  · rw [dif_pos h1]
    pointwise [muCols]
    rw [filler_at]
    split_ifs <;> first | omega | with_reducible rfl | exact congrArg (fun r => w (ix1 r)) (Fin.ext (by first | omega | (simp only; omega)))
  rw [dif_neg h1]
  by_cases h2 : 1792 ≤ j.val
  · rw [dif_pos h2]
    pointwise [muCols]
    rw [filler_at]
    split_ifs <;> first | omega | with_reducible rfl | exact congrArg (fun r => w (ix1 r)) (Fin.ext (by first | omega | (simp only; omega)))
  · rw [dif_neg h2]
    pointwise [muCols]
    rw [filler_at]
    split_ifs <;> first | omega | with_reducible rfl

/-- An entry of the GLA columns. -/
theorem glaCols_at (w : Vec Ideal S1024x3424 .f32) (i : Fin 1024) (j : Fin 1568) :
    glaCols w (ix2 i ⟨j.val, by omega⟩) = w (ix2 i ⟨1856 + j.val, by omega⟩) := by
  pointwise [glaCols]
  rw [filler_at]
  split_ifs <;> first | omega | with_reducible rfl | exact congrArg (fun r => w (ix2 i r)) (Fin.ext (by first | omega | (simp only; omega)))

/-- An entry of the decay weights. -/
theorem decayBlocks_at (w : Vec Ideal S2x64x512 .f32) (d e : Fin 2) (i : Fin 64) (n : Fin 512) :
    decayBlocks w (ix2 ⟨64 * e.val + i.val, by omega⟩ ⟨512 * d.val + n.val, by omega⟩) = if e = d then w (ix3 d i n) else 0 := by
  pointwise [decayBlocks]
  obtain rfl | rfl : d = 0 ∨ d = 1 := by omega
  all_goals obtain rfl | rfl : e = 0 ∨ e = 1 := by omega
  all_goals simp only [Fin.isValue, Fin.val_zero, Fin.val_one, mul_zero, mul_one, zero_add]
  all_goals split_ifs <;> first | omega | with_reducible rfl | skip
  all_goals exact congrArg₂ (fun r q => w (ix3 _ r q)) (Fin.ext (by first | omega | (simp only; omega))) (Fin.ext (by first | omega | (simp only; omega)))

set_option maxHeartbeats 4000000 in
/-- An entry of the GLA decay weights. -/
theorem glaBlocks_at (w : Vec Ideal S2x16x256 .f32) (d e : Fin 2) (i : Fin 16) (n : Fin 256) :
    glaBlocks w (ix2 ⟨16 * e.val + i.val, by omega⟩ ⟨256 * d.val + n.val, by omega⟩) = if e = d then w (ix3 d i n) else 0 := by
  pointwise [glaBlocks]
  obtain rfl | rfl : d = 0 ∨ d = 1 := by omega
  all_goals obtain rfl | rfl : e = 0 ∨ e = 1 := by omega
  all_goals simp only [Fin.isValue, Fin.val_zero, Fin.val_one, mul_zero, mul_one, zero_add]
  all_goals split_ifs <;> first | omega | with_reducible rfl | skip
  all_goals exact congrArg₂ (fun r q => w (ix3 _ r q)) (Fin.ext (by first | omega | (simp only; omega))) (Fin.ext (by first | omega | (simp only; omega)))

/-- Below both blocks they are zero. -/
theorem glaBlocks_rest (w : Vec Ideal S2x16x256 .f32) (i : Fin 128) (n : Fin 512) (h : 32 ≤ i.val) : glaBlocks w (ix2 i n) = (0 : EReal) := by
  pointwise [glaBlocks]
  rw [filler_at, dif_neg (by omega)]

/-- An entry of the rate's weights. -/
theorem rateRows_at (w : Vec Ideal S64x512 .f32) (i : Fin 128) (n : Fin 512) :
    rateRows w (ix2 i n) = if h : i.val < 64 then w (ix2 ⟨i.val, h⟩ n) else 0 := by
  pointwise [rateRows]
  rw [filler_at]

variable (m : (ℓ : Loc nD τ sig) → Buf (Elt Ideal) ℓ) (c : Dev nD)

/-- The RWKV columns that the grid finds. -/
theorem found_wr : (V m c main_v6 : Vec Ideal S1024x1920 .bf16) = rwkvCols (m ((c : Thread nD τ).loc main_arg2)) := by
  rfl

/-- The GLA columns. -/
theorem found_wg : (V m c main_v17 : Vec Ideal S1024x1664 .bf16) = glaCols (m ((c : Thread nD τ).loc main_arg2)) := by
  rfl

/-- The mixing weights. -/
theorem found_mu : (V m c main_v12 : Vec Ideal S1x1920 .f32) = muCols (m ((c : Thread nD τ).loc main_arg3)) := by
  rfl

set_option maxHeartbeats 4000000 in
/-- The decay weights. -/
theorem found_wup : (V m c main_v26 : Vec Ideal S128x1024 .bf16) = decayBlocks (m ((c : Thread nD τ).loc main_arg5)) := by
  rfl

/-- The rate's weights. -/
theorem found_aup : (V m c main_v28 : Vec Ideal S128x512 .bf16) = rateRows (m ((c : Thread nD τ).loc main_arg7)) := by
  rfl

/-- The GLA decay weights. -/
theorem found_gaup : (V m c main_v39 : Vec Ideal S128x512 .bf16) = glaBlocks (m ((c : Thread nD τ).loc main_arg12)) := by
  rfl

/-- The rows and matrices that are the arguments as they are. -/
theorem found_plain :
    (∀ n, (V m c main_v48 : Vec Ideal S1x1024 .f32) (ix2 0 n) = m ((c : Thread nD τ).loc main_arg4) (ix2 ⟨n.val / 512, by omega⟩ ⟨n.val % 512, by omega⟩))
    ∧ (∀ n, (V m c main_v49 : Vec Ideal S1x512 .f32) (ix2 0 n) = m ((c : Thread nD τ).loc main_arg6) (ix1 n))
    ∧ (∀ n, (V m c main_v50 : Vec Ideal S1x512 .f32) (ix2 0 n) = m ((c : Thread nD τ).loc main_arg9) (ix1 n))
    ∧ (∀ n, (V m c main_v51 : Vec Ideal S1x512 .f32) (ix2 0 n) = m ((c : Thread nD τ).loc main_arg10) (ix1 n))
    ∧ (∀ i n, (V m c main_v29 : Vec Ideal S128x512 .bf16) (ix2 i n) = m ((c : Thread nD τ).loc main_arg8) (ix2 i n))
    ∧ (∀ q j, (V m c main_v74 : Vec Ideal S3x1024 .f32) (ix2 q j) = m ((c : Thread nD τ).loc main_arg11) (ix3 q 0 j))
    ∧ (∀ n, (V m c main_v75 : Vec Ideal S1x512 .f32) (ix2 0 n) = m ((c : Thread nD τ).loc main_arg13) (ix2 ⟨n.val / 256, by omega⟩ ⟨n.val % 256, by omega⟩))
    ∧ (∀ n, (V m c main_v76 : Vec Ideal S1x1024 .f32) (ix2 0 n) = m ((c : Thread nD τ).loc main_arg1) (ix1 n)) := by
  unfold V
  simp only [List.flatten_cons, List.flatten_nil, List.append_nil, List.cons_append, List.nil_append]
  refine ⟨?_, ?_, ?_, ?_, ?_, ?_, ?_, ?_⟩ <;> intros <;> after_reads_simp <;> pointwise

/-- The weights that the grid finds. -/
def hostOf : Host where
  wr := V m c main_v6
  wg := V m c main_v17
  mu := V m c main_v12
  w0 := V m c main_v48
  wup := V m c main_v26
  a0 := V m c main_v49
  aup := V m c main_v28
  gup := V m c main_v29
  kk := V m c main_v50
  ka := V m c main_v51
  seg := V m c main_v47
  fwd := V m c main_v66
  bwd := V m c main_v73
  cw0 := fun y => (V m c main_v74 : Vec Ideal S3x1024 .f32) (ix2 0 (y 1))
  cw1 := fun y => (V m c main_v74 : Vec Ideal S3x1024 .f32) (ix2 1 (y 1))
  cw2 := fun y => (V m c main_v74 : Vec Ideal S3x1024 .f32) (ix2 2 (y 1))
  gaup := V m c main_v39
  gab := V m c main_v75

set_option maxHeartbeats 4000000 in
/-- They hold the arguments' weights. -/
theorem hostOf_holds : Holds (args m c) (hostOf m c) := by
  obtain ⟨h0, h1, h2, h3, h4, h5, h6, _⟩ := found_plain m c
  constructor
  · intro i j
    refine (congrFun (found_wr m c) _).trans ?_
    rw [rwkvCols_at, dif_pos (by simp only; omega)]
    rfl
  · intro i j
    refine (congrFun (found_wr m c) _).trans ?_
    rw [rwkvCols_at, dif_neg (by simp only; omega), dif_pos (by simp only; omega)]
    exact congrArg ((args m c).w i) (Fin.ext (by simp only; omega))
  · intro j
    refine (congrFun (found_mu m c) _).trans ?_
    rw [muCols_at, dif_pos (by simp only; omega)]
    rfl
  · intro j
    refine (congrFun (found_mu m c) _).trans ?_
    rw [muCols_at, dif_neg (by simp only; omega), dif_pos (by simp only; omega)]
    exact congrArg (args m c).mu (Fin.ext (by simp only; omega))
  · intro i j
    refine (congrFun (found_wg m c) _).trans ?_
    rw [glaCols_at]
    rfl
  · intro d n
    refine (h0 _).trans ?_
    exact congrArg₂ (args m c).w0 (Fin.ext (by simp only; omega)) (Fin.ext (by simp only; omega))
  · intro d e i n
    refine (congrFun (found_wup m c) _).trans ?_
    rw [decayBlocks_at]
    rfl
  · exact h1
  · intro i n
    refine (congrFun (found_aup m c) _).trans ?_
    rw [rateRows_at, dif_pos (by simp only; omega)]
    rfl
  · intro i n
    refine (congrFun (found_aup m c) _).trans ?_
    rw [rateRows_at, dif_neg (by simp only; omega)]
  · exact h4
  · exact h2
  · exact h3
  · exact found_seg m c
  · exact found_fwd m c
  · exact found_bwd m c
  · exact fun j => h5 0 j
  · exact fun j => h5 1 j
  · exact fun j => h5 2 j
  · intro d e i n
    refine (congrFun (found_gaup m c) _).trans ?_
    rw [glaBlocks_at]
    rfl
  · intro i n hi
    refine (congrFun (found_gaup m c) _).trans ?_
    rw [glaBlocks_rest _ _ _ hi]
  · intro d n
    refine (h6 _).trans ?_
    exact congrArg₂ (args m c).gab (Fin.ext (by simp only; omega)) (Fin.ext (by simp only; omega))

end Cert.FrontIdeal.Body

end
-- ==== Proof.FrontBlocks.lean ====
/- The blocks the first call's body is handed at a point: the weights' are the whole arrays, the rows' are its tokens'. -/
module

public import proofs.«01_k».proof.Proof.FrontHost
public import proofs.«01_k».proof.Proof.Gen.FrontIdeal.Frame.Runs
public import Idealize.ShloMosaic.Lib.Pipeline.ValueKit

@[expose] public section

set_option maxRecDepth 16384

noncomputable section

namespace Cert.FrontIdeal.Body

open Cert.FrontIdeal Cert.FrontIdeal.Gen Idealize.ShloMosaic Idealize.ShloMosaic.TcCoe Idealize.SL.Sem

/-- The batch of a point. -/
def batchOf (t : Fin cfg0.N) : Fin 8 := ⟨t.val / 16, by have := lt_of_lt_of_eq t.isLt (show cfg0.N = 128 from N_0); omega⟩

/-- The tile of a point. -/
def tileOf (t : Fin cfg0.N) : Fin 16 := ⟨t.val % 16, by omega⟩

/-- The tile is the grid's second coordinate. -/
theorem tile_coord : ∀ t : Fin cfg0.N, ((grid0.coords t) 1).val = (tileOf t).val :=
  (by decide +kernel : ∀ t : Fin grid0.N, ((grid0.coords t) 1).val = t.val % 16)

/-- The blocks the rows' windows are at: the tile's, the eight rows before it, the eight after it. -/
theorem places : ∀ t : Fin cfg0.N,
    win0_0.index t = ![t.val / 16, t.val % 16, 0] ∧ win0_1.index t = ![t.val / 16, 32 * (t.val % 16) - 1, 0]
    ∧ win0_2.index t = ![t.val / 16, min (32 * (t.val % 16) + 32) 511, 0] :=
  (by decide +kernel : ∀ t : Fin grid0.N, _)

/-- The blocks the outputs' windows are at: the tile's. -/
theorem outPlaces : ∀ t : Fin cfg0.N,
    win0_20.index t = ![t.val / 16, t.val % 16, 0] ∧ win0_21.index t = ![t.val / 16, t.val % 16, 0]
    ∧ win0_22.index t = ![t.val / 16, t.val % 16, 0] ∧ win0_23.index t = ![t.val / 16, t.val % 16, 0]
    ∧ win0_24.index t = ![t.val / 16, t.val % 16, 0] :=
  (by decide +kernel : ∀ t : Fin grid0.N, _)

/-- The weights' windows stay at their only block. -/
theorem stays : ∀ t : Fin cfg0.N,
    win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, 0] ∧ win0_16.index t = ![0, 0] ∧ win0_17.index t = ![0, 0] ∧ win0_18.index t = ![0, 0] ∧ win0_19.index t = ![0, 0] :=
  (by decide +kernel : ∀ t : Fin grid0.N, _)

variable (m : (ℓ : Loc nD τ sig) → Buf (Elt Ideal) ℓ) (c : Dev nD)

set_option maxHeartbeats 4000000 in
/-- A weight's block, at every point, is the whole array. -/
theorem wholes (t : Fin cfg0.N) :
    (iblk m c 3 t : Vec Ideal S1x1024 .f32) = V m c main_v76
    ∧ (iblk m c 4 t : Vec Ideal S1024x1920 .bf16) = V m c main_v6
    ∧ (iblk m c 5 t : Vec Ideal S1024x1664 .bf16) = V m c main_v17
    ∧ (iblk m c 6 t : Vec Ideal S1x1920 .f32) = V m c main_v12
    ∧ (iblk m c 7 t : Vec Ideal S1x1024 .f32) = V m c main_v48
    ∧ (iblk m c 8 t : Vec Ideal S128x1024 .bf16) = V m c main_v26
    ∧ (iblk m c 9 t : Vec Ideal S1x512 .f32) = V m c main_v49
    ∧ (iblk m c 10 t : Vec Ideal S128x512 .bf16) = V m c main_v28
    ∧ (iblk m c 11 t : Vec Ideal S128x512 .bf16) = V m c main_v29
    ∧ (iblk m c 12 t : Vec Ideal S1x512 .f32) = V m c main_v50
    ∧ (iblk m c 13 t : Vec Ideal S1x512 .f32) = V m c main_v51
    ∧ (iblk m c 14 t : Vec Ideal S512x512 .bf16) = V m c main_v47
    ∧ (iblk m c 15 t : Vec Ideal S256x256 .bf16) = V m c main_v66
    ∧ (iblk m c 16 t : Vec Ideal S256x256 .bf16) = V m c main_v73
    ∧ (iblk m c 17 t : Vec Ideal S3x1024 .f32) = V m c main_v74
    ∧ (iblk m c 18 t : Vec Ideal S128x512 .bf16) = V m c main_v39
    ∧ (iblk m c 19 t : Vec Ideal S1x512 .f32) = V m c main_v75 := by
  obtain ⟨h3, h4, h5, h6, h7, h8, h9, h10, h11, h12, h13, h14, h15, h16, h17, h18, h19⟩ := stays t
  refine ⟨?_, ?_, ?_, ?_, ?_, ?_, ?_, ?_, ?_, ?_, ?_, ?_, ?_, ?_, ?_, ?_, ?_⟩ <;> funext y
  all_goals
    rw [show y = ix2 (y 0) (y 1) by funext a; fin_cases a <;> rfl]
    generalize y 0 = a
    generalize y 1 = b
    blk_ext [iblk, h3, h4, h5, h6, h7, h8, h9, h10, h11, h12, h13, h14, h15, h16, h17, h18, h19]

set_option maxHeartbeats 4000000 in
/-- The rows' blocks: the tile's rows, and the eight before and after it where there are any. -/
theorem rowBlocks (t : Fin cfg0.N) :
    (∀ (e : Fin 8) (n : Fin 1024) (h : 0 < (tileOf t).val), (iblk m c 1 t : Vec Ideal S1x8x1024 .f32) (ix3 0 e n)
        = m ((c : Thread nD τ).loc main_arg0) (ix3 (batchOf t) ⟨256 * (tileOf t).val - 8 + e.val, by omega⟩ n))
    ∧ (∀ (p : Fin 256) (n : Fin 1024), (iblk m c 0 t : Vec Ideal S1x256x1024 .f32) (ix3 0 p n)
        = m ((c : Thread nD τ).loc main_arg0) (ix3 (batchOf t) (Tok.tok (tileOf t) p) n))
    ∧ (∀ (e : Fin 8) (n : Fin 1024) (h : (tileOf t).val < 15), (iblk m c 2 t : Vec Ideal S1x8x1024 .f32) (ix3 0 e n)
        = m ((c : Thread nD τ).loc main_arg0) (ix3 (batchOf t) ⟨256 * (tileOf t).val + 256 + e.val, by omega⟩ n)) := by
  obtain ⟨h0, h1, h2⟩ := places t
  rw [← V_main_arg0 m c]
  refine ⟨?_, ?_, ?_⟩
  · intro e n h
    simp only [tileOf] at h
    blk_ext [iblk, h1, batchOf, tileOf]
  · intro p n
    blk_ext [iblk, h0, batchOf, tileOf, Tok.tok]
  · intro e n h
    simp only [tileOf] at h
    blk_ext [iblk, h2, batchOf, tileOf]

end Cert.FrontIdeal.Body

end
-- ==== Proof.FrontStored.lean ====
/- The first call's outputs: at a point, every entry of every output block is its token's. Then the whole arrays. -/
module

public import proofs.«01_k».proof.Proof.FrontPieces
public import proofs.«01_k».proof.Proof.FrontBlocks
public import proofs.«01_k».proof.Proof.Gen.FrontIdeal.Frame
public import Idealize.ShloMosaic.Lib.WholeRead

@[expose] public section

set_option maxRecDepth 16384

noncomputable section

namespace Cert.FrontIdeal.Body

open Cert.FrontIdeal Cert.FrontIdeal.Gen Idealize.ShloMosaic Idealize.ShloMosaic.TcCoe Idealize.SL.Sem

/-- A whole load is the block. -/
theorem load2_eq {a b : ℕ} {e : EltTy} (arg : Memref sig .tc .vmem ⟨2, ![a, b]⟩ e) (harg : arg.IsWhole) (x : Vec Ideal ⟨2, ![a, b]⟩ e) :
    load2 arg harg x = x := by
  funext i
  refine (harg.readAt_unread _ _ _).trans ?_
  congr 1
  funext d
  apply Fin.ext
  fin_cases d <;> simp [Rect.idx_unit_val]

/-- The same, with three axes. -/
theorem load3_eq {a b d : ℕ} {e : EltTy} (arg : Memref sig .tc .vmem ⟨3, ![a, b, d]⟩ e) (harg : arg.IsWhole) (x : Vec Ideal ⟨3, ![a, b, d]⟩ e) :
    load3 arg harg x = x := by
  funext i
  refine (harg.readAt_unread _ _ _).trans ?_
  congr 1
  funext d
  apply Fin.ext
  fin_cases d <;> simp [Rect.idx_unit_val]

/-- A row's load is the row. -/
theorem loadRow_eq (q : Fin 3) (arg : Memref sig .tc .vmem S3x1024 .f32) (harg : arg.IsWhole) (x : Vec Ideal S3x1024 .f32) :
    loadRow q arg harg x = fun y => x (ix2 q (y 1)) := by
  funext i
  refine (harg.readAt_unread _ _ _).trans ?_
  congr 1
  funext d
  apply Fin.ext
  have h0 : (i 0).val = 0 := Nat.lt_one_iff.mp (i 0).isLt
  fin_cases d <;> simp [Rect.idx_unit_val, ix2, h0]

variable {b : ℕ} {e : EltTy}

/-- Where a band's entry lies. -/
theorem band_idx (o w : ℕ) (h : o + w ≤ b) (z : Fin 1) (p : Fin 256) (n : Fin w) :
    (Rect.unit (s := ⟨3, ![1, 256, b]⟩) ![0, 0, o] (⟨3, ![1, 256, w]⟩ : Shape).size (inbBand h)).idx (ix3 z p n) = ix3 z p ⟨o + n.val, by omega⟩ := by
  funext d
  apply Fin.ext
  fin_cases d <;> simp [ix3, Rect.idx_unit_val]

/-- An entry of the last stored band. -/
theorem band_hit (o w : ℕ) (h : o + w ≤ b) (v : Vec Ideal ⟨3, ![1, 256, w]⟩ e) (L : List (View.Piece (Elt Ideal) ⟨3, ![1, 256, b]⟩ e))
    (z : Fin 1) (p : Fin 256) (n : Fin w) : View.canon (band o w h v :: L) (ix3 z p ⟨o + n.val, by omega⟩) = v (ix3 z p n) := by
  rw [← band_idx o w h z p n]
  exact View.canon_cons_emb (Val := Elt Ideal) (e := e) (Rect.unit (s := ⟨3, ![1, 256, b]⟩) ![0, 0, o] (⟨3, ![1, 256, w]⟩ : Shape).size (inbBand h)) v L (ix3 z p n)

/-- An entry of a band that starts at the first column. -/
theorem band_first (w : ℕ) (h : 0 + w ≤ b) (v : Vec Ideal ⟨3, ![1, 256, w]⟩ e) (L : List (View.Piece (Elt Ideal) ⟨3, ![1, 256, b]⟩ e))
    (z : Fin 1) (p : Fin 256) (n : Fin w) : View.canon (band 0 w h v :: L) (ix3 z p ⟨n.val, by omega⟩) = v (ix3 z p n) := by
  refine Eq.trans ?_ (band_hit 0 w h v L z p n)
  exact congrArg (fun r => View.canon (band 0 w h v :: L) (ix3 z p r)) (Fin.ext (by simp))

/-- An entry off it. -/
theorem band_miss (o w : ℕ) (h : o + w ≤ b) (v : Vec Ideal ⟨3, ![1, 256, w]⟩ e) (L : List (View.Piece (Elt Ideal) ⟨3, ![1, 256, b]⟩ e))
    (z : Fin 1) (p : Fin 256) (n : Fin b) (hn : n.val < o ∨ o + w ≤ n.val) : View.canon (band o w h v :: L) (ix3 z p n) = View.canon L (ix3 z p n) := by
  refine View.canon_cons_of_not_mem _ _ ?_
  intro hm
  obtain ⟨x, hx⟩ := (Rect.unit (s := ⟨3, ![1, 256, b]⟩) ![0, 0, o] (⟨3, ![1, 256, w]⟩ : Shape).size (inbBand h)).exists_idx_of_mem hm
  have h1 : (x 2).val < w := (x 2).isLt
  have h0 : o + (x 2).val = n.val := by
    have h := congrArg (fun y : (⟨3, ![1, 256, b]⟩ : Shape).Idx => (y 2).val) hx
    simp only [Rect.idx_unit_val] at h
    exact h
  omega

section Entries

variable {A : Tok.Args} {B : Fin 8} {t : Fin 16} {H : Host} (hH : Holds A H) {xn : FVec Ideal S272x1024 .bf16} (hx : AreRows A B t xn)

include hH hx

/-- An entry of the packed output's block. -/
theorem pack_at (z : Fin 1) (p : Fin 256) (q : Fin 6) (n : Fin 512) :
    View.canon (packPieces H xn) (ix3 z p ⟨512 * q.val + n.val, by omega⟩) = Tok.part A B (Tok.tok t p) q n := by
  unfold packPieces
  obtain rfl | rfl | rfl | rfl | rfl | rfl : q = 0 ∨ q = 1 ∨ q = 2 ∨ q = 3 ∨ q = 4 ∨ q = 5 := by omega
  · rw [band_miss _ _ _ _ _ _ _ _ (.inl (by simp; omega)), band_miss _ _ _ _ _ _ _ _ (.inl (by simp; omega)), band_miss _ _ _ _ _ _ _ _ (.inl (by simp; omega)),
      band_miss _ _ _ _ _ _ _ _ (.inl (by simp; omega)), band_miss _ _ _ _ _ _ _ _ (.inl (by simp))]
    refine (band_hit 0 512 (by omega) _ [] z p n).trans ?_
    have hr := r_at hH hx p n
    generalize k0_pay7 (F := Ideal) xn H.wr H.mu = y at hr
    refine Eq.trans ?_ hr
    pointwise [k0_pay24, k0_pay23]
  · rw [band_miss _ _ _ _ _ _ _ _ (.inl (by simp; omega)), band_miss _ _ _ _ _ _ _ _ (.inl (by simp; omega)), band_miss _ _ _ _ _ _ _ _ (.inl (by simp; omega)),
      band_miss _ _ _ _ _ _ _ _ (.inl (by simp; omega))]
    refine (band_hit 512 512 (by omega) _ _ z p n).trans ?_
    refine Eq.trans ?_ (keyed_at hH hx p n)
    generalize k0_pay21 (F := Ideal) _ _ _ _ = y
    pointwise [k0_pay25]
  · rw [band_miss _ _ _ _ _ _ _ _ (.inl (by simp; omega)), band_miss _ _ _ _ _ _ _ _ (.inl (by simp; omega)), band_miss _ _ _ _ _ _ _ _ (.inl (by simp; omega))]
    refine (band_hit 1024 512 (by omega) _ _ z p n).trans ?_
    refine Eq.trans ?_ (v_at hH hx p n)
    generalize k0_pay9 (F := Ideal) _ _ _ = y
    pointwise [k0_pay26]
  · rw [band_miss _ _ _ _ _ _ _ _ (.inl (by simp; omega)), band_miss _ _ _ _ _ _ _ _ (.inl (by simp; omega))]
    refine (band_hit 1536 512 (by omega) _ _ z p n).trans ?_
    refine Eq.trans ?_ (removal_at hH hx p n)
    generalize k0_pay20 (F := Ideal) _ _ _ = y
    pointwise [k0_pay27]
  · rw [band_miss _ _ _ _ _ _ _ _ (.inl (by simp; omega))]
    refine (band_hit 2048 512 (by omega) _ _ z p n).trans ?_
    refine Eq.trans ?_ (removed_at hH hx p n)
    generalize k0_pay22 (F := Ideal) _ _ _ _ _ = y
    pointwise [k0_pay28]
  · refine (band_hit 2560 512 (by omega) _ _ z p n).trans ?_
    refine Eq.trans ?_ (gate_at hH hx p n)
    generalize k0_pay19 (F := Ideal) _ _ = y
    pointwise [k0_pay29]

/-- An entry of the running sums' block. -/
theorem decays_at (z : Fin 1) (p : Fin 256) (d : Fin 2) (n : Fin 512) :
    View.canon (decayPieces H xn) (ix3 z p ⟨512 * d.val + n.val, by omega⟩) = Tok.summed A B (Tok.tok t p) d n := by
  unfold decayPieces
  obtain rfl | rfl : d = 0 ∨ d = 1 := by omega
  · rw [band_miss _ _ _ _ _ _ _ _ (.inl (by simp))]
    exact (band_hit 0 512 (by omega) _ [] z p n).trans (fwd_at hH hx z p n)
  · exact (band_hit 512 512 (by omega) _ _ z p n).trans (bwd_at hH hx z p n)

/-- An entry of the GLA heads' packed block. -/
theorem gpack_at (z : Fin 1) (p : Fin 256) (j : Fin 1024) : View.canon (gpackPieces H xn) (ix3 z p j) = Tok.gpack A B (Tok.tok t p) j := by
  unfold gpackPieces Tok.gpack
  have hq := qkv_at hH hx p j
  unfold blockQkv
  generalize k0_pay34 (F := Ideal) _ _ _ _ _ _ = y at hq ⊢
  by_cases h : j.val < 256
  · rw [if_pos h, band_miss 256 768 (by omega) _ _ z p j (.inl h), ← hq]
    refine (band_first (b := 1024) (e := .bf16) 256 (by omega) (k0_pay2 (F := Ideal) y) [] z p ⟨j.val, h⟩).trans ?_
    pointwise [k0_pay2]
  · rw [if_neg h, ← hq]
    have hj : j = ⟨256 + (⟨j.val - 256, by omega⟩ : Fin 768).val, by simp only; omega⟩ := Fin.ext (by simp only; omega)
    refine (congrArg (fun r => View.canon [band (b := 1024) (e := .bf16) 256 768 (by omega) (k0_pay3 (F := Ideal) y), band 0 256 (by omega) (k0_pay2 y)] (ix3 z p r)) hj).trans ?_
    refine (band_hit (b := 1024) (e := .bf16) 256 768 (by omega) (k0_pay3 (F := Ideal) y) _ z p _).trans ?_
    refine Eq.trans ?_ (congrArg (fun r => y (ix2 p r)) hj.symm)
    pointwise [k0_pay3]

/-- An entry of the GLA log decays' block. -/
theorem la_at (z : Fin 1) (p : Fin 256) (d : Fin 2) (n : Fin 256) :
    View.canon (laPieces H xn) (ix3 z p ⟨256 * d.val + n.val, by omega⟩) = Tok.glaDecay A B (Tok.tok t p) d n := by
  exact (band_first 512 (by omega) _ [] z p ⟨256 * d.val + n.val, by omega⟩).trans (glaDecay_at hH hx z p d n)

/-- An entry of the GLA gate's block. -/
theorem ggate_at (z : Fin 1) (p : Fin 256) (n : Fin 512) : View.canon (gatePieces H xn) (ix3 z p n) = Tok.glaGate A B (Tok.tok t p) n := by
  exact (band_first 512 (by omega) _ [] z p n).trans (glaGate_at hH hx z p n)

end Entries

variable (m : (ℓ : Loc nD τ sig) → Buf (Elt Ideal) ℓ) (c : Dev nD)

/-- The weights, as loaded at a point. -/
abbrev hostAt (t : Fin cfg0.N) : Host :=
  loadHost (ms0_4 t) (hs0_4 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) (ms0_14 t) (hs0_14 t) (ms0_15 t) (hs0_15 t)
    (ms0_16 t) (hs0_16 t) (ms0_17 t) (hs0_17 t) (ms0_18 t) (hs0_18 t) (ms0_19 t) (hs0_19 t)
    (iblk m c 4 t) (iblk m c 5 t) (iblk m c 6 t) (iblk m c 7 t) (iblk m c 8 t) (iblk m c 9 t) (iblk m c 10 t) (iblk m c 11 t) (iblk m c 12 t)
    (iblk m c 13 t) (iblk m c 14 t) (iblk m c 15 t) (iblk m c 16 t) (iblk m c 17 t) (iblk m c 18 t) (iblk m c 19 t)

/-- The rows, as loaded at a point. -/
abbrev rowsAt (t : Fin cfg0.N) : FVec Ideal S272x1024 .bf16 :=
  loadRows (grid0.coords t) (ms0_0 t) (hs0_0 t) (ms0_1 t) (hs0_1 t) (ms0_2 t) (hs0_2 t) (ms0_3 t) (hs0_3 t)
    (iblk m c 0 t) (iblk m c 1 t) (iblk m c 2 t) (iblk m c 3 t)

/-- The loaded weights hold the arguments'. -/
theorem hostAt_holds (t : Fin cfg0.N) : Holds (args m c) (hostAt m c t) := by
  obtain ⟨_, h4, h5, h6, h7, h8, h9, h10, h11, h12, h13, h14, h15, h16, h17, h18, h19⟩ := wholes m c t
  have e : hostAt m c t = hostOf m c := by
    unfold hostAt loadHost hostOf
    simp only [load2_eq, loadRow_eq]
    rw [h4, h5, h6, h7, h8, h9, h10, h11, h12, h13, h14, h15, h16, h17, h18, h19]
  rw [e]
  exact hostOf_holds m c

/-- The loaded rows are the tile's. -/
theorem rowsAt_rows (t : Fin cfg0.N) : AreRows (args m c) (batchOf t) (tileOf t) (rowsAt m c t) := by
  obtain ⟨h1, h0, h2⟩ := rowBlocks m c t
  obtain ⟨h3, _⟩ := wholes m c t
  unfold rowsAt loadRows
  simp only [load2_eq, load3_eq]
  rw [h3]
  exact rows_at (A := args m c) (b := batchOf t) (t := tileOf t) (grid0.coords t) (tile_coord t) _ _ _ _ h1 h0 h2
    (fun q => by obtain ⟨_, _, _, _, _, _, _, hn⟩ := found_plain m c; exact hn q)

/-- The packed output's block at a point. -/
theorem outs20 (t : Fin cfg0.N) : (outsAt0 m c t).1 = View.canon (packPieces (hostAt m c t) (rowsAt m c t)) := by
  unfold outsAt0 out0_A_20
  dsimp only
  rw [run_packPieces]
  exact View.read_writes_junk_eq_canon _ _

/-- The running sums' block. -/
theorem outs21 (t : Fin cfg0.N) : (outsAt0 m c t).2.1 = View.canon (decayPieces (hostAt m c t) (rowsAt m c t)) := by
  unfold outsAt0 out0_A_21
  dsimp only
  rw [run_decayPieces]
  exact View.read_writes_junk_eq_canon _ _

/-- The GLA heads' packed block. -/
theorem outs22 (t : Fin cfg0.N) : (outsAt0 m c t).2.2.1 = View.canon (gpackPieces (hostAt m c t) (rowsAt m c t)) := by
  unfold outsAt0 out0_A_22
  dsimp only
  rw [run_gpackPieces]
  exact View.read_writes_junk_eq_canon _ _

/-- The GLA log decays' block. -/
theorem outs23 (t : Fin cfg0.N) : (outsAt0 m c t).2.2.2.1 = View.canon (laPieces (hostAt m c t) (rowsAt m c t)) := by
  unfold outsAt0 out0_A_23
  dsimp only
  rw [run_laPieces]
  exact View.read_writes_junk_eq_canon _ _

/-- The GLA gate's block. -/
theorem outs24 (t : Fin cfg0.N) : (outsAt0 m c t).2.2.2.2 = View.canon (gatePieces (hostAt m c t) (rowsAt m c t)) := by
  unfold outsAt0 out0_A_24
  dsimp only
  rw [run_gatePieces]
  exact View.read_writes_junk_eq_canon _ _

/-- The packed array after the grid. -/
theorem array20 : (dats m 0 c).arrAt 20 cfg0.N = fun y : S8x4096x3072.Idx => Tok.pack (args m c) (y 0) (y 1) (y 2) := by
  refine (dats m 0 c).arrAt_eq_of_covers 20 _ (by decide +kernel) fun t hf y => ?_
  blk_simp
  rw [after0_20, outs20]
  obtain ⟨z, p, j, rfl⟩ : ∃ z p j, y = ix3 z p j := ⟨y 0, y 1, y 2, by funext a; fin_cases a <;> rfl⟩
  obtain ⟨h, _⟩ := outPlaces t
  have hj : j = ⟨512 * (⟨j.val / 512, by omega⟩ : Fin 6).val + (⟨j.val % 512, by omega⟩ : Fin 512).val, by simp only; omega⟩ := Fin.ext (by simp only; omega)
  refine (congrArg (fun r => View.canon (packPieces (hostAt m c t) (rowsAt m c t)) (ix3 z p r)) hj).trans ?_
  refine (pack_at (hostAt_holds m c t) (rowsAt_rows m c t) z p ⟨j.val / 512, by omega⟩ ⟨j.val % 512, by omega⟩).trans ?_
  change Tok.pack (args m c) (batchOf t) (Tok.tok (tileOf t) p) j = _
  have hz : z.val = 0 := by omega
  congr 1
  · apply Fin.ext
    blk_simp [h]; simp only [batchOf]
  · apply Fin.ext
    blk_simp [h]; simp only [tileOf, Tok.tok]; omega
  · apply Fin.ext
    blk_simp [h]

/-- The running sums after the grid. -/
theorem array21 : (dats m 0 c).arrAt 21 cfg0.N = fun y : S8x4096x1024.Idx => Tok.decays (args m c) (y 0) (y 1) (y 2) := by
  refine (dats m 0 c).arrAt_eq_of_covers 21 _ (by decide +kernel) fun t hf y => ?_
  blk_simp
  rw [after0_21, outs21]
  obtain ⟨z, p, j, rfl⟩ : ∃ z p j, y = ix3 z p j := ⟨y 0, y 1, y 2, by funext a; fin_cases a <;> rfl⟩
  obtain ⟨_, h, _⟩ := outPlaces t
  have hj : j = ⟨512 * (⟨j.val / 512, by omega⟩ : Fin 2).val + (⟨j.val % 512, by omega⟩ : Fin 512).val, by simp only; omega⟩ := Fin.ext (by simp only; omega)
  refine (congrArg (fun r => View.canon (decayPieces (hostAt m c t) (rowsAt m c t)) (ix3 z p r)) hj).trans ?_
  refine (decays_at (hostAt_holds m c t) (rowsAt_rows m c t) z p ⟨j.val / 512, by omega⟩ ⟨j.val % 512, by omega⟩).trans ?_
  change Tok.decays (args m c) (batchOf t) (Tok.tok (tileOf t) p) j = _
  have hz : z.val = 0 := by omega
  congr 1
  · apply Fin.ext
    blk_simp [h]; simp only [batchOf]
  · apply Fin.ext
    blk_simp [h]; simp only [tileOf, Tok.tok]; omega
  · apply Fin.ext
    blk_simp [h]

/-- The GLA heads' packed array after the grid. -/
theorem array22 : (dats m 0 c).arrAt 22 cfg0.N = fun y : S8x4096x1024.Idx => Tok.gpack (args m c) (y 0) (y 1) (y 2) := by
  refine (dats m 0 c).arrAt_eq_of_covers 22 _ (by decide +kernel) fun t hf y => ?_
  blk_simp
  rw [after0_22, outs22]
  obtain ⟨z, p, j, rfl⟩ : ∃ z p j, y = ix3 z p j := ⟨y 0, y 1, y 2, by funext a; fin_cases a <;> rfl⟩
  obtain ⟨_, _, h, _⟩ := outPlaces t
  refine (gpack_at (hostAt_holds m c t) (rowsAt_rows m c t) z p j).trans ?_
  have hz : z.val = 0 := by omega
  congr 1
  · apply Fin.ext
    blk_simp [h]; simp only [batchOf]
  · apply Fin.ext
    blk_simp [h]; simp only [tileOf, Tok.tok]; omega
  · apply Fin.ext
    blk_simp [h]

/-- The GLA log decays after the grid. -/
theorem array23 : (dats m 0 c).arrAt 23 cfg0.N = fun y : S8x4096x512.Idx => Tok.glaDecays (args m c) (y 0) (y 1) (y 2) := by
  refine (dats m 0 c).arrAt_eq_of_covers 23 _ (by decide +kernel) fun t hf y => ?_
  blk_simp
  rw [after0_23, outs23]
  obtain ⟨z, p, j, rfl⟩ : ∃ z p j, y = ix3 z p j := ⟨y 0, y 1, y 2, by funext a; fin_cases a <;> rfl⟩
  obtain ⟨_, _, _, h, _⟩ := outPlaces t
  have hj : j = ⟨256 * (⟨j.val / 256, by omega⟩ : Fin 2).val + (⟨j.val % 256, by omega⟩ : Fin 256).val, by simp only; omega⟩ := Fin.ext (by simp only; omega)
  refine (congrArg (fun r => View.canon (laPieces (hostAt m c t) (rowsAt m c t)) (ix3 z p r)) hj).trans ?_
  refine (la_at (hostAt_holds m c t) (rowsAt_rows m c t) z p ⟨j.val / 256, by omega⟩ ⟨j.val % 256, by omega⟩).trans ?_
  change Tok.glaDecays (args m c) (batchOf t) (Tok.tok (tileOf t) p) j = _
  have hz : z.val = 0 := by omega
  congr 1
  · apply Fin.ext
    blk_simp [h]; simp only [batchOf]
  · apply Fin.ext
    blk_simp [h]; simp only [tileOf, Tok.tok]; omega
  · apply Fin.ext
    blk_simp [h]

/-- The GLA gate after the grid. -/
theorem array24 : (dats m 0 c).arrAt 24 cfg0.N = fun y : S8x4096x512.Idx => Tok.glaGate (args m c) (y 0) (y 1) (y 2) := by
  refine (dats m 0 c).arrAt_eq_of_covers 24 _ (by decide +kernel) fun t hf y => ?_
  blk_simp
  rw [after0_24, outs24]
  obtain ⟨z, p, j, rfl⟩ : ∃ z p j, y = ix3 z p j := ⟨y 0, y 1, y 2, by funext a; fin_cases a <;> rfl⟩
  obtain ⟨_, _, _, _, h⟩ := outPlaces t
  refine (ggate_at (hostAt_holds m c t) (rowsAt_rows m c t) z p j).trans ?_
  have hz : z.val = 0 := by omega
  congr 1
  · apply Fin.ext
    blk_simp [h]; simp only [batchOf]
  · apply Fin.ext
    blk_simp [h]; simp only [tileOf, Tok.tok]; omega
  · apply Fin.ext
    blk_simp [h]

end Cert.FrontIdeal.Body

end
-- ==== Proof.FrontRefOps.lean ====
/- What the first call's reference is made of, at an index: the running sum along a chunk, and the decay written with the
   softplus. -/
module

public import proofs.«01_k».proof.FrontReferenceIdeal
public import proofs.«01_k».proof.Proof.FrontTok
public import Idealize.ShloMosaic.Lib.Pointwise

@[expose] public section

set_option maxRecDepth 16384

noncomputable section

namespace Cert.FrontReferenceIdeal.Rows

open Cert.FrontReferenceIdeal Idealize.ShloMosaic

/-- The logarithm of one is nothing. -/
theorem log_one : Ideal.log (1 + 0) = 0 := by
  rw [add_zero]
  refine (Ideal.log_coe 1).trans ?_
  rw [if_neg (by norm_num), Real.log_one]
  rfl

/-- The real case of `exp_softplus`, on the reals. -/
theorem exp_softplus_real (r : ℝ) : Real.exp (-(max (-r) 0 + Real.log (1 + Real.exp (-|r|)))) = 1 / (1 + Real.exp (-r)) := by
  have hp (x : ℝ) : (0 : ℝ) < 1 + Real.exp x := by positivity
  rw [neg_add, Real.exp_add, Real.exp_neg (Real.log _), Real.exp_log (hp _)]
  have hr : Real.exp r * Real.exp (-r) = 1 := by rw [← Real.exp_add]; simp
  rcases le_total 0 r with h | h
  · rw [max_eq_right (by linarith), abs_of_nonneg h]
    simp
  · rw [max_eq_left (by linarith), abs_of_nonpos h, neg_neg, ← div_eq_mul_inv, div_eq_div_iff (hp _).ne' (hp _).ne']
    linarith

/-- The exponential of the softplus, negated, is the logistic function. -/
theorem exp_softplus (u : EReal) : Ideal.exp (-Tok.softplus (-u)) = Row.sigmoid u := by
  unfold Tok.softplus Row.sigmoid
  induction u using EReal.rec with
  | bot =>
    have h0 : (1 : EReal) + ⊤ = ⊤ := EReal.add_top_of_ne_bot (by decide)
    have h1 : Ideal.exp (-(max (-(⊥ : EReal)) (-(-(⊥ : EReal))))) = 0 := by
      rw [show (-(max (-(⊥ : EReal)) (-(-(⊥ : EReal))))) = ⊥ by simp, Ideal.exp_bot]
    have h3 : Ideal.exp (0 - (⊥ : EReal)) = ⊤ := by rw [show (0 : EReal) - ⊥ = ⊤ by simp]; rfl
    rw [h1, log_one, h3, h0, show (-(max (-(⊥ : EReal)) 0 + 0)) = ⊥ by simp, Ideal.exp_bot]
    simp [Ideal.div]
  | top =>
    have h1 : Ideal.exp (-(max (-(⊤ : EReal)) (-(-(⊤ : EReal))))) = 0 := by
      rw [show (-(max (-(⊤ : EReal)) (-(-(⊤ : EReal))))) = ⊥ by simp, Ideal.exp_bot]
    have h3 : Ideal.exp (0 - (⊤ : EReal)) = 0 := by rw [show (0 : EReal) - ⊤ = ⊥ by simp, Ideal.exp_bot]
    have h4 : Ideal.exp (0 : EReal) = 1 := by
      refine (Ideal.exp_coe 0).trans ?_
      rw [Real.exp_zero]
      rfl
    rw [h1, log_one, h3, show (-(max (-(⊤ : EReal)) 0 + 0)) = 0 by simp, h4, add_zero]
    refine Eq.symm ((Ideal.div_coe (y := 1) one_ne_zero 1).trans ?_)
    norm_num
  | coe r =>
    have e1 : max (-(r : EReal)) (-(-(r : EReal))) = ((|r| : ℝ) : EReal) := by
      rw [neg_neg, ← EReal.coe_neg, max_comm, abs_eq_max_neg]
      exact (EReal.coe_strictMono.monotone.map_max).symm
    have e2 : max (-(r : EReal)) 0 = ((max (-r) 0 : ℝ) : EReal) := by
      rw [← EReal.coe_neg]
      exact (EReal.coe_strictMono.monotone.map_max (a := -r) (b := 0)).symm
    have hp (x : ℝ) : (0 : ℝ) < 1 + Real.exp x := by positivity
    have e3 (x : ℝ) : (1 : EReal) + ((Real.exp x : ℝ) : EReal) = ((1 + Real.exp x : ℝ) : EReal) := by push_cast; rfl
    rw [e1, e2, ← EReal.coe_neg, zero_sub, ← EReal.coe_neg]
    simp only [Ideal.exp_coe]
    rw [e3, e3, Ideal.log_coe, if_neg (not_le.mpr (hp _)), ← EReal.coe_add, ← EReal.coe_neg, Ideal.exp_coe, Ideal.div_coe (hp _).ne', one_mul]
    exact congrArg _ (exp_softplus_real r)

/-- A sum by steps is the sum. -/
theorem fold_add {α : Type} (g : α → EReal) (l : List α) (a : EReal) : l.foldl (fun r n => r + g n) a = a + (l.map g).sum := by
  induction l generalizing a with
  | nil => simp
  | cons x l ih => rw [List.foldl_cons, ih, List.map_cons, List.sum_cons, add_assoc]

/-- A window's positions are numbered by its third axis alone. -/
def windowPlaces : (⟨4, ![1, 1, 64, 1]⟩ : Shape).Idx ≃ Fin 64 where
  toFun i := i 2
  invFun k := ix4 0 0 k 0
  left_inv i := by
    funext a
    have h0 : i 0 = (0 : Fin 1) := Subsingleton.elim (α := Fin 1) _ _
    have h1 : i 1 = (0 : Fin 1) := Subsingleton.elim (α := Fin 1) _ _
    have h3 : i 3 = (0 : Fin 1) := Subsingleton.elim (α := Fin 1) _ _
    fin_cases a
    · exact h0.symm
    · exact h1.symm
    · rfl
    · exact h3.symm
  right_inv _ := rfl

/-- The tokens of a chunk, counted from the start of the window that ends at one of them. -/
def windowTokens (r : Fin 64) : Fin 64 ≃ Fin 64 where
  toFun k := ⟨(r.val + k.val + 1) % 64, by omega⟩
  invFun q := ⟨(q.val + 63 - r.val) % 64, by omega⟩
  left_inv k := Fin.ext (by simp only; omega)
  right_inv q := Fin.ext (by simp only; omega)

/-- The running sum along a chunk, at an index. -/
theorem window_at (x : FVec Ideal S8x64x64x512 .f32) (v : FVec Ideal S_ .f32) (hS : 0 < S_.numel) (hv : v (Shape.Idx.first hS) = (0 : EReal))
    (h : S8x64x64x512.ReduceWindows ![1, 1, 64, 1] ![1, 1, 1, 1] ![0, 0, 63, 0] ![0, 0, 0, 0] S8x64x64x512) (b : Fin 8) (k r : Fin 64) (n : Fin 512) :
    Host.reduceWindowAdd ![1, 1, 64, 1] ![1, 1, 1, 1] ![0, 0, 63, 0] ![0, 0, 0, 0] x v h hS (ix4 b k r n)
      = ∑ q : Fin 64, if q.val ≤ r.val then x (ix4 b k q n) else (0 : EReal) := by
  show Host.reduceWindow (· + ·) ![1, 1, 64, 1] ![1, 1, 1, 1] ![0, 0, 63, 0] ![0, 0, 0, 0] x (fun _ : S_.Idx => v (Shape.Idx.first hS)) h hS (ix4 b k r n) = _
  unfold Host.reduceWindow
  simp only [hv]
  rw [fold_add, zero_add, ← Fin.sum_univ_def]
  rw [Equiv.sum_comp (⟨4, ![1, 1, 64, 1]⟩ : Shape).rowMajor.symm (fun w : (⟨4, ![1, 1, 64, 1]⟩ : Shape).Idx =>
    if hin : ∀ a, (![0, 0, 63, 0] : Fin 4 → ℕ) a ≤ ((ix4 b k r n : S8x64x64x512.Idx) (a.cast h.1.symm)).val * (![1, 1, 1, 1] : Fin 4 → ℕ) a + (w a).val
        ∧ ((ix4 b k r n : S8x64x64x512.Idx) (a.cast h.1.symm)).val * (![1, 1, 1, 1] : Fin 4 → ℕ) a + (w a).val - (![0, 0, 63, 0] : Fin 4 → ℕ) a < S8x64x64x512.size a
      then x (fun a => ⟨((ix4 b k r n : S8x64x64x512.Idx) (a.cast h.1.symm)).val * (![1, 1, 1, 1] : Fin 4 → ℕ) a + (w a).val - (![0, 0, 63, 0] : Fin 4 → ℕ) a, (hin a).2⟩) else 0)]
  refine Fintype.sum_equiv (windowPlaces.trans (windowTokens r)) _ _ fun w => ?_
  have h0 : (w 0).val = 0 := Nat.lt_one_iff.mp (w 0).isLt
  have h1 : (w 1).val = 0 := Nat.lt_one_iff.mp (w 1).isLt
  have h3 : (w 3).val = 0 := Nat.lt_one_iff.mp (w 3).isLt
  have h2 : (w 2).val < 64 := (w 2).isLt
  have hq : ((windowPlaces.trans (windowTokens r)) w).val = (r.val + (w 2).val + 1) % 64 := rfl
  have hq' : (windowTokens r (windowPlaces w)).val = (r.val + (w 2).val + 1) % 64 := rfl
  by_cases hk : 63 ≤ r.val + (w 2).val
  · rw [if_pos (by rw [hq]; omega), dif_pos]
    · congr 1
      funext a
      apply Fin.ext
      fin_cases a
      · simp [ix4, h0]
      · simp [ix4, h1]
      · simp [ix4, hq']; omega
      · simp [ix4, h3]
    · intro a
      fin_cases a
      · simp [ix4, h0]
      · simp [ix4, h1]
      · simp [ix4]; omega
      · simp [ix4, h3]
  · rw [if_neg (by rw [hq]; omega), dif_neg]
    intro hin
    have := (hin 2).1
    simp [ix4] at this
    omega

end Cert.FrontReferenceIdeal.Rows

end
-- ==== Proof.FrontRefRows.lean ====
/- The first call's reference, array by array, at an index: the projection, the mix with the neighbouring tokens, the
   RWKV heads' decay logits and their rate. -/
module

public import proofs.«01_k».proof.Proof.Gen.FrontReferenceIdeal.Run
public import proofs.«01_k».proof.Proof.FrontRefOps

@[expose] public section

set_option maxRecDepth 16384

noncomputable section

namespace Cert.FrontReferenceIdeal.Rows

open Cert.FrontReferenceIdeal Cert.FrontReferenceIdeal.Gen Cert.FrontReferenceIdeal.Value Idealize.ShloMosaic

variable (V : Valuation τ sig (Elt Ideal))

/-- The arguments off the contents before the run. -/
def argsAt : Tok.Args :=
  Tok.argsOf (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7))
    (V (Proc.devRef .tc main_arg8)) (V (Proc.devRef .tc main_arg9)) (V (Proc.devRef .tc main_arg10)) (V (Proc.devRef .tc main_arg11))
    (V (Proc.devRef .tc main_arg12)) (V (Proc.devRef .tc main_arg13))

variable (b : Fin 8) (s : Fin 4096)

/-- The projection is the token's projected columns. -/
theorem proj_at (j : Fin 3424) : (res_main_v13 V : FVec Ideal S8x4096x3424 .f32) (ix3 b s j) = Tok.proj (argsAt V) b s j := by
  pointwise [res_main_v13]
  rfl

/-- The RWKV columns are the projection's first 1856 … -/
theorem rwkvCols_at (j : Fin 1856) : (res_main_v14 V : FVec Ideal S8x4096x1856 .f32) (ix3 b s j) = Tok.proj (argsAt V) b s ⟨j.val, by omega⟩ := by
  rw [← proj_at]
  pointwise [res_main_v14]

/-- … and the GLA columns the others. -/
theorem glaCols_at (j : Fin 1568) : (res_main_v15 V : FVec Ideal S8x4096x1568 .f32) (ix3 b s j) = Tok.proj (argsAt V) b s ⟨1856 + j.val, by omega⟩ := by
  rw [← proj_at]
  pointwise [res_main_v15]

/-- The reference's padding value is zero. -/
theorem padding_zero : (FloatOps.sitofp .f32 (0#32 : BitVec 32) : Ideal .f32) = (0 : EReal) := by
  show (((0#32 : BitVec 32).toInt : ℝ) : EReal) = 0
  simp

/-- The token before's columns are the padded row's … -/
theorem before_padded (A : Tok.Args) (j : Fin 3424) :
    (if h : 1 ≤ s.val ∧ s.val - 1 < 4096 then Tok.proj A b ⟨s.val - 1, h.2⟩ j else 0) = Tok.before A b s j := by
  unfold Tok.before
  by_cases h : 1 ≤ s.val
  · rw [dif_pos ⟨h, by omega⟩, dif_pos h]
  · rw [dif_neg (fun h' => h h'.1), dif_neg h]

/-- … and the token after's the padded row two on. -/
theorem after_padded (A : Tok.Args) (j : Fin 3424) :
    (if h : 1 ≤ 2 + s.val ∧ 2 + s.val - 1 < 4096 then Tok.proj A b ⟨2 + s.val - 1, h.2⟩ j else 0) = Tok.after A b s j := by
  unfold Tok.after
  by_cases h : s.val + 1 < 4096
  · rw [dif_pos ⟨by omega, by omega⟩, dif_pos h]
    congr 1
    exact Fin.ext (by simp only; omega)
  · rw [dif_neg (fun h' => h (by omega)), dif_neg h]

/-- An array between two rows of zeros. -/
theorem pad_at {C : ℕ} (x : FVec Ideal ⟨3, ![8, 4096, C]⟩ .f32)
    (h : Shape.Pads ⟨3, ![8, 4096, C]⟩ ![0, 1, 0] ![0, 1, 0] ![0, 0, 0] ⟨3, ![8, 4098, C]⟩) (hS : 0 < S_.numel) (b : Fin 8) (u : Fin 4098) (j : Fin C) :
    pad ⟨3, ![8, 4098, C]⟩ ![0, 1, 0] ![0, 1, 0] ![0, 0, 0] x (sitofp .f32 (constantI S_ 32 0#32)) h hS (ix3 b u j)
      = if h : 1 ≤ u.val ∧ u.val - 1 < 4096 then x (ix3 b ⟨u.val - 1, h.2⟩ j) else 0 := by
  have hj := j.isLt
  unfold pad
  by_cases hu : 1 ≤ u.val ∧ u.val - 1 < 4096
  · rw [dif_pos hu, dif_pos]
    · refine congrArg x (funext fun a => Fin.ext ?_)
      fin_cases a
      · exact Nat.div_one _
      · exact Nat.div_one _
      · exact Nat.div_one _
    · intro a
      fin_cases a
      · exact ⟨Nat.zero_le _, Nat.mod_one _, by simp [ix3]⟩
      · exact ⟨hu.1, Nat.mod_one _, by simpa [ix3] using hu.2⟩
      · exact ⟨Nat.zero_le _, Nat.mod_one _, by simp [ix3]⟩
  · rw [dif_neg hu, dif_neg]
    · exact padding_zero
    · intro hh
      have h1 : 1 ≤ u.val := (hh 1).1
      have h2 : (u.val - 1) / 1 < 4096 := (hh 1).2.2
      exact hu ⟨h1, by omega⟩

/-- A row of the RWKV columns between two rows of zeros. -/
theorem rwkvPadded_at (u : Fin 4098) (j : Fin 1856) : (res_main_v16 V : FVec Ideal S8x4098x1856 .f32) (ix3 b u j)
    = if h : 1 ≤ u.val ∧ u.val - 1 < 4096 then Tok.proj (argsAt V) b ⟨u.val - 1, h.2⟩ ⟨j.val, by omega⟩ else 0 := by
  simp only [← rwkvCols_at]
  exact pad_at _ _ _ b u j

/-- The mixed columns. -/
theorem shifted_at (j : Fin 1856) : (res_main_v26 V : FVec Ideal S8x4096x1856 .f32) (ix3 b s j) = Tok.shifted (argsAt V) b s j := by
  pointwise [res_main_v26]
  simp only [rwkvCols_at, rwkvPadded_at, before_padded, after_padded]
  rfl

/-- The key before the rate. -/
theorem key_at (n : Fin 512) : (res_main_v28 V : FVec Ideal S8x4096x512 .f32) (ix3 b s n) = Tok.key (argsAt V) b s n := by
  unfold Tok.key
  rw [← shifted_at]
  pointwise [res_main_v28]

/-- The first direction's logit, negated … -/
theorem logit0_at (n : Fin 512) : (res_main_v42 V : FVec Ideal S8x4096x512 .f32) (ix3 b s n) = -Tok.decayLogit (argsAt V) b s 0 n := by
  pointwise [res_main_v42]
  simp only [shifted_at]
  rfl

/-- … and the second's. -/
theorem logit1_at (n : Fin 512) : (res_main_v60 V : FVec Ideal S8x4096x512 .f32) (ix3 b s n) = -Tok.decayLogit (argsAt V) b s 1 n := by
  pointwise [res_main_v60]
  simp only [shifted_at]
  rfl

/-- The rate. -/
theorem rate_at (n : Fin 512) : (res_main_v82 V : FVec Ideal S8x4096x512 .f32) (ix3 b s n) = Tok.rate (argsAt V) b s n := by
  unfold Tok.rate Row.sigmoid
  rw [zero_sub]
  pointwise [res_main_v82]
  simp only [shifted_at]
  rfl

end Cert.FrontReferenceIdeal.Rows

end
-- ==== Proof.FrontRefGla.lean ====
/- The first call's reference at an index: the GLA heads' convolution and decay logits. -/
module

public import proofs.«01_k».proof.Proof.FrontRefRows

@[expose] public section

set_option maxRecDepth 16384

noncomputable section

namespace Cert.FrontReferenceIdeal.Rows

open Cert.FrontReferenceIdeal Cert.FrontReferenceIdeal.Gen Cert.FrontReferenceIdeal.Value Idealize.ShloMosaic

variable (V : Valuation τ sig (Elt Ideal)) (b : Fin 8) (s : Fin 4096)

/-- A GLA query, key or value column before the convolution. -/
theorem convIn_at (j : Fin 1024) : (res_main_v113 V : FVec Ideal S8x4096x1024 .f32) (ix3 b s j) = Tok.proj (argsAt V) b s ⟨1856 + j.val, by omega⟩ := by
  refine Eq.trans ?_ (glaCols_at V b s ⟨j.val, by omega⟩)
  pointwise [res_main_v113]

/-- A row of them between two rows of zeros. -/
theorem convPadded_at (u : Fin 4098) (j : Fin 1024) : (res_main_v115 V : FVec Ideal S8x4098x1024 .f32) (ix3 b u j)
    = if h : 1 ≤ u.val ∧ u.val - 1 < 4096 then Tok.proj (argsAt V) b ⟨u.val - 1, h.2⟩ ⟨1856 + j.val, by omega⟩ else 0 := by
  simp only [← convIn_at]
  exact pad_at _ _ _ b u j

/-- The convolution. -/
theorem conv_at (j : Fin 1024) : (res_main_v134 V : FVec Ideal S8x4096x1024 .f32) (ix3 b s j) = Tok.conv (argsAt V) b s j := by
  pointwise [res_main_v134]
  simp only [convIn_at, convPadded_at, before_padded, after_padded]
  rfl

/-- The GLA heads' query, key and value. -/
theorem qkv_at (j : Fin 1024) : (res_main_v135 V : FVec Ideal S8x4096x1024 .f32) (ix3 b s j) = Tok.qkv (argsAt V) b s j := by
  unfold Tok.qkv Row.sigmoid
  rw [zero_sub, ← conv_at]
  pointwise [res_main_v135]

/-- The first direction's GLA logit, negated … -/
theorem glaLogit0_at (n : Fin 256) : (res_main_call9_v0 V : FVec Ideal S8x4096x256 .f32) (ix3 b s n) = -Tok.glaLogit (argsAt V) b s 0 n := by
  pointwise [res_main_call9_v0]
  simp only [glaCols_at]
  unfold Tok.glaLogit
  refine congrArg (fun u : EReal => -u) (congrArg₂ (fun u v : EReal => u + v) (Finset.sum_congr rfl fun i _ => congrArg₂ (fun u v : EReal => u * v) ?_ rfl) rfl)
  exact congrArg (Tok.proj (argsAt V) b s) (Fin.ext (by show 1856 + (1536 + i.val) = 3392 + 16 * 0 + i.val; omega))

/-- … and the second's. -/
theorem glaLogit1_at (n : Fin 256) : (res_main_call10_v0 V : FVec Ideal S8x4096x256 .f32) (ix3 b s n) = -Tok.glaLogit (argsAt V) b s 1 n := by
  pointwise [res_main_call10_v0]
  simp only [glaCols_at]
  unfold Tok.glaLogit
  refine congrArg (fun u : EReal => -u) (congrArg₂ (fun u v : EReal => u + v) (Finset.sum_congr rfl fun i _ => congrArg₂ (fun u v : EReal => u * v) ?_ rfl) rfl)
  exact congrArg (Tok.proj (argsAt V) b s) (Fin.ext (by show 1856 + (1552 + i.val) = 3392 + 16 * 1 + i.val; omega))

end Cert.FrontReferenceIdeal.Rows

end
-- ==== Proof.FrontRefSums.lean ====
/- The first call's reference at an index: the log decays, their sums along a chunk from its first token on and from its
   last token back, and the GLA log decays. -/
module

public import proofs.«01_k».proof.Proof.FrontRefGla

@[expose] public section

set_option maxRecDepth 16384

noncomputable section

namespace Cert.FrontReferenceIdeal.Rows

open Cert.FrontReferenceIdeal Cert.FrontReferenceIdeal.Gen Cert.FrontReferenceIdeal.Value Idealize.ShloMosaic

/-- The tokens by chunks of 64. -/
def chunks (x : FVec Ideal S8x4096x512 .f32) : FVec Ideal S8x64x64x512 .f32 := shapeCast _ x shapeCasts_S8x4096x512_S8x64x64x512

/-- The tokens in a row again. -/
def flat (y : FVec Ideal S8x64x64x512 .f32) : FVec Ideal S8x4096x512 .f32 := shapeCast _ y shapeCasts_S8x64x64x512_S8x4096x512

/-- The running sums along every chunk. -/
def running (x : FVec Ideal S8x64x64x512 .f32) : FVec Ideal S8x64x64x512 .f32 :=
  Host.reduceWindowAdd ![1, 1, 64, 1] ![1, 1, 1, 1] ![0, 0, 63, 0] ![0, 0, 0, 0] x (broadcastInDim S_ ![] bcast_S_S_ (constant S_ .f32 0x00000000#32))
    reduceWindows_S8x64x64x512_S8x64x64x512_w1s1p0_0_w1s1p0_0_w64s1p63_0_w1s1p0_0 h_S_

/-- Every chunk's tokens in opposite order. -/
def turned (x : FVec Ideal S8x64x64x512 .f32) : FVec Ideal S8x64x64x512 .f32 := Host.reverse [2] x

variable (b : Fin 8) (s : Fin 4096)

/-- A chunk's token is one of the row's. -/
theorem chunks_at (x : FVec Ideal S8x4096x512 .f32) (k r : Fin 64) (n : Fin 512) :
    chunks x (ix4 b k r n) = x (ix3 b ⟨64 * k.val + r.val, by omega⟩ n) := by
  pointwise [chunks]
  exact congrArg (fun u => x (ix3 b u n)) (Fin.ext (by simp only; omega))

/-- A row's token is one of a chunk's. -/
theorem flat_at (y : FVec Ideal S8x64x64x512 .f32) (n : Fin 512) :
    flat y (ix3 b s n) = y (ix4 b ⟨s.val / 64, by omega⟩ ⟨s.val % 64, by omega⟩ n) := by
  pointwise [flat]

/-- A running sum is the sum of the tokens up to its own. -/
theorem running_at (x : FVec Ideal S8x64x64x512 .f32) (k r : Fin 64) (n : Fin 512) :
    running x (ix4 b k r n) = ∑ q : Fin 64, if q.val ≤ r.val then x (ix4 b k q n) else (0 : EReal) := by
  refine window_at x _ h_S_ ?_ _ b k r n
  exact Ideal.ofBits_zero_f32

/-- The token at the opposite place. -/
theorem turned_at (x : FVec Ideal S8x64x64x512 .f32) (k r : Fin 64) (n : Fin 512) :
    turned x (ix4 b k r n) = x (ix4 b k ⟨63 - r.val, by omega⟩ n) := by
  pointwise [turned]
  refine Eq.trans (b := x (ix4 b k r.rev n)) rfl ?_
  exact congrArg (fun u => x (ix4 b k u n)) (Fin.ext (by rw [Fin.val_rev]; show 64 - (r.val + 1) = 63 - r.val; omega))

/-- The sums from a chunk's first token on. -/
theorem forward_at (x : FVec Ideal S8x4096x512 .f32) (n : Fin 512) :
    flat (running (chunks x)) (ix3 b s n) = ∑ q : Fin 64, if q.val ≤ s.val % 64 then x (ix3 b (Tok.inChunk s q) n) else (0 : EReal) := by
  rw [flat_at, running_at]
  simp only [chunks_at]
  rfl

/-- The sums from a chunk's last token back. -/
theorem backward_at (x : FVec Ideal S8x4096x512 .f32) (n : Fin 512) :
    flat (turned (running (turned (chunks x)))) (ix3 b s n)
      = ∑ q : Fin 64, if s.val % 64 ≤ q.val then x (ix3 b (Tok.inChunk s q) n) else (0 : EReal) := by
  rw [flat_at, turned_at, running_at]
  simp only [turned_at, chunks_at]
  refine Fintype.sum_equiv Fin.revPerm _ _ fun q => ?_
  have hq : (Fin.revPerm q).val = 63 - q.val := by rw [Fin.revPerm_apply, Fin.val_rev]; omega
  have he : (Tok.inChunk s (Fin.revPerm q)) = ⟨64 * (s.val / 64) + (63 - q.val), by omega⟩ := Fin.ext (by simp only [Tok.inChunk, hq])
  rw [he]
  by_cases h : q.val ≤ 63 - s.val % 64
  · rw [if_pos h, if_pos (by rw [hq]; omega)]
  · rw [if_neg h, if_neg (by rw [hq]; omega)]

/-- The guarded softplus of an array. -/
def soft {S : Shape} (v z : FVec Ideal S .f32) : FVec Ideal S .f32 :=
  select (cmpf .une (subf v z) (subf v z)) (addf v z) (addf (maximumf v z) (Host.log1p (Host.exp (Host.negf (Host.absf (subf v z))))))

/-- Its guard never holds: it is the softplus. -/
theorem soft_at {S : Shape} (v z : FVec Ideal S .f32) (i : S.Idx) (hz : z i = (0 : EReal)) : soft v z i = Tok.softplus (v i) := by
  pointwise [soft]
  rw [hz]
  rw [if_neg (fun h => h rfl)]
  have h0 : (v i : EReal) - 0 = v i := sub_zero _
  unfold Tok.softplus
  exact congrArg (fun u : EReal => max (v i : EReal) 0 + Ideal.log (1 + Ideal.exp (-(max u (-u))))) h0

variable (V : Valuation τ sig (Elt Ideal))

/-- The array of one direction's log decays, off its negated logits. -/
def decayOf (v z : FVec Ideal S8x4096x512 .f32) : FVec Ideal S8x4096x512 .f32 :=
  mulf (broadcastInDim S8x4096x512 ![] bcast_S_S8x4096x512 (constant S_ .f32 0xBF1B4598#32)) (Host.exp (Host.negf (soft v z)))

/-- Its entries are the log decays. -/
theorem decayOf_at (v z : FVec Ideal S8x4096x512 .f32) (i : S8x4096x512.Idx) (u : EReal) (hz : z i = (0 : EReal)) (hv : v i = -u) :
    decayOf v z i = Ideal.ofBits .f32 0xBF1B4598#32 * Row.sigmoid u := by
  show Ideal.ofBits .f32 0xBF1B4598#32 * Ideal.exp (-(soft v z i : EReal)) = _
  rw [soft_at v z i hz, hv, exp_softplus]

/-- The zeros that the softplus is taken against. -/
def zeros : FVec Ideal S8x4096x512 .f32 := broadcastInDim S8x4096x512 ![] bcast_S_S8x4096x512 (constant S_ .f32 0x00000000#32)

/-- They are zero. -/
theorem zeros_at (i : S8x4096x512.Idx) : zeros i = (0 : EReal) := Ideal.ofBits_zero_f32

/-- Both directions' summed log decays side by side. -/
def decaysOf : FVec Ideal S8x4096x1024 .f32 :=
  concatenate S8x4096x1024 2 [⟨S8x4096x512, flat (running (chunks (decayOf (res_main_v42 V) zeros)))⟩,
    ⟨S8x4096x512, flat (turned (running (turned (chunks (decayOf (res_main_v60 V) zeros)))))⟩] concatenates_S8x4096x512_S8x4096x512_S8x4096x1024_d2

/-- An entry of them. -/
theorem decaysOf_at (j : Fin 1024) : decaysOf V (ix3 b s j) = Tok.decays (argsAt V) b s j := by
  unfold Tok.decays Tok.summed Tok.logDecay
  by_cases h : j.val < 512
  · have h0 : (⟨j.val / 512, by omega⟩ : Fin 2) = 0 := Fin.ext (by show j.val / 512 = 0; omega)
    have h1 : (⟨j.val % 512, by omega⟩ : Fin 512) = ⟨j.val, h⟩ := Fin.ext (by show j.val % 512 = j.val; omega)
    rw [h0, h1]
    refine Eq.trans ?_ ((forward_at b s (decayOf (res_main_v42 V) zeros) ⟨j.val, h⟩).trans ?_)
    · unfold decaysOf
      generalize flat (running _) = y
      generalize flat _ = y'
      pointwise
      rw [dif_pos h]
    · refine Finset.sum_congr rfl fun q _ => ?_
      rw [decayOf_at _ _ _ _ (zeros_at _) (logit0_at V b (Tok.inChunk s q) ⟨j.val, h⟩)]
      by_cases hq : q.val ≤ s.val % 64
      · rw [if_pos hq, if_pos (by rw [if_pos rfl]; exact hq)]
      · rw [if_neg hq, if_neg (by rw [if_pos rfl]; exact hq)]
  · have h0 : (⟨j.val / 512, by omega⟩ : Fin 2) = 1 := Fin.ext (by show j.val / 512 = 1; omega)
    have h1 : (⟨j.val % 512, by omega⟩ : Fin 512) = ⟨j.val - 512, by omega⟩ := Fin.ext (by show j.val % 512 = j.val - 512; omega)
    rw [h0, h1]
    refine Eq.trans ?_ ((backward_at b s (decayOf (res_main_v60 V) zeros) ⟨j.val - 512, by omega⟩).trans ?_)
    · unfold decaysOf
      generalize flat (turned _) = y
      generalize flat _ = y'
      pointwise
      rw [dif_neg h]
    · refine Finset.sum_congr rfl fun q _ => ?_
      rw [decayOf_at _ _ _ _ (zeros_at _) (logit1_at V b (Tok.inChunk s q) ⟨j.val - 512, by omega⟩)]
      by_cases hq : s.val % 64 ≤ q.val
      · rw [if_pos hq, if_pos (by rw [if_neg (by decide)]; exact hq)]
      · rw [if_neg hq, if_neg (by rw [if_neg (by decide)]; exact hq)]

/-- The array of one direction's GLA log decays, off its negated logits. -/
def glaDecayOf (v z : FVec Ideal S8x4096x256 .f32) : FVec Ideal S8x4096x256 .f32 :=
  Host.divf (Host.negf (soft v z)) (broadcastInDim S8x4096x256 ![] bcast_S_S8x4096x256 (constant S_ .f32 0x41800000#32))

/-- Its entries are the GLA log decays. -/
theorem glaDecayOf_at (v z : FVec Ideal S8x4096x256 .f32) (i : S8x4096x256.Idx) (u : EReal) (hz : z i = (0 : EReal)) (hv : v i = -u) :
    glaDecayOf v z i = Ideal.div (-Tok.softplus (-u)) (Ideal.ofBits .f32 0x41800000#32) := by
  show Ideal.div (-(soft v z i : EReal)) (Ideal.ofBits .f32 0x41800000#32) = _
  rw [soft_at v z i hz, hv]

/-- The zeros that the GLA softplus is taken against. -/
def glaZeros : FVec Ideal S8x4096x256 .f32 := broadcastInDim S8x4096x256 ![] bcast_S_S8x4096x256 (constant S_ .f32 0x00000000#32)

/-- They are zero. -/
theorem glaZeros_at (i : S8x4096x256.Idx) : glaZeros i = (0 : EReal) := Ideal.ofBits_zero_f32

/-- Both directions' GLA log decays side by side. -/
def glaDecaysOf : FVec Ideal S8x4096x512 .f32 :=
  concatenate S8x4096x512 2 [⟨S8x4096x256, glaDecayOf (res_main_call9_v0 V) glaZeros⟩, ⟨S8x4096x256, glaDecayOf (res_main_call10_v0 V) glaZeros⟩]
    concatenates_S8x4096x256_S8x4096x256_S8x4096x512_d2

/-- An entry of them. -/
theorem glaDecaysOf_at (j : Fin 512) : glaDecaysOf V (ix3 b s j) = Tok.glaDecays (argsAt V) b s j := by
  unfold Tok.glaDecays Tok.glaDecay
  by_cases h : j.val < 256
  · have h0 : (⟨j.val / 256, by omega⟩ : Fin 2) = 0 := Fin.ext (by show j.val / 256 = 0; omega)
    have h1 : (⟨j.val % 256, by omega⟩ : Fin 256) = ⟨j.val, h⟩ := Fin.ext (by show j.val % 256 = j.val; omega)
    rw [h0, h1]
    refine Eq.trans ?_ (glaDecayOf_at _ _ (ix3 b s ⟨j.val, h⟩) _ (glaZeros_at _) (glaLogit0_at V b s ⟨j.val, h⟩))
    unfold glaDecaysOf
    generalize glaDecayOf (res_main_call9_v0 V) _ = y
    generalize glaDecayOf _ _ = y'
    pointwise
    rw [dif_pos h]
  · have h0 : (⟨j.val / 256, by omega⟩ : Fin 2) = 1 := Fin.ext (by show j.val / 256 = 1; omega)
    have h1 : (⟨j.val % 256, by omega⟩ : Fin 256) = ⟨j.val - 256, by omega⟩ := Fin.ext (by show j.val % 256 = j.val - 256; omega)
    rw [h0, h1]
    refine Eq.trans ?_ (glaDecayOf_at _ _ (ix3 b s ⟨j.val - 256, by omega⟩) _ (glaZeros_at _) (glaLogit1_at V b s ⟨j.val - 256, by omega⟩))
    unfold glaDecaysOf
    generalize glaDecayOf (res_main_call10_v0 V) _ = y
    generalize glaDecayOf _ _ = y'
    pointwise
    rw [dif_neg h]

end Cert.FrontReferenceIdeal.Rows

end
-- ==== Proof.FrontRefKey.lean ====
/- The first call's reference at an index: the removal key. -/
module

public import proofs.«01_k».proof.Proof.FrontRefRows

@[expose] public section

set_option maxRecDepth 16384

noncomputable section

namespace Cert.FrontReferenceIdeal.Rows

open Cert.FrontReferenceIdeal Cert.FrontReferenceIdeal.Gen Cert.FrontReferenceIdeal.Value Idealize.ShloMosaic

variable (V : Valuation τ sig (Elt Ideal)) (b : Fin 8) (s : Fin 4096)

/-- The removal key before its norm, a head's lanes beside each other. -/
theorem headKey_at (h : Fin 8) (e : Fin 64) : (res_main_v93 V : FVec Ideal S8x4096x8x64 .f32) (ix4 b s h e)
    = Tok.key (argsAt V) b s ⟨64 * h.val + e.val, by omega⟩ * (argsAt V).kk ⟨64 * h.val + e.val, by omega⟩ := by
  pointwise [res_main_v93]
  simp only [key_at]
  have hn : (⟨h.val * 64 + e.val, by omega⟩ : Fin 512) = ⟨64 * h.val + e.val, by omega⟩ := Fin.ext (by simp only; omega)
  rw [hn]
  rfl

/-- The removal key. -/
theorem removal_at (n : Fin 512) : (res_main_v102 V : FVec Ideal S8x4096x512 .f32) (ix3 b s n) = Tok.removal (argsAt V) b s n := by
  pointwise [res_main_v102]
  simp only [headKey_at]
  have hn : (⟨64 * (n.val / 64) + n.val % 64, by omega⟩ : Fin 512) = n := Fin.ext (by simp only; omega)
  rw [hn]
  rfl

end Cert.FrontReferenceIdeal.Rows

end
-- ==== Proof.FrontRefPack.lean ====
/- The first call's reference at an index: the six packed RWKV parts, the packed GLA columns and the GLA gate. -/
module

public import proofs.«01_k».proof.Proof.FrontRefGla
public import proofs.«01_k».proof.Proof.FrontRefKey

@[expose] public section

set_option maxRecDepth 16384

noncomputable section

namespace Cert.FrontReferenceIdeal.Rows

open Cert.FrontReferenceIdeal Cert.FrontReferenceIdeal.Gen Cert.FrontReferenceIdeal.Value Idealize.ShloMosaic

variable (V : Valuation τ sig (Elt Ideal)) (b : Fin 8) (s : Fin 4096)

/-- The receptance. -/
def receptanceOf : FVec Ideal S8x4096x512 .f32 := extractStridedSlice S8x4096x512 ![0, 0, 0] (res_main_v26 V) slices_S8x4096x1856_S8x4096x512_0_0_0

/-- The key. -/
def keyedOf : FVec Ideal S8x4096x512 .f32 :=
  mulf (res_main_v28 V) (addf (broadcastInDim S8x4096x512 ![] bcast_S_S8x4096x512 (constant S_ .f32 0x3F800000#32))
    (mulf (subf (res_main_v82 V) (broadcastInDim S8x4096x512 ![] bcast_S_S8x4096x512 (constant S_ .f32 0x3F800000#32)))
      (broadcastInDim S8x4096x512 ![0, 1, 2] bcast_S1x1x512_S8x4096x512_0_1_2 (broadcastInDim S1x1x512 ![2] bcast_S512_S1x1x512_2 (V (Proc.devRef .tc main_arg10))))))

/-- The value. -/
def valueOf : FVec Ideal S8x4096x512 .f32 := extractStridedSlice S8x4096x512 ![0, 0, 1024] (res_main_v26 V) slices_S8x4096x1856_S8x4096x512_0_0_1024

/-- The removal key times the rate. -/
def ratedOf : FVec Ideal S8x4096x512 .f32 := mulf (res_main_v102 V) (res_main_v82 V)

/-- The output gate. -/
def gateOf : FVec Ideal S8x4096x512 .f32 :=
  Host.dotGeneral (φ₁ := .f32) (φ₂ := .f32) dot_S8x4096x128_S128x512_S8x4096x512_2_0_01_1_n_n none
    (Host.divf (broadcastInDim S8x4096x128 ![] bcast_S_S8x4096x128 (constant S_ .f32 0x3F800000#32))
      (addf (broadcastInDim S8x4096x128 ![] bcast_S_S8x4096x128 (constant S_ .f32 0x3F800000#32))
        (Host.exp (Host.negf (extractStridedSlice S8x4096x128 ![0, 0, 1728] (res_main_v26 V) slices_S8x4096x1856_S8x4096x128_0_0_1728)))))
    (V (Proc.devRef .tc main_arg8))

/-- The receptance at an index. -/
theorem receptance_at (n : Fin 512) : receptanceOf V (ix3 b s n) = Tok.part (argsAt V) b s 0 n := by
  show _ = Tok.shifted (argsAt V) b s ⟨n.val, by omega⟩
  pointwise [receptanceOf]
  simp only [shifted_at]

/-- The key at an index. -/
theorem keyed_at (n : Fin 512) : keyedOf V (ix3 b s n) = Tok.part (argsAt V) b s 1 n := by
  show _ = Tok.keyed (argsAt V) b s n
  pointwise [keyedOf]
  simp only [key_at, rate_at]
  rfl

/-- The value at an index. -/
theorem value_at (n : Fin 512) : valueOf V (ix3 b s n) = Tok.part (argsAt V) b s 2 n := by
  show _ = Tok.shifted (argsAt V) b s ⟨1024 + n.val, by omega⟩
  pointwise [valueOf]
  simp only [shifted_at]

/-- The removal key at an index. -/
theorem removed_at (n : Fin 512) : (res_main_v102 V : FVec Ideal S8x4096x512 .f32) (ix3 b s n) = Tok.part (argsAt V) b s 3 n :=
  removal_at V b s n

/-- The removal key times the rate at an index. -/
theorem rated_at (n : Fin 512) : ratedOf V (ix3 b s n) = Tok.part (argsAt V) b s 4 n := by
  show _ = Tok.removal (argsAt V) b s n * Tok.rate (argsAt V) b s n
  rw [← removal_at, ← rate_at]
  rfl

/-- The output gate at an index. -/
theorem gate_at (n : Fin 512) : gateOf V (ix3 b s n) = Tok.part (argsAt V) b s 5 n := by
  show _ = Tok.gate (argsAt V) b s n
  unfold Tok.gate Row.sigmoid
  simp only [zero_sub]
  pointwise [gateOf]
  simp only [shifted_at]
  rfl

/-- The six parts side by side. -/
def packOf : FVec Ideal S8x4096x3072 .bf16 :=
  truncf .bf16 (concatenate S8x4096x3072 2 [⟨S8x4096x512, receptanceOf V⟩, ⟨S8x4096x512, keyedOf V⟩, ⟨S8x4096x512, valueOf V⟩,
    ⟨S8x4096x512, res_main_v102 V⟩, ⟨S8x4096x512, ratedOf V⟩, ⟨S8x4096x512, gateOf V⟩]
    concatenates_S8x4096x512_S8x4096x512_S8x4096x512_S8x4096x512_S8x4096x512_S8x4096x512_S8x4096x3072_d2) bitsLt_bf16_f32

/-- Six arrays side by side, at an index. -/
theorem six_at (y0 y1 y2 y3 y4 y5 : FVec Ideal S8x4096x512 .f32) (q : Fin 6) (n : Fin 512) :
    (truncf .bf16 (concatenate S8x4096x3072 2 [⟨S8x4096x512, y0⟩, ⟨S8x4096x512, y1⟩, ⟨S8x4096x512, y2⟩, ⟨S8x4096x512, y3⟩, ⟨S8x4096x512, y4⟩, ⟨S8x4096x512, y5⟩]
      concatenates_S8x4096x512_S8x4096x512_S8x4096x512_S8x4096x512_S8x4096x512_S8x4096x512_S8x4096x3072_d2) bitsLt_bf16_f32 : FVec Ideal S8x4096x3072 .bf16)
      (ix3 b s ⟨512 * q.val + n.val, by omega⟩) = (![y0, y1, y2, y3, y4, y5] q) (ix3 b s n) := by
  fin_cases q
  · pointwise
  · pointwise
  · pointwise
    rw [dif_neg (by omega), dif_neg (by omega), dif_pos (by omega)]
    exact congrArg (fun r => y2 (ix3 b s r)) (Fin.ext (by simp only; omega))
  · pointwise
    rw [dif_neg (by omega), dif_neg (by omega), dif_neg (by omega), dif_pos (by omega)]
    exact congrArg (fun r => y3 (ix3 b s r)) (Fin.ext (by simp only; omega))
  · pointwise
    rw [dif_neg (by omega), dif_neg (by omega), dif_neg (by omega), dif_neg (by omega), dif_pos (by omega)]
    exact congrArg (fun r => y4 (ix3 b s r)) (Fin.ext (by simp only; omega))
  · pointwise
    rw [dif_neg (by omega), dif_neg (by omega), dif_neg (by omega), dif_neg (by omega), dif_neg (by omega)]
    exact congrArg (fun r => y5 (ix3 b s r)) (Fin.ext (by simp only; omega))

/-- An entry of the packed parts. -/
theorem packOf_at (j : Fin 3072) : packOf V (ix3 b s j) = Tok.pack (argsAt V) b s j := by
  unfold Tok.pack
  generalize hq : (⟨j.val / 512, by omega⟩ : Fin 6) = q
  generalize hn : (⟨j.val % 512, by omega⟩ : Fin 512) = n
  have hq' : j.val / 512 = q.val := congrArg Fin.val hq
  have hn' : j.val % 512 = n.val := congrArg Fin.val hn
  have hj : j = ⟨512 * q.val + n.val, by omega⟩ := Fin.ext (by simp only; omega)
  refine (congrArg (fun r => packOf V (ix3 b s r)) hj).trans ((six_at b s _ _ _ _ _ _ q n).trans ?_)
  match q with
  | 0 => exact receptance_at V b s n
  | 1 => exact keyed_at V b s n
  | 2 => exact value_at V b s n
  | 3 => exact removed_at V b s n
  | 4 => exact rated_at V b s n
  | 5 => exact gate_at V b s n

/-- The GLA columns side by side, the query scaled. -/
def gpackOf : FVec Ideal S8x4096x1024 .bf16 :=
  truncf .bf16 (concatenate S8x4096x1024 2 [⟨S8x4096x256, (mulf (extractStridedSlice S8x4096x256 ![0, 0, 0] (res_main_v135 V) slices_S8x4096x1024_S8x4096x256_0_0_0)
      (broadcastInDim S8x4096x256 ![] bcast_S_S8x4096x256 (constant S_ .f32 0x3E000000#32)))⟩,
    ⟨S8x4096x768, (extractStridedSlice S8x4096x768 ![0, 0, 256] (res_main_v135 V) slices_S8x4096x1024_S8x4096x768_0_0_256)⟩]
    concatenates_S8x4096x256_S8x4096x768_S8x4096x1024_d2) bitsLt_bf16_f32

/-- An entry of them. -/
theorem gpackOf_at (j : Fin 1024) : gpackOf V (ix3 b s j) = Tok.gpack (argsAt V) b s j := by
  unfold Tok.gpack gpackOf
  rw [← qkv_at]
  generalize res_main_v135 V = y
  by_cases h : j.val < 256
  · rw [if_pos h]
    pointwise
    rw [dif_pos h]
  · rw [if_neg h]
    pointwise
    rw [dif_neg h]
    exact congrArg (fun r => (y : FVec Ideal S8x4096x1024 .f32) (ix3 b s r)) (Fin.ext (by simp only; omega))

/-- The GLA gate's columns. -/
def glaGateOf : FVec Ideal S8x4096x512 .bf16 :=
  truncf .bf16 (extractStridedSlice S8x4096x512 ![0, 0, 1024] (res_main_v15 V) slices_S8x4096x1568_S8x4096x512_0_0_1024) bitsLt_bf16_f32

/-- An entry of them. -/
theorem glaGateOf_at (j : Fin 512) : glaGateOf V (ix3 b s j) = Tok.glaGate (argsAt V) b s j := by
  unfold Tok.glaGate
  refine Eq.trans ?_ ((glaCols_at V b s ⟨1024 + j.val, by omega⟩).trans ?_)
  · pointwise [glaGateOf]
  · exact congrArg (Tok.proj (argsAt V) b s) (Fin.ext (by show 1856 + (1024 + j.val) = 2880 + j.val; omega))

end Cert.FrontReferenceIdeal.Rows

end
-- ==== Proof.FrontRefRun.lean ====
/- What the first call's reference ends with: every token's five results. -/
module

public import proofs.«01_k».proof.Proof.FrontRefSums
public import proofs.«01_k».proof.Proof.FrontRefPack

@[expose] public section

set_option maxRecDepth 16384

noncomputable section

namespace Cert.FrontReferenceIdeal.Rows

open Cert.FrontReferenceIdeal Cert.FrontReferenceIdeal.Gen Cert.FrontReferenceIdeal.Value Idealize.ShloMosaic Idealize.ShloMosaic.TcCoe Idealize.SL.Sem Idealize.ShloMosaic.StableHlo

/-- An array is known by its entries. -/
theorem array_ext {N : ℕ} {e : FTy} (x : FVec Ideal ⟨3, ![8, 4096, N]⟩ e) (f : Fin 8 → Fin 4096 → Fin N → EReal)
    (h : ∀ b s j, x (ix3 b s j) = f b s j) : x = fun y => f (y 0) (y 1) (y 2) := by
  funext y
  obtain ⟨b, s, j, rfl⟩ : ∃ b s j, y = ix3 b s j := ⟨y 0, y 1, y 2, by funext a; fin_cases a <;> rfl⟩
  exact h b s j

variable (m : (ℓ : Loc nD τ sig) → Buf (Elt Ideal) ℓ) (ρ : Dev nD → PrngReg)

/-- The arguments off the contents at the launch. -/
theorem argsAt_launch (c : Dev nD) : argsAt (launchContents m c) = Tok.argsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := rfl

set_option maxHeartbeats 800000 in
/-- The run ends with every token's packed parts, summed log decays, packed GLA columns, GLA log decays and GLA gate. -/
theorem run_tokens : θ_run (defs (F := Ideal)) (onTc (τ := τ) (main (F := Ideal))) ⟨m, fun _ => 0, ρ⟩ fun r => ∀ c : Dev nD,
      r.2.mem ((c.tc : Thread nD τ).loc main_v166) = (fun y : S8x4096x3072.Idx => Tok.pack (argsAt (launchContents m c)) (y 0) (y 1) (y 2))
      ∧ r.2.mem ((c.tc : Thread nD τ).loc main_v72) = (fun y : S8x4096x1024.Idx => Tok.decays (argsAt (launchContents m c)) (y 0) (y 1) (y 2))
      ∧ r.2.mem ((c.tc : Thread nD τ).loc main_v167) = (fun y : S8x4096x1024.Idx => Tok.gpack (argsAt (launchContents m c)) (y 0) (y 1) (y 2))
      ∧ r.2.mem ((c.tc : Thread nD τ).loc main_v165) = (fun y : S8x4096x512.Idx => Tok.glaDecays (argsAt (launchContents m c)) (y 0) (y 1) (y 2))
      ∧ r.2.mem ((c.tc : Thread nD τ).loc main_v168) = (fun y : S8x4096x512.Idx => Tok.glaGate (argsAt (launchContents m c)) (y 0) (y 1) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  refine (θ_run _ _ _).mono (fun r h c => ?_) (Value.run (F := Ideal) m ρ)
  obtain ⟨h0, h1, h2, h3, h4, h5⟩ := h c
  refine ⟨?_, ?_, ?_, ?_, ?_, h5⟩
  · exact (show _ = packOf (launchContents m c) from h0).trans (array_ext _ _ (packOf_at _))
  · exact (show _ = decaysOf (launchContents m c) from h1).trans (array_ext _ _ (decaysOf_at · · _))
  · exact (show _ = gpackOf (launchContents m c) from h2).trans (array_ext _ _ (gpackOf_at _))
  · exact (show _ = glaDecaysOf (launchContents m c) from h3).trans (array_ext _ _ (glaDecaysOf_at · · _))
  · exact (show _ = glaGateOf (launchContents m c) from h4).trans (array_ext _ _ (glaGateOf_at _))

end Cert.FrontReferenceIdeal.Rows

end
-- ==== Proof.FrontMeet.lean ====
/- The first call and its reference end with the same five arrays: every token's. -/
module

public import proofs.«01_k».proof.Defs
public import proofs.«01_k».proof.Proof.Gen.FrontIdeal.Value
public import proofs.«01_k».proof.Proof.FrontStored
public import proofs.«01_k».proof.Proof.FrontRefRun

@[expose] public section

set_option maxRecDepth 16384

noncomputable section

namespace Cert.Proof

open Idealize.ShloMosaic Idealize.ShloMosaic.TcCoe Idealize.SL.Sem

/-- Over the extended reals, from any arguments, the first call and its reference end with the same five arrays. -/
theorem front_algebraic : Cert.algebraic_FrontIdeal_FrontReferenceIdeal (hFrontIdeal := FrontIdeal.Gen.facts)
    (hFrontReferenceIdeal := FrontReferenceIdeal.Gen.facts) := by
  intro m g m' g' _ hargs
  refine ⟨fun c => fun y : FrontIdeal.S8x4096x3072.Idx => Tok.pack (FrontIdeal.Body.args m c) (y 0) (y 1) (y 2),
    fun c => fun y : FrontIdeal.S8x4096x1024.Idx => Tok.decays (FrontIdeal.Body.args m c) (y 0) (y 1) (y 2),
    fun c => fun y : FrontIdeal.S8x4096x1024.Idx => Tok.gpack (FrontIdeal.Body.args m c) (y 0) (y 1) (y 2),
    fun c => fun y : FrontIdeal.S8x4096x512.Idx => Tok.glaDecays (FrontIdeal.Body.args m c) (y 0) (y 1) (y 2),
    fun c => fun y : FrontIdeal.S8x4096x512.Idx => Tok.glaGate (FrontIdeal.Body.args m c) (y 0) (y 1) (y 2), ?_, ?_⟩
  · refine (θ_run _ _ _).mono (fun r h c => ?_) (FrontIdeal.Value.run_blocks m g)
    obtain ⟨h0, h1, h2, h3, h4, h5⟩ := h c
    exact ⟨h0.trans (FrontIdeal.Body.array20 m c), h1.trans (FrontIdeal.Body.array21 m c), h2.trans (FrontIdeal.Body.array22 m c),
      h3.trans (FrontIdeal.Body.array23 m c), h4.trans (FrontIdeal.Body.array24 m c), h5⟩
  · refine (θ_run _ _ _).mono (fun r h c => ?_) (FrontReferenceIdeal.Rows.run_tokens m' g')
    have ha : FrontReferenceIdeal.Rows.argsAt (StableHlo.launchContents m' c) = FrontIdeal.Body.args m c := by
      obtain ⟨a0, a1, a2, a3, a4, a5, a6, a7, a8, a9, a10, a11, a12, a13⟩ := hargs c
      refine (FrontReferenceIdeal.Rows.argsAt_launch m' c).trans ?_
      rw [a0, a1, a2, a3, a4, a5, a6, a7, a8, a9, a10, a11, a12, a13]
      rfl
    obtain ⟨h0, h1, h2, h3, h4, h5⟩ := h c
    rw [ha] at h0 h1 h2 h3 h4
    exact ⟨h0, h1, h2, h3, h4, h5⟩

/-- The first call's reference ends, leaves its arguments as they were, and declares no semaphore. -/
theorem front_reference_frame (m : (ℓ : Loc FrontReferenceIdeal.nD FrontReferenceIdeal.τ FrontReferenceIdeal.sig) → Buf (Elt Ideal) ℓ)
    (g : Dev FrontReferenceIdeal.nD → PrngReg) :
    θ_run (FrontReferenceIdeal.defs (F := Ideal)) (onTc (τ := FrontReferenceIdeal.τ) (FrontReferenceIdeal.main (F := Ideal))) ⟨m, fun _ => 0, g⟩ (fun r => (∀ c : Dev FrontReferenceIdeal.nD,
      r.2.mem ((c.tc : Thread FrontReferenceIdeal.nD FrontReferenceIdeal.τ).loc FrontReferenceIdeal.main_arg0) = m ((c.tc : Thread FrontReferenceIdeal.nD FrontReferenceIdeal.τ).loc FrontReferenceIdeal.main_arg0)
      ∧ r.2.mem ((c.tc : Thread FrontReferenceIdeal.nD FrontReferenceIdeal.τ).loc FrontReferenceIdeal.main_arg1) = m ((c.tc : Thread FrontReferenceIdeal.nD FrontReferenceIdeal.τ).loc FrontReferenceIdeal.main_arg1)
      ∧ r.2.mem ((c.tc : Thread FrontReferenceIdeal.nD FrontReferenceIdeal.τ).loc FrontReferenceIdeal.main_arg2) = m ((c.tc : Thread FrontReferenceIdeal.nD FrontReferenceIdeal.τ).loc FrontReferenceIdeal.main_arg2)
      ∧ r.2.mem ((c.tc : Thread FrontReferenceIdeal.nD FrontReferenceIdeal.τ).loc FrontReferenceIdeal.main_arg3) = m ((c.tc : Thread FrontReferenceIdeal.nD FrontReferenceIdeal.τ).loc FrontReferenceIdeal.main_arg3)
      ∧ r.2.mem ((c.tc : Thread FrontReferenceIdeal.nD FrontReferenceIdeal.τ).loc FrontReferenceIdeal.main_arg4) = m ((c.tc : Thread FrontReferenceIdeal.nD FrontReferenceIdeal.τ).loc FrontReferenceIdeal.main_arg4)
      ∧ r.2.mem ((c.tc : Thread FrontReferenceIdeal.nD FrontReferenceIdeal.τ).loc FrontReferenceIdeal.main_arg5) = m ((c.tc : Thread FrontReferenceIdeal.nD FrontReferenceIdeal.τ).loc FrontReferenceIdeal.main_arg5)
      ∧ r.2.mem ((c.tc : Thread FrontReferenceIdeal.nD FrontReferenceIdeal.τ).loc FrontReferenceIdeal.main_arg6) = m ((c.tc : Thread FrontReferenceIdeal.nD FrontReferenceIdeal.τ).loc FrontReferenceIdeal.main_arg6)
      ∧ r.2.mem ((c.tc : Thread FrontReferenceIdeal.nD FrontReferenceIdeal.τ).loc FrontReferenceIdeal.main_arg7) = m ((c.tc : Thread FrontReferenceIdeal.nD FrontReferenceIdeal.τ).loc FrontReferenceIdeal.main_arg7)
      ∧ r.2.mem ((c.tc : Thread FrontReferenceIdeal.nD FrontReferenceIdeal.τ).loc FrontReferenceIdeal.main_arg8) = m ((c.tc : Thread FrontReferenceIdeal.nD FrontReferenceIdeal.τ).loc FrontReferenceIdeal.main_arg8)
      ∧ r.2.mem ((c.tc : Thread FrontReferenceIdeal.nD FrontReferenceIdeal.τ).loc FrontReferenceIdeal.main_arg9) = m ((c.tc : Thread FrontReferenceIdeal.nD FrontReferenceIdeal.τ).loc FrontReferenceIdeal.main_arg9)
      ∧ r.2.mem ((c.tc : Thread FrontReferenceIdeal.nD FrontReferenceIdeal.τ).loc FrontReferenceIdeal.main_arg10) = m ((c.tc : Thread FrontReferenceIdeal.nD FrontReferenceIdeal.τ).loc FrontReferenceIdeal.main_arg10)
      ∧ r.2.mem ((c.tc : Thread FrontReferenceIdeal.nD FrontReferenceIdeal.τ).loc FrontReferenceIdeal.main_arg11) = m ((c.tc : Thread FrontReferenceIdeal.nD FrontReferenceIdeal.τ).loc FrontReferenceIdeal.main_arg11)
      ∧ r.2.mem ((c.tc : Thread FrontReferenceIdeal.nD FrontReferenceIdeal.τ).loc FrontReferenceIdeal.main_arg12) = m ((c.tc : Thread FrontReferenceIdeal.nD FrontReferenceIdeal.τ).loc FrontReferenceIdeal.main_arg12)
      ∧ r.2.mem ((c.tc : Thread FrontReferenceIdeal.nD FrontReferenceIdeal.τ).loc FrontReferenceIdeal.main_arg13) = m ((c.tc : Thread FrontReferenceIdeal.nD FrontReferenceIdeal.τ).loc FrontReferenceIdeal.main_arg13))
      ∧ r.2.sem = fun _ => 0) :=
  (θ_run _ _ _).mono (fun r h => ⟨fun c => (h c).2.2.2.2.2, sem_eq_zero_of_no_sems (by decide) r.2⟩) (FrontReferenceIdeal.Value.run m g)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.TailFrame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.TailIdealFrame
public import proofs.«01_k».proof.Proof.Gen.TailReferenceIdeal
public import proofs.«01_k».proof.Proof.Gen.Pre_finite_inputs
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.TailReferenceIdeal.Run
public import proofs.«01_k».proof.Proof.Meet
public import proofs.«01_k».proof.Proof.TailMeet
public import proofs.«01_k».proof.Proof.Gen.Front.Frame
public import proofs.«01_k».proof.Proof.Gen.FrontIdeal.Frame
public import proofs.«01_k».proof.Proof.Gen.FrontIdeal.Value
public import proofs.«01_k».proof.Proof.Gen.FrontReferenceIdeal.Run
public import proofs.«01_k».proof.Proof.FrontMeet

@[expose] public section

noncomputable section

namespace Cert.Proof

open Idealize.ShloMosaic Idealize.SL.Sem Cert.Kernel

/-- All five kinds of claim, for the scan, the last call and the first call: the three frames, the unchanged program over the reals, and
    the equality of results. -/
theorem claim : Cert.Claim := ⟨Cert.Kernel.Gen.facts, Cert.KernelIdeal.Gen.facts, Cert.ReferenceIdeal.Gen.facts, Cert.Tail.Gen.facts, Cert.TailIdeal.Gen.facts, Cert.TailReferenceIdeal.Gen.facts, Cert.Front.Gen.facts, Cert.FrontIdeal.Gen.facts, Cert.FrontReferenceIdeal.Gen.facts, Cert.Pre_finite_inputs.Gen.facts,
  fun m g _ => Kernel.Gen.frame m g, fun m g _ => KernelIdeal.Gen.frame m g, fun m g _ => KernelIdeal.Gen.frame m g,
  fun m g _ => reference_frame m g, fun m g _ => reference_frame m g,
  fun m g _ => Tail.Launch.frame m g, fun m g _ => TailIdeal.Launch.frame m g, fun m g _ => tail_reference_frame m g,
  fun m g _ => Front.Gen.frame m g, fun m g _ => FrontIdeal.Gen.frame m g, fun m g _ => front_reference_frame m g,
  trivial, algebraic, trivial, tail_algebraic, trivial, front_algebraic⟩

end Cert.Proof

end
